-- ==== Defs.lean ====
def Pre_Kernel (m : (ℓ : Loc Cert.Kernel.nD Cert.Kernel.τ Cert.Kernel.sig) → Buf (Elt Bits) ℓ) : Prop :=
  True

def Pre_Kernel_finite_without_ties [hPre_finite_without_ties : Cert.Pre_finite_without_ties.Facts] (m : (ℓ : Loc Cert.Kernel.nD Cert.Kernel.τ Cert.Kernel.sig) → Buf (Elt Bits) ℓ) : Prop :=
  ∀ c : Dev Cert.Kernel.nD,
    (Cert.Pre_finite_without_ties.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_without_ties : Cert.Pre_finite_without_ties.Facts] (m : (ℓ : Loc Cert.KernelIdeal.nD Cert.KernelIdeal.τ Cert.KernelIdeal.sig) → Buf (Elt Ideal) ℓ) : Prop :=
  ∀ c : Dev Cert.KernelIdeal.nD,
    (Cert.Pre_finite_without_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_without_ties : Cert.Pre_finite_without_ties.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_without_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3_finite_without_ties3 [hPre_finite_without_ties3 : Cert.Pre_finite_without_ties3.Facts] (m : (ℓ : Loc Cert.Kernel3.nD Cert.Kernel3.τ Cert.Kernel3.sig) → Buf (Elt Bits) ℓ) : Prop :=
  ∀ c : Dev Cert.Kernel3.nD,
    (Cert.Pre_finite_without_ties3.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7)) (m ((c.tc : Thread Cert.Kernel3.nD Cert.Kernel3.τ).loc Cert.Kernel3.main_arg8)) (m ((c.tc : Thread Cert.Kernel3.nD Cert.Kernel3.τ).loc Cert.Kernel3.main_arg9)) (m ((c.tc : Thread Cert.Kernel3.nD Cert.Kernel3.τ).loc Cert.Kernel3.main_arg10)) (m ((c.tc : Thread Cert.Kernel3.nD Cert.Kernel3.τ).loc Cert.Kernel3.main_arg11)) (m ((c.tc : Thread Cert.Kernel3.nD Cert.Kernel3.τ).loc Cert.Kernel3.main_arg12)) (m ((c.tc : Thread Cert.Kernel3.nD Cert.Kernel3.τ).loc Cert.Kernel3.main_arg13)) (m ((c.tc : Thread Cert.Kernel3.nD Cert.Kernel3.τ).loc Cert.Kernel3.main_arg14)) (m ((c.tc : Thread Cert.Kernel3.nD Cert.Kernel3.τ).loc Cert.Kernel3.main_arg15)) (m ((c.tc : Thread Cert.Kernel3.nD Cert.Kernel3.τ).loc Cert.Kernel3.main_arg16)) (m ((c.tc : Thread Cert.Kernel3.nD Cert.Kernel3.τ).loc Cert.Kernel3.main_arg17)) (m ((c.tc : Thread Cert.Kernel3.nD Cert.Kernel3.τ).loc Cert.Kernel3.main_arg18)) (m ((c.tc : Thread Cert.Kernel3.nD Cert.Kernel3.τ).loc Cert.Kernel3.main_arg19)) (m ((c.tc : Thread Cert.Kernel3.nD Cert.Kernel3.τ).loc Cert.Kernel3.main_arg20)) (m ((c.tc : Thread Cert.Kernel3.nD Cert.Kernel3.τ).loc Cert.Kernel3.main_arg21))) = (fun _ => 1#1)

def Pre_Kernel3Ideal [hPre_finite_without_ties3 : Cert.Pre_finite_without_ties3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_without_ties3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg16)) (m ((c.tc : Thread Cert.Kernel3Ideal.nD Cert.Kernel3Ideal.τ).loc Cert.Kernel3Ideal.main_arg17)) (m ((c.tc : Thread Cert.Kernel3Ideal.nD Cert.Kernel3Ideal.τ).loc Cert.Kernel3Ideal.main_arg18)) (m ((c.tc : Thread Cert.Kernel3Ideal.nD Cert.Kernel3Ideal.τ).loc Cert.Kernel3Ideal.main_arg19)) (m ((c.tc : Thread Cert.Kernel3Ideal.nD Cert.Kernel3Ideal.τ).loc Cert.Kernel3Ideal.main_arg20)) (m ((c.tc : Thread Cert.Kernel3Ideal.nD Cert.Kernel3Ideal.τ).loc Cert.Kernel3Ideal.main_arg21))) = (fun _ => 1#1)

def Pre_Reference3Ideal [hPre_finite_without_ties3 : Cert.Pre_finite_without_ties3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_without_ties3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15)) (m ((c.tc : Thread Cert.Reference3Ideal.nD Cert.Reference3Ideal.τ).loc Cert.Reference3Ideal.main_arg16)) (m ((c.tc : Thread Cert.Reference3Ideal.nD Cert.Reference3Ideal.τ).loc Cert.Reference3Ideal.main_arg17)) (m ((c.tc : Thread Cert.Reference3Ideal.nD Cert.Reference3Ideal.τ).loc Cert.Reference3Ideal.main_arg18)) (m ((c.tc : Thread Cert.Reference3Ideal.nD Cert.Reference3Ideal.τ).loc Cert.Reference3Ideal.main_arg19)) (m ((c.tc : Thread Cert.Reference3Ideal.nD Cert.Reference3Ideal.τ).loc Cert.Reference3Ideal.main_arg20)) (m ((c.tc : Thread Cert.Reference3Ideal.nD Cert.Reference3Ideal.τ).loc Cert.Reference3Ideal.main_arg21))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Kernel_pre_finite_without_ties [hKernel : Cert.Kernel.Facts] [hPre_finite_without_ties : Cert.Pre_finite_without_ties.Facts] : Prop :=
  ∀ (m : (ℓ : Loc Cert.Kernel.nD Cert.Kernel.τ Cert.Kernel.sig) → Buf (Elt Bits) ℓ) (g : Dev Cert.Kernel.nD → PrngReg), Pre_Kernel_finite_without_ties m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_finite_without_ties : Cert.Pre_finite_without_ties.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_finite_without_ties : Cert.Pre_finite_without_ties.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17)
      ∧ r.2.mem ((c.tc : Thread Cert.Kernel3.nD Cert.Kernel3.τ).loc Cert.Kernel3.main_arg18) = m ((c.tc : Thread Cert.Kernel3.nD Cert.Kernel3.τ).loc Cert.Kernel3.main_arg18)
      ∧ r.2.mem ((c.tc : Thread Cert.Kernel3.nD Cert.Kernel3.τ).loc Cert.Kernel3.main_arg19) = m ((c.tc : Thread Cert.Kernel3.nD Cert.Kernel3.τ).loc Cert.Kernel3.main_arg19)
      ∧ r.2.mem ((c.tc : Thread Cert.Kernel3.nD Cert.Kernel3.τ).loc Cert.Kernel3.main_arg20) = m ((c.tc : Thread Cert.Kernel3.nD Cert.Kernel3.τ).loc Cert.Kernel3.main_arg20)
      ∧ r.2.mem ((c.tc : Thread Cert.Kernel3.nD Cert.Kernel3.τ).loc Cert.Kernel3.main_arg21) = m ((c.tc : Thread Cert.Kernel3.nD Cert.Kernel3.τ).loc Cert.Kernel3.main_arg21))
      ∧ r.2.sem = fun _ => 0)

def quiescent_Kernel3_pre_finite_without_ties3 [hKernel3 : Cert.Kernel3.Facts] [hPre_finite_without_ties3 : Cert.Pre_finite_without_ties3.Facts] : Prop :=
  ∀ (m : (ℓ : Loc Cert.Kernel3.nD Cert.Kernel3.τ Cert.Kernel3.sig) → Buf (Elt Bits) ℓ) (g : Dev Cert.Kernel3.nD → PrngReg), Pre_Kernel3_finite_without_ties3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17)
      ∧ r.2.mem ((c.tc : Thread Cert.Kernel3.nD Cert.Kernel3.τ).loc Cert.Kernel3.main_arg18) = m ((c.tc : Thread Cert.Kernel3.nD Cert.Kernel3.τ).loc Cert.Kernel3.main_arg18)
      ∧ r.2.mem ((c.tc : Thread Cert.Kernel3.nD Cert.Kernel3.τ).loc Cert.Kernel3.main_arg19) = m ((c.tc : Thread Cert.Kernel3.nD Cert.Kernel3.τ).loc Cert.Kernel3.main_arg19)
      ∧ r.2.mem ((c.tc : Thread Cert.Kernel3.nD Cert.Kernel3.τ).loc Cert.Kernel3.main_arg20) = m ((c.tc : Thread Cert.Kernel3.nD Cert.Kernel3.τ).loc Cert.Kernel3.main_arg20)
      ∧ r.2.mem ((c.tc : Thread Cert.Kernel3.nD Cert.Kernel3.τ).loc Cert.Kernel3.main_arg21) = m ((c.tc : Thread Cert.Kernel3.nD Cert.Kernel3.τ).loc Cert.Kernel3.main_arg21))
      ∧ r.2.sem = fun _ => 0)

def quiescent_Kernel3Ideal [hKernel3Ideal : Cert.Kernel3Ideal.Facts] [hPre_finite_without_ties3 : Cert.Pre_finite_without_ties3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
      ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
      ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
      ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20)
      ∧ r.2.mem ((c.tc : Thread Cert.Kernel3Ideal.nD Cert.Kernel3Ideal.τ).loc Cert.Kernel3Ideal.main_arg21) = m ((c.tc : Thread Cert.Kernel3Ideal.nD Cert.Kernel3Ideal.τ).loc Cert.Kernel3Ideal.main_arg21))
      ∧ r.2.sem = fun _ => 0)

def quiescent_Reference3Ideal [hReference3Ideal : Cert.Reference3Ideal.Facts] [hPre_finite_without_ties3 : Cert.Pre_finite_without_ties3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17)
      ∧ r.2.mem ((c.tc : Thread Cert.Reference3Ideal.nD Cert.Reference3Ideal.τ).loc Cert.Reference3Ideal.main_arg18) = m ((c.tc : Thread Cert.Reference3Ideal.nD Cert.Reference3Ideal.τ).loc Cert.Reference3Ideal.main_arg18)
      ∧ r.2.mem ((c.tc : Thread Cert.Reference3Ideal.nD Cert.Reference3Ideal.τ).loc Cert.Reference3Ideal.main_arg19) = m ((c.tc : Thread Cert.Reference3Ideal.nD Cert.Reference3Ideal.τ).loc Cert.Reference3Ideal.main_arg19)
      ∧ r.2.mem ((c.tc : Thread Cert.Reference3Ideal.nD Cert.Reference3Ideal.τ).loc Cert.Reference3Ideal.main_arg20) = m ((c.tc : Thread Cert.Reference3Ideal.nD Cert.Reference3Ideal.τ).loc Cert.Reference3Ideal.main_arg20)
      ∧ r.2.mem ((c.tc : Thread Cert.Reference3Ideal.nD Cert.Reference3Ideal.τ).loc Cert.Reference3Ideal.main_arg21) = m ((c.tc : Thread Cert.Reference3Ideal.nD Cert.Reference3Ideal.τ).loc Cert.Reference3Ideal.main_arg21))
      ∧ r.2.sem = fun _ => 0)

def preserves_Kernel_KernelIdeal : Prop :=
  IdealRules.named_const.Statement Cert.KernelIdeal.κ "mask" .f32 0xFF61B1E6#32 ⊥

def algebraic_KernelIdeal_ReferenceIdeal [hKernelIdeal : Cert.KernelIdeal.Facts] [hReferenceIdeal : Cert.ReferenceIdeal.Facts] [hPre_finite_without_ties : Cert.Pre_finite_without_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_v22) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  IdealRules.named_const.Statement Cert.Kernel3Ideal.κ "mask" .f32 0xFF61B1E6#32 ⊥

def algebraic_Kernel3Ideal_Reference3Ideal [hKernel3Ideal : Cert.Kernel3Ideal.Facts] [hReference3Ideal : Cert.Reference3Ideal.Facts] [hPre_finite_without_ties3 : Cert.Pre_finite_without_ties3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)
      ∧ m' ((c.tc : Thread Cert.Reference3Ideal.nD Cert.Reference3Ideal.τ).loc Cert.Reference3Ideal.main_arg18) = m ((c.tc : Thread Cert.Kernel3Ideal.nD Cert.Kernel3Ideal.τ).loc Cert.Kernel3Ideal.main_arg18)
      ∧ m' ((c.tc : Thread Cert.Reference3Ideal.nD Cert.Reference3Ideal.τ).loc Cert.Reference3Ideal.main_arg19) = m ((c.tc : Thread Cert.Kernel3Ideal.nD Cert.Kernel3Ideal.τ).loc Cert.Kernel3Ideal.main_arg19)
      ∧ m' ((c.tc : Thread Cert.Reference3Ideal.nD Cert.Reference3Ideal.τ).loc Cert.Reference3Ideal.main_arg20) = m ((c.tc : Thread Cert.Kernel3Ideal.nD Cert.Kernel3Ideal.τ).loc Cert.Kernel3Ideal.main_arg20)
      ∧ m' ((c.tc : Thread Cert.Reference3Ideal.nD Cert.Reference3Ideal.τ).loc Cert.Reference3Ideal.main_arg21) = m ((c.tc : Thread Cert.Kernel3Ideal.nD Cert.Kernel3Ideal.τ).loc Cert.Kernel3Ideal.main_arg21)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
          ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
          ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
          ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20)
          ∧ r.2.mem ((c.tc : Thread Cert.Kernel3Ideal.nD Cert.Kernel3Ideal.τ).loc Cert.Kernel3Ideal.main_arg21) = m ((c.tc : Thread Cert.Kernel3Ideal.nD Cert.Kernel3Ideal.τ).loc Cert.Kernel3Ideal.main_arg21))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v214) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17)
          ∧ r.2.mem ((c.tc : Thread Cert.Reference3Ideal.nD Cert.Reference3Ideal.τ).loc Cert.Reference3Ideal.main_arg18) = m' ((c.tc : Thread Cert.Reference3Ideal.nD Cert.Reference3Ideal.τ).loc Cert.Reference3Ideal.main_arg18)
          ∧ r.2.mem ((c.tc : Thread Cert.Reference3Ideal.nD Cert.Reference3Ideal.τ).loc Cert.Reference3Ideal.main_arg19) = m' ((c.tc : Thread Cert.Reference3Ideal.nD Cert.Reference3Ideal.τ).loc Cert.Reference3Ideal.main_arg19)
          ∧ r.2.mem ((c.tc : Thread Cert.Reference3Ideal.nD Cert.Reference3Ideal.τ).loc Cert.Reference3Ideal.main_arg20) = m' ((c.tc : Thread Cert.Reference3Ideal.nD Cert.Reference3Ideal.τ).loc Cert.Reference3Ideal.main_arg20)
          ∧ r.2.mem ((c.tc : Thread Cert.Reference3Ideal.nD Cert.Reference3Ideal.τ).loc Cert.Reference3Ideal.main_arg21) = m' ((c.tc : Thread Cert.Reference3Ideal.nD Cert.Reference3Ideal.τ).loc Cert.Reference3Ideal.main_arg21))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_without_ties : Cert.Pre_finite_without_ties.Facts) (hPre_finite_without_ties3 : Cert.Pre_finite_without_ties3.Facts),
    quiescent_Kernel (hKernel := hKernel)
    ∧ quiescent_Kernel_pre_finite_without_ties (hKernel := hKernel) (hPre_finite_without_ties := hPre_finite_without_ties)
    ∧ quiescent_KernelIdeal (hKernelIdeal := hKernelIdeal) (hPre_finite_without_ties := hPre_finite_without_ties)
    ∧ quiescent_ReferenceIdeal (hReferenceIdeal := hReferenceIdeal) (hPre_finite_without_ties := hPre_finite_without_ties)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3_pre_finite_without_ties3 (hKernel3 := hKernel3) (hPre_finite_without_ties3 := hPre_finite_without_ties3)
    ∧ quiescent_Kernel3Ideal (hKernel3Ideal := hKernel3Ideal) (hPre_finite_without_ties3 := hPre_finite_without_ties3)
    ∧ quiescent_Reference3Ideal (hReference3Ideal := hReference3Ideal) (hPre_finite_without_ties3 := hPre_finite_without_ties3)
    ∧ preserves_Kernel_KernelIdeal
    ∧ algebraic_KernelIdeal_ReferenceIdeal (hKernelIdeal := hKernelIdeal) (hReferenceIdeal := hReferenceIdeal) (hPre_finite_without_ties := hPre_finite_without_ties)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_finite_without_ties3 := hPre_finite_without_ties3)
-- ==== Pre_finite_without_ties.lean ====
abbrev S32x512x9 : Shape := ⟨3, ![32, 512, 9]⟩
abbrev S32x18 : Shape := ⟨2, ![32, 18]⟩
abbrev S32x64 : Shape := ⟨2, ![32, 64]⟩
abbrev S64x64 : Shape := ⟨2, ![64, 64]⟩
abbrev S128x128 : Shape := ⟨2, ![128, 128]⟩
abbrev S1024x256 : Shape := ⟨2, ![1024, 256]⟩
abbrev S_ : Shape := ⟨0, ![]⟩
abbrev S32x9x512 : Shape := ⟨3, ![32, 9, 512]⟩
abbrev S32x512x512 : Shape := ⟨3, ![32, 512, 512]⟩
abbrev S32x512 : Shape := ⟨2, ![32, 512]⟩
abbrev S32x1x512 : Shape := ⟨3, ![32, 1, 512]⟩
abbrev S32x512x1 : Shape := ⟨3, ![32, 512, 1]⟩
abbrev S32x512x17 : Shape := ⟨3, ![32, 512, 17]⟩
abbrev S32x512x16 : Shape := ⟨3, ![32, 512, 16]⟩
abbrev S16384x9 : Shape := ⟨2, ![16384, 9]⟩
abbrev S32 : Shape := ⟨1, ![32]⟩
abbrev S32x1x1 : Shape := ⟨3, ![32, 1, 1]⟩
abbrev S262144 : Shape := ⟨1, ![262144]⟩
abbrev S262144x1 : Shape := ⟨2, ![262144, 1]⟩
abbrev S262144x9 : Shape := ⟨2, ![262144, 9]⟩
abbrev S32x512x16x9 : Shape := ⟨4, ![32, 512, 16, 9]⟩
abbrev S32x512x1x9 : Shape := ⟨4, ![32, 512, 1, 9]⟩
abbrev S32x512x16x18 : Shape := ⟨4, ![32, 512, 16, 18]⟩
abbrev S32x18x512x16 : Shape := ⟨4, ![32, 18, 512, 16]⟩
abbrev S32x512x16x32 : Shape := ⟨4, ![32, 512, 16, 32]⟩
abbrev S32x32x512x16 : Shape := ⟨4, ![32, 32, 512, 16]⟩
abbrev S32x32x512 : Shape := ⟨3, ![32, 32, 512]⟩
abbrev S32x512x32 : Shape := ⟨3, ![32, 512, 32]⟩
abbrev S16384x32 : Shape := ⟨2, ![16384, 32]⟩
abbrev S262144x32 : Shape := ⟨2, ![262144, 32]⟩
abbrev S32x512x1x32 : Shape := ⟨4, ![32, 512, 1, 32]⟩
abbrev S32x512x16x64 : Shape := ⟨4, ![32, 512, 16, 64]⟩
abbrev S32x64x512x16 : Shape := ⟨4, ![32, 64, 512, 16]⟩
abbrev S32x64x512 : Shape := ⟨3, ![32, 64, 512]⟩
abbrev S32x512x64 : Shape := ⟨3, ![32, 512, 64]⟩

class Facts : Prop where
  bcast_S_S32x512x9 : S_.BroadcastsInDim S32x512x9 (![] : Fin 0 → Fin S32x512x9.rank)
  reducesTo_S32x512x9_S_d0_1_2 : S32x512x9.ReducesTo [0, 1, 2] S_
  h_S_ : 0 < S_.numel
  bcast_S_S32x18 : S_.BroadcastsInDim S32x18 (![] : Fin 0 → Fin S32x18.rank)
  reducesTo_S32x18_S_d0_1 : S32x18.ReducesTo [0, 1] S_
  bcast_S_S32x64 : S_.BroadcastsInDim S32x64 (![] : Fin 0 → Fin S32x64.rank)
  reducesTo_S32x64_S_d0_1 : S32x64.ReducesTo [0, 1] S_
  bcast_S_S64x64 : S_.BroadcastsInDim S64x64 (![] : Fin 0 → Fin S64x64.rank)
  reducesTo_S64x64_S_d0_1 : S64x64.ReducesTo [0, 1] S_
  bcast_S_S128x128 : S_.BroadcastsInDim S128x128 (![] : Fin 0 → Fin S128x128.rank)
  reducesTo_S128x128_S_d0_1 : S128x128.ReducesTo [0, 1] S_
  bcast_S_S1024x256 : S_.BroadcastsInDim S1024x256 (![] : Fin 0 → Fin S1024x256.rank)
  reducesTo_S1024x256_S_d0_1 : S1024x256.ReducesTo [0, 1] S_
  transposes_S32x512x9_S32x9x512_0_2_1 : S32x512x9.Transposes [0, 2, 1] S32x9x512
  transposes_S32x9x512_S32x512x9_0_2_1 : S32x9x512.Transposes [0, 2, 1] S32x512x9
  bcast_S_S32x512x512 : S_.BroadcastsInDim S32x512x512 (![] : Fin 0 → Fin S32x512x512.rank)
  reducesTo_S32x9x512_S32x512_d1 : S32x9x512.ReducesTo [1] S32x512
  bcast_S32x512_S32x1x512_0_2 : S32x512.BroadcastsInDim S32x1x512 (![0, 2] : Fin 2 → Fin S32x1x512.rank)
  bcast_S32x1x512_S32x512x512_0_1_2 : S32x1x512.BroadcastsInDim S32x512x512 (![0, 1, 2] : Fin 3 → Fin S32x512x512.rank)
  transposes_S32x1x512_S32x512x1_0_2_1 : S32x1x512.Transposes [0, 2, 1] S32x512x1
  bcast_S32x512x1_S32x512x512_0_1_2 : S32x512x1.BroadcastsInDim S32x512x512 (![0, 1, 2] : Fin 3 → Fin S32x512x512.rank)
  bcast_S_S32x1x512 : S_.BroadcastsInDim S32x1x512 (![] : Fin 0 → Fin S32x1x512.rank)
  sliceFits_S32x512x512_S32x512x17 : S32x512x512.Slices (fun _ => 0) S32x512x17
  slices_S32x512x17_S32x512x16_0_0_0 : S32x512x17.Slices ![0, 0, 0] S32x512x16
  slices_S32x512x17_S32x512x16_0_0_1 : S32x512x17.Slices ![0, 0, 1] S32x512x16
  reducesTo_S32x512x16_S_d0_1_2 : S32x512x16.ReducesTo [0, 1, 2] S_
  sliceFits_S32x512x512_S32x512x16 : S32x512x512.Slices (fun _ => 0) S32x512x16
  shapeCasts_S32x512x9_S16384x9 : S32x512x9.ShapeCasts S16384x9
  bcast_S_S32 : S_.BroadcastsInDim S32 (![] : Fin 0 → Fin S32.rank)
  shapeCasts_S32_S32x1x1 : S32.ShapeCasts S32x1x1
  bcast_S32x1x1_S32x512x16_0_1_2 : S32x1x1.BroadcastsInDim S32x512x16 (![0, 1, 2] : Fin 3 → Fin S32x512x16.rank)
  shapeCasts_S32x512x16_S262144 : S32x512x16.ShapeCasts S262144
  bcast_S_S262144 : S_.BroadcastsInDim S262144 (![] : Fin 0 → Fin S262144.rank)
  bcast_S262144_S262144x1_0 : S262144.BroadcastsInDim S262144x1 (![0] : Fin 1 → Fin S262144x1.rank)
  shapeCasts_S262144x9_S32x512x16x9 : S262144x9.ShapeCasts S32x512x16x9
  bcast_S32x512x9_S32x512x1x9_0_1_3 : S32x512x9.BroadcastsInDim S32x512x1x9 (![0, 1, 3] : Fin 3 → Fin S32x512x1x9.rank)
  bcast_S32x512x1x9_S32x512x16x9_0_1_2_3 : S32x512x1x9.BroadcastsInDim S32x512x16x9 (![0, 1, 2, 3] : Fin 4 → Fin S32x512x16x9.rank)
  concatenates_S32x512x16x9_S32x512x16x9_S32x512x16x18_d3 : Shape.Concatenates [S32x512x16x9, S32x512x16x9] S32x512x16x18 3
  transposes_S32x512x16x18_S32x18x512x16_0_3_1_2 : S32x512x16x18.Transposes [0, 3, 1, 2] S32x18x512x16
  transposes_S32x512x16x32_S32x32x512x16_0_3_1_2 : S32x512x16x32.Transposes [0, 3, 1, 2] S32x32x512x16
  bcast_S_S32x32x512x16 : S_.BroadcastsInDim S32x32x512x16 (![] : Fin 0 → Fin S32x32x512x16.rank)
  reducesTo_S32x32x512x16_S32x32x512_d3 : S32x32x512x16.ReducesTo [3] S32x32x512
  transposes_S32x32x512_S32x512x32_0_2_1 : S32x32x512.Transposes [0, 2, 1] S32x512x32
  reducesTo_S32x32x512_S32x512_d1 : S32x32x512.ReducesTo [1] S32x512
  shapeCasts_S32x512x32_S16384x32 : S32x512x32.ShapeCasts S16384x32
  shapeCasts_S262144x32_S32x512x16x32 : S262144x32.ShapeCasts S32x512x16x32
  bcast_S32x512x32_S32x512x1x32_0_1_3 : S32x512x32.BroadcastsInDim S32x512x1x32 (![0, 1, 3] : Fin 3 → Fin S32x512x1x32.rank)
  bcast_S32x512x1x32_S32x512x16x32_0_1_2_3 : S32x512x1x32.BroadcastsInDim S32x512x16x32 (![0, 1, 2, 3] : Fin 4 → Fin S32x512x16x32.rank)
  concatenates_S32x512x16x32_S32x512x16x32_S32x512x16x64_d3 : Shape.Concatenates [S32x512x16x32, S32x512x16x32] S32x512x16x64 3
  transposes_S32x512x16x64_S32x64x512x16_0_3_1_2 : S32x512x16x64.Transposes [0, 3, 1, 2] S32x64x512x16
  bcast_S_S32x64x512x16 : S_.BroadcastsInDim S32x64x512x16 (![] : Fin 0 → Fin S32x64x512x16.rank)
  reducesTo_S32x64x512x16_S32x64x512_d3 : S32x64x512x16.ReducesTo [3] S32x64x512
  transposes_S32x64x512_S32x512x64_0_2_1 : S32x64x512.Transposes [0, 2, 1] S32x512x64
  reducesTo_S32x64x512_S32x512_d1 : S32x64x512.ReducesTo [1] S32x512
  dot_S32x512x9_S32x9x512_S32x512x512_2_1_1_2_0_0_wf : DotDims.WF S32x512x9 S32x9x512 S32x512x512 [2] [1] [1] [2] [0] [0]
  gather_S16384x9_S262144x1_S262144x9_1_0_n_n_0_1_19_wf : GatherDims.WF S16384x9 S262144x1 S262144x9 [1] [0] [] [0] [] 1 ![1, 9]
  dot_S32x18x512x16_S32x18_S32x512x16x32_1_1_023_0_n_n_wf : DotDims.WF S32x18x512x16 S32x18 S32x512x16x32 [1] [1] [0, 2, 3] [0] [] []
  dot_S32x512x32_S32x32x512_S32x512x512_2_1_1_2_0_0_wf : DotDims.WF S32x512x32 S32x32x512 S32x512x512 [2] [1] [1] [2] [0] [0]
  gather_S16384x32_S262144x1_S262144x32_1_0_n_n_0_1_132_wf : GatherDims.WF S16384x32 S262144x1 S262144x32 [1] [0] [] [0] [] 1 ![1, 32]
  dot_S32x64x512x16_S32x64_S32x512x16x32_1_1_023_0_n_n_wf : DotDims.WF S32x64x512x16 S32x64 S32x512x16x32 [1] [1] [0, 2, 3] [0] [] []
  dot_S32x64x512x16_S64x64_S32x512x16x64_1_1_023_0_n_n_wf : DotDims.WF S32x64x512x16 S64x64 S32x512x16x64 [1] [1] [0, 2, 3] [0] [] []
  dot_S32x512x64_S32x64x512_S32x512x512_2_1_1_2_0_0_wf : DotDims.WF S32x512x64 S32x64x512 S32x512x512 [2] [1] [1] [2] [0] [0]

variable [Facts]

def dot_S32x512x9_S32x9x512_S32x512x512_2_1_1_2_0_0 : DotDims S32x512x9 S32x9x512 S32x512x512 where
  lhsContracting := [2]
  rhsContracting := [1]
  lhsNonContracting := [1]
  rhsNonContracting := [2]
  lhsBatch := [0]
  rhsBatch := [0]
  wf := dot_S32x512x9_S32x9x512_S32x512x512_2_1_1_2_0_0_wf
def gather_S16384x9_S262144x1_S262144x9_1_0_n_n_0_1_19 : GatherDims S16384x9 S262144x1 S262144x9 where
  offsetDims := [1]
  collapsedSliceDims := [0]
  operandBatchingDims := []
  startIndicesBatchingDims := []
  startIndexMap := [0]
  indexVectorDim := 1
  sliceSizes := ![1, 9]
  wf := gather_S16384x9_S262144x1_S262144x9_1_0_n_n_0_1_19_wf
def dot_S32x18x512x16_S32x18_S32x512x16x32_1_1_023_0_n_n : DotDims S32x18x512x16 S32x18 S32x512x16x32 where
  lhsContracting := [1]
  rhsContracting := [1]
  lhsNonContracting := [0, 2, 3]
  rhsNonContracting := [0]
  lhsBatch := []
  rhsBatch := []
  wf := dot_S32x18x512x16_S32x18_S32x512x16x32_1_1_023_0_n_n_wf
def dot_S32x512x32_S32x32x512_S32x512x512_2_1_1_2_0_0 : DotDims S32x512x32 S32x32x512 S32x512x512 where
  lhsContracting := [2]
  rhsContracting := [1]
  lhsNonContracting := [1]
  rhsNonContracting := [2]
  lhsBatch := [0]
  rhsBatch := [0]
  wf := dot_S32x512x32_S32x32x512_S32x512x512_2_1_1_2_0_0_wf
def gather_S16384x32_S262144x1_S262144x32_1_0_n_n_0_1_132 : GatherDims S16384x32 S262144x1 S262144x32 where
  offsetDims := [1]
  collapsedSliceDims := [0]
  operandBatchingDims := []
  startIndicesBatchingDims := []
  startIndexMap := [0]
  indexVectorDim := 1
  sliceSizes := ![1, 32]
  wf := gather_S16384x32_S262144x1_S262144x32_1_0_n_n_0_1_132_wf
def dot_S32x64x512x16_S32x64_S32x512x16x32_1_1_023_0_n_n : DotDims S32x64x512x16 S32x64 S32x512x16x32 where
  lhsContracting := [1]
  rhsContracting := [1]
  lhsNonContracting := [0, 2, 3]
  rhsNonContracting := [0]
  lhsBatch := []
  rhsBatch := []
  wf := dot_S32x64x512x16_S32x64_S32x512x16x32_1_1_023_0_n_n_wf
def dot_S32x64x512x16_S64x64_S32x512x16x64_1_1_023_0_n_n : DotDims S32x64x512x16 S64x64 S32x512x16x64 where
  lhsContracting := [1]
  rhsContracting := [1]
  lhsNonContracting := [0, 2, 3]
  rhsNonContracting := [0]
  lhsBatch := []
  rhsBatch := []
  wf := dot_S32x64x512x16_S64x64_S32x512x16x64_1_1_023_0_n_n_wf
def dot_S32x512x64_S32x64x512_S32x512x512_2_1_1_2_0_0 : DotDims S32x512x64 S32x64x512 S32x512x512 where
  lhsContracting := [2]
  rhsContracting := [1]
  lhsNonContracting := [1]
  rhsNonContracting := [2]
  lhsBatch := [0]
  rhsBatch := [0]
  wf := dot_S32x512x64_S32x64x512_S32x512x512_2_1_1_2_0_0_wf
def fn_where {F : FTy → Type} [FloatOps F] (arg0 : IVec S32x1x512 1) (arg1 : FVec F S32x1x512 .f32) (arg2 : FVec F S32x1x512 .f32) : FVec F S32x1x512 .f32 :=
  let v0 : FVec F S32x1x512 .f32 := select arg0 arg1 arg2
  v0

def fn_where_0 {F : FTy → Type} [FloatOps F] (arg0 : IVec S32x32x512x16 1) (arg1 : FVec F S32x32x512x16 .f32) (arg2 : FVec F S32x32x512x16 .f32) : FVec F S32x32x512x16 .f32 :=
  let v0 : FVec F S32x32x512x16 .f32 := select arg0 arg1 arg2
  v0

def fn_leaky_relu {F : FTy → Type} [FloatOps F] (arg0 : FVec F S32x32x512x16 .f32) (arg1 : FVec F S_ .f32) : FVec F S32x32x512x16 .f32 :=
  let cst : FVec F S_ .f32 := constant S_ .f32 0x00000000#32
  let v0 : FVec F S32x32x512x16 .f32 := broadcastInDim S32x32x512x16 ![] bcast_S_S32x32x512x16 cst
  let v1 : IVec S32x32x512x16 1 := cmpf .oge arg0 v0
  let v2 : FVec F S_ .f32 := id arg1
  let v3 : FVec F S32x32x512x16 .f32 := broadcastInDim S32x32x512x16 ![] bcast_S_S32x32x512x16 v2
  let v4 : FVec F S32x32x512x16 .f32 := mulf v3 arg0
  let v5 : FVec F S32x32x512x16 .f32 := fn_where_0 (F := F) v1 arg0 v4
  v5

def fn_where_2 {F : FTy → Type} [FloatOps F] (arg0 : IVec S32x64x512x16 1) (arg1 : FVec F S32x64x512x16 .f32) (arg2 : FVec F S32x64x512x16 .f32) : FVec F S32x64x512x16 .f32 :=
  let v0 : FVec F S32x64x512x16 .f32 := select arg0 arg1 arg2
  v0

def fn_leaky_relu_1 {F : FTy → Type} [FloatOps F] (arg0 : FVec F S32x64x512x16 .f32) (arg1 : FVec F S_ .f32) : FVec F S32x64x512x16 .f32 :=
  let cst : FVec F S_ .f32 := constant S_ .f32 0x00000000#32
  let v0 : FVec F S32x64x512x16 .f32 := broadcastInDim S32x64x512x16 ![] bcast_S_S32x64x512x16 cst
  let v1 : IVec S32x64x512x16 1 := cmpf .oge arg0 v0
  let v2 : FVec F S_ .f32 := id arg1
  let v3 : FVec F S32x64x512x16 .f32 := broadcastInDim S32x64x512x16 ![] bcast_S_S32x64x512x16 v2
  let v4 : FVec F S32x64x512x16 .f32 := mulf v3 arg0
  let v5 : FVec F S32x64x512x16 .f32 := fn_where_2 (F := F) v1 arg0 v4
  v5

def fn_part14 {F : FTy → Type} [FloatOps F] (main_v196 : IVec S_ 1) (main_v255 : FVec F S32x512x512 .f32) (main_v257 : IVec S32x1x512 1) (main_v258 : FVec F S32x1x512 .f32) (main_cst_72 : FVec F S_ .f32) : IVec S_ 1 :=
  let main_v259 : FVec F S32x1x512 .f32 := broadcastInDim S32x1x512 ![] bcast_S_S32x1x512 main_cst_72
  let main_v260 : FVec F S32x1x512 .f32 := fn_where (F := F) main_v257 main_v258 main_v259
  let main_v261 : FVec F S32x512x512 .f32 := broadcastInDim S32x512x512 ![0, 1, 2] bcast_S32x1x512_S32x512x512_0_1_2 main_v260
  let main_v262 : FVec F S32x512x512 .f32 := mulf main_v255 main_v261
  let main_values_73 : FVec F S32x512x17 .f32 := (fun x => (Host.topK S32x512x17 2 (FloatOps.cmpfTotal .gt) x sliceFits_S32x512x512_S32x512x17).1) main_v262
  let main_indices_74 : IVec S32x512x17 32 := (fun x => (Host.topK S32x512x17 2 (FloatOps.cmpfTotal .gt) x sliceFits_S32x512x512_S32x512x17).2) main_v262
  let main_v263 : FVec F S32x512x16 .f32 := (extractStridedSlice S32x512x16 ![0, 0, 0] · slices_S32x512x17_S32x512x16_0_0_0) main_values_73
  let main_v264 : FVec F S32x512x16 .f32 := (extractStridedSlice S32x512x16 ![0, 0, 1] · slices_S32x512x17_S32x512x16_0_0_1) main_values_73
  let main_v265 : IVec S32x512x16 1 := cmpf .ogt main_v263 main_v264
  let main_c_75 : IVec S_ 1 := constantI S_ 1 1#1
  let main_v266 : IVec S_ 1 := (fun x v => Host.reduce IntOp.andi x v reducesTo_S32x512x16_S_d0_1_2 h_S_) main_v265 main_c_75
  let main_v267 : IVec S_ 1 := andi main_v196 main_v266
  main_v267

def fn_part13 {F : FTy → Type} [FloatOps F] (main_v196 : IVec S_ 1) (main_v240 : FVec F S32x64x512x16 .f32) (main_cst_66 : FVec F S_ .f32) : IVec S_ 1 :=
  let main_v241 : FVec F S32x64x512x16 .f32 := fn_leaky_relu_1 (F := F) main_v240 main_cst_66
  let main_cst_67 : FVec F S_ .f32 := constant S_ .f32 0xFF800000#32
  let main_v242 : FVec F S32x64x512 .f32 := (fun x v => Host.reduce FloatOps.maximumf x v reducesTo_S32x64x512x16_S32x64x512_d3 h_S_) main_v241 main_cst_67
  let main_v243 : FVec F S32x512x64 .f32 := (transpose S32x512x64 [0, 2, 1] · transposes_S32x64x512_S32x512x64_0_2_1) main_v242
  let main_v244 : FVec F S32x512x512 .f32 := (fun l r => Host.dotGeneral dot_S32x512x64_S32x64x512_S32x512x512_2_1_1_2_0_0 none l r) main_v243 main_v242
  let main_cst_68 : FVec F S_ .f32 := constant S_ .f32 0xC0000000#32
  let main_v245 : FVec F S32x512x512 .f32 := broadcastInDim S32x512x512 ![] bcast_S_S32x512x512 main_cst_68
  let main_v246 : FVec F S32x512x512 .f32 := mulf main_v245 main_v244
  let main_v247 : FVec F S32x64x512 .f32 := mulf main_v242 main_v242
  let main_cst_69 : FVec F S_ .f32 := constant S_ .f32 0x00000000#32
  let main_v248 : FVec F S32x512 .f32 := (fun x v => Host.reduceAdd x v reducesTo_S32x64x512_S32x512_d1 h_S_) main_v247 main_cst_69
  let main_v249 : FVec F S32x1x512 .f32 := broadcastInDim S32x1x512 ![0, 2] bcast_S32x512_S32x1x512_0_2 main_v248
  let main_v250 : FVec F S32x1x512 .f32 := Host.negf main_v249
  let main_v251 : FVec F S32x512x512 .f32 := broadcastInDim S32x512x512 ![0, 1, 2] bcast_S32x1x512_S32x512x512_0_1_2 main_v250
  let main_v252 : FVec F S32x512x512 .f32 := subf main_v251 main_v246
  let main_v253 : FVec F S32x512x1 .f32 := (transpose S32x512x1 [0, 2, 1] · transposes_S32x1x512_S32x512x1_0_2_1) main_v249
  let main_v254 : FVec F S32x512x512 .f32 := broadcastInDim S32x512x512 ![0, 1, 2] bcast_S32x512x1_S32x512x512_0_1_2 main_v253
  let main_v255 : FVec F S32x512x512 .f32 := subf main_v252 main_v254
  let main_cst_70 : FVec F S_ .f32 := constant S_ .f32 0x00000000#32
  let main_v256 : FVec F S32x1x512 .f32 := broadcastInDim S32x1x512 ![] bcast_S_S32x1x512 main_cst_70
  let main_v257 : IVec S32x1x512 1 := cmpf .ogt main_v249 main_v256
  let main_cst_71 : FVec F S_ .f32 := constant S_ .f32 0x3F800000#32
  let main_v258 : FVec F S32x1x512 .f32 := broadcastInDim S32x1x512 ![] bcast_S_S32x1x512 main_cst_71
  let main_cst_72 : FVec F S_ .f32 := constant S_ .f32 0x4B189680#32
  fn_part14 (F := F) main_v196 main_v255 main_v257 main_v258 main_cst_72

def fn_part12 {F : FTy → Type} [FloatOps F] (main_arg3 : FVec F S64x64 .f32) (main_v196 : IVec S_ 1) (main_indices_62 : IVec S32x512x16 32) (main_v217 : FVec F S32x512x32 .f32) (main_v218 : FVec F S16384x32 .f32) (main_v219 : IVec S32 32) (main_c_63 : IVec S_ 32) : IVec S_ 1 :=
  let main_v220 : IVec S32 32 := broadcastInDim S32 ![] bcast_S_S32 main_c_63
  let main_v221 : IVec S32 32 := muli main_v219 main_v220
  let main_v222 : IVec S32x1x1 32 := shapeCast S32x1x1 main_v221 shapeCasts_S32_S32x1x1
  let main_v223 : IVec S32x512x16 32 := broadcastInDim S32x512x16 ![0, 1, 2] bcast_S32x1x1_S32x512x16_0_1_2 main_v222
  let main_v224 : IVec S32x512x16 32 := addi main_indices_62 main_v223
  let main_v225 : IVec S262144 32 := shapeCast S262144 main_v224 shapeCasts_S32x512x16_S262144
  let main_c_64 : IVec S_ 32 := constantI S_ 32 0#32
  let main_v226 : IVec S262144 32 := broadcastInDim S262144 ![] bcast_S_S262144 main_c_64
  let main_v227 : IVec S262144 1 := cmpi .slt main_v225 main_v226
  let main_c_65 : IVec S_ 32 := constantI S_ 32 16384#32
  let main_v228 : IVec S262144 32 := broadcastInDim S262144 ![] bcast_S_S262144 main_c_65
  let main_v229 : IVec S262144 32 := addi main_v225 main_v228
  let main_v230 : IVec S262144 32 := select main_v227 main_v229 main_v225
  let main_v231 : IVec S262144x1 32 := broadcastInDim S262144x1 ![0] bcast_S262144_S262144x1_0 main_v230
  let main_v232 : FVec F S262144x32 .f32 := (fun x i => Host.gather gather_S16384x32_S262144x1_S262144x32_1_0_n_n_0_1_132 x i) main_v218 main_v231
  let main_v233 : FVec F S32x512x16x32 .f32 := shapeCast S32x512x16x32 main_v232 shapeCasts_S262144x32_S32x512x16x32
  let main_v234 : FVec F S32x512x1x32 .f32 := broadcastInDim S32x512x1x32 ![0, 1, 3] bcast_S32x512x32_S32x512x1x32_0_1_3 main_v217
  let main_v235 : FVec F S32x512x16x32 .f32 := broadcastInDim S32x512x16x32 ![0, 1, 2, 3] bcast_S32x512x1x32_S32x512x16x32_0_1_2_3 main_v234
  let main_v236 : FVec F S32x512x16x32 .f32 := subf main_v233 main_v235
  let main_v237 : FVec F S32x512x16x64 .f32 := (fun a b => concatenate S32x512x16x64 3 [⟨S32x512x16x32, a⟩, ⟨S32x512x16x32, b⟩] concatenates_S32x512x16x32_S32x512x16x32_S32x512x16x64_d3) main_v236 main_v235
  let main_v238 : FVec F S32x64x512x16 .f32 := (transpose S32x64x512x16 [0, 3, 1, 2] · transposes_S32x512x16x64_S32x64x512x16_0_3_1_2) main_v237
  let main_v239 : FVec F S32x512x16x64 .f32 := (fun l r => Host.dotGeneral dot_S32x64x512x16_S64x64_S32x512x16x64_1_1_023_0_n_n none l r) main_v238 main_arg3
  let main_v240 : FVec F S32x64x512x16 .f32 := (transpose S32x64x512x16 [0, 3, 1, 2] · transposes_S32x512x16x64_S32x64x512x16_0_3_1_2) main_v239
  let main_cst_66 : FVec F S_ .f32 := constant S_ .f32 0x3E4CCCCD#32
  fn_part13 (F := F) main_v196 main_v240 main_cst_66

def fn_part11 {F : FTy → Type} [FloatOps F] (main_arg3 : FVec F S64x64 .f32) (main_v171 : FVec F S32x32x512 .f32) (main_v196 : IVec S_ 1) (main_v200 : FVec F S32x512x512 .f32) (main_v201 : FVec F S32x32x512 .f32) (main_cst_57 : FVec F S_ .f32) : IVec S_ 1 :=
  let main_v202 : FVec F S32x512 .f32 := (fun x v => Host.reduceAdd x v reducesTo_S32x32x512_S32x512_d1 h_S_) main_v201 main_cst_57
  let main_v203 : FVec F S32x1x512 .f32 := broadcastInDim S32x1x512 ![0, 2] bcast_S32x512_S32x1x512_0_2 main_v202
  let main_v204 : FVec F S32x1x512 .f32 := Host.negf main_v203
  let main_v205 : FVec F S32x512x512 .f32 := broadcastInDim S32x512x512 ![0, 1, 2] bcast_S32x1x512_S32x512x512_0_1_2 main_v204
  let main_v206 : FVec F S32x512x512 .f32 := subf main_v205 main_v200
  let main_v207 : FVec F S32x512x1 .f32 := (transpose S32x512x1 [0, 2, 1] · transposes_S32x1x512_S32x512x1_0_2_1) main_v203
  let main_v208 : FVec F S32x512x512 .f32 := broadcastInDim S32x512x512 ![0, 1, 2] bcast_S32x512x1_S32x512x512_0_1_2 main_v207
  let main_v209 : FVec F S32x512x512 .f32 := subf main_v206 main_v208
  let main_cst_58 : FVec F S_ .f32 := constant S_ .f32 0x00000000#32
  let main_v210 : FVec F S32x1x512 .f32 := broadcastInDim S32x1x512 ![] bcast_S_S32x1x512 main_cst_58
  let main_v211 : IVec S32x1x512 1 := cmpf .ogt main_v203 main_v210
  let main_cst_59 : FVec F S_ .f32 := constant S_ .f32 0x3F800000#32
  let main_v212 : FVec F S32x1x512 .f32 := broadcastInDim S32x1x512 ![] bcast_S_S32x1x512 main_cst_59
  let main_cst_60 : FVec F S_ .f32 := constant S_ .f32 0x4B189680#32
  let main_v213 : FVec F S32x1x512 .f32 := broadcastInDim S32x1x512 ![] bcast_S_S32x1x512 main_cst_60
  let main_v214 : FVec F S32x1x512 .f32 := fn_where (F := F) main_v211 main_v212 main_v213
  let main_v215 : FVec F S32x512x512 .f32 := broadcastInDim S32x512x512 ![0, 1, 2] bcast_S32x1x512_S32x512x512_0_1_2 main_v214
  let main_v216 : FVec F S32x512x512 .f32 := mulf main_v209 main_v215
  let main_values_61 : FVec F S32x512x16 .f32 := (fun x => (Host.topK S32x512x16 2 (FloatOps.cmpfTotal .gt) x sliceFits_S32x512x512_S32x512x16).1) main_v216
  let main_indices_62 : IVec S32x512x16 32 := (fun x => (Host.topK S32x512x16 2 (FloatOps.cmpfTotal .gt) x sliceFits_S32x512x512_S32x512x16).2) main_v216
  let main_v217 : FVec F S32x512x32 .f32 := (transpose S32x512x32 [0, 2, 1] · transposes_S32x32x512_S32x512x32_0_2_1) main_v171
  let main_v218 : FVec F S16384x32 .f32 := shapeCast S16384x32 main_v217 shapeCasts_S32x512x32_S16384x32
  let main_v219 : IVec S32 32 := iotaInDim S32 32 0
  let main_c_63 : IVec S_ 32 := constantI S_ 32 512#32
  fn_part12 (F := F) main_arg3 main_v196 main_indices_62 main_v217 main_v218 main_v219 main_c_63

def fn_part10 {F : FTy → Type} [FloatOps F] (main_arg3 : FVec F S64x64 .f32) (main_v125 : IVec S_ 1) (main_v171 : FVec F S32x32x512 .f32) (main_v178 : FVec F S32x1x512 .f32) (main_v184 : FVec F S32x512x512 .f32) (main_cst_50 : FVec F S_ .f32) : IVec S_ 1 :=
  let main_v185 : FVec F S32x1x512 .f32 := broadcastInDim S32x1x512 ![] bcast_S_S32x1x512 main_cst_50
  let main_v186 : IVec S32x1x512 1 := cmpf .ogt main_v178 main_v185
  let main_cst_51 : FVec F S_ .f32 := constant S_ .f32 0x3F800000#32
  let main_v187 : FVec F S32x1x512 .f32 := broadcastInDim S32x1x512 ![] bcast_S_S32x1x512 main_cst_51
  let main_cst_52 : FVec F S_ .f32 := constant S_ .f32 0x4B189680#32
  let main_v188 : FVec F S32x1x512 .f32 := broadcastInDim S32x1x512 ![] bcast_S_S32x1x512 main_cst_52
  let main_v189 : FVec F S32x1x512 .f32 := fn_where (F := F) main_v186 main_v187 main_v188
  let main_v190 : FVec F S32x512x512 .f32 := broadcastInDim S32x512x512 ![0, 1, 2] bcast_S32x1x512_S32x512x512_0_1_2 main_v189
  let main_v191 : FVec F S32x512x512 .f32 := mulf main_v184 main_v190
  let main_values_53 : FVec F S32x512x17 .f32 := (fun x => (Host.topK S32x512x17 2 (FloatOps.cmpfTotal .gt) x sliceFits_S32x512x512_S32x512x17).1) main_v191
  let main_indices_54 : IVec S32x512x17 32 := (fun x => (Host.topK S32x512x17 2 (FloatOps.cmpfTotal .gt) x sliceFits_S32x512x512_S32x512x17).2) main_v191
  let main_v192 : FVec F S32x512x16 .f32 := (extractStridedSlice S32x512x16 ![0, 0, 0] · slices_S32x512x17_S32x512x16_0_0_0) main_values_53
  let main_v193 : FVec F S32x512x16 .f32 := (extractStridedSlice S32x512x16 ![0, 0, 1] · slices_S32x512x17_S32x512x16_0_0_1) main_values_53
  let main_v194 : IVec S32x512x16 1 := cmpf .ogt main_v192 main_v193
  let main_c_55 : IVec S_ 1 := constantI S_ 1 1#1
  let main_v195 : IVec S_ 1 := (fun x v => Host.reduce IntOp.andi x v reducesTo_S32x512x16_S_d0_1_2 h_S_) main_v194 main_c_55
  let main_v196 : IVec S_ 1 := andi main_v125 main_v195
  let main_v197 : FVec F S32x512x32 .f32 := (transpose S32x512x32 [0, 2, 1] · transposes_S32x32x512_S32x512x32_0_2_1) main_v171
  let main_v198 : FVec F S32x512x512 .f32 := (fun l r => Host.dotGeneral dot_S32x512x32_S32x32x512_S32x512x512_2_1_1_2_0_0 none l r) main_v197 main_v171
  let main_cst_56 : FVec F S_ .f32 := constant S_ .f32 0xC0000000#32
  let main_v199 : FVec F S32x512x512 .f32 := broadcastInDim S32x512x512 ![] bcast_S_S32x512x512 main_cst_56
  let main_v200 : FVec F S32x512x512 .f32 := mulf main_v199 main_v198
  let main_v201 : FVec F S32x32x512 .f32 := mulf main_v171 main_v171
  let main_cst_57 : FVec F S_ .f32 := constant S_ .f32 0x00000000#32
  fn_part11 (F := F) main_arg3 main_v171 main_v196 main_v200 main_v201 main_cst_57

def fn_part9 {F : FTy → Type} [FloatOps F] (main_arg2 : FVec F S32x64 .f32) (main_arg3 : FVec F S64x64 .f32) (main_v125 : IVec S_ 1) (main_v164 : FVec F S32x512x16x32 .f32) (main_v165 : FVec F S32x512x16x32 .f32) : IVec S_ 1 :=
  let main_v166 : FVec F S32x512x16x64 .f32 := (fun a b => concatenate S32x512x16x64 3 [⟨S32x512x16x32, a⟩, ⟨S32x512x16x32, b⟩] concatenates_S32x512x16x32_S32x512x16x32_S32x512x16x64_d3) main_v165 main_v164
  let main_v167 : FVec F S32x64x512x16 .f32 := (transpose S32x64x512x16 [0, 3, 1, 2] · transposes_S32x512x16x64_S32x64x512x16_0_3_1_2) main_v166
  let main_v168 : FVec F S32x512x16x32 .f32 := (fun l r => Host.dotGeneral dot_S32x64x512x16_S32x64_S32x512x16x32_1_1_023_0_n_n none l r) main_v167 main_arg2
  let main_v169 : FVec F S32x32x512x16 .f32 := (transpose S32x32x512x16 [0, 3, 1, 2] · transposes_S32x512x16x32_S32x32x512x16_0_3_1_2) main_v168
  let main_cst_46 : FVec F S_ .f32 := constant S_ .f32 0x3E4CCCCD#32
  let main_v170 : FVec F S32x32x512x16 .f32 := fn_leaky_relu (F := F) main_v169 main_cst_46
  let main_cst_47 : FVec F S_ .f32 := constant S_ .f32 0xFF800000#32
  let main_v171 : FVec F S32x32x512 .f32 := (fun x v => Host.reduce FloatOps.maximumf x v reducesTo_S32x32x512x16_S32x32x512_d3 h_S_) main_v170 main_cst_47
  let main_v172 : FVec F S32x512x32 .f32 := (transpose S32x512x32 [0, 2, 1] · transposes_S32x32x512_S32x512x32_0_2_1) main_v171
  let main_v173 : FVec F S32x512x512 .f32 := (fun l r => Host.dotGeneral dot_S32x512x32_S32x32x512_S32x512x512_2_1_1_2_0_0 none l r) main_v172 main_v171
  let main_cst_48 : FVec F S_ .f32 := constant S_ .f32 0xC0000000#32
  let main_v174 : FVec F S32x512x512 .f32 := broadcastInDim S32x512x512 ![] bcast_S_S32x512x512 main_cst_48
  let main_v175 : FVec F S32x512x512 .f32 := mulf main_v174 main_v173
  let main_v176 : FVec F S32x32x512 .f32 := mulf main_v171 main_v171
  let main_cst_49 : FVec F S_ .f32 := constant S_ .f32 0x00000000#32
  let main_v177 : FVec F S32x512 .f32 := (fun x v => Host.reduceAdd x v reducesTo_S32x32x512_S32x512_d1 h_S_) main_v176 main_cst_49
  let main_v178 : FVec F S32x1x512 .f32 := broadcastInDim S32x1x512 ![0, 2] bcast_S32x512_S32x1x512_0_2 main_v177
  let main_v179 : FVec F S32x1x512 .f32 := Host.negf main_v178
  let main_v180 : FVec F S32x512x512 .f32 := broadcastInDim S32x512x512 ![0, 1, 2] bcast_S32x1x512_S32x512x512_0_1_2 main_v179
  let main_v181 : FVec F S32x512x512 .f32 := subf main_v180 main_v175
  let main_v182 : FVec F S32x512x1 .f32 := (transpose S32x512x1 [0, 2, 1] · transposes_S32x1x512_S32x512x1_0_2_1) main_v178
  let main_v183 : FVec F S32x512x512 .f32 := broadcastInDim S32x512x512 ![0, 1, 2] bcast_S32x512x1_S32x512x512_0_1_2 main_v182
  let main_v184 : FVec F S32x512x512 .f32 := subf main_v181 main_v183
  let main_cst_50 : FVec F S_ .f32 := constant S_ .f32 0x00000000#32
  fn_part10 (F := F) main_arg3 main_v125 main_v171 main_v178 main_v184 main_cst_50

def fn_part8 {F : FTy → Type} [FloatOps F] (main_arg2 : FVec F S32x64 .f32) (main_arg3 : FVec F S64x64 .f32) (main_v100 : FVec F S32x32x512 .f32) (main_v125 : IVec S_ 1) (main_v145 : FVec F S32x512x512 .f32) : IVec S_ 1 :=
  let main_indices_42 : IVec S32x512x16 32 := (fun x => (Host.topK S32x512x16 2 (FloatOps.cmpfTotal .gt) x sliceFits_S32x512x512_S32x512x16).2) main_v145
  let main_v146 : FVec F S32x512x32 .f32 := (transpose S32x512x32 [0, 2, 1] · transposes_S32x32x512_S32x512x32_0_2_1) main_v100
  let main_v147 : FVec F S16384x32 .f32 := shapeCast S16384x32 main_v146 shapeCasts_S32x512x32_S16384x32
  let main_v148 : IVec S32 32 := iotaInDim S32 32 0
  let main_c_43 : IVec S_ 32 := constantI S_ 32 512#32
  let main_v149 : IVec S32 32 := broadcastInDim S32 ![] bcast_S_S32 main_c_43
  let main_v150 : IVec S32 32 := muli main_v148 main_v149
  let main_v151 : IVec S32x1x1 32 := shapeCast S32x1x1 main_v150 shapeCasts_S32_S32x1x1
  let main_v152 : IVec S32x512x16 32 := broadcastInDim S32x512x16 ![0, 1, 2] bcast_S32x1x1_S32x512x16_0_1_2 main_v151
  let main_v153 : IVec S32x512x16 32 := addi main_indices_42 main_v152
  let main_v154 : IVec S262144 32 := shapeCast S262144 main_v153 shapeCasts_S32x512x16_S262144
  let main_c_44 : IVec S_ 32 := constantI S_ 32 0#32
  let main_v155 : IVec S262144 32 := broadcastInDim S262144 ![] bcast_S_S262144 main_c_44
  let main_v156 : IVec S262144 1 := cmpi .slt main_v154 main_v155
  let main_c_45 : IVec S_ 32 := constantI S_ 32 16384#32
  let main_v157 : IVec S262144 32 := broadcastInDim S262144 ![] bcast_S_S262144 main_c_45
  let main_v158 : IVec S262144 32 := addi main_v154 main_v157
  let main_v159 : IVec S262144 32 := select main_v156 main_v158 main_v154
  let main_v160 : IVec S262144x1 32 := broadcastInDim S262144x1 ![0] bcast_S262144_S262144x1_0 main_v159
  let main_v161 : FVec F S262144x32 .f32 := (fun x i => Host.gather gather_S16384x32_S262144x1_S262144x32_1_0_n_n_0_1_132 x i) main_v147 main_v160
  let main_v162 : FVec F S32x512x16x32 .f32 := shapeCast S32x512x16x32 main_v161 shapeCasts_S262144x32_S32x512x16x32
  let main_v163 : FVec F S32x512x1x32 .f32 := broadcastInDim S32x512x1x32 ![0, 1, 3] bcast_S32x512x32_S32x512x1x32_0_1_3 main_v146
  let main_v164 : FVec F S32x512x16x32 .f32 := broadcastInDim S32x512x16x32 ![0, 1, 2, 3] bcast_S32x512x1x32_S32x512x16x32_0_1_2_3 main_v163
  let main_v165 : FVec F S32x512x16x32 .f32 := subf main_v162 main_v164
  fn_part9 (F := F) main_arg2 main_arg3 main_v125 main_v164 main_v165

def fn_part7 {F : FTy → Type} [FloatOps F] (main_arg2 : FVec F S32x64 .f32) (main_arg3 : FVec F S64x64 .f32) (main_v100 : FVec F S32x32x512 .f32) (main_v125 : IVec S_ 1) (main_v127 : FVec F S32x512x512 .f32) : IVec S_ 1 :=
  let main_cst_36 : FVec F S_ .f32 := constant S_ .f32 0xC0000000#32
  let main_v128 : FVec F S32x512x512 .f32 := broadcastInDim S32x512x512 ![] bcast_S_S32x512x512 main_cst_36
  let main_v129 : FVec F S32x512x512 .f32 := mulf main_v128 main_v127
  let main_v130 : FVec F S32x32x512 .f32 := mulf main_v100 main_v100
  let main_cst_37 : FVec F S_ .f32 := constant S_ .f32 0x00000000#32
  let main_v131 : FVec F S32x512 .f32 := (fun x v => Host.reduceAdd x v reducesTo_S32x32x512_S32x512_d1 h_S_) main_v130 main_cst_37
  let main_v132 : FVec F S32x1x512 .f32 := broadcastInDim S32x1x512 ![0, 2] bcast_S32x512_S32x1x512_0_2 main_v131
  let main_v133 : FVec F S32x1x512 .f32 := Host.negf main_v132
  let main_v134 : FVec F S32x512x512 .f32 := broadcastInDim S32x512x512 ![0, 1, 2] bcast_S32x1x512_S32x512x512_0_1_2 main_v133
  let main_v135 : FVec F S32x512x512 .f32 := subf main_v134 main_v129
  let main_v136 : FVec F S32x512x1 .f32 := (transpose S32x512x1 [0, 2, 1] · transposes_S32x1x512_S32x512x1_0_2_1) main_v132
  let main_v137 : FVec F S32x512x512 .f32 := broadcastInDim S32x512x512 ![0, 1, 2] bcast_S32x512x1_S32x512x512_0_1_2 main_v136
  let main_v138 : FVec F S32x512x512 .f32 := subf main_v135 main_v137
  let main_cst_38 : FVec F S_ .f32 := constant S_ .f32 0x00000000#32
  let main_v139 : FVec F S32x1x512 .f32 := broadcastInDim S32x1x512 ![] bcast_S_S32x1x512 main_cst_38
  let main_v140 : IVec S32x1x512 1 := cmpf .ogt main_v132 main_v139
  let main_cst_39 : FVec F S_ .f32 := constant S_ .f32 0x3F800000#32
  let main_v141 : FVec F S32x1x512 .f32 := broadcastInDim S32x1x512 ![] bcast_S_S32x1x512 main_cst_39
  let main_cst_40 : FVec F S_ .f32 := constant S_ .f32 0x4B189680#32
  let main_v142 : FVec F S32x1x512 .f32 := broadcastInDim S32x1x512 ![] bcast_S_S32x1x512 main_cst_40
  let main_v143 : FVec F S32x1x512 .f32 := fn_where (F := F) main_v140 main_v141 main_v142
  let main_v144 : FVec F S32x512x512 .f32 := broadcastInDim S32x512x512 ![0, 1, 2] bcast_S32x1x512_S32x512x512_0_1_2 main_v143
  let main_v145 : FVec F S32x512x512 .f32 := mulf main_v138 main_v144
  let main_values_41 : FVec F S32x512x16 .f32 := (fun x => (Host.topK S32x512x16 2 (FloatOps.cmpfTotal .gt) x sliceFits_S32x512x512_S32x512x16).1) main_v145
  fn_part8 (F := F) main_arg2 main_arg3 main_v100 main_v125 main_v145

def fn_part6 {F : FTy → Type} [FloatOps F] (main_arg2 : FVec F S32x64 .f32) (main_arg3 : FVec F S64x64 .f32) (main_v54 : IVec S_ 1) (main_v100 : FVec F S32x32x512 .f32) (main_v104 : FVec F S32x512x512 .f32) (main_v107 : FVec F S32x1x512 .f32) (main_v109 : FVec F S32x512x512 .f32) : IVec S_ 1 :=
  let main_v110 : FVec F S32x512x512 .f32 := subf main_v109 main_v104
  let main_v111 : FVec F S32x512x1 .f32 := (transpose S32x512x1 [0, 2, 1] · transposes_S32x1x512_S32x512x1_0_2_1) main_v107
  let main_v112 : FVec F S32x512x512 .f32 := broadcastInDim S32x512x512 ![0, 1, 2] bcast_S32x512x1_S32x512x512_0_1_2 main_v111
  let main_v113 : FVec F S32x512x512 .f32 := subf main_v110 main_v112
  let main_cst_30 : FVec F S_ .f32 := constant S_ .f32 0x00000000#32
  let main_v114 : FVec F S32x1x512 .f32 := broadcastInDim S32x1x512 ![] bcast_S_S32x1x512 main_cst_30
  let main_v115 : IVec S32x1x512 1 := cmpf .ogt main_v107 main_v114
  let main_cst_31 : FVec F S_ .f32 := constant S_ .f32 0x3F800000#32
  let main_v116 : FVec F S32x1x512 .f32 := broadcastInDim S32x1x512 ![] bcast_S_S32x1x512 main_cst_31
  let main_cst_32 : FVec F S_ .f32 := constant S_ .f32 0x4B189680#32
  let main_v117 : FVec F S32x1x512 .f32 := broadcastInDim S32x1x512 ![] bcast_S_S32x1x512 main_cst_32
  let main_v118 : FVec F S32x1x512 .f32 := fn_where (F := F) main_v115 main_v116 main_v117
  let main_v119 : FVec F S32x512x512 .f32 := broadcastInDim S32x512x512 ![0, 1, 2] bcast_S32x1x512_S32x512x512_0_1_2 main_v118
  let main_v120 : FVec F S32x512x512 .f32 := mulf main_v113 main_v119
  let main_values_33 : FVec F S32x512x17 .f32 := (fun x => (Host.topK S32x512x17 2 (FloatOps.cmpfTotal .gt) x sliceFits_S32x512x512_S32x512x17).1) main_v120
  let main_indices_34 : IVec S32x512x17 32 := (fun x => (Host.topK S32x512x17 2 (FloatOps.cmpfTotal .gt) x sliceFits_S32x512x512_S32x512x17).2) main_v120
  let main_v121 : FVec F S32x512x16 .f32 := (extractStridedSlice S32x512x16 ![0, 0, 0] · slices_S32x512x17_S32x512x16_0_0_0) main_values_33
  let main_v122 : FVec F S32x512x16 .f32 := (extractStridedSlice S32x512x16 ![0, 0, 1] · slices_S32x512x17_S32x512x16_0_0_1) main_values_33
  let main_v123 : IVec S32x512x16 1 := cmpf .ogt main_v121 main_v122
  let main_c_35 : IVec S_ 1 := constantI S_ 1 1#1
  let main_v124 : IVec S_ 1 := (fun x v => Host.reduce IntOp.andi x v reducesTo_S32x512x16_S_d0_1_2 h_S_) main_v123 main_c_35
  let main_v125 : IVec S_ 1 := andi main_v54 main_v124
  let main_v126 : FVec F S32x512x32 .f32 := (transpose S32x512x32 [0, 2, 1] · transposes_S32x32x512_S32x512x32_0_2_1) main_v100
  let main_v127 : FVec F S32x512x512 .f32 := (fun l r => Host.dotGeneral dot_S32x512x32_S32x32x512_S32x512x512_2_1_1_2_0_0 none l r) main_v126 main_v100
  fn_part7 (F := F) main_arg2 main_arg3 main_v100 main_v125 main_v127

def fn_part5 {F : FTy → Type} [FloatOps F] (main_arg1 : FVec F S32x18 .f32) (main_arg2 : FVec F S32x64 .f32) (main_arg3 : FVec F S64x64 .f32) (main_v54 : IVec S_ 1) (main_v75 : FVec F S32x512x9 .f32) (main_v76 : FVec F S16384x9 .f32) (main_v89 : IVec S262144x1 32) : IVec S_ 1 :=
  let main_v90 : FVec F S262144x9 .f32 := (fun x i => Host.gather gather_S16384x9_S262144x1_S262144x9_1_0_n_n_0_1_19 x i) main_v76 main_v89
  let main_v91 : FVec F S32x512x16x9 .f32 := shapeCast S32x512x16x9 main_v90 shapeCasts_S262144x9_S32x512x16x9
  let main_v92 : FVec F S32x512x1x9 .f32 := broadcastInDim S32x512x1x9 ![0, 1, 3] bcast_S32x512x9_S32x512x1x9_0_1_3 main_v75
  let main_v93 : FVec F S32x512x16x9 .f32 := broadcastInDim S32x512x16x9 ![0, 1, 2, 3] bcast_S32x512x1x9_S32x512x16x9_0_1_2_3 main_v92
  let main_v94 : FVec F S32x512x16x9 .f32 := subf main_v91 main_v93
  let main_v95 : FVec F S32x512x16x18 .f32 := (fun a b => concatenate S32x512x16x18 3 [⟨S32x512x16x9, a⟩, ⟨S32x512x16x9, b⟩] concatenates_S32x512x16x9_S32x512x16x9_S32x512x16x18_d3) main_v94 main_v93
  let main_v96 : FVec F S32x18x512x16 .f32 := (transpose S32x18x512x16 [0, 3, 1, 2] · transposes_S32x512x16x18_S32x18x512x16_0_3_1_2) main_v95
  let main_v97 : FVec F S32x512x16x32 .f32 := (fun l r => Host.dotGeneral dot_S32x18x512x16_S32x18_S32x512x16x32_1_1_023_0_n_n none l r) main_v96 main_arg1
  let main_v98 : FVec F S32x32x512x16 .f32 := (transpose S32x32x512x16 [0, 3, 1, 2] · transposes_S32x512x16x32_S32x32x512x16_0_3_1_2) main_v97
  let main_cst_26 : FVec F S_ .f32 := constant S_ .f32 0x3E4CCCCD#32
  let main_v99 : FVec F S32x32x512x16 .f32 := fn_leaky_relu (F := F) main_v98 main_cst_26
  let main_cst_27 : FVec F S_ .f32 := constant S_ .f32 0xFF800000#32
  let main_v100 : FVec F S32x32x512 .f32 := (fun x v => Host.reduce FloatOps.maximumf x v reducesTo_S32x32x512x16_S32x32x512_d3 h_S_) main_v99 main_cst_27
  let main_v101 : FVec F S32x512x32 .f32 := (transpose S32x512x32 [0, 2, 1] · transposes_S32x32x512_S32x512x32_0_2_1) main_v100
  let main_v102 : FVec F S32x512x512 .f32 := (fun l r => Host.dotGeneral dot_S32x512x32_S32x32x512_S32x512x512_2_1_1_2_0_0 none l r) main_v101 main_v100
  let main_cst_28 : FVec F S_ .f32 := constant S_ .f32 0xC0000000#32
  let main_v103 : FVec F S32x512x512 .f32 := broadcastInDim S32x512x512 ![] bcast_S_S32x512x512 main_cst_28
  let main_v104 : FVec F S32x512x512 .f32 := mulf main_v103 main_v102
  let main_v105 : FVec F S32x32x512 .f32 := mulf main_v100 main_v100
  let main_cst_29 : FVec F S_ .f32 := constant S_ .f32 0x00000000#32
  let main_v106 : FVec F S32x512 .f32 := (fun x v => Host.reduceAdd x v reducesTo_S32x32x512_S32x512_d1 h_S_) main_v105 main_cst_29
  let main_v107 : FVec F S32x1x512 .f32 := broadcastInDim S32x1x512 ![0, 2] bcast_S32x512_S32x1x512_0_2 main_v106
  let main_v108 : FVec F S32x1x512 .f32 := Host.negf main_v107
  let main_v109 : FVec F S32x512x512 .f32 := broadcastInDim S32x512x512 ![0, 1, 2] bcast_S32x1x512_S32x512x512_0_1_2 main_v108
  fn_part6 (F := F) main_arg2 main_arg3 main_v54 main_v100 main_v104 main_v107 main_v109

def fn_part4 {F : FTy → Type} [FloatOps F] (main_arg1 : FVec F S32x18 .f32) (main_arg2 : FVec F S32x64 .f32) (main_arg3 : FVec F S64x64 .f32) (main_v29 : FVec F S32x9x512 .f32) (main_v54 : IVec S_ 1) (main_v67 : FVec F S32x512x512 .f32) (main_v69 : IVec S32x1x512 1) (main_v70 : FVec F S32x1x512 .f32) (main_cst_20 : FVec F S_ .f32) : IVec S_ 1 :=
  let main_v71 : FVec F S32x1x512 .f32 := broadcastInDim S32x1x512 ![] bcast_S_S32x1x512 main_cst_20
  let main_v72 : FVec F S32x1x512 .f32 := fn_where (F := F) main_v69 main_v70 main_v71
  let main_v73 : FVec F S32x512x512 .f32 := broadcastInDim S32x512x512 ![0, 1, 2] bcast_S32x1x512_S32x512x512_0_1_2 main_v72
  let main_v74 : FVec F S32x512x512 .f32 := mulf main_v67 main_v73
  let main_values_21 : FVec F S32x512x16 .f32 := (fun x => (Host.topK S32x512x16 2 (FloatOps.cmpfTotal .gt) x sliceFits_S32x512x512_S32x512x16).1) main_v74
  let main_indices_22 : IVec S32x512x16 32 := (fun x => (Host.topK S32x512x16 2 (FloatOps.cmpfTotal .gt) x sliceFits_S32x512x512_S32x512x16).2) main_v74
  let main_v75 : FVec F S32x512x9 .f32 := (transpose S32x512x9 [0, 2, 1] · transposes_S32x9x512_S32x512x9_0_2_1) main_v29
  let main_v76 : FVec F S16384x9 .f32 := shapeCast S16384x9 main_v75 shapeCasts_S32x512x9_S16384x9
  let main_v77 : IVec S32 32 := iotaInDim S32 32 0
  let main_c_23 : IVec S_ 32 := constantI S_ 32 512#32
  let main_v78 : IVec S32 32 := broadcastInDim S32 ![] bcast_S_S32 main_c_23
  let main_v79 : IVec S32 32 := muli main_v77 main_v78
  let main_v80 : IVec S32x1x1 32 := shapeCast S32x1x1 main_v79 shapeCasts_S32_S32x1x1
  let main_v81 : IVec S32x512x16 32 := broadcastInDim S32x512x16 ![0, 1, 2] bcast_S32x1x1_S32x512x16_0_1_2 main_v80
  let main_v82 : IVec S32x512x16 32 := addi main_indices_22 main_v81
  let main_v83 : IVec S262144 32 := shapeCast S262144 main_v82 shapeCasts_S32x512x16_S262144
  let main_c_24 : IVec S_ 32 := constantI S_ 32 0#32
  let main_v84 : IVec S262144 32 := broadcastInDim S262144 ![] bcast_S_S262144 main_c_24
  let main_v85 : IVec S262144 1 := cmpi .slt main_v83 main_v84
  let main_c_25 : IVec S_ 32 := constantI S_ 32 16384#32
  let main_v86 : IVec S262144 32 := broadcastInDim S262144 ![] bcast_S_S262144 main_c_25
  let main_v87 : IVec S262144 32 := addi main_v83 main_v86
  let main_v88 : IVec S262144 32 := select main_v85 main_v87 main_v83
  let main_v89 : IVec S262144x1 32 := broadcastInDim S262144x1 ![0] bcast_S262144_S262144x1_0 main_v88
  fn_part5 (F := F) main_arg1 main_arg2 main_arg3 main_v54 main_v75 main_v76 main_v89

def fn_part3 {F : FTy → Type} [FloatOps F] (main_arg1 : FVec F S32x18 .f32) (main_arg2 : FVec F S32x64 .f32) (main_arg3 : FVec F S64x64 .f32) (main_v28 : IVec S_ 1) (main_v29 : FVec F S32x9x512 .f32) (main_v52 : IVec S32x512x16 1) : IVec S_ 1 :=
  let main_c_15 : IVec S_ 1 := constantI S_ 1 1#1
  let main_v53 : IVec S_ 1 := (fun x v => Host.reduce IntOp.andi x v reducesTo_S32x512x16_S_d0_1_2 h_S_) main_v52 main_c_15
  let main_v54 : IVec S_ 1 := andi main_v28 main_v53
  let main_v55 : FVec F S32x512x9 .f32 := (transpose S32x512x9 [0, 2, 1] · transposes_S32x9x512_S32x512x9_0_2_1) main_v29
  let main_v56 : FVec F S32x512x512 .f32 := (fun l r => Host.dotGeneral dot_S32x512x9_S32x9x512_S32x512x512_2_1_1_2_0_0 none l r) main_v55 main_v29
  let main_cst_16 : FVec F S_ .f32 := constant S_ .f32 0xC0000000#32
  let main_v57 : FVec F S32x512x512 .f32 := broadcastInDim S32x512x512 ![] bcast_S_S32x512x512 main_cst_16
  let main_v58 : FVec F S32x512x512 .f32 := mulf main_v57 main_v56
  let main_v59 : FVec F S32x9x512 .f32 := mulf main_v29 main_v29
  let main_cst_17 : FVec F S_ .f32 := constant S_ .f32 0x00000000#32
  let main_v60 : FVec F S32x512 .f32 := (fun x v => Host.reduceAdd x v reducesTo_S32x9x512_S32x512_d1 h_S_) main_v59 main_cst_17
  let main_v61 : FVec F S32x1x512 .f32 := broadcastInDim S32x1x512 ![0, 2] bcast_S32x512_S32x1x512_0_2 main_v60
  let main_v62 : FVec F S32x1x512 .f32 := Host.negf main_v61
  let main_v63 : FVec F S32x512x512 .f32 := broadcastInDim S32x512x512 ![0, 1, 2] bcast_S32x1x512_S32x512x512_0_1_2 main_v62
  let main_v64 : FVec F S32x512x512 .f32 := subf main_v63 main_v58
  let main_v65 : FVec F S32x512x1 .f32 := (transpose S32x512x1 [0, 2, 1] · transposes_S32x1x512_S32x512x1_0_2_1) main_v61
  let main_v66 : FVec F S32x512x512 .f32 := broadcastInDim S32x512x512 ![0, 1, 2] bcast_S32x512x1_S32x512x512_0_1_2 main_v65
  let main_v67 : FVec F S32x512x512 .f32 := subf main_v64 main_v66
  let main_cst_18 : FVec F S_ .f32 := constant S_ .f32 0x00000000#32
  let main_v68 : FVec F S32x1x512 .f32 := broadcastInDim S32x1x512 ![] bcast_S_S32x1x512 main_cst_18
  let main_v69 : IVec S32x1x512 1 := cmpf .ogt main_v61 main_v68
  let main_cst_19 : FVec F S_ .f32 := constant S_ .f32 0x3F800000#32
  let main_v70 : FVec F S32x1x512 .f32 := broadcastInDim S32x1x512 ![] bcast_S_S32x1x512 main_cst_19
  let main_cst_20 : FVec F S_ .f32 := constant S_ .f32 0x4B189680#32
  fn_part4 (F := F) main_arg1 main_arg2 main_arg3 main_v29 main_v54 main_v67 main_v69 main_v70 main_cst_20

def fn_part2 {F : FTy → Type} [FloatOps F] (main_arg1 : FVec F S32x18 .f32) (main_arg2 : FVec F S32x64 .f32) (main_arg3 : FVec F S64x64 .f32) (main_v28 : IVec S_ 1) (main_v29 : FVec F S32x9x512 .f32) (main_v33 : FVec F S32x512x512 .f32) (main_v34 : FVec F S32x9x512 .f32) : IVec S_ 1 :=
  let main_cst_11 : FVec F S_ .f32 := constant S_ .f32 0x00000000#32
  let main_v35 : FVec F S32x512 .f32 := (fun x v => Host.reduceAdd x v reducesTo_S32x9x512_S32x512_d1 h_S_) main_v34 main_cst_11
  let main_v36 : FVec F S32x1x512 .f32 := broadcastInDim S32x1x512 ![0, 2] bcast_S32x512_S32x1x512_0_2 main_v35
  let main_v37 : FVec F S32x1x512 .f32 := Host.negf main_v36
  let main_v38 : FVec F S32x512x512 .f32 := broadcastInDim S32x512x512 ![0, 1, 2] bcast_S32x1x512_S32x512x512_0_1_2 main_v37
  let main_v39 : FVec F S32x512x512 .f32 := subf main_v38 main_v33
  let main_v40 : FVec F S32x512x1 .f32 := (transpose S32x512x1 [0, 2, 1] · transposes_S32x1x512_S32x512x1_0_2_1) main_v36
  let main_v41 : FVec F S32x512x512 .f32 := broadcastInDim S32x512x512 ![0, 1, 2] bcast_S32x512x1_S32x512x512_0_1_2 main_v40
  let main_v42 : FVec F S32x512x512 .f32 := subf main_v39 main_v41
  let main_cst_12 : FVec F S_ .f32 := constant S_ .f32 0x00000000#32
  let main_v43 : FVec F S32x1x512 .f32 := broadcastInDim S32x1x512 ![] bcast_S_S32x1x512 main_cst_12
  let main_v44 : IVec S32x1x512 1 := cmpf .ogt main_v36 main_v43
  let main_cst_13 : FVec F S_ .f32 := constant S_ .f32 0x3F800000#32
  let main_v45 : FVec F S32x1x512 .f32 := broadcastInDim S32x1x512 ![] bcast_S_S32x1x512 main_cst_13
  let main_cst_14 : FVec F S_ .f32 := constant S_ .f32 0x4B189680#32
  let main_v46 : FVec F S32x1x512 .f32 := broadcastInDim S32x1x512 ![] bcast_S_S32x1x512 main_cst_14
  let main_v47 : FVec F S32x1x512 .f32 := fn_where (F := F) main_v44 main_v45 main_v46
  let main_v48 : FVec F S32x512x512 .f32 := broadcastInDim S32x512x512 ![0, 1, 2] bcast_S32x1x512_S32x512x512_0_1_2 main_v47
  let main_v49 : FVec F S32x512x512 .f32 := mulf main_v42 main_v48
  let main_values : FVec F S32x512x17 .f32 := (fun x => (Host.topK S32x512x17 2 (FloatOps.cmpfTotal .gt) x sliceFits_S32x512x512_S32x512x17).1) main_v49
  let main_indices : IVec S32x512x17 32 := (fun x => (Host.topK S32x512x17 2 (FloatOps.cmpfTotal .gt) x sliceFits_S32x512x512_S32x512x17).2) main_v49
  let main_v50 : FVec F S32x512x16 .f32 := (extractStridedSlice S32x512x16 ![0, 0, 0] · slices_S32x512x17_S32x512x16_0_0_0) main_values
  let main_v51 : FVec F S32x512x16 .f32 := (extractStridedSlice S32x512x16 ![0, 0, 1] · slices_S32x512x17_S32x512x16_0_0_1) main_values
  let main_v52 : IVec S32x512x16 1 := cmpf .ogt main_v50 main_v51
  fn_part3 (F := F) main_arg1 main_arg2 main_arg3 main_v28 main_v29 main_v52

def fn_part1 {F : FTy → Type} [FloatOps F] (main_arg0 : FVec F S32x512x9 .f32) (main_arg1 : FVec F S32x18 .f32) (main_arg2 : FVec F S32x64 .f32) (main_arg3 : FVec F S64x64 .f32) (main_arg4 : FVec F S128x128 .f32) (main_arg5 : FVec F S1024x256 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S1024x256 .f32 := Host.absf main_arg5
  let main_cst_8 : FVec F S_ .f32 := constant S_ .f32 0x7F800000#32
  let main_v25 : FVec F S1024x256 .f32 := broadcastInDim S1024x256 ![] bcast_S_S1024x256 main_cst_8
  let main_v26 : IVec S1024x256 1 := cmpf .olt main_v24 main_v25
  let main_c_9 : IVec S_ 1 := constantI S_ 1 1#1
  let main_v27 : IVec S_ 1 := (fun x v => Host.reduce IntOp.andi x v reducesTo_S1024x256_S_d0_1 h_S_) main_v26 main_c_9
  let main_v28 : IVec S_ 1 := andi main_v23 main_v27
  let main_v29 : FVec F S32x9x512 .f32 := (transpose S32x9x512 [0, 2, 1] · transposes_S32x512x9_S32x9x512_0_2_1) main_arg0
  let main_v30 : FVec F S32x512x9 .f32 := (transpose S32x512x9 [0, 2, 1] · transposes_S32x9x512_S32x512x9_0_2_1) main_v29
  let main_v31 : FVec F S32x512x512 .f32 := (fun l r => Host.dotGeneral dot_S32x512x9_S32x9x512_S32x512x512_2_1_1_2_0_0 none l r) main_v30 main_v29
  let main_cst_10 : FVec F S_ .f32 := constant S_ .f32 0xC0000000#32
  let main_v32 : FVec F S32x512x512 .f32 := broadcastInDim S32x512x512 ![] bcast_S_S32x512x512 main_cst_10
  let main_v33 : FVec F S32x512x512 .f32 := mulf main_v32 main_v31
  let main_v34 : FVec F S32x9x512 .f32 := mulf main_v29 main_v29
  fn_part2 (F := F) main_arg1 main_arg2 main_arg3 main_v28 main_v29 main_v33 main_v34

def fn {F : FTy → Type} [FloatOps F] (main_arg0 : FVec F S32x512x9 .f32) (main_arg1 : FVec F S32x18 .f32) (main_arg2 : FVec F S32x64 .f32) (main_arg3 : FVec F S64x64 .f32) (main_arg4 : FVec F S128x128 .f32) (main_arg5 : FVec F S1024x256 .f32) : IVec S_ 1 :=
  let main_v0 : FVec F S32x512x9 .f32 := Host.absf main_arg0
  let main_cst : FVec F S_ .f32 := constant S_ .f32 0x7F800000#32
  let main_v1 : FVec F S32x512x9 .f32 := broadcastInDim S32x512x9 ![] bcast_S_S32x512x9 main_cst
  let main_v2 : IVec S32x512x9 1 := cmpf .olt main_v0 main_v1
  let main_c : IVec S_ 1 := constantI S_ 1 1#1
  let main_v3 : IVec S_ 1 := (fun x v => Host.reduce IntOp.andi x v reducesTo_S32x512x9_S_d0_1_2 h_S_) main_v2 main_c
  let main_v4 : FVec F S32x18 .f32 := Host.absf main_arg1
  let main_cst_0 : FVec F S_ .f32 := constant S_ .f32 0x7F800000#32
  let main_v5 : FVec F S32x18 .f32 := broadcastInDim S32x18 ![] bcast_S_S32x18 main_cst_0
  let main_v6 : IVec S32x18 1 := cmpf .olt main_v4 main_v5
  let main_c_1 : IVec S_ 1 := constantI S_ 1 1#1
  let main_v7 : IVec S_ 1 := (fun x v => Host.reduce IntOp.andi x v reducesTo_S32x18_S_d0_1 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg0 main_arg1 main_arg2 main_arg3 main_arg4 main_arg5 main_v13 main_v16
-- ==== Pre_finite_without_ties3.lean ====
abbrev S32x2048 : Shape := ⟨2, ![32, 2048]⟩
abbrev S2048x1024 : Shape := ⟨2, ![2048, 1024]⟩
abbrev S1024 : Shape := ⟨1, ![1024]⟩
abbrev S1024x1024 : Shape := ⟨2, ![1024, 1024]⟩
abbrev S1024x32 : Shape := ⟨2, ![1024, 32]⟩
abbrev S32 : Shape := ⟨1, ![32]⟩
abbrev S512x64 : Shape := ⟨2, ![512, 64]⟩
abbrev S512 : Shape := ⟨1, ![512]⟩
abbrev S256x1024 : Shape := ⟨2, ![256, 1024]⟩
abbrev S256 : Shape := ⟨1, ![256]⟩
abbrev S1024x768 : Shape := ⟨2, ![1024, 768]⟩
abbrev S2048x256 : Shape := ⟨2, ![2048, 256]⟩
abbrev S256x40 : Shape := ⟨2, ![256, 40]⟩
abbrev S40 : Shape := ⟨1, ![40]⟩
abbrev S_ : Shape := ⟨0, ![]⟩
abbrev S32x1024 : Shape := ⟨2, ![32, 1024]⟩
abbrev S1x1024 : Shape := ⟨2, ![1, 1024]⟩
abbrev S32x32 : Shape := ⟨2, ![32, 32]⟩
abbrev S1x32 : Shape := ⟨2, ![1, 32]⟩
abbrev S1x32x32 : Shape := ⟨3, ![1, 32, 32]⟩
abbrev S1x1x32 : Shape := ⟨3, ![1, 1, 32]⟩
abbrev S1x32x1 : Shape := ⟨3, ![1, 32, 1]⟩
abbrev S1x32x9 : Shape := ⟨3, ![1, 32, 9]⟩
abbrev S1x32x8 : Shape := ⟨3, ![1, 32, 8]⟩
abbrev S1 : Shape := ⟨1, ![1]⟩
abbrev S1x1x1 : Shape := ⟨3, ![1, 1, 1]⟩
abbrev S256x1 : Shape := ⟨2, ![256, 1]⟩
abbrev S256x32 : Shape := ⟨2, ![256, 32]⟩
abbrev S1x32x8x32 : Shape := ⟨4, ![1, 32, 8, 32]⟩
abbrev S1x32x1x32 : Shape := ⟨4, ![1, 32, 1, 32]⟩
abbrev S1x32x8x64 : Shape := ⟨4, ![1, 32, 8, 64]⟩
abbrev S1x64x32x8 : Shape := ⟨4, ![1, 64, 32, 8]⟩
abbrev S1x32x8x512 : Shape := ⟨4, ![1, 32, 8, 512]⟩
abbrev S1x512x32x8 : Shape := ⟨4, ![1, 512, 32, 8]⟩
abbrev S1x512x1x1 : Shape := ⟨4, ![1, 512, 1, 1]⟩
abbrev S1x512x32 : Shape := ⟨3, ![1, 512, 32]⟩
abbrev S1x32x512 : Shape := ⟨3, ![1, 32, 512]⟩
abbrev S32x512 : Shape := ⟨2, ![32, 512]⟩
abbrev S512x32 : Shape := ⟨2, ![512, 32]⟩

class Facts : Prop where
  bcast_S_S32x2048 : S_.BroadcastsInDim S32x2048 (![] : Fin 0 → Fin S32x2048.rank)
  reducesTo_S32x2048_S_d0_1 : S32x2048.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x32 : S_.BroadcastsInDim S1024x32 (![] : Fin 0 → Fin S1024x32.rank)
  reducesTo_S1024x32_S_d0_1 : S1024x32.ReducesTo [0, 1] S_
  bcast_S_S32 : S_.BroadcastsInDim S32 (![] : Fin 0 → Fin S32.rank)
  reducesTo_S32_S_d0 : S32.ReducesTo [0] S_
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_
  reducesTo_S32x1024_S1024_d0 : S32x1024.ReducesTo [0] S1024
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S1x1024_S32x1024_0_1 : S1x1024.BroadcastsInDim S32x1024 (![0, 1] : Fin 2 → Fin S32x1024.rank)
  shapeCasts_S1024_S1x1024 : S1024.ShapeCasts S1x1024
  bcast_S_S32x1024 : S_.BroadcastsInDim S32x1024 (![] : Fin 0 → Fin S32x1024.rank)
  bcast_S32_S1x32_1 : S32.BroadcastsInDim S1x32 (![1] : Fin 1 → Fin S1x32.rank)
  bcast_S1x32_S32x32_0_1 : S1x32.BroadcastsInDim S32x32 (![0, 1] : Fin 2 → Fin S32x32.rank)
  bcast_S32x32_S1x32x32_1_2 : S32x32.BroadcastsInDim S1x32x32 (![1, 2] : Fin 2 → Fin S1x32x32.rank)
  transposes_S1x32x32_S1x32x32_0_2_1 : S1x32x32.Transposes [0, 2, 1] S1x32x32
  shapeCasts_S1x32x32_S32x32 : S1x32x32.ShapeCasts S32x32
  bcast_S_S1x32x32 : S_.BroadcastsInDim S1x32x32 (![] : Fin 0 → Fin S1x32x32.rank)
  reducesTo_S1x32x32_S1x32_d1 : S1x32x32.ReducesTo [1] S1x32
  bcast_S1x32_S1x1x32_0_2 : S1x32.BroadcastsInDim S1x1x32 (![0, 2] : Fin 2 → Fin S1x1x32.rank)
  bcast_S1x1x32_S1x32x32_0_1_2 : S1x1x32.BroadcastsInDim S1x32x32 (![0, 1, 2] : Fin 3 → Fin S1x32x32.rank)
  transposes_S1x1x32_S1x32x1_0_2_1 : S1x1x32.Transposes [0, 2, 1] S1x32x1
  bcast_S1x32x1_S1x32x32_0_1_2 : S1x32x1.BroadcastsInDim S1x32x32 (![0, 1, 2] : Fin 3 → Fin S1x32x32.rank)
  bcast_S_S1x1x32 : S_.BroadcastsInDim S1x1x32 (![] : Fin 0 → Fin S1x1x32.rank)
  sliceFits_S1x32x32_S1x32x9 : S1x32x32.Slices (fun _ => 0) S1x32x9
  slices_S1x32x9_S1x32x8_0_0_0 : S1x32x9.Slices ![0, 0, 0] S1x32x8
  slices_S1x32x9_S1x32x8_0_0_1 : S1x32x9.Slices ![0, 0, 1] S1x32x8
  reducesTo_S1x32x8_S_d0_1_2 : S1x32x8.ReducesTo [0, 1, 2] S_
  sliceFits_S1x32x32_S1x32x8 : S1x32x32.Slices (fun _ => 0) S1x32x8
  bcast_S_S1 : S_.BroadcastsInDim S1 (![] : Fin 0 → Fin S1.rank)
  shapeCasts_S1_S1x1x1 : S1.ShapeCasts S1x1x1
  bcast_S1x1x1_S1x32x8_0_1_2 : S1x1x1.BroadcastsInDim S1x32x8 (![0, 1, 2] : Fin 3 → Fin S1x32x8.rank)
  shapeCasts_S1x32x8_S256 : S1x32x8.ShapeCasts S256
  bcast_S_S256 : S_.BroadcastsInDim S256 (![] : Fin 0 → Fin S256.rank)
  bcast_S256_S256x1_0 : S256.BroadcastsInDim S256x1 (![0] : Fin 1 → Fin S256x1.rank)
  shapeCasts_S256x32_S1x32x8x32 : S256x32.ShapeCasts S1x32x8x32
  bcast_S1x32x32_S1x32x1x32_0_1_3 : S1x32x32.BroadcastsInDim S1x32x1x32 (![0, 1, 3] : Fin 3 → Fin S1x32x1x32.rank)
  bcast_S1x32x1x32_S1x32x8x32_0_1_2_3 : S1x32x1x32.BroadcastsInDim S1x32x8x32 (![0, 1, 2, 3] : Fin 4 → Fin S1x32x8x32.rank)
  concatenates_S1x32x8x32_S1x32x8x32_S1x32x8x64_d3 : Shape.Concatenates [S1x32x8x32, S1x32x8x32] S1x32x8x64 3
  transposes_S1x32x8x64_S1x64x32x8_0_3_1_2 : S1x32x8x64.Transposes [0, 3, 1, 2] S1x64x32x8
  transposes_S1x32x8x512_S1x512x32x8_0_3_1_2 : S1x32x8x512.Transposes [0, 3, 1, 2] S1x512x32x8
  reducesTo_S1x512x32x8_S512_d0_2_3 : S1x512x32x8.ReducesTo [0, 2, 3] S512
  bcast_S512_S1x512x1x1_1 : S512.BroadcastsInDim S1x512x1x1 (![1] : Fin 1 → Fin S1x512x1x1.rank)
  bcast_S_S1x512x1x1 : S_.BroadcastsInDim S1x512x1x1 (![] : Fin 0 → Fin S1x512x1x1.rank)
  bcast_S1x512x1x1_S1x512x32x8_0_1_2_3 : S1x512x1x1.BroadcastsInDim S1x512x32x8 (![0, 1, 2, 3] : Fin 4 → Fin S1x512x32x8.rank)
  shapeCasts_S512_S1x512x1x1 : S512.ShapeCasts S1x512x1x1
  bcast_S_S1x512x32x8 : S_.BroadcastsInDim S1x512x32x8 (![] : Fin 0 → Fin S1x512x32x8.rank)
  reducesTo_S1x512x32x8_S1x512x32_d3 : S1x512x32x8.ReducesTo [3] S1x512x32
  transposes_S1x512x32_S1x32x512_0_2_1 : S1x512x32.Transposes [0, 2, 1] S1x32x512
  shapeCasts_S1x32x512_S32x512 : S1x32x512.ShapeCasts S32x512
  shapeCasts_S1x512x32_S512x32 : S1x512x32.ShapeCasts S512x32
  reducesTo_S1x512x32_S1x32_d1 : S1x512x32.ReducesTo [1] S1x32
  dot_S32x2048_S2048x1024_S32x1024_1_0_0_1_n_n_wf : DotDims.WF S32x2048 S2048x1024 S32x1024 [1] [0] [0] [1] [] []
  dot_S32x1024_S1024x1024_S32x1024_1_0_0_1_n_n_wf : DotDims.WF S32x1024 S1024x1024 S32x1024 [1] [0] [0] [1] [] []
  dot_S32x1024_S1024x32_S32x32_1_0_0_1_n_n_wf : DotDims.WF S32x1024 S1024x32 S32x32 [1] [0] [0] [1] [] []
  dot_S32x32_S32x32_S32x32_1_0_0_1_n_n_wf : DotDims.WF S32x32 S32x32 S32x32 [1] [0] [0] [1] [] []
  gather_S32x32_S256x1_S256x32_1_0_n_n_0_1_132_wf : GatherDims.WF S32x32 S256x1 S256x32 [1] [0] [] [0] [] 1 ![1, 32]
  dot_S1x64x32x8_S512x64_S1x32x8x512_1_1_023_0_n_n_wf : DotDims.WF S1x64x32x8 S512x64 S1x32x8x512 [1] [1] [0, 2, 3] [0] [] []
  dot_S32x512_S512x32_S32x32_1_0_0_1_n_n_wf : DotDims.WF S32x512 S512x32 S32x32 [1] [0] [0] [1] [] []

variable [Facts]

def dot_S32x2048_S2048x1024_S32x1024_1_0_0_1_n_n : DotDims S32x2048 S2048x1024 S32x1024 where
  lhsContracting := [1]
  rhsContracting := [0]
  lhsNonContracting := [0]
  rhsNonContracting := [1]
  lhsBatch := []
  rhsBatch := []
  wf := dot_S32x2048_S2048x1024_S32x1024_1_0_0_1_n_n_wf
def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf
def dot_S32x1024_S1024x32_S32x32_1_0_0_1_n_n : DotDims S32x1024 S1024x32 S32x32 where
  lhsContracting := [1]
  rhsContracting := [0]
  lhsNonContracting := [0]
  rhsNonContracting := [1]
  lhsBatch := []
  rhsBatch := []
  wf := dot_S32x1024_S1024x32_S32x32_1_0_0_1_n_n_wf
def dot_S32x32_S32x32_S32x32_1_0_0_1_n_n : DotDims S32x32 S32x32 S32x32 where
  lhsContracting := [1]
  rhsContracting := [0]
  lhsNonContracting := [0]
  rhsNonContracting := [1]
  lhsBatch := []
  rhsBatch := []
  wf := dot_S32x32_S32x32_S32x32_1_0_0_1_n_n_wf
def gather_S32x32_S256x1_S256x32_1_0_n_n_0_1_132 : GatherDims S32x32 S256x1 S256x32 where
  offsetDims := [1]
  collapsedSliceDims := [0]
  operandBatchingDims := []
  startIndicesBatchingDims := []
  startIndexMap := [0]
  indexVectorDim := 1
  sliceSizes := ![1, 32]
  wf := gather_S32x32_S256x1_S256x32_1_0_n_n_0_1_132_wf
def dot_S1x64x32x8_S512x64_S1x32x8x512_1_1_023_0_n_n : DotDims S1x64x32x8 S512x64 S1x32x8x512 where
  lhsContracting := [1]
  rhsContracting := [1]
  lhsNonContracting := [0, 2, 3]
  rhsNonContracting := [0]
  lhsBatch := []
  rhsBatch := []
  wf := dot_S1x64x32x8_S512x64_S1x32x8x512_1_1_023_0_n_n_wf
def dot_S32x512_S512x32_S32x32_1_0_0_1_n_n : DotDims S32x512 S512x32 S32x32 where
  lhsContracting := [1]
  rhsContracting := [0]
  lhsNonContracting := [0]
  rhsNonContracting := [1]
  lhsBatch := []
  rhsBatch := []
  wf := dot_S32x512_S512x32_S32x32_1_0_0_1_n_n_wf
def fn_where {F : FTy → Type} [FloatOps F] (arg0 : IVec S_ 1) (arg1 : FVec F S1x1024 .f32) (arg2 : FVec F S_ .f32) : FVec F S1x1024 .f32 :=
  let v0 : FVec F S_ .f32 := id arg2
  let v1 : FVec F S1x1024 .f32 := broadcastInDim S1x1024 ![] bcast_S_S1x1024 v0
  let v2 : FVec F S1x1024 .f32 := (fun p a b => select (broadcastInDim S1x1024 ![] bcast_S_S1x1024 p) a b) arg0 arg1 v1
  v2

def fn_var {F : FTy → Type} [FloatOps F] (arg0 : FVec F S32x1024 .f32) (arg1 : IVec S_ 32) : FVec F S1x1024 .f32 :=
  let cst : FVec F S_ .f32 := constant S_ .f32 0x00000000#32
  let v0 : FVec F S1024 .f32 := (fun x v => Host.reduceAdd x v reducesTo_S32x1024_S1024_d0 h_S_) arg0 cst
  let v1 : FVec F S1x1024 .f32 := broadcastInDim S1x1024 ![1] bcast_S1024_S1x1024_1 v0
  let cst_0 : FVec F S_ .f32 := constant S_ .f32 0x42000000#32
  let v2 : FVec F S1x1024 .f32 := broadcastInDim S1x1024 ![] bcast_S_S1x1024 cst_0
  let v3 : FVec F S1x1024 .f32 := Host.divf v1 v2
  let v4 : FVec F S32x1024 .f32 := broadcastInDim S32x1024 ![0, 1] bcast_S1x1024_S32x1024_0_1 v3
  let v5 : FVec F S32x1024 .f32 := subf arg0 v4
  let v6 : FVec F S32x1024 .f32 := mulf v5 v5
  let v7 : FVec F S_ .f32 := sitofp .f32 arg1
  let cst_1 : FVec F S_ .f32 := constant S_ .f32 0x42000000#32
  let v8 : FVec F S_ .f32 := subf cst_1 v7
  let cst_2 : FVec F S_ .f32 := constant S_ .f32 0x00000000#32
  let v9 : FVec F S1024 .f32 := (fun x v => Host.reduceAdd x v reducesTo_S32x1024_S1024_d0 h_S_) v6 cst_2
  let v10 : FVec F S1x1024 .f32 := broadcastInDim S1x1024 ![1] bcast_S1024_S1x1024_1 v9
  let v11 : FVec F S1x1024 .f32 := broadcastInDim S1x1024 ![] bcast_S_S1x1024 v8
  let v12 : FVec F S1x1024 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S1x1024 .f32 := fn_where (F := F) v13 v12 cst_4
  v14

def fn_where_0 {F : FTy → Type} [FloatOps F] (arg0 : IVec S32x1024 1) (arg1 : FVec F S32x1024 .f32) (arg2 : FVec F S32x1024 .f32) : FVec F S32x1024 .f32 :=
  let v0 : FVec F S32x1024 .f32 := select arg0 arg1 arg2
  v0

def fn_leaky_relu {F : FTy → Type} [FloatOps F] (arg0 : FVec F S32x1024 .f32) (arg1 : FVec F S_ .f32) : FVec F S32x1024 .f32 :=
  let cst : FVec F S_ .f32 := constant S_ .f32 0x00000000#32
  let v0 : FVec F S32x1024 .f32 := broadcastInDim S32x1024 ![] bcast_S_S32x1024 cst
  let v1 : IVec S32x1024 1 := cmpf .oge arg0 v0
  let v2 : FVec F S_ .f32 := id arg1
  let v3 : FVec F S32x1024 .f32 := broadcastInDim S32x1024 ![] bcast_S_S32x1024 v2
  let v4 : FVec F S32x1024 .f32 := mulf v3 arg0
  let v5 : FVec F S32x1024 .f32 := fn_where_0 (F := F) v1 arg0 v4
  v5

def fn_where_1 {F : FTy → Type} [FloatOps F] (arg0 : IVec S1x1x32 1) (arg1 : FVec F S1x1x32 .f32) (arg2 : FVec F S1x1x32 .f32) : FVec F S1x1x32 .f32 :=
  let v0 : FVec F S1x1x32 .f32 := select arg0 arg1 arg2
  v0

def fn_where_3 {F : FTy → Type} [FloatOps F] (arg0 : IVec S_ 1) (arg1 : FVec F S1x512x1x1 .f32) (arg2 : FVec F S_ .f32) : FVec F S1x512x1x1 .f32 :=
  let v0 : FVec F S_ .f32 := id arg2
  let v1 : FVec F S1x512x1x1 .f32 := broadcastInDim S1x512x1x1 ![] bcast_S_S1x512x1x1 v0
  let v2 : FVec F S1x512x1x1 .f32 := (fun p a b => select (broadcastInDim S1x512x1x1 ![] bcast_S_S1x512x1x1 p) a b) arg0 arg1 v1
  v2

def fn_var_2 {F : FTy → Type} [FloatOps F] (arg0 : FVec F S1x512x32x8 .f32) (arg1 : IVec S_ 32) : FVec F S1x512x1x1 .f32 :=
  let cst : FVec F S_ .f32 := constant S_ .f32 0x00000000#32
  let v0 : FVec F S512 .f32 := (fun x v => Host.reduceAdd x v reducesTo_S1x512x32x8_S512_d0_2_3 h_S_) arg0 cst
  let v1 : FVec F S1x512x1x1 .f32 := broadcastInDim S1x512x1x1 ![1] bcast_S512_S1x512x1x1_1 v0
  let cst_0 : FVec F S_ .f32 := constant S_ .f32 0x43800000#32
  let v2 : FVec F S1x512x1x1 .f32 := broadcastInDim S1x512x1x1 ![] bcast_S_S1x512x1x1 cst_0
  let v3 : FVec F S1x512x1x1 .f32 := Host.divf v1 v2
  let v4 : FVec F S1x512x32x8 .f32 := broadcastInDim S1x512x32x8 ![0, 1, 2, 3] bcast_S1x512x1x1_S1x512x32x8_0_1_2_3 v3
  let v5 : FVec F S1x512x32x8 .f32 := subf arg0 v4
  let v6 : FVec F S1x512x32x8 .f32 := mulf v5 v5
  let v7 : FVec F S_ .f32 := sitofp .f32 arg1
  let cst_1 : FVec F S_ .f32 := constant S_ .f32 0x43800000#32
  let v8 : FVec F S_ .f32 := subf cst_1 v7
  let cst_2 : FVec F S_ .f32 := constant S_ .f32 0x00000000#32
  let v9 : FVec F S512 .f32 := (fun x v => Host.reduceAdd x v reducesTo_S1x512x32x8_S512_d0_2_3 h_S_) v6 cst_2
  let v10 : FVec F S1x512x1x1 .f32 := broadcastInDim S1x512x1x1 ![1] bcast_S512_S1x512x1x1_1 v9
  let v11 : FVec F S1x512x1x1 .f32 := broadcastInDim S1x512x1x1 ![] bcast_S_S1x512x1x1 v8
  let v12 : FVec F S1x512x1x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S1x512x1x1 .f32 := fn_where_3 (F := F) v13 v12 cst_4
  v14

def fn_where_5 {F : FTy → Type} [FloatOps F] (arg0 : IVec S1x512x32x8 1) (arg1 : FVec F S1x512x32x8 .f32) (arg2 : FVec F S1x512x32x8 .f32) : FVec F S1x512x32x8 .f32 :=
  let v0 : FVec F S1x512x32x8 .f32 := select arg0 arg1 arg2
  v0

def fn_leaky_relu_4 {F : FTy → Type} [FloatOps F] (arg0 : FVec F S1x512x32x8 .f32) (arg1 : FVec F S_ .f32) : FVec F S1x512x32x8 .f32 :=
  let cst : FVec F S_ .f32 := constant S_ .f32 0x00000000#32
  let v0 : FVec F S1x512x32x8 .f32 := broadcastInDim S1x512x32x8 ![] bcast_S_S1x512x32x8 cst
  let v1 : IVec S1x512x32x8 1 := cmpf .oge arg0 v0
  let v2 : FVec F S_ .f32 := id arg1
  let v3 : FVec F S1x512x32x8 .f32 := broadcastInDim S1x512x32x8 ![] bcast_S_S1x512x32x8 v2
  let v4 : FVec F S1x512x32x8 .f32 := mulf v3 arg0
  let v5 : FVec F S1x512x32x8 .f32 := fn_where_5 (F := F) v1 arg0 v4
  v5

def fn_part12 {F : FTy → Type} [FloatOps F] (main_v140 : IVec S_ 1) (main_v217 : FVec F S1x1x32 .f32) (main_v223 : FVec F S1x32x32 .f32) (main_v224 : FVec F S1x1x32 .f32) : IVec S_ 1 :=
  let main_v225 : IVec S1x1x32 1 := cmpf .ogt main_v217 main_v224
  let main_cst_59 : FVec F S_ .f32 := constant S_ .f32 0x3F800000#32
  let main_v226 : FVec F S1x1x32 .f32 := broadcastInDim S1x1x32 ![] bcast_S_S1x1x32 main_cst_59
  let main_cst_60 : FVec F S_ .f32 := constant S_ .f32 0x4B189680#32
  let main_v227 : FVec F S1x1x32 .f32 := broadcastInDim S1x1x32 ![] bcast_S_S1x1x32 main_cst_60
  let main_v228 : FVec F S1x1x32 .f32 := fn_where_1 (F := F) main_v225 main_v226 main_v227
  let main_v229 : FVec F S1x32x32 .f32 := broadcastInDim S1x32x32 ![0, 1, 2] bcast_S1x1x32_S1x32x32_0_1_2 main_v228
  let main_v230 : FVec F S1x32x32 .f32 := mulf main_v223 main_v229
  let main_values_61 : FVec F S1x32x9 .f32 := (fun x => (Host.topK S1x32x9 2 (FloatOps.cmpfTotal .gt) x sliceFits_S1x32x32_S1x32x9).1) main_v230
  let main_indices_62 : IVec S1x32x9 32 := (fun x => (Host.topK S1x32x9 2 (FloatOps.cmpfTotal .gt) x sliceFits_S1x32x32_S1x32x9).2) main_v230
  let main_v231 : FVec F S1x32x8 .f32 := (extractStridedSlice S1x32x8 ![0, 0, 0] · slices_S1x32x9_S1x32x8_0_0_0) main_values_61
  let main_v232 : FVec F S1x32x8 .f32 := (extractStridedSlice S1x32x8 ![0, 0, 1] · slices_S1x32x9_S1x32x8_0_0_1) main_values_61
  let main_v233 : IVec S1x32x8 1 := cmpf .ogt main_v231 main_v232
  let main_c_63 : IVec S_ 1 := constantI S_ 1 1#1
  let main_v234 : IVec S_ 1 := (fun x v => Host.reduce IntOp.andi x v reducesTo_S1x32x8_S_d0_1_2 h_S_) main_v233 main_c_63
  let main_v235 : IVec S_ 1 := andi main_v140 main_v234
  main_v235

def fn_part11 {F : FTy → Type} [FloatOps F] (main_v140 : IVec S_ 1) (main_v205 : FVec F S1x512x32x8 .f32) : IVec S_ 1 :=
  let main_cst_54 : FVec F S_ .f32 := constant S_ .f32 0x3E4CCCCD#32
  let main_v206 : FVec F S1x512x32x8 .f32 := fn_leaky_relu_4 (F := F) main_v205 main_cst_54
  let main_cst_55 : FVec F S_ .f32 := constant S_ .f32 0xFF800000#32
  let main_v207 : FVec F S1x512x32 .f32 := (fun x v => Host.reduce FloatOps.maximumf x v reducesTo_S1x512x32x8_S1x512x32_d3 h_S_) main_v206 main_cst_55
  let main_v208 : FVec F S1x32x512 .f32 := (transpose S1x32x512 [0, 2, 1] · transposes_S1x512x32_S1x32x512_0_2_1) main_v207
  let main_v209 : FVec F S32x512 .f32 := shapeCast S32x512 main_v208 shapeCasts_S1x32x512_S32x512
  let main_v210 : FVec F S512x32 .f32 := shapeCast S512x32 main_v207 shapeCasts_S1x512x32_S512x32
  let main_v211 : FVec F S32x32 .f32 := (fun l r => Host.dotGeneral dot_S32x512_S512x32_S32x32_1_0_0_1_n_n none l r) main_v209 main_v210
  let main_v212 : FVec F S1x32x32 .f32 := broadcastInDim S1x32x32 ![1, 2] bcast_S32x32_S1x32x32_1_2 main_v211
  let main_cst_56 : FVec F S_ .f32 := constant S_ .f32 0xC0000000#32
  let main_v213 : FVec F S1x32x32 .f32 := broadcastInDim S1x32x32 ![] bcast_S_S1x32x32 main_cst_56
  let main_v214 : FVec F S1x32x32 .f32 := mulf main_v213 main_v212
  let main_v215 : FVec F S1x512x32 .f32 := mulf main_v207 main_v207
  let main_cst_57 : FVec F S_ .f32 := constant S_ .f32 0x00000000#32
  let main_v216 : FVec F S1x32 .f32 := (fun x v => Host.reduceAdd x v reducesTo_S1x512x32_S1x32_d1 h_S_) main_v215 main_cst_57
  let main_v217 : FVec F S1x1x32 .f32 := broadcastInDim S1x1x32 ![0, 2] bcast_S1x32_S1x1x32_0_2 main_v216
  let main_v218 : FVec F S1x1x32 .f32 := Host.negf main_v217
  let main_v219 : FVec F S1x32x32 .f32 := broadcastInDim S1x32x32 ![0, 1, 2] bcast_S1x1x32_S1x32x32_0_1_2 main_v218
  let main_v220 : FVec F S1x32x32 .f32 := subf main_v219 main_v214
  let main_v221 : FVec F S1x32x1 .f32 := (transpose S1x32x1 [0, 2, 1] · transposes_S1x1x32_S1x32x1_0_2_1) main_v217
  let main_v222 : FVec F S1x32x32 .f32 := broadcastInDim S1x32x32 ![0, 1, 2] bcast_S1x32x1_S1x32x32_0_1_2 main_v221
  let main_v223 : FVec F S1x32x32 .f32 := subf main_v220 main_v222
  let main_cst_58 : FVec F S_ .f32 := constant S_ .f32 0x00000000#32
  let main_v224 : FVec F S1x1x32 .f32 := broadcastInDim S1x1x32 ![] bcast_S_S1x1x32 main_cst_58
  fn_part12 (F := F) main_v140 main_v217 main_v223 main_v224

def fn_part10 {F : FTy → Type} [FloatOps F] (main_arg10 : FVec F S512x64 .f32) (main_arg11 : FVec F S512 .f32) (main_arg12 : FVec F S512 .f32) (main_v140 : IVec S_ 1) (main_v185 : FVec F S1x64x32x8 .f32) : IVec S_ 1 :=
  let main_v186 : FVec F S1x32x8x512 .f32 := (fun l r => Host.dotGeneral dot_S1x64x32x8_S512x64_S1x32x8x512_1_1_023_0_n_n none l r) main_v185 main_arg10
  let main_v187 : FVec F S1x512x32x8 .f32 := (transpose S1x512x32x8 [0, 3, 1, 2] · transposes_S1x32x8x512_S1x512x32x8_0_3_1_2) main_v186
  let main_cst_50 : FVec F S_ .f32 := constant S_ .f32 0x00000000#32
  let main_v188 : FVec F S512 .f32 := (fun x v => Host.reduceAdd x v reducesTo_S1x512x32x8_S512_d0_2_3 h_S_) main_v187 main_cst_50
  let main_v189 : FVec F S1x512x1x1 .f32 := broadcastInDim S1x512x1x1 ![1] bcast_S512_S1x512x1x1_1 main_v188
  let main_cst_51 : FVec F S_ .f32 := constant S_ .f32 0x43800000#32
  let main_v190 : FVec F S1x512x1x1 .f32 := broadcastInDim S1x512x1x1 ![] bcast_S_S1x512x1x1 main_cst_51
  let main_v191 : FVec F S1x512x1x1 .f32 := Host.divf main_v189 main_v190
  let main_c_52 : IVec S_ 32 := constantI S_ 32 0#32
  let main_v192 : FVec F S1x512x1x1 .f32 := fn_var_2 (F := F) main_v187 main_c_52
  let main_v193 : FVec F S1x512x1x1 .f32 := shapeCast S1x512x1x1 main_arg11 shapeCasts_S512_S1x512x1x1
  let main_v194 : FVec F S1x512x32x8 .f32 := broadcastInDim S1x512x32x8 ![0, 1, 2, 3] bcast_S1x512x1x1_S1x512x32x8_0_1_2_3 main_v191
  let main_v195 : FVec F S1x512x32x8 .f32 := subf main_v187 main_v194
  let main_v196 : FVec F S1x512x32x8 .f32 := broadcastInDim S1x512x32x8 ![0, 1, 2, 3] bcast_S1x512x1x1_S1x512x32x8_0_1_2_3 main_v193
  let main_v197 : FVec F S1x512x32x8 .f32 := mulf main_v196 main_v195
  let main_cst_53 : FVec F S_ .f32 := constant S_ .f32 0x3727C5AC#32
  let main_v198 : FVec F S1x512x1x1 .f32 := broadcastInDim S1x512x1x1 ![] bcast_S_S1x512x1x1 main_cst_53
  let main_v199 : FVec F S1x512x1x1 .f32 := addf main_v192 main_v198
  let main_v200 : FVec F S1x512x1x1 .f32 := Host.sqrt main_v199
  let main_v201 : FVec F S1x512x32x8 .f32 := broadcastInDim S1x512x32x8 ![0, 1, 2, 3] bcast_S1x512x1x1_S1x512x32x8_0_1_2_3 main_v200
  let main_v202 : FVec F S1x512x32x8 .f32 := Host.divf main_v197 main_v201
  let main_v203 : FVec F S1x512x1x1 .f32 := shapeCast S1x512x1x1 main_arg12 shapeCasts_S512_S1x512x1x1
  let main_v204 : FVec F S1x512x32x8 .f32 := broadcastInDim S1x512x32x8 ![0, 1, 2, 3] bcast_S1x512x1x1_S1x512x32x8_0_1_2_3 main_v203
  let main_v205 : FVec F S1x512x32x8 .f32 := addf main_v202 main_v204
  fn_part11 (F := F) main_v140 main_v205

def fn_part9 {F : FTy → Type} [FloatOps F] (main_arg10 : FVec F S512x64 .f32) (main_arg11 : FVec F S512 .f32) (main_arg12 : FVec F S512 .f32) (main_v140 : IVec S_ 1) (main_indices_46 : IVec S1x32x8 32) (main_v164 : FVec F S1x32x32 .f32) : IVec S_ 1 :=
  let main_v165 : FVec F S32x32 .f32 := shapeCast S32x32 main_v164 shapeCasts_S1x32x32_S32x32
  let main_v166 : IVec S1 32 := iotaInDim S1 32 0
  let main_c_47 : IVec S_ 32 := constantI S_ 32 32#32
  let main_v167 : IVec S1 32 := broadcastInDim S1 ![] bcast_S_S1 main_c_47
  let main_v168 : IVec S1 32 := muli main_v166 main_v167
  let main_v169 : IVec S1x1x1 32 := shapeCast S1x1x1 main_v168 shapeCasts_S1_S1x1x1
  let main_v170 : IVec S1x32x8 32 := broadcastInDim S1x32x8 ![0, 1, 2] bcast_S1x1x1_S1x32x8_0_1_2 main_v169
  let main_v171 : IVec S1x32x8 32 := addi main_indices_46 main_v170
  let main_v172 : IVec S256 32 := shapeCast S256 main_v171 shapeCasts_S1x32x8_S256
  let main_c_48 : IVec S_ 32 := constantI S_ 32 0#32
  let main_v173 : IVec S256 32 := broadcastInDim S256 ![] bcast_S_S256 main_c_48
  let main_v174 : IVec S256 1 := cmpi .slt main_v172 main_v173
  let main_c_49 : IVec S_ 32 := constantI S_ 32 32#32
  let main_v175 : IVec S256 32 := broadcastInDim S256 ![] bcast_S_S256 main_c_49
  let main_v176 : IVec S256 32 := addi main_v172 main_v175
  let main_v177 : IVec S256 32 := select main_v174 main_v176 main_v172
  let main_v178 : IVec S256x1 32 := broadcastInDim S256x1 ![0] bcast_S256_S256x1_0 main_v177
  let main_v179 : FVec F S256x32 .f32 := (fun x i => Host.gather gather_S32x32_S256x1_S256x32_1_0_n_n_0_1_132 x i) main_v165 main_v178
  let main_v180 : FVec F S1x32x8x32 .f32 := shapeCast S1x32x8x32 main_v179 shapeCasts_S256x32_S1x32x8x32
  let main_v181 : FVec F S1x32x1x32 .f32 := broadcastInDim S1x32x1x32 ![0, 1, 3] bcast_S1x32x32_S1x32x1x32_0_1_3 main_v164
  let main_v182 : FVec F S1x32x8x32 .f32 := broadcastInDim S1x32x8x32 ![0, 1, 2, 3] bcast_S1x32x1x32_S1x32x8x32_0_1_2_3 main_v181
  let main_v183 : FVec F S1x32x8x32 .f32 := subf main_v180 main_v182
  let main_v184 : FVec F S1x32x8x64 .f32 := (fun a b => concatenate S1x32x8x64 3 [⟨S1x32x8x32, a⟩, ⟨S1x32x8x32, b⟩] concatenates_S1x32x8x32_S1x32x8x32_S1x32x8x64_d3) main_v183 main_v182
  let main_v185 : FVec F S1x64x32x8 .f32 := (transpose S1x64x32x8 [0, 3, 1, 2] · transposes_S1x32x8x64_S1x64x32x8_0_3_1_2) main_v184
  fn_part10 (F := F) main_arg10 main_arg11 main_arg12 main_v140 main_v185

def fn_part8 {F : FTy → Type} [FloatOps F] (main_arg10 : FVec F S512x64 .f32) (main_arg11 : FVec F S512 .f32) (main_arg12 : FVec F S512 .f32) (main_v112 : FVec F S1x32x32 .f32) (main_v140 : IVec S_ 1) (main_v145 : FVec F S1x32x32 .f32) (main_v146 : FVec F S1x32x32 .f32) : IVec S_ 1 :=
  let main_v147 : FVec F S1x32x32 .f32 := mulf main_v146 main_v145
  let main_v148 : FVec F S1x32x32 .f32 := mulf main_v112 main_v112
  let main_cst_41 : FVec F S_ .f32 := constant S_ .f32 0x00000000#32
  let main_v149 : FVec F S1x32 .f32 := (fun x v => Host.reduceAdd x v reducesTo_S1x32x32_S1x32_d1 h_S_) main_v148 main_cst_41
  let main_v150 : FVec F S1x1x32 .f32 := broadcastInDim S1x1x32 ![0, 2] bcast_S1x32_S1x1x32_0_2 main_v149
  let main_v151 : FVec F S1x1x32 .f32 := Host.negf main_v150
  let main_v152 : FVec F S1x32x32 .f32 := broadcastInDim S1x32x32 ![0, 1, 2] bcast_S1x1x32_S1x32x32_0_1_2 main_v151
  let main_v153 : FVec F S1x32x32 .f32 := subf main_v152 main_v147
  let main_v154 : FVec F S1x32x1 .f32 := (transpose S1x32x1 [0, 2, 1] · transposes_S1x1x32_S1x32x1_0_2_1) main_v150
  let main_v155 : FVec F S1x32x32 .f32 := broadcastInDim S1x32x32 ![0, 1, 2] bcast_S1x32x1_S1x32x32_0_1_2 main_v154
  let main_v156 : FVec F S1x32x32 .f32 := subf main_v153 main_v155
  let main_cst_42 : FVec F S_ .f32 := constant S_ .f32 0x00000000#32
  let main_v157 : FVec F S1x1x32 .f32 := broadcastInDim S1x1x32 ![] bcast_S_S1x1x32 main_cst_42
  let main_v158 : IVec S1x1x32 1 := cmpf .ogt main_v150 main_v157
  let main_cst_43 : FVec F S_ .f32 := constant S_ .f32 0x3F800000#32
  let main_v159 : FVec F S1x1x32 .f32 := broadcastInDim S1x1x32 ![] bcast_S_S1x1x32 main_cst_43
  let main_cst_44 : FVec F S_ .f32 := constant S_ .f32 0x4B189680#32
  let main_v160 : FVec F S1x1x32 .f32 := broadcastInDim S1x1x32 ![] bcast_S_S1x1x32 main_cst_44
  let main_v161 : FVec F S1x1x32 .f32 := fn_where_1 (F := F) main_v158 main_v159 main_v160
  let main_v162 : FVec F S1x32x32 .f32 := broadcastInDim S1x32x32 ![0, 1, 2] bcast_S1x1x32_S1x32x32_0_1_2 main_v161
  let main_v163 : FVec F S1x32x32 .f32 := mulf main_v156 main_v162
  let main_values_45 : FVec F S1x32x8 .f32 := (fun x => (Host.topK S1x32x8 2 (FloatOps.cmpfTotal .gt) x sliceFits_S1x32x32_S1x32x8).1) main_v163
  let main_indices_46 : IVec S1x32x8 32 := (fun x => (Host.topK S1x32x8 2 (FloatOps.cmpfTotal .gt) x sliceFits_S1x32x32_S1x32x8).2) main_v163
  let main_v164 : FVec F S1x32x32 .f32 := (transpose S1x32x32 [0, 2, 1] · transposes_S1x32x32_S1x32x32_0_2_1) main_v112
  fn_part9 (F := F) main_arg10 main_arg11 main_arg12 main_v140 main_indices_46 main_v164

def fn_part7 {F : FTy → Type} [FloatOps F] (main_arg10 : FVec F S512x64 .f32) (main_arg11 : FVec F S512 .f32) (main_arg12 : FVec F S512 .f32) (main_v63 : IVec S_ 1) (main_v112 : FVec F S1x32x32 .f32) (main_v122 : FVec F S1x1x32 .f32) (main_v128 : FVec F S1x32x32 .f32) (main_cst_36 : FVec F S_ .f32) : IVec S_ 1 :=
  let main_v129 : FVec F S1x1x32 .f32 := broadcastInDim S1x1x32 ![] bcast_S_S1x1x32 main_cst_36
  let main_v130 : IVec S1x1x32 1 := cmpf .ogt main_v122 main_v129
  let main_cst_37 : FVec F S_ .f32 := constant S_ .f32 0x3F800000#32
  let main_v131 : FVec F S1x1x32 .f32 := broadcastInDim S1x1x32 ![] bcast_S_S1x1x32 main_cst_37
  let main_cst_38 : FVec F S_ .f32 := constant S_ .f32 0x4B189680#32
  let main_v132 : FVec F S1x1x32 .f32 := broadcastInDim S1x1x32 ![] bcast_S_S1x1x32 main_cst_38
  let main_v133 : FVec F S1x1x32 .f32 := fn_where_1 (F := F) main_v130 main_v131 main_v132
  let main_v134 : FVec F S1x32x32 .f32 := broadcastInDim S1x32x32 ![0, 1, 2] bcast_S1x1x32_S1x32x32_0_1_2 main_v133
  let main_v135 : FVec F S1x32x32 .f32 := mulf main_v128 main_v134
  let main_values : FVec F S1x32x9 .f32 := (fun x => (Host.topK S1x32x9 2 (FloatOps.cmpfTotal .gt) x sliceFits_S1x32x32_S1x32x9).1) main_v135
  let main_indices : IVec S1x32x9 32 := (fun x => (Host.topK S1x32x9 2 (FloatOps.cmpfTotal .gt) x sliceFits_S1x32x32_S1x32x9).2) main_v135
  let main_v136 : FVec F S1x32x8 .f32 := (extractStridedSlice S1x32x8 ![0, 0, 0] · slices_S1x32x9_S1x32x8_0_0_0) main_values
  let main_v137 : FVec F S1x32x8 .f32 := (extractStridedSlice S1x32x8 ![0, 0, 1] · slices_S1x32x9_S1x32x8_0_0_1) main_values
  let main_v138 : IVec S1x32x8 1 := cmpf .ogt main_v136 main_v137
  let main_c_39 : IVec S_ 1 := constantI S_ 1 1#1
  let main_v139 : IVec S_ 1 := (fun x v => Host.reduce IntOp.andi x v reducesTo_S1x32x8_S_d0_1_2 h_S_) main_v138 main_c_39
  let main_v140 : IVec S_ 1 := andi main_v63 main_v139
  let main_v141 : FVec F S1x32x32 .f32 := (transpose S1x32x32 [0, 2, 1] · transposes_S1x32x32_S1x32x32_0_2_1) main_v112
  let main_v142 : FVec F S32x32 .f32 := shapeCast S32x32 main_v141 shapeCasts_S1x32x32_S32x32
  let main_v143 : FVec F S32x32 .f32 := shapeCast S32x32 main_v112 shapeCasts_S1x32x32_S32x32
  let main_v144 : FVec F S32x32 .f32 := (fun l r => Host.dotGeneral dot_S32x32_S32x32_S32x32_1_0_0_1_n_n none l r) main_v142 main_v143
  let main_v145 : FVec F S1x32x32 .f32 := broadcastInDim S1x32x32 ![1, 2] bcast_S32x32_S1x32x32_1_2 main_v144
  let main_cst_40 : FVec F S_ .f32 := constant S_ .f32 0xC0000000#32
  let main_v146 : FVec F S1x32x32 .f32 := broadcastInDim S1x32x32 ![] bcast_S_S1x32x32 main_cst_40
  fn_part8 (F := F) main_arg10 main_arg11 main_arg12 main_v112 main_v140 main_v145 main_v146

def fn_part6 {F : FTy → Type} [FloatOps F] (main_arg9 : FVec F S32 .f32) (main_arg10 : FVec F S512x64 .f32) (main_arg11 : FVec F S512 .f32) (main_arg12 : FVec F S512 .f32) (main_v63 : IVec S_ 1) (main_v107 : FVec F S32x32 .f32) : IVec S_ 1 :=
  let main_v108 : FVec F S1x32 .f32 := broadcastInDim S1x32 ![1] bcast_S32_S1x32_1 main_arg9
  let main_v109 : FVec F S32x32 .f32 := broadcastInDim S32x32 ![0, 1] bcast_S1x32_S32x32_0_1 main_v108
  let main_v110 : FVec F S32x32 .f32 := addf main_v107 main_v109
  let main_v111 : FVec F S1x32x32 .f32 := broadcastInDim S1x32x32 ![1, 2] bcast_S32x32_S1x32x32_1_2 main_v110
  let main_v112 : FVec F S1x32x32 .f32 := (transpose S1x32x32 [0, 2, 1] · transposes_S1x32x32_S1x32x32_0_2_1) main_v111
  let main_v113 : FVec F S1x32x32 .f32 := (transpose S1x32x32 [0, 2, 1] · transposes_S1x32x32_S1x32x32_0_2_1) main_v112
  let main_v114 : FVec F S32x32 .f32 := shapeCast S32x32 main_v113 shapeCasts_S1x32x32_S32x32
  let main_v115 : FVec F S32x32 .f32 := shapeCast S32x32 main_v112 shapeCasts_S1x32x32_S32x32
  let main_v116 : FVec F S32x32 .f32 := (fun l r => Host.dotGeneral dot_S32x32_S32x32_S32x32_1_0_0_1_n_n none l r) main_v114 main_v115
  let main_v117 : FVec F S1x32x32 .f32 := broadcastInDim S1x32x32 ![1, 2] bcast_S32x32_S1x32x32_1_2 main_v116
  let main_cst_34 : FVec F S_ .f32 := constant S_ .f32 0xC0000000#32
  let main_v118 : FVec F S1x32x32 .f32 := broadcastInDim S1x32x32 ![] bcast_S_S1x32x32 main_cst_34
  let main_v119 : FVec F S1x32x32 .f32 := mulf main_v118 main_v117
  let main_v120 : FVec F S1x32x32 .f32 := mulf main_v112 main_v112
  let main_cst_35 : FVec F S_ .f32 := constant S_ .f32 0x00000000#32
  let main_v121 : FVec F S1x32 .f32 := (fun x v => Host.reduceAdd x v reducesTo_S1x32x32_S1x32_d1 h_S_) main_v120 main_cst_35
  let main_v122 : FVec F S1x1x32 .f32 := broadcastInDim S1x1x32 ![0, 2] bcast_S1x32_S1x1x32_0_2 main_v121
  let main_v123 : FVec F S1x1x32 .f32 := Host.negf main_v122
  let main_v124 : FVec F S1x32x32 .f32 := broadcastInDim S1x32x32 ![0, 1, 2] bcast_S1x1x32_S1x32x32_0_1_2 main_v123
  let main_v125 : FVec F S1x32x32 .f32 := subf main_v124 main_v119
  let main_v126 : FVec F S1x32x1 .f32 := (transpose S1x32x1 [0, 2, 1] · transposes_S1x1x32_S1x32x1_0_2_1) main_v122
  let main_v127 : FVec F S1x32x32 .f32 := broadcastInDim S1x32x32 ![0, 1, 2] bcast_S1x32x1_S1x32x32_0_1_2 main_v126
  let main_v128 : FVec F S1x32x32 .f32 := subf main_v125 main_v127
  let main_cst_36 : FVec F S_ .f32 := constant S_ .f32 0x00000000#32
  fn_part7 (F := F) main_arg10 main_arg11 main_arg12 main_v63 main_v112 main_v122 main_v128 main_cst_36

def fn_part5 {F : FTy → Type} [FloatOps F] (main_arg6 : FVec F S1024 .f32) (main_arg7 : FVec F S1024 .f32) (main_arg8 : FVec F S1024x32 .f32) (main_arg9 : FVec F S32 .f32) (main_arg10 : FVec F S512x64 .f32) (main_arg11 : FVec F S512 .f32) (main_arg12 : FVec F S512 .f32) (main_v63 : IVec S_ 1) (main_v87 : FVec F S32x1024 .f32) (main_cst_29 : FVec F S_ .f32) : IVec S_ 1 :=
  let main_v88 : FVec F S1024 .f32 := (fun x v => Host.reduceAdd x v reducesTo_S32x1024_S1024_d0 h_S_) main_v87 main_cst_29
  let main_v89 : FVec F S1x1024 .f32 := broadcastInDim S1x1024 ![1] bcast_S1024_S1x1024_1 main_v88
  let main_cst_30 : FVec F S_ .f32 := constant S_ .f32 0x42000000#32
  let main_v90 : FVec F S1x1024 .f32 := broadcastInDim S1x1024 ![] bcast_S_S1x1024 main_cst_30
  let main_v91 : FVec F S1x1024 .f32 := Host.divf main_v89 main_v90
  let main_c_31 : IVec S_ 32 := constantI S_ 32 0#32
  let main_v92 : FVec F S1x1024 .f32 := fn_var (F := F) main_v87 main_c_31
  let main_v93 : FVec F S1x1024 .f32 := shapeCast S1x1024 main_arg6 shapeCasts_S1024_S1x1024
  let main_v94 : FVec F S32x1024 .f32 := broadcastInDim S32x1024 ![0, 1] bcast_S1x1024_S32x1024_0_1 main_v91
  let main_v95 : FVec F S32x1024 .f32 := subf main_v87 main_v94
  let main_v96 : FVec F S32x1024 .f32 := broadcastInDim S32x1024 ![0, 1] bcast_S1x1024_S32x1024_0_1 main_v93
  let main_v97 : FVec F S32x1024 .f32 := mulf main_v96 main_v95
  let main_cst_32 : FVec F S_ .f32 := constant S_ .f32 0x3727C5AC#32
  let main_v98 : FVec F S1x1024 .f32 := broadcastInDim S1x1024 ![] bcast_S_S1x1024 main_cst_32
  let main_v99 : FVec F S1x1024 .f32 := addf main_v92 main_v98
  let main_v100 : FVec F S1x1024 .f32 := Host.sqrt main_v99
  let main_v101 : FVec F S32x1024 .f32 := broadcastInDim S32x1024 ![0, 1] bcast_S1x1024_S32x1024_0_1 main_v100
  let main_v102 : FVec F S32x1024 .f32 := Host.divf main_v97 main_v101
  let main_v103 : FVec F S1x1024 .f32 := shapeCast S1x1024 main_arg7 shapeCasts_S1024_S1x1024
  let main_v104 : FVec F S32x1024 .f32 := broadcastInDim S32x1024 ![0, 1] bcast_S1x1024_S32x1024_0_1 main_v103
  let main_v105 : FVec F S32x1024 .f32 := addf main_v102 main_v104
  let main_cst_33 : FVec F S_ .f32 := constant S_ .f32 0x3E4CCCCD#32
  let main_v106 : FVec F S32x1024 .f32 := fn_leaky_relu (F := F) main_v105 main_cst_33
  let main_v107 : FVec F S32x32 .f32 := (fun l r => Host.dotGeneral dot_S32x1024_S1024x32_S32x32_1_0_0_1_n_n none l r) main_v106 main_arg8
  fn_part6 (F := F) main_arg9 main_arg10 main_arg11 main_arg12 main_v63 main_v107

def fn_part4 {F : FTy → Type} [FloatOps F] (main_arg2 : FVec F S1024 .f32) (main_arg3 : FVec F S1024 .f32) (main_arg4 : FVec F S1024x1024 .f32) (main_arg5 : FVec F S1024 .f32) (main_arg6 : FVec F S1024 .f32) (main_arg7 : FVec F S1024 .f32) (main_arg8 : FVec F S1024x32 .f32) (main_arg9 : FVec F S32 .f32) (main_arg10 : FVec F S512x64 .f32) (main_arg11 : FVec F S512 .f32) (main_arg12 : FVec F S512 .f32) (main_v63 : IVec S_ 1) (main_v64 : FVec F S32x1024 .f32) (main_v66 : FVec F S1x1024 .f32) (main_v67 : FVec F S1x1024 .f32) : IVec S_ 1 :=
  let main_v68 : FVec F S1x1024 .f32 := Host.divf main_v66 main_v67
  let main_c_26 : IVec S_ 32 := constantI S_ 32 0#32
  let main_v69 : FVec F S1x1024 .f32 := fn_var (F := F) main_v64 main_c_26
  let main_v70 : FVec F S1x1024 .f32 := shapeCast S1x1024 main_arg2 shapeCasts_S1024_S1x1024
  let main_v71 : FVec F S32x1024 .f32 := broadcastInDim S32x1024 ![0, 1] bcast_S1x1024_S32x1024_0_1 main_v68
  let main_v72 : FVec F S32x1024 .f32 := subf main_v64 main_v71
  let main_v73 : FVec F S32x1024 .f32 := broadcastInDim S32x1024 ![0, 1] bcast_S1x1024_S32x1024_0_1 main_v70
  let main_v74 : FVec F S32x1024 .f32 := mulf main_v73 main_v72
  let main_cst_27 : FVec F S_ .f32 := constant S_ .f32 0x3727C5AC#32
  let main_v75 : FVec F S1x1024 .f32 := broadcastInDim S1x1024 ![] bcast_S_S1x1024 main_cst_27
  let main_v76 : FVec F S1x1024 .f32 := addf main_v69 main_v75
  let main_v77 : FVec F S1x1024 .f32 := Host.sqrt main_v76
  let main_v78 : FVec F S32x1024 .f32 := broadcastInDim S32x1024 ![0, 1] bcast_S1x1024_S32x1024_0_1 main_v77
  let main_v79 : FVec F S32x1024 .f32 := Host.divf main_v74 main_v78
  let main_v80 : FVec F S1x1024 .f32 := shapeCast S1x1024 main_arg3 shapeCasts_S1024_S1x1024
  let main_v81 : FVec F S32x1024 .f32 := broadcastInDim S32x1024 ![0, 1] bcast_S1x1024_S32x1024_0_1 main_v80
  let main_v82 : FVec F S32x1024 .f32 := addf main_v79 main_v81
  let main_cst_28 : FVec F S_ .f32 := constant S_ .f32 0x3E4CCCCD#32
  let main_v83 : FVec F S32x1024 .f32 := fn_leaky_relu (F := F) main_v82 main_cst_28
  let main_v84 : FVec F S32x1024 .f32 := (fun l r => Host.dotGeneral dot_S32x1024_S1024x1024_S32x1024_1_0_0_1_n_n none l r) main_v83 main_arg4
  let main_v85 : FVec F S1x1024 .f32 := broadcastInDim S1x1024 ![1] bcast_S1024_S1x1024_1 main_arg5
  let main_v86 : FVec F S32x1024 .f32 := broadcastInDim S32x1024 ![0, 1] bcast_S1x1024_S32x1024_0_1 main_v85
  let main_v87 : FVec F S32x1024 .f32 := addf main_v84 main_v86
  let main_cst_29 : FVec F S_ .f32 := constant S_ .f32 0x00000000#32
  fn_part5 (F := F) main_arg6 main_arg7 main_arg8 main_arg9 main_arg10 main_arg11 main_arg12 main_v63 main_v87 main_cst_29

def fn_part3 {F : FTy → Type} [FloatOps F] (main_arg0 : FVec F S32x2048 .f32) (main_arg1 : FVec F S2048x1024 .f32) (main_arg2 : FVec F S1024 .f32) (main_arg3 : FVec F S1024 .f32) (main_arg4 : FVec F S1024x1024 .f32) (main_arg5 : FVec F S1024 .f32) (main_arg6 : FVec F S1024 .f32) (main_arg7 : FVec F S1024 .f32) (main_arg8 : FVec F S1024x32 .f32) (main_arg9 : FVec F S32 .f32) (main_arg10 : FVec F S512x64 .f32) (main_arg11 : FVec F S512 .f32) (main_arg12 : FVec F S512 .f32) (main_v48 : IVec S_ 1) (main_v49 : FVec F S512x64 .f32) (main_v50 : FVec F S512x64 .f32) : IVec S_ 1 :=
  let main_v51 : IVec S512x64 1 := cmpf .olt main_v49 main_v50
  let main_c_19 : IVec S_ 1 := constantI S_ 1 1#1
  let main_v52 : IVec S_ 1 := (fun x v => Host.reduce IntOp.andi x v reducesTo_S512x64_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S32x1024 .f32 := (fun l r => Host.dotGeneral dot_S32x2048_S2048x1024_S32x1024_1_0_0_1_n_n none l r) main_arg0 main_arg1
  let main_cst_24 : FVec F S_ .f32 := constant S_ .f32 0x00000000#32
  let main_v65 : FVec F S1024 .f32 := (fun x v => Host.reduceAdd x v reducesTo_S32x1024_S1024_d0 h_S_) main_v64 main_cst_24
  let main_v66 : FVec F S1x1024 .f32 := broadcastInDim S1x1024 ![1] bcast_S1024_S1x1024_1 main_v65
  let main_cst_25 : FVec F S_ .f32 := constant S_ .f32 0x42000000#32
  let main_v67 : FVec F S1x1024 .f32 := broadcastInDim S1x1024 ![] bcast_S_S1x1024 main_cst_25
  fn_part4 (F := F) main_arg2 main_arg3 main_arg4 main_arg5 main_arg6 main_arg7 main_arg8 main_arg9 main_arg10 main_arg11 main_arg12 main_v63 main_v64 main_v66 main_v67

def fn_part2 {F : FTy → Type} [FloatOps F] (main_arg0 : FVec F S32x2048 .f32) (main_arg1 : FVec F S2048x1024 .f32) (main_arg2 : FVec F S1024 .f32) (main_arg3 : FVec F S1024 .f32) (main_arg4 : FVec F S1024x1024 .f32) (main_arg5 : FVec F S1024 .f32) (main_arg6 : FVec F S1024 .f32) (main_arg7 : FVec F S1024 .f32) (main_arg8 : FVec F S1024x32 .f32) (main_arg9 : FVec F S32 .f32) (main_arg10 : FVec F S512x64 .f32) (main_arg11 : FVec F S512 .f32) (main_arg12 : FVec F S512 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x32 .f32 := Host.absf main_arg8
  let main_cst_14 : FVec F S_ .f32 := constant S_ .f32 0x7F800000#32
  let main_v40 : FVec F S1024x32 .f32 := broadcastInDim S1024x32 ![] bcast_S_S1024x32 main_cst_14
  let main_v41 : IVec S1024x32 1 := cmpf .olt main_v39 main_v40
  let main_c_15 : IVec S_ 1 := constantI S_ 1 1#1
  let main_v42 : IVec S_ 1 := (fun x v => Host.reduce IntOp.andi x v reducesTo_S1024x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S512x64 .f32 := Host.absf main_arg10
  let main_cst_18 : FVec F S_ .f32 := constant S_ .f32 0x7F800000#32
  let main_v50 : FVec F S512x64 .f32 := broadcastInDim S512x64 ![] bcast_S_S512x64 main_cst_18
  fn_part3 (F := F) main_arg0 main_arg1 main_arg2 main_arg3 main_arg4 main_arg5 main_arg6 main_arg7 main_arg8 main_arg9 main_arg10 main_arg11 main_arg12 main_v48 main_v49 main_v50

def fn_part1 {F : FTy → Type} [FloatOps F] (main_arg0 : FVec F S32x2048 .f32) (main_arg1 : FVec F S2048x1024 .f32) (main_arg2 : FVec F S1024 .f32) (main_arg3 : FVec F S1024 .f32) (main_arg4 : FVec F S1024x1024 .f32) (main_arg5 : FVec F S1024 .f32) (main_arg6 : FVec F S1024 .f32) (main_arg7 : FVec F S1024 .f32) (main_arg8 : FVec F S1024x32 .f32) (main_arg9 : FVec F S32 .f32) (main_arg10 : FVec F S512x64 .f32) (main_arg11 : FVec F S512 .f32) (main_arg12 : FVec F S512 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg0 main_arg1 main_arg2 main_arg3 main_arg4 main_arg5 main_arg6 main_arg7 main_arg8 main_arg9 main_arg10 main_arg11 main_arg12 main_v33

def fn {F : FTy → Type} [FloatOps F] (main_arg0 : FVec F S32x2048 .f32) (main_arg1 : FVec F S2048x1024 .f32) (main_arg2 : FVec F S1024 .f32) (main_arg3 : FVec F S1024 .f32) (main_arg4 : FVec F S1024x1024 .f32) (main_arg5 : FVec F S1024 .f32) (main_arg6 : FVec F S1024 .f32) (main_arg7 : FVec F S1024 .f32) (main_arg8 : FVec F S1024x32 .f32) (main_arg9 : FVec F S32 .f32) (main_arg10 : FVec F S512x64 .f32) (main_arg11 : FVec F S512 .f32) (main_arg12 : FVec F S512 .f32) (main_arg13 : FVec F S256x1024 .f32) (main_arg14 : FVec F S256 .f32) (main_arg15 : FVec F S256 .f32) (main_arg16 : FVec F S1024x768 .f32) (main_arg17 : FVec F S1024 .f32) (main_arg18 : FVec F S1024 .f32) (main_arg19 : FVec F S2048x256 .f32) (main_arg20 : FVec F S256x40 .f32) (main_arg21 : FVec F S40 .f32) : IVec S_ 1 :=
  let main_v0 : FVec F S32x2048 .f32 := Host.absf main_arg0
  let main_cst : FVec F S_ .f32 := constant S_ .f32 0x7F800000#32
  let main_v1 : FVec F S32x2048 .f32 := broadcastInDim S32x2048 ![] bcast_S_S32x2048 main_cst
  let main_v2 : IVec S32x2048 1 := cmpf .olt main_v0 main_v1
  let main_c : IVec S_ 1 := constantI S_ 1 1#1
  let main_v3 : IVec S_ 1 := (fun x v => Host.reduce IntOp.andi x v reducesTo_S32x2048_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg0 main_arg1 main_arg2 main_arg3 main_arg4 main_arg5 main_arg6 main_arg7 main_arg8 main_arg9 main_arg10 main_arg11 main_arg12 main_v13 main_v16
-- ==== Kernel.lean ====
abbrev S32x512x9 : Shape := ⟨3, ![32, 512, 9]⟩
abbrev S32x18 : Shape := ⟨2, ![32, 18]⟩
abbrev S32x64 : Shape := ⟨2, ![32, 64]⟩
abbrev S64x64 : Shape := ⟨2, ![64, 64]⟩
abbrev S128x128 : Shape := ⟨2, ![128, 128]⟩
abbrev S1024x256 : Shape := ⟨2, ![1024, 256]⟩
abbrev S32x1024x512 : Shape := ⟨3, ![32, 1024, 512]⟩
abbrev S2x512x9 : Shape := ⟨3, ![2, 512, 9]⟩
abbrev S2x1024x512 : Shape := ⟨3, ![2, 1024, 512]⟩
abbrev S1x512x9 : Shape := ⟨3, ![1, 512, 9]⟩
abbrev S512x9 : Shape := ⟨2, ![512, 9]⟩
abbrev S512x512 : Shape := ⟨2, ![512, 512]⟩
abbrev S9x512 : Shape := ⟨2, ![9, 512]⟩
abbrev S512 : Shape := ⟨1, ![512]⟩
abbrev S1x512 : Shape := ⟨2, ![1, 512]⟩
abbrev S512x1 : Shape := ⟨2, ![512, 1]⟩
abbrev S512x27 : Shape := ⟨2, ![512, 27]⟩
abbrev S512x32 : Shape := ⟨2, ![512, 32]⟩
abbrev S512x18 : Shape := ⟨2, ![512, 18]⟩
abbrev S32x512 : Shape := ⟨2, ![32, 512]⟩
abbrev S512x96 : Shape := ⟨2, ![512, 96]⟩
abbrev S512x64 : Shape := ⟨2, ![512, 64]⟩
abbrev S64x512 : Shape := ⟨2, ![64, 512]⟩
abbrev S512x192 : Shape := ⟨2, ![512, 192]⟩
abbrev S512x128 : Shape := ⟨2, ![512, 128]⟩
abbrev S512x256 : Shape := ⟨2, ![512, 256]⟩
abbrev S512x1024 : Shape := ⟨2, ![512, 1024]⟩
abbrev S1024x512 : Shape := ⟨2, ![1024, 512]⟩
abbrev S1x1024x512 : Shape := ⟨3, ![1, 1024, 512]⟩

abbrev nBuf : Space → Nat
  | .hbm => 7
  | .vmem => 9
  | .smem => 0
  | _ => 0

abbrev bufTy : (tb : Table) → Fin (tcTables nBuf tb) → BufTy
  | .hbm, ⟨0, _⟩ => ⟨S32x512x9, .f32⟩
  | .hbm, ⟨1, _⟩ => ⟨S32x18, .f32⟩
  | .hbm, ⟨2, _⟩ => ⟨S32x64, .f32⟩
  | .hbm, ⟨3, _⟩ => ⟨S64x64, .f32⟩
  | .hbm, ⟨4, _⟩ => ⟨S128x128, .f32⟩
  | .hbm, ⟨5, _⟩ => ⟨S1024x256, .f32⟩
  | .hbm, ⟨6, _⟩ => ⟨S32x1024x512, .f32⟩
  | .local _ .vmem, ⟨0, _⟩ => ⟨S2x512x9, .f32⟩
  | .local _ .vmem, ⟨1, _⟩ => ⟨S2x512x9, .f32⟩
  | .local _ .vmem, ⟨2, _⟩ => ⟨S32x18, .f32⟩
  | .local _ .vmem, ⟨3, _⟩ => ⟨S32x64, .f32⟩
  | .local _ .vmem, ⟨4, _⟩ => ⟨S64x64, .f32⟩
  | .local _ .vmem, ⟨5, _⟩ => ⟨S128x128, .f32⟩
  | .local _ .vmem, ⟨6, _⟩ => ⟨S1024x256, .f32⟩
  | .local _ .vmem, ⟨7, _⟩ => ⟨S2x1024x512, .f32⟩
  | .local _ .vmem, ⟨8, _⟩ => ⟨S2x1024x512, .f32⟩
  | _, _ => ⟨S32x512x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v71 : BitVec 32 := Scalar.addi c0_i32 c16_i32
  let c1_i32 : BitVec 32 := 1#32
  ⟨c0_i32, v71, c1_i32⟩
@[reducible] def k0_t2_loop : Scf.Loop 32 :=
  let c0_i32_39 : BitVec 32 := 0#32
  let c16_i32_40 : BitVec 32 := 16#32
  let v140 : BitVec 32 := Scalar.addi c0_i32_39 c16_i32_40
  let c1_i32_41 : BitVec 32 := 1#32
  ⟨c0_i32_39, v140, c1_i32_41⟩
@[reducible] def k0_t3_loop : Scf.Loop 32 :=
  let c0_i32_60 : BitVec 32 := 0#32
  let c16_i32_61 : BitVec 32 := 16#32
  let v209 : BitVec 32 := Scalar.addi c0_i32_60 c16_i32_61
  let c1_i32_62 : BitVec 32 := 1#32
  ⟨c0_i32_60, v209, c1_i32_62⟩
@[reducible] def k0_t4_loop : Scf.Loop 32 :=
  let c0_i32_81 : BitVec 32 := 0#32
  let c16_i32_82 : BitVec 32 := 16#32
  let v278 : BitVec 32 := Scalar.addi c0_i32_81 c16_i32_82
  let c1_i32_83 : BitVec 32 := 1#32
  ⟨c0_i32_81, v278, c1_i32_83⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x18 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S32x512x9 : Shape := ⟨3, ![32, 512, 9]⟩
abbrev S32x18 : Shape := ⟨2, ![32, 18]⟩
abbrev S32x64 : Shape := ⟨2, ![32, 64]⟩
abbrev S64x64 : Shape := ⟨2, ![64, 64]⟩
abbrev S128x128 : Shape := ⟨2, ![128, 128]⟩
abbrev S1024x256 : Shape := ⟨2, ![1024, 256]⟩
abbrev S32x9x512 : Shape := ⟨3, ![32, 9, 512]⟩
abbrev S32x512x512 : Shape := ⟨3, ![32, 512, 512]⟩
abbrev S_ : Shape := ⟨0, ![]⟩
abbrev S32x512 : Shape := ⟨2, ![32, 512]⟩
abbrev S32x1x512 : Shape := ⟨3, ![32, 1, 512]⟩
abbrev S32x512x1 : Shape := ⟨3, ![32, 512, 1]⟩
abbrev S32x512x16 : Shape := ⟨3, ![32, 512, 16]⟩
abbrev S16384x9 : Shape := ⟨2, ![16384, 9]⟩
abbrev S32 : Shape := ⟨1, ![32]⟩
abbrev S32x1x1 : Shape := ⟨3, ![32, 1, 1]⟩
abbrev S262144 : Shape := ⟨1, ![262144]⟩
abbrev S262144x1 : Shape := ⟨2, ![262144, 1]⟩
abbrev S262144x9 : Shape := ⟨2, ![262144, 9]⟩
abbrev S32x512x16x9 : Shape := ⟨4, ![32, 512, 16, 9]⟩
abbrev S32x512x1x9 : Shape := ⟨4, ![32, 512, 1, 9]⟩
abbrev S32x512x16x18 : Shape := ⟨4, ![32, 512, 16, 18]⟩
abbrev S32x18x512x16 : Shape := ⟨4, ![32, 18, 512, 16]⟩
abbrev S32x512x16x32 : Shape := ⟨4, ![32, 512, 16, 32]⟩
abbrev S32x32x512x16 : Shape := ⟨4, ![32, 32, 512, 16]⟩
abbrev S32x32x512 : Shape := ⟨3, ![32, 32, 512]⟩
abbrev S32x512x32 : Shape := ⟨3, ![32, 512, 32]⟩
abbrev S16384x32 : Shape := ⟨2, ![16384, 32]⟩
abbrev S262144x32 : Shape := ⟨2, ![262144, 32]⟩
abbrev S32x512x1x32 : Shape := ⟨4, ![32, 512, 1, 32]⟩
abbrev S32x512x16x64 : Shape := ⟨4, ![32, 512, 16, 64]⟩
abbrev S32x64x512x16 : Shape := ⟨4, ![32, 64, 512, 16]⟩
abbrev S32x64x512 : Shape := ⟨3, ![32, 64, 512]⟩
abbrev S32x512x64 : Shape := ⟨3, ![32, 512, 64]⟩
abbrev S16384x64 : Shape := ⟨2, ![16384, 64]⟩
abbrev S262144x64 : Shape := ⟨2, ![262144, 64]⟩
abbrev S32x512x1x64 : Shape := ⟨4, ![32, 512, 1, 64]⟩
abbrev S32x512x16x128 : Shape := ⟨4, ![32, 512, 16, 128]⟩
abbrev S32x128x512x16 : Shape := ⟨4, ![32, 128, 512, 16]⟩
abbrev S32x128x512 : Shape := ⟨3, ![32, 128, 512]⟩
abbrev S32x256x512 : Shape := ⟨3, ![32, 256, 512]⟩
abbrev S32x512x1024 : Shape := ⟨3, ![32, 512, 1024]⟩
abbrev S32x1024x512 : Shape := ⟨3, ![32, 1024, 512]⟩

abbrev nBuf : Space → Nat
  | .hbm => 266
  | .vmem => 0
  | .smem => 0
  | _ => 0

abbrev hbmTy0_0 (i : Nat) : BufTy := match i % 128 with
  | 0 => ⟨S32x512x9, .f32⟩
  | 1 => ⟨S32x18, .f32⟩
  | 2 => ⟨S32x64, .f32⟩
  | 3 => ⟨S64x64, .f32⟩
  | 4 => ⟨S128x128, .f32⟩
  | 5 => ⟨S1024x256, .f32⟩
  | 6 => ⟨S32x9x512, .f32⟩
  | 7 => ⟨S32x512x9, .f32⟩
  | 8 => ⟨S32x512x512, .f32⟩
  | 9 => ⟨S_, .f32⟩
  | 10 => ⟨S32x512x512, .f32⟩
  | 11 => ⟨S32x512x512, .f32⟩
  | 12 => ⟨S32x9x512, .f32⟩
  | 13 => ⟨S_, .f32⟩
  | 14 => ⟨S32x512, .f32⟩
  | 15 => ⟨S32x1x512, .f32⟩
  | 16 => ⟨S32x1x512, .f32⟩
  | 17 => ⟨S32x512x512, .f32⟩
  | 18 => ⟨S32x512x512, .f32⟩
  | 19 => ⟨S32x512x1, .f32⟩
  | 20 => ⟨S32x512x512, .f32⟩
  | 21 => ⟨S32x512x512, .f32⟩
  | 22 => ⟨S_, .f32⟩
  | 23 => ⟨S32x1x512, .f32⟩
  | 24 => ⟨S32x1x512, .i1⟩
  | 25 => ⟨S_, .f32⟩
  | 26 => ⟨S32x1x512, .f32⟩
  | 27 => ⟨S_, .f32⟩
  | 28 => ⟨S32x1x512, .f32⟩
  | 29 => ⟨S32x1x512, .f32⟩
  | 30 => ⟨S32x512x512, .f32⟩
  | 31 => ⟨S32x512x512, .f32⟩
  | 32 => ⟨S32x512x16, .f32⟩
  | 33 => ⟨S32x512x16, .i32⟩
  | 34 => ⟨S32x512x9, .f32⟩
  | 35 => ⟨S16384x9, .f32⟩
  | 36 => ⟨S32, .i32⟩
  | 37 => ⟨S_, .i32⟩
  | 38 => ⟨S32, .i32⟩
  | 39 => ⟨S32, .i32⟩
  | 40 => ⟨S32x1x1, .i32⟩
  | 41 => ⟨S32x512x16, .i32⟩
  | 42 => ⟨S32x512x16, .i32⟩
  | 43 => ⟨S262144, .i32⟩
  | 44 => ⟨S_, .i32⟩
  | 45 => ⟨S262144, .i32⟩
  | 46 => ⟨S262144, .i1⟩
  | 47 => ⟨S_, .i32⟩
  | 48 => ⟨S262144, .i32⟩
  | 49 => ⟨S262144, .i32⟩
  | 50 => ⟨S262144, .i32⟩
  | 51 => ⟨S262144x1, .i32⟩
  | 52 => ⟨S262144x9, .f32⟩
  | 53 => ⟨S32x512x16x9, .f32⟩
  | 54 => ⟨S32x512x1x9, .f32⟩
  | 55 => ⟨S32x512x16x9, .f32⟩
  | 56 => ⟨S32x512x16x9, .f32⟩
  | 57 => ⟨S32x512x16x18, .f32⟩
  | 58 => ⟨S32x18x512x16, .f32⟩
  | 59 => ⟨S32x512x16x32, .f32⟩
  | 60 => ⟨S32x32x512x16, .f32⟩
  | 61 => ⟨S_, .f32⟩
  | 62 => ⟨S_, .f32⟩
  | 63 => ⟨S32x32x512x16, .f32⟩
  | 64 => ⟨S32x32x512x16, .i1⟩
  | 65 => ⟨S_, .f32⟩
  | 66 => ⟨S32x32x512x16, .f32⟩
  | 67 => ⟨S32x32x512x16, .f32⟩
  | 68 => ⟨S32x32x512x16, .f32⟩
  | 69 => ⟨S_, .f32⟩
  | 70 => ⟨S32x32x512, .f32⟩
  | 71 => ⟨S32x512x32, .f32⟩
  | 72 => ⟨S32x512x512, .f32⟩
  | 73 => ⟨S_, .f32⟩
  | 74 => ⟨S32x512x512, .f32⟩
  | 75 => ⟨S32x512x512, .f32⟩
  | 76 => ⟨S32x32x512, .f32⟩
  | 77 => ⟨S_, .f32⟩
  | 78 => ⟨S32x512, .f32⟩
  | 79 => ⟨S32x1x512, .f32⟩
  | 80 => ⟨S32x1x512, .f32⟩
  | 81 => ⟨S32x512x512, .f32⟩
  | 82 => ⟨S32x512x512, .f32⟩
  | 83 => ⟨S32x512x1, .f32⟩
  | 84 => ⟨S32x512x512, .f32⟩
  | 85 => ⟨S32x512x512, .f32⟩
  | 86 => ⟨S_, .f32⟩
  | 87 => ⟨S32x1x512, .f32⟩
  | 88 => ⟨S32x1x512, .i1⟩
  | 89 => ⟨S_, .f32⟩
  | 90 => ⟨S32x1x512, .f32⟩
  | 91 => ⟨S_, .f32⟩
  | 92 => ⟨S32x1x512, .f32⟩
  | 93 => ⟨S32x1x512, .f32⟩
  | 94 => ⟨S32x512x512, .f32⟩
  | 95 => ⟨S32x512x512, .f32⟩
  | 96 => ⟨S32x512x16, .f32⟩
  | 97 => ⟨S32x512x16, .i32⟩
  | 98 => ⟨S32x512x32, .f32⟩
  | 99 => ⟨S16384x32, .f32⟩
  | 100 => ⟨S32, .i32⟩
  | 101 => ⟨S_, .i32⟩
  | 102 => ⟨S32, .i32⟩
  | 103 => ⟨S32, .i32⟩
  | 104 => ⟨S32x1x1, .i32⟩
  | 105 => ⟨S32x512x16, .i32⟩
  | 106 => ⟨S32x512x16, .i32⟩
  | 107 => ⟨S262144, .i32⟩
  | 108 => ⟨S_, .i32⟩
  | 109 => ⟨S262144, .i32⟩
  | 110 => ⟨S262144, .i1⟩
  | 111 => ⟨S_, .i32⟩
  | 112 => ⟨S262144, .i32⟩
  | 113 => ⟨S262144, .i32⟩
  | 114 => ⟨S262144, .i32⟩
  | 115 => ⟨S262144x1, .i32⟩
  | 116 => ⟨S262144x32, .f32⟩
  | 117 => ⟨S32x512x16x32, .f32⟩
  | 118 => ⟨S32x512x1x32, .f32⟩
  | 119 => ⟨S32x512x16x32, .f32⟩
  | 120 => ⟨S32x512x16x32, .f32⟩
  | 121 => ⟨S32x512x16x64, .f32⟩
  | 122 => ⟨S32x64x512x16, .f32⟩
  | 123 => ⟨S32x512x16x32, .f32⟩
  | 124 => ⟨S32x32x512x16, .f32⟩
  | 125 => ⟨S_, .f32⟩
  | 126 => ⟨S_, .f32⟩
  | 127 => ⟨S32x32x512x16, .f32⟩
  | _ => ⟨S32x512x9, .f32⟩

abbrev hbmTy0_1 (i : Nat) : BufTy := match i % 128 with
  | 0 => ⟨S32x32x512x16, .i1⟩
  | 1 => ⟨S_, .f32⟩
  | 2 => ⟨S32x32x512x16, .f32⟩
  | 3 => ⟨S32x32x512x16, .f32⟩
  | 4 => ⟨S32x32x512x16, .f32⟩
  | 5 => ⟨S_, .f32⟩
  | 6 => ⟨S32x32x512, .f32⟩
  | 7 => ⟨S32x512x32, .f32⟩
  | 8 => ⟨S32x512x512, .f32⟩
  | 9 => ⟨S_, .f32⟩
  | 10 => ⟨S32x512x512, .f32⟩
  | 11 => ⟨S32x512x512, .f32⟩
  | 12 => ⟨S32x32x512, .f32⟩
  | 13 => ⟨S_, .f32⟩
  | 14 => ⟨S32x512, .f32⟩
  | 15 => ⟨S32x1x512, .f32⟩
  | 16 => ⟨S32x1x512, .f32⟩
  | 17 => ⟨S32x512x512, .f32⟩
  | 18 => ⟨S32x512x512, .f32⟩
  | 19 => ⟨S32x512x1, .f32⟩
  | 20 => ⟨S32x512x512, .f32⟩
  | 21 => ⟨S32x512x512, .f32⟩
  | 22 => ⟨S_, .f32⟩
  | 23 => ⟨S32x1x512, .f32⟩
  | 24 => ⟨S32x1x512, .i1⟩
  | 25 => ⟨S_, .f32⟩
  | 26 => ⟨S32x1x512, .f32⟩
  | 27 => ⟨S_, .f32⟩
  | 28 => ⟨S32x1x512, .f32⟩
  | 29 => ⟨S32x1x512, .f32⟩
  | 30 => ⟨S32x512x512, .f32⟩
  | 31 => ⟨S32x512x512, .f32⟩
  | 32 => ⟨S32x512x16, .f32⟩
  | 33 => ⟨S32x512x16, .i32⟩
  | 34 => ⟨S32x512x32, .f32⟩
  | 35 => ⟨S16384x32, .f32⟩
  | 36 => ⟨S32, .i32⟩
  | 37 => ⟨S_, .i32⟩
  | 38 => ⟨S32, .i32⟩
  | 39 => ⟨S32, .i32⟩
  | 40 => ⟨S32x1x1, .i32⟩
  | 41 => ⟨S32x512x16, .i32⟩
  | 42 => ⟨S32x512x16, .i32⟩
  | 43 => ⟨S262144, .i32⟩
  | 44 => ⟨S_, .i32⟩
  | 45 => ⟨S262144, .i32⟩
  | 46 => ⟨S262144, .i1⟩
  | 47 => ⟨S_, .i32⟩
  | 48 => ⟨S262144, .i32⟩
  | 49 => ⟨S262144, .i32⟩
  | 50 => ⟨S262144, .i32⟩
  | 51 => ⟨S262144x1, .i32⟩
  | 52 => ⟨S262144x32, .f32⟩
  | 53 => ⟨S32x512x16x32, .f32⟩
  | 54 => ⟨S32x512x1x32, .f32⟩
  | 55 => ⟨S32x512x16x32, .f32⟩
  | 56 => ⟨S32x512x16x32, .f32⟩
  | 57 => ⟨S32x512x16x64, .f32⟩
  | 58 => ⟨S32x64x512x16, .f32⟩
  | 59 => ⟨S32x512x16x64, .f32⟩
  | 60 => ⟨S32x64x512x16, .f32⟩
  | 61 => ⟨S_, .f32⟩
  | 62 => ⟨S_, .f32⟩
  | 63 => ⟨S32x64x512x16, .f32⟩
  | 64 => ⟨S32x64x512x16, .i1⟩
  | 65 => ⟨S_, .f32⟩
  | 66 => ⟨S32x64x512x16, .f32⟩
  | 67 => ⟨S32x64x512x16, .f32⟩
  | 68 => ⟨S32x64x512x16, .f32⟩
  | 69 => ⟨S_, .f32⟩
  | 70 => ⟨S32x64x512, .f32⟩
  | 71 => ⟨S32x512x64, .f32⟩
  | 72 => ⟨S32x512x512, .f32⟩
  | 73 => ⟨S_, .f32⟩
  | 74 => ⟨S32x512x512, .f32⟩
  | 75 => ⟨S32x512x512, .f32⟩
  | 76 => ⟨S32x64x512, .f32⟩
  | 77 => ⟨S_, .f32⟩
  | 78 => ⟨S32x512, .f32⟩
  | 79 => ⟨S32x1x512, .f32⟩
  | 80 => ⟨S32x1x512, .f32⟩
  | 81 => ⟨S32x512x512, .f32⟩
  | 82 => ⟨S32x512x512, .f32⟩
  | 83 => ⟨S32x512x1, .f32⟩
  | 84 => ⟨S32x512x512, .f32⟩
  | 85 => ⟨S32x512x512, .f32⟩
  | 86 => ⟨S_, .f32⟩
  | 87 => ⟨S32x1x512, .f32⟩
  | 88 => ⟨S32x1x512, .i1⟩
  | 89 => ⟨S_, .f32⟩
  | 90 => ⟨S32x1x512, .f32⟩
  | 91 => ⟨S_, .f32⟩
  | 92 => ⟨S32x1x512, .f32⟩
  | 93 => ⟨S32x1x512, .f32⟩
  | 94 => ⟨S32x512x512, .f32⟩
  | 95 => ⟨S32x512x512, .f32⟩
  | 96 => ⟨S32x512x16, .f32⟩
  | 97 => ⟨S32x512x16, .i32⟩
  | 98 => ⟨S32x512x64, .f32⟩
  | 99 => ⟨S16384x64, .f32⟩
  | 100 => ⟨S32, .i32⟩
  | 101 => ⟨S_, .i32⟩
  | 102 => ⟨S32, .i32⟩
  | 103 => ⟨S32, .i32⟩
  | 104 => ⟨S32x1x1, .i32⟩
  | 105 => ⟨S32x512x16, .i32⟩
  | 106 => ⟨S32x512x16, .i32⟩
  | 107 => ⟨S262144, .i32⟩
  | 108 => ⟨S_, .i32⟩
  | 109 => ⟨S262144, .i32⟩
  | 110 => ⟨S262144, .i1⟩
  | 111 => ⟨S_, .i32⟩
  | 112 => ⟨S262144, .i32⟩
  | 113 => ⟨S262144, .i32⟩
  | 114 => ⟨S262144, .i32⟩
  | 115 => ⟨S262144x1, .i32⟩
  | 116 => ⟨S262144x64, .f32⟩
  | 117 => ⟨S32x512x16x64, .f32⟩
  | 118 => ⟨S32x512x1x64, .f32⟩
  | 119 => ⟨S32x512x16x64, .f32⟩
  | 120 => ⟨S32x512x16x64, .f32⟩
  | 121 => ⟨S32x512x16x128, .f32⟩
  | 122 => ⟨S32x128x512x16, .f32⟩
  | 123 => ⟨S32x512x16x128, .f32⟩
  | 124 => ⟨S32x128x512x16, .f32⟩
  | 125 => ⟨S_, .f32⟩
  | 126 => ⟨S_, .f32⟩
  | 127 => ⟨S32x128x512x16, .f32⟩
  | _ => ⟨S32x512x9, .f32⟩

abbrev hbmTy0_2 (i : Nat) : BufTy := match i % 128 with
  | 0 => ⟨S32x128x512x16, .i1⟩
  | 1 => ⟨S_, .f32⟩
  | 2 => ⟨S32x128x512x16, .f32⟩
  | 3 => ⟨S32x128x512x16, .f32⟩
  | 4 => ⟨S32x128x512x16, .f32⟩
  | 5 => ⟨S_, .f32⟩
  | 6 => ⟨S32x128x512, .f32⟩
  | 7 => ⟨S32x256x512, .f32⟩
  | 8 => ⟨S32x512x1024, .f32⟩
  | 9 => ⟨S32x1024x512, .f32⟩
  | _ => ⟨S32x512x9, .f32⟩

abbrev hbmTy (i : Nat) : BufTy := match i / 128 with
  | 0 => hbmTy0_0 i
  | 1 => hbmTy0_1 i
  | 2 => hbmTy0_2 i
  | _ => ⟨S32x512x9, .f32⟩

abbrev bufTy : (tb : Table) → Fin (tcTables nBuf tb) → BufTy
  | .hbm, ⟨i, _⟩ => hbmTy i
  | _, _ => ⟨S32x512x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_values : Ref sig .tc := ⟨.hbm, 32, rfl⟩
abbrev main_indices : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_call1_cst : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_v45 : Ref sig .tc := ⟨.hbm, 68, rfl⟩
abbrev main_cst_7 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_8 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_10 : Ref sig .tc := ⟨.hbm, 86, rfl⟩
abbrev main_v60 : Ref sig .tc := ⟨.hbm, 87, rfl⟩
abbrev main_v61 : Ref sig .tc := ⟨.hbm, 88, rfl⟩
abbrev main_cst_11 : Ref sig .tc := ⟨.hbm, 89, rfl⟩
abbrev main_v62 : Ref sig .tc := ⟨.hbm, 90, rfl⟩
abbrev main_cst_12 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_values_13 : Ref sig .tc := ⟨.hbm, 96, rfl⟩
abbrev main_indices_14 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_15 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_16 : Ref sig .tc := ⟨.hbm, 108, rfl⟩
abbrev main_v76 : Ref sig .tc := ⟨.hbm, 109, rfl⟩
abbrev main_v77 : Ref sig .tc := ⟨.hbm, 110, rfl⟩
abbrev main_c_17 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_18 : Ref sig .tc := ⟨.hbm, 125, rfl⟩
abbrev main_call3_cst : Ref sig .tc := ⟨.hbm, 126, rfl⟩
abbrev main_call3_v0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_v91 : Ref sig .tc := ⟨.hbm, 132, rfl⟩
abbrev main_cst_19 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_20 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_21 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_22 : Ref sig .tc := ⟨.hbm, 150, rfl⟩
abbrev main_v106 : Ref sig .tc := ⟨.hbm, 151, rfl⟩
abbrev main_v107 : Ref sig .tc := ⟨.hbm, 152, rfl⟩
abbrev main_cst_23 : Ref sig .tc := ⟨.hbm, 153, rfl⟩
abbrev main_v108 : Ref sig .tc := ⟨.hbm, 154, rfl⟩
abbrev main_cst_24 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_values_25 : Ref sig .tc := ⟨.hbm, 160, rfl⟩
abbrev main_indices_26 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_c_27 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_c_28 : Ref sig .tc := ⟨.hbm, 172, rfl⟩
abbrev main_v122 : Ref sig .tc := ⟨.hbm, 173, rfl⟩
abbrev main_v123 : Ref sig .tc := ⟨.hbm, 174, rfl⟩
abbrev main_c_29 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_cst_30 : Ref sig .tc := ⟨.hbm, 189, rfl⟩
abbrev main_call5_cst : Ref sig .tc := ⟨.hbm, 190, rfl⟩
abbrev main_call5_v0 : Ref sig .tc := ⟨.hbm, 191, rfl⟩
abbrev main_call5_v1 : Ref sig .tc := ⟨.hbm, 192, rfl⟩
abbrev main_call5_v2 : Ref sig .tc := ⟨.hbm, 193, rfl⟩
abbrev main_call5_v3 : Ref sig .tc := ⟨.hbm, 194, rfl⟩
abbrev main_call5_v4 : Ref sig .tc := ⟨.hbm, 195, rfl⟩
abbrev main_v137 : Ref sig .tc := ⟨.hbm, 196, rfl⟩
abbrev main_cst_31 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_cst_32 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_cst_33 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_cst_34 : Ref sig .tc := ⟨.hbm, 214, rfl⟩
abbrev main_v152 : Ref sig .tc := ⟨.hbm, 215, rfl⟩
abbrev main_v153 : Ref sig .tc := ⟨.hbm, 216, rfl⟩
abbrev main_cst_35 : Ref sig .tc := ⟨.hbm, 217, rfl⟩
abbrev main_v154 : Ref sig .tc := ⟨.hbm, 218, rfl⟩
abbrev main_cst_36 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_values_37 : Ref sig .tc := ⟨.hbm, 224, rfl⟩
abbrev main_indices_38 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_c_39 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_c_40 : Ref sig .tc := ⟨.hbm, 236, rfl⟩
abbrev main_v168 : Ref sig .tc := ⟨.hbm, 237, rfl⟩
abbrev main_v169 : Ref sig .tc := ⟨.hbm, 238, rfl⟩
abbrev main_c_41 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_cst_42 : Ref sig .tc := ⟨.hbm, 253, rfl⟩
abbrev main_call7_cst : Ref sig .tc := ⟨.hbm, 254, rfl⟩
abbrev main_call7_v0 : Ref sig .tc := ⟨.hbm, 255, rfl⟩
abbrev main_call7_v1 : Ref sig .tc := ⟨.hbm, 256, rfl⟩
abbrev main_call7_v2 : Ref sig .tc := ⟨.hbm, 257, rfl⟩
abbrev main_call7_v3 : Ref sig .tc := ⟨.hbm, 258, rfl⟩
abbrev main_call7_v4 : Ref sig .tc := ⟨.hbm, 259, rfl⟩
abbrev main_v183 : Ref sig .tc := ⟨.hbm, 260, rfl⟩
abbrev main_cst_43 : Ref sig .tc := ⟨.hbm, 261, rfl⟩
abbrev main_v184 : Ref sig .tc := ⟨.hbm, 262, rfl⟩
abbrev main_v185 : Ref sig .tc := ⟨.hbm, 263, rfl⟩
abbrev main_v186 : Ref sig .tc := ⟨.hbm, 264, rfl⟩
abbrev main_v187 : Ref sig .tc := ⟨.hbm, 265, rfl⟩

abbrev nD : Nat := 1
abbrev τ : Topo := Topo.v7x

variable {F : FTy → Type} [FloatOps F]
-- ==== Kernel2.lean ====
abbrev S32x1024x512 : Shape := ⟨3, ![32, 1024, 512]⟩
abbrev S1024 : Shape := ⟨1, ![1024]⟩
abbrev S1x1024 : Shape := ⟨2, ![1, 1024]⟩
abbrev S32x1024 : Shape := ⟨2, ![32, 1024]⟩
abbrev S32x128x512 : Shape := ⟨3, ![32, 128, 512]⟩
abbrev S1x128 : Shape := ⟨2, ![1, 128]⟩
abbrev S32x128 : Shape := ⟨2, ![32, 128]⟩
abbrev S32x128x1 : Shape := ⟨3, ![32, 128, 1]⟩
abbrev S128x1 : Shape := ⟨2, ![128, 1]⟩
abbrev S1x128x1 : Shape := ⟨3, ![1, 128, 1]⟩

abbrev nBuf : Space → Nat
  | .hbm => 7
  | .vmem => 10
  | .smem => 0
  | _ => 0

abbrev bufTy : (tb : Table) → Fin (tcTables nBuf tb) → BufTy
  | .hbm, ⟨0, _⟩ => ⟨S32x1024x512, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S1x1024, .f32⟩
  | .hbm, ⟨5, _⟩ => ⟨S32x1024, .f32⟩
  | .hbm, ⟨6, _⟩ => ⟨S32x1024, .f32⟩
  | .local _ .vmem, ⟨0, _⟩ => ⟨S32x128x512, .f32⟩
  | .local _ .vmem, ⟨1, _⟩ => ⟨S32x128x512, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | _, _ => ⟨S32x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S32x1024x512 : Shape := ⟨3, ![32, 1024, 512]⟩
abbrev S1024 : Shape := ⟨1, ![1024]⟩
abbrev S_ : Shape := ⟨0, ![]⟩
abbrev S1x1024x1 : Shape := ⟨3, ![1, 1024, 1]⟩
abbrev S32x1024 : Shape := ⟨2, ![32, 1024]⟩

abbrev nBuf : Space → Nat
  | .hbm => 62
  | .vmem => 0
  | .smem => 0
  | _ => 0

abbrev bufTy : (tb : Table) → Fin (tcTables nBuf tb) → BufTy
  | .hbm, ⟨0, _⟩ => ⟨S32x1024x512, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S1x1024x1, .f32⟩
  | .hbm, ⟨6, _⟩ => ⟨S_, .f32⟩
  | .hbm, ⟨7, _⟩ => ⟨S1x1024x1, .f32⟩
  | .hbm, ⟨8, _⟩ => ⟨S1x1024x1, .f32⟩
  | .hbm, ⟨9, _⟩ => ⟨S_, .i32⟩
  | .hbm, ⟨10, _⟩ => ⟨S_, .f32⟩
  | .hbm, ⟨11, _⟩ => ⟨S1024, .f32⟩
  | .hbm, ⟨12, _⟩ => ⟨S1x1024x1, .f32⟩
  | .hbm, ⟨13, _⟩ => ⟨S_, .f32⟩
  | .hbm, ⟨14, _⟩ => ⟨S1x1024x1, .f32⟩
  | .hbm, ⟨15, _⟩ => ⟨S1x1024x1, .f32⟩
  | .hbm, ⟨16, _⟩ => ⟨S32x1024x512, .f32⟩
  | .hbm, ⟨17, _⟩ => ⟨S32x1024x512, .f32⟩
  | .hbm, ⟨18, _⟩ => ⟨S32x1024x512, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1024, .f32⟩
  | .hbm, ⟨24, _⟩ => ⟨S1x1024x1, .f32⟩
  | .hbm, ⟨25, _⟩ => ⟨S1x1024x1, .f32⟩
  | .hbm, ⟨26, _⟩ => ⟨S1x1024x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S1x1024x1, .f32⟩
  | .hbm, ⟨32, _⟩ => ⟨S1x1024x1, .f32⟩
  | .hbm, ⟨33, _⟩ => ⟨S1x1024x1, .f32⟩
  | .hbm, ⟨34, _⟩ => ⟨S32x1024x512, .f32⟩
  | .hbm, ⟨35, _⟩ => ⟨S32x1024x512, .f32⟩
  | .hbm, ⟨36, _⟩ => ⟨S32x1024x512, .f32⟩
  | .hbm, ⟨37, _⟩ => ⟨S32x1024x512, .f32⟩
  | .hbm, ⟨38, _⟩ => ⟨S_, .f32⟩
  | .hbm, ⟨39, _⟩ => ⟨S1x1024x1, .f32⟩
  | .hbm, ⟨40, _⟩ => ⟨S1x1024x1, .f32⟩
  | .hbm, ⟨41, _⟩ => ⟨S1x1024x1, .f32⟩
  | .hbm, ⟨42, _⟩ => ⟨S32x1024x512, .f32⟩
  | .hbm, ⟨43, _⟩ => ⟨S32x1024x512, .f32⟩
  | .hbm, ⟨44, _⟩ => ⟨S1x1024x1, .f32⟩
  | .hbm, ⟨45, _⟩ => ⟨S32x1024x512, .f32⟩
  | .hbm, ⟨46, _⟩ => ⟨S32x1024x512, .f32⟩
  | .hbm, ⟨47, _⟩ => ⟨S_, .f32⟩
  | .hbm, ⟨48, _⟩ => ⟨S_, .f32⟩
  | .hbm, ⟨49, _⟩ => ⟨S32x1024x512, .f32⟩
  | .hbm, ⟨50, _⟩ => ⟨S32x1024x512, .i1⟩
  | .hbm, ⟨51, _⟩ => ⟨S_, .f32⟩
  | .hbm, ⟨52, _⟩ => ⟨S32x1024x512, .f32⟩
  | .hbm, ⟨53, _⟩ => ⟨S32x1024x512, .f32⟩
  | .hbm, ⟨54, _⟩ => ⟨S32x1024x512, .f32⟩
  | .hbm, ⟨55, _⟩ => ⟨S_, .f32⟩
  | .hbm, ⟨56, _⟩ => ⟨S32x1024, .f32⟩
  | .hbm, ⟨57, _⟩ => ⟨S_, .f32⟩
  | .hbm, ⟨58, _⟩ => ⟨S32x1024, .f32⟩
  | .hbm, ⟨59, _⟩ => ⟨S_, .f32⟩
  | .hbm, ⟨60, _⟩ => ⟨S32x1024, .f32⟩
  | .hbm, ⟨61, _⟩ => ⟨S32x1024, .f32⟩
  | _, _ => ⟨S32x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_2 : Ref sig .tc := ⟨.hbm, 47, rfl⟩
abbrev main_call1_cst : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_v18 : Ref sig .tc := ⟨.hbm, 54, rfl⟩
abbrev main_cst_3 : Ref sig .tc := ⟨.hbm, 55, rfl⟩
abbrev main_v19 : Ref sig .tc := ⟨.hbm, 56, rfl⟩
abbrev main_cst_4 : Ref sig .tc := ⟨.hbm, 57, rfl⟩
abbrev main_v20 : Ref sig .tc := ⟨.hbm, 58, rfl⟩
abbrev main_cst_5 : Ref sig .tc := ⟨.hbm, 59, rfl⟩
abbrev main_v21 : Ref sig .tc := ⟨.hbm, 60, rfl⟩
abbrev main_v22 : Ref sig .tc := ⟨.hbm, 61, rfl⟩

abbrev nD : Nat := 1
abbrev τ : Topo := Topo.v7x

variable {F : FTy → Type} [FloatOps F]
-- ==== Kernel3.lean ====
abbrev S32x2048 : Shape := ⟨2, ![32, 2048]⟩
abbrev S2048x1024 : Shape := ⟨2, ![2048, 1024]⟩
abbrev S1024 : Shape := ⟨1, ![1024]⟩
abbrev S1024x1024 : Shape := ⟨2, ![1024, 1024]⟩
abbrev S1024x32 : Shape := ⟨2, ![1024, 32]⟩
abbrev S32 : Shape := ⟨1, ![32]⟩
abbrev S512x64 : Shape := ⟨2, ![512, 64]⟩
abbrev S512 : Shape := ⟨1, ![512]⟩
abbrev S256x1024 : Shape := ⟨2, ![256, 1024]⟩
abbrev S256 : Shape := ⟨1, ![256]⟩
abbrev S1024x768 : Shape := ⟨2, ![1024, 768]⟩
abbrev S2048x256 : Shape := ⟨2, ![2048, 256]⟩
abbrev S256x40 : Shape := ⟨2, ![256, 40]⟩
abbrev S40 : Shape := ⟨1, ![40]⟩
abbrev S1x1024 : Shape := ⟨2, ![1, 1024]⟩
abbrev S1x32 : Shape := ⟨2, ![1, 32]⟩
abbrev S1x512 : Shape := ⟨2, ![1, 512]⟩
abbrev S1x256 : Shape := ⟨2, ![1, 256]⟩
abbrev S1x40 : Shape := ⟨2, ![1, 40]⟩
abbrev S32x1024 : Shape := ⟨2, ![32, 1024]⟩
abbrev S32x32 : Shape := ⟨2, ![32, 32]⟩
abbrev S32x1 : Shape := ⟨2, ![32, 1]⟩
abbrev S32x96 : Shape := ⟨2, ![32, 96]⟩
abbrev S32x64 : Shape := ⟨2, ![32, 64]⟩
abbrev S32x512 : Shape := ⟨2, ![32, 512]⟩
abbrev S512x32 : Shape := ⟨2, ![512, 32]⟩
abbrev S32x1536 : Shape := ⟨2, ![32, 1536]⟩
abbrev S32x256 : Shape := ⟨2, ![32, 256]⟩
abbrev S32x768 : Shape := ⟨2, ![32, 768]⟩
abbrev S1x2048 : Shape := ⟨2, ![1, 2048]⟩

abbrev nBuf : Space → Nat
  | .hbm => 36
  | .vmem => 23
  | .smem => 0
  | _ => 0

abbrev bufTy : (tb : Table) → Fin (tcTables nBuf tb) → BufTy
  | .hbm, ⟨0, _⟩ => ⟨S32x2048, .f32⟩
  | .hbm, ⟨1, _⟩ => ⟨S2048x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x32, .f32⟩
  | .hbm, ⟨9, _⟩ => ⟨S32, .f32⟩
  | .hbm, ⟨10, _⟩ => ⟨S512x64, .f32⟩
  | .hbm, ⟨11, _⟩ => ⟨S512, .f32⟩
  | .hbm, ⟨12, _⟩ => ⟨S512, .f32⟩
  | .hbm, ⟨13, _⟩ => ⟨S256x1024, .f32⟩
  | .hbm, ⟨14, _⟩ => ⟨S256, .f32⟩
  | .hbm, ⟨15, _⟩ => ⟨S256, .f32⟩
  | .hbm, ⟨16, _⟩ => ⟨S1024x768, .f32⟩
  | .hbm, ⟨17, _⟩ => ⟨S1024, .f32⟩
  | .hbm, ⟨18, _⟩ => ⟨S1024, .f32⟩
  | .hbm, ⟨19, _⟩ => ⟨S2048x256, .f32⟩
  | .hbm, ⟨20, _⟩ => ⟨S256x40, .f32⟩
  | .hbm, ⟨21, _⟩ => ⟨S40, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x32, .f32⟩
  | .hbm, ⟨28, _⟩ => ⟨S1x512, .f32⟩
  | .hbm, ⟨29, _⟩ => ⟨S1x512, .f32⟩
  | .hbm, ⟨30, _⟩ => ⟨S1x256, .f32⟩
  | .hbm, ⟨31, _⟩ => ⟨S1x256, .f32⟩
  | .hbm, ⟨32, _⟩ => ⟨S1x1024, .f32⟩
  | .hbm, ⟨33, _⟩ => ⟨S1x1024, .f32⟩
  | .hbm, ⟨34, _⟩ => ⟨S1x40, .f32⟩
  | .hbm, ⟨35, _⟩ => ⟨S1x40, .f32⟩
  | .local _ .vmem, ⟨0, _⟩ => ⟨S32x2048, .f32⟩
  | .local _ .vmem, ⟨1, _⟩ => ⟨S2048x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x32, .f32⟩
  | .local _ .vmem, ⟨9, _⟩ => ⟨S1x32, .f32⟩
  | .local _ .vmem, ⟨10, _⟩ => ⟨S512x64, .f32⟩
  | .local _ .vmem, ⟨11, _⟩ => ⟨S1x512, .f32⟩
  | .local _ .vmem, ⟨12, _⟩ => ⟨S1x512, .f32⟩
  | .local _ .vmem, ⟨13, _⟩ => ⟨S256x1024, .f32⟩
  | .local _ .vmem, ⟨14, _⟩ => ⟨S1x256, .f32⟩
  | .local _ .vmem, ⟨15, _⟩ => ⟨S1x256, .f32⟩
  | .local _ .vmem, ⟨16, _⟩ => ⟨S1024x768, .f32⟩
  | .local _ .vmem, ⟨17, _⟩ => ⟨S1x1024, .f32⟩
  | .local _ .vmem, ⟨18, _⟩ => ⟨S1x1024, .f32⟩
  | .local _ .vmem, ⟨19, _⟩ => ⟨S2048x256, .f32⟩
  | .local _ .vmem, ⟨20, _⟩ => ⟨S256x40, .f32⟩
  | .local _ .vmem, ⟨21, _⟩ => ⟨S1x40, .f32⟩
  | .local _ .vmem, ⟨22, _⟩ => ⟨S1x40, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F]

abbrev grid0 : Pipeline.Grid := .none

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1024x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2048x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S256x40 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x40 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x40 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
-- ==== Kernel3Ideal.lean ====
variable {F : FTy → Type} [FloatOps F] [Named F]
def κ : String → Option EReal := fun
  | "mask" => some ⊥
  | _ => none
-- ==== Reference3Ideal.lean ====
abbrev S32x2048 : Shape := ⟨2, ![32, 2048]⟩
abbrev S2048x1024 : Shape := ⟨2, ![2048, 1024]⟩
abbrev S1024 : Shape := ⟨1, ![1024]⟩
abbrev S1024x1024 : Shape := ⟨2, ![1024, 1024]⟩
abbrev S1024x32 : Shape := ⟨2, ![1024, 32]⟩
abbrev S32 : Shape := ⟨1, ![32]⟩
abbrev S512x64 : Shape := ⟨2, ![512, 64]⟩
abbrev S512 : Shape := ⟨1, ![512]⟩
abbrev S256x1024 : Shape := ⟨2, ![256, 1024]⟩
abbrev S256 : Shape := ⟨1, ![256]⟩
abbrev S1024x768 : Shape := ⟨2, ![1024, 768]⟩
abbrev S2048x256 : Shape := ⟨2, ![2048, 256]⟩
abbrev S256x40 : Shape := ⟨2, ![256, 40]⟩
abbrev S40 : Shape := ⟨1, ![40]⟩
abbrev S32x1024 : Shape := ⟨2, ![32, 1024]⟩
abbrev S_ : Shape := ⟨0, ![]⟩
abbrev S1x1024 : Shape := ⟨2, ![1, 1024]⟩
abbrev S32x32 : Shape := ⟨2, ![32, 32]⟩
abbrev S1x32 : Shape := ⟨2, ![1, 32]⟩
abbrev S1x32x32 : Shape := ⟨3, ![1, 32, 32]⟩
abbrev S1x1x32 : Shape := ⟨3, ![1, 1, 32]⟩
abbrev S1x32x1 : Shape := ⟨3, ![1, 32, 1]⟩
abbrev S1x32x8 : Shape := ⟨3, ![1, 32, 8]⟩
abbrev S1 : Shape := ⟨1, ![1]⟩
abbrev S1x1x1 : Shape := ⟨3, ![1, 1, 1]⟩
abbrev S256x1 : Shape := ⟨2, ![256, 1]⟩
abbrev S256x32 : Shape := ⟨2, ![256, 32]⟩
abbrev S1x32x8x32 : Shape := ⟨4, ![1, 32, 8, 32]⟩
abbrev S1x32x1x32 : Shape := ⟨4, ![1, 32, 1, 32]⟩
abbrev S1x32x8x64 : Shape := ⟨4, ![1, 32, 8, 64]⟩
abbrev S1x64x32x8 : Shape := ⟨4, ![1, 64, 32, 8]⟩
abbrev S1x32x8x512 : Shape := ⟨4, ![1, 32, 8, 512]⟩
abbrev S1x512x32x8 : Shape := ⟨4, ![1, 512, 32, 8]⟩
abbrev S1x512x1x1 : Shape := ⟨4, ![1, 512, 1, 1]⟩
abbrev S1x512x32 : Shape := ⟨3, ![1, 512, 32]⟩
abbrev S1x32x512 : Shape := ⟨3, ![1, 32, 512]⟩
abbrev S32x512 : Shape := ⟨2, ![32, 512]⟩
abbrev S512x32 : Shape := ⟨2, ![512, 32]⟩
abbrev S256x512 : Shape := ⟨2, ![256, 512]⟩
abbrev S1x32x1x512 : Shape := ⟨4, ![1, 32, 1, 512]⟩
abbrev S1x32x8x1024 : Shape := ⟨4, ![1, 32, 8, 1024]⟩
abbrev S1x1024x32x8 : Shape := ⟨4, ![1, 1024, 32, 8]⟩
abbrev S1x32x8x256 : Shape := ⟨4, ![1, 32, 8, 256]⟩
abbrev S1x256x32x8 : Shape := ⟨4, ![1, 256, 32, 8]⟩
abbrev S1x256x1x1 : Shape := ⟨4, ![1, 256, 1, 1]⟩
abbrev S1x256x32 : Shape := ⟨3, ![1, 256, 32]⟩
abbrev S1x768x32 : Shape := ⟨3, ![1, 768, 32]⟩
abbrev S1x32x1024 : Shape := ⟨3, ![1, 32, 1024]⟩
abbrev S1x1024x32 : Shape := ⟨3, ![1, 1024, 32]⟩
abbrev S1x1024x1 : Shape := ⟨3, ![1, 1024, 1]⟩
abbrev S1x2048 : Shape := ⟨2, ![1, 2048]⟩
abbrev S1x256 : Shape := ⟨2, ![1, 256]⟩
abbrev S1x40 : Shape := ⟨2, ![1, 40]⟩

abbrev nBuf : Space → Nat
  | .hbm => 434
  | .vmem => 0
  | .smem => 0
  | _ => 0

abbrev hbmTy0_0 (i : Nat) : BufTy := match i % 128 with
  | 0 => ⟨S32x2048, .f32⟩
  | 1 => ⟨S2048x1024, .f32⟩
  | 2 => ⟨S1024, .f32⟩
  | 3 => ⟨S1024, .f32⟩
  | 4 => ⟨S1024x1024, .f32⟩
  | 5 => ⟨S1024, .f32⟩
  | 6 => ⟨S1024, .f32⟩
  | 7 => ⟨S1024, .f32⟩
  | 8 => ⟨S1024x32, .f32⟩
  | 9 => ⟨S32, .f32⟩
  | 10 => ⟨S512x64, .f32⟩
  | 11 => ⟨S512, .f32⟩
  | 12 => ⟨S512, .f32⟩
  | 13 => ⟨S256x1024, .f32⟩
  | 14 => ⟨S256, .f32⟩
  | 15 => ⟨S256, .f32⟩
  | 16 => ⟨S1024x768, .f32⟩
  | 17 => ⟨S1024, .f32⟩
  | 18 => ⟨S1024, .f32⟩
  | 19 => ⟨S2048x256, .f32⟩
  | 20 => ⟨S256x40, .f32⟩
  | 21 => ⟨S40, .f32⟩
  | 22 => ⟨S32x1024, .f32⟩
  | 23 => ⟨S_, .f32⟩
  | 24 => ⟨S1024, .f32⟩
  | 25 => ⟨S1x1024, .f32⟩
  | 26 => ⟨S_, .f32⟩
  | 27 => ⟨S1x1024, .f32⟩
  | 28 => ⟨S1x1024, .f32⟩
  | 29 => ⟨S_, .i32⟩
  | 30 => ⟨S_, .f32⟩
  | 31 => ⟨S1024, .f32⟩
  | 32 => ⟨S1x1024, .f32⟩
  | 33 => ⟨S_, .f32⟩
  | 34 => ⟨S1x1024, .f32⟩
  | 35 => ⟨S1x1024, .f32⟩
  | 36 => ⟨S32x1024, .f32⟩
  | 37 => ⟨S32x1024, .f32⟩
  | 38 => ⟨S32x1024, .f32⟩
  | 39 => ⟨S_, .f32⟩
  | 40 => ⟨S_, .f32⟩
  | 41 => ⟨S_, .f32⟩
  | 42 => ⟨S_, .f32⟩
  | 43 => ⟨S1024, .f32⟩
  | 44 => ⟨S1x1024, .f32⟩
  | 45 => ⟨S1x1024, .f32⟩
  | 46 => ⟨S1x1024, .f32⟩
  | 47 => ⟨S_, .f32⟩
  | 48 => ⟨S_, .i1⟩
  | 49 => ⟨S_, .f32⟩
  | 50 => ⟨S_, .f32⟩
  | 51 => ⟨S1x1024, .f32⟩
  | 52 => ⟨S1x1024, .f32⟩
  | 53 => ⟨S1x1024, .f32⟩
  | 54 => ⟨S32x1024, .f32⟩
  | 55 => ⟨S32x1024, .f32⟩
  | 56 => ⟨S32x1024, .f32⟩
  | 57 => ⟨S32x1024, .f32⟩
  | 58 => ⟨S_, .f32⟩
  | 59 => ⟨S1x1024, .f32⟩
  | 60 => ⟨S1x1024, .f32⟩
  | 61 => ⟨S1x1024, .f32⟩
  | 62 => ⟨S32x1024, .f32⟩
  | 63 => ⟨S32x1024, .f32⟩
  | 64 => ⟨S1x1024, .f32⟩
  | 65 => ⟨S32x1024, .f32⟩
  | 66 => ⟨S32x1024, .f32⟩
  | 67 => ⟨S_, .f32⟩
  | 68 => ⟨S_, .f32⟩
  | 69 => ⟨S32x1024, .f32⟩
  | 70 => ⟨S32x1024, .i1⟩
  | 71 => ⟨S_, .f32⟩
  | 72 => ⟨S32x1024, .f32⟩
  | 73 => ⟨S32x1024, .f32⟩
  | 74 => ⟨S32x1024, .f32⟩
  | 75 => ⟨S32x1024, .f32⟩
  | 76 => ⟨S1x1024, .f32⟩
  | 77 => ⟨S32x1024, .f32⟩
  | 78 => ⟨S32x1024, .f32⟩
  | 79 => ⟨S_, .f32⟩
  | 80 => ⟨S1024, .f32⟩
  | 81 => ⟨S1x1024, .f32⟩
  | 82 => ⟨S_, .f32⟩
  | 83 => ⟨S1x1024, .f32⟩
  | 84 => ⟨S1x1024, .f32⟩
  | 85 => ⟨S_, .i32⟩
  | 86 => ⟨S_, .f32⟩
  | 87 => ⟨S1024, .f32⟩
  | 88 => ⟨S1x1024, .f32⟩
  | 89 => ⟨S_, .f32⟩
  | 90 => ⟨S1x1024, .f32⟩
  | 91 => ⟨S1x1024, .f32⟩
  | 92 => ⟨S32x1024, .f32⟩
  | 93 => ⟨S32x1024, .f32⟩
  | 94 => ⟨S32x1024, .f32⟩
  | 95 => ⟨S_, .f32⟩
  | 96 => ⟨S_, .f32⟩
  | 97 => ⟨S_, .f32⟩
  | 98 => ⟨S_, .f32⟩
  | 99 => ⟨S1024, .f32⟩
  | 100 => ⟨S1x1024, .f32⟩
  | 101 => ⟨S1x1024, .f32⟩
  | 102 => ⟨S1x1024, .f32⟩
  | 103 => ⟨S_, .f32⟩
  | 104 => ⟨S_, .i1⟩
  | 105 => ⟨S_, .f32⟩
  | 106 => ⟨S_, .f32⟩
  | 107 => ⟨S1x1024, .f32⟩
  | 108 => ⟨S1x1024, .f32⟩
  | 109 => ⟨S1x1024, .f32⟩
  | 110 => ⟨S32x1024, .f32⟩
  | 111 => ⟨S32x1024, .f32⟩
  | 112 => ⟨S32x1024, .f32⟩
  | 113 => ⟨S32x1024, .f32⟩
  | 114 => ⟨S_, .f32⟩
  | 115 => ⟨S1x1024, .f32⟩
  | 116 => ⟨S1x1024, .f32⟩
  | 117 => ⟨S1x1024, .f32⟩
  | 118 => ⟨S32x1024, .f32⟩
  | 119 => ⟨S32x1024, .f32⟩
  | 120 => ⟨S1x1024, .f32⟩
  | 121 => ⟨S32x1024, .f32⟩
  | 122 => ⟨S32x1024, .f32⟩
  | 123 => ⟨S_, .f32⟩
  | 124 => ⟨S_, .f32⟩
  | 125 => ⟨S32x1024, .f32⟩
  | 126 => ⟨S32x1024, .i1⟩
  | 127 => ⟨S_, .f32⟩
  | _ => ⟨S32x2048, .f32⟩

abbrev hbmTy0_1 (i : Nat) : BufTy := match i % 128 with
  | 0 => ⟨S32x1024, .f32⟩
  | 1 => ⟨S32x1024, .f32⟩
  | 2 => ⟨S32x1024, .f32⟩
  | 3 => ⟨S32x32, .f32⟩
  | 4 => ⟨S1x32, .f32⟩
  | 5 => ⟨S32x32, .f32⟩
  | 6 => ⟨S32x32, .f32⟩
  | 7 => ⟨S1x32x32, .f32⟩
  | 8 => ⟨S1x32x32, .f32⟩
  | 9 => ⟨S1x32x32, .f32⟩
  | 10 => ⟨S32x32, .f32⟩
  | 11 => ⟨S32x32, .f32⟩
  | 12 => ⟨S32x32, .f32⟩
  | 13 => ⟨S1x32x32, .f32⟩
  | 14 => ⟨S_, .f32⟩
  | 15 => ⟨S1x32x32, .f32⟩
  | 16 => ⟨S1x32x32, .f32⟩
  | 17 => ⟨S1x32x32, .f32⟩
  | 18 => ⟨S_, .f32⟩
  | 19 => ⟨S1x32, .f32⟩
  | 20 => ⟨S1x1x32, .f32⟩
  | 21 => ⟨S1x1x32, .f32⟩
  | 22 => ⟨S1x32x32, .f32⟩
  | 23 => ⟨S1x32x32, .f32⟩
  | 24 => ⟨S1x32x1, .f32⟩
  | 25 => ⟨S1x32x32, .f32⟩
  | 26 => ⟨S1x32x32, .f32⟩
  | 27 => ⟨S_, .f32⟩
  | 28 => ⟨S1x1x32, .f32⟩
  | 29 => ⟨S1x1x32, .i1⟩
  | 30 => ⟨S_, .f32⟩
  | 31 => ⟨S1x1x32, .f32⟩
  | 32 => ⟨S_, .f32⟩
  | 33 => ⟨S1x1x32, .f32⟩
  | 34 => ⟨S1x1x32, .f32⟩
  | 35 => ⟨S1x32x32, .f32⟩
  | 36 => ⟨S1x32x32, .f32⟩
  | 37 => ⟨S1x32x8, .f32⟩
  | 38 => ⟨S1x32x8, .i32⟩
  | 39 => ⟨S1x32x32, .f32⟩
  | 40 => ⟨S32x32, .f32⟩
  | 41 => ⟨S1, .i32⟩
  | 42 => ⟨S_, .i32⟩
  | 43 => ⟨S1, .i32⟩
  | 44 => ⟨S1, .i32⟩
  | 45 => ⟨S1x1x1, .i32⟩
  | 46 => ⟨S1x32x8, .i32⟩
  | 47 => ⟨S1x32x8, .i32⟩
  | 48 => ⟨S256, .i32⟩
  | 49 => ⟨S_, .i32⟩
  | 50 => ⟨S256, .i32⟩
  | 51 => ⟨S256, .i1⟩
  | 52 => ⟨S_, .i32⟩
  | 53 => ⟨S256, .i32⟩
  | 54 => ⟨S256, .i32⟩
  | 55 => ⟨S256, .i32⟩
  | 56 => ⟨S256x1, .i32⟩
  | 57 => ⟨S256x32, .f32⟩
  | 58 => ⟨S1x32x8x32, .f32⟩
  | 59 => ⟨S1x32x1x32, .f32⟩
  | 60 => ⟨S1x32x8x32, .f32⟩
  | 61 => ⟨S1x32x8x32, .f32⟩
  | 62 => ⟨S1x32x8x64, .f32⟩
  | 63 => ⟨S1x64x32x8, .f32⟩
  | 64 => ⟨S1x32x8x512, .f32⟩
  | 65 => ⟨S1x512x32x8, .f32⟩
  | 66 => ⟨S_, .f32⟩
  | 67 => ⟨S512, .f32⟩
  | 68 => ⟨S1x512x1x1, .f32⟩
  | 69 => ⟨S_, .f32⟩
  | 70 => ⟨S1x512x1x1, .f32⟩
  | 71 => ⟨S1x512x1x1, .f32⟩
  | 72 => ⟨S_, .i32⟩
  | 73 => ⟨S_, .f32⟩
  | 74 => ⟨S512, .f32⟩
  | 75 => ⟨S1x512x1x1, .f32⟩
  | 76 => ⟨S_, .f32⟩
  | 77 => ⟨S1x512x1x1, .f32⟩
  | 78 => ⟨S1x512x1x1, .f32⟩
  | 79 => ⟨S1x512x32x8, .f32⟩
  | 80 => ⟨S1x512x32x8, .f32⟩
  | 81 => ⟨S1x512x32x8, .f32⟩
  | 82 => ⟨S_, .f32⟩
  | 83 => ⟨S_, .f32⟩
  | 84 => ⟨S_, .f32⟩
  | 85 => ⟨S_, .f32⟩
  | 86 => ⟨S512, .f32⟩
  | 87 => ⟨S1x512x1x1, .f32⟩
  | 88 => ⟨S1x512x1x1, .f32⟩
  | 89 => ⟨S1x512x1x1, .f32⟩
  | 90 => ⟨S_, .f32⟩
  | 91 => ⟨S_, .i1⟩
  | 92 => ⟨S_, .f32⟩
  | 93 => ⟨S_, .f32⟩
  | 94 => ⟨S1x512x1x1, .f32⟩
  | 95 => ⟨S1x512x1x1, .f32⟩
  | 96 => ⟨S1x512x1x1, .f32⟩
  | 97 => ⟨S1x512x32x8, .f32⟩
  | 98 => ⟨S1x512x32x8, .f32⟩
  | 99 => ⟨S1x512x32x8, .f32⟩
  | 100 => ⟨S1x512x32x8, .f32⟩
  | 101 => ⟨S_, .f32⟩
  | 102 => ⟨S1x512x1x1, .f32⟩
  | 103 => ⟨S1x512x1x1, .f32⟩
  | 104 => ⟨S1x512x1x1, .f32⟩
  | 105 => ⟨S1x512x32x8, .f32⟩
  | 106 => ⟨S1x512x32x8, .f32⟩
  | 107 => ⟨S1x512x1x1, .f32⟩
  | 108 => ⟨S1x512x32x8, .f32⟩
  | 109 => ⟨S1x512x32x8, .f32⟩
  | 110 => ⟨S_, .f32⟩
  | 111 => ⟨S_, .f32⟩
  | 112 => ⟨S1x512x32x8, .f32⟩
  | 113 => ⟨S1x512x32x8, .i1⟩
  | 114 => ⟨S_, .f32⟩
  | 115 => ⟨S1x512x32x8, .f32⟩
  | 116 => ⟨S1x512x32x8, .f32⟩
  | 117 => ⟨S1x512x32x8, .f32⟩
  | 118 => ⟨S_, .f32⟩
  | 119 => ⟨S1x512x32, .f32⟩
  | 120 => ⟨S1x32x512, .f32⟩
  | 121 => ⟨S32x512, .f32⟩
  | 122 => ⟨S512x32, .f32⟩
  | 123 => ⟨S32x32, .f32⟩
  | 124 => ⟨S1x32x32, .f32⟩
  | 125 => ⟨S_, .f32⟩
  | 126 => ⟨S1x32x32, .f32⟩
  | 127 => ⟨S1x32x32, .f32⟩
  | _ => ⟨S32x2048, .f32⟩

abbrev hbmTy0_2 (i : Nat) : BufTy := match i % 128 with
  | 0 => ⟨S1x512x32, .f32⟩
  | 1 => ⟨S_, .f32⟩
  | 2 => ⟨S1x32, .f32⟩
  | 3 => ⟨S1x1x32, .f32⟩
  | 4 => ⟨S1x1x32, .f32⟩
  | 5 => ⟨S1x32x32, .f32⟩
  | 6 => ⟨S1x32x32, .f32⟩
  | 7 => ⟨S1x32x1, .f32⟩
  | 8 => ⟨S1x32x32, .f32⟩
  | 9 => ⟨S1x32x32, .f32⟩
  | 10 => ⟨S_, .f32⟩
  | 11 => ⟨S1x1x32, .f32⟩
  | 12 => ⟨S1x1x32, .i1⟩
  | 13 => ⟨S_, .f32⟩
  | 14 => ⟨S1x1x32, .f32⟩
  | 15 => ⟨S_, .f32⟩
  | 16 => ⟨S1x1x32, .f32⟩
  | 17 => ⟨S1x1x32, .f32⟩
  | 18 => ⟨S1x32x32, .f32⟩
  | 19 => ⟨S1x32x32, .f32⟩
  | 20 => ⟨S1x32x8, .f32⟩
  | 21 => ⟨S1x32x8, .i32⟩
  | 22 => ⟨S1x32x512, .f32⟩
  | 23 => ⟨S32x512, .f32⟩
  | 24 => ⟨S1, .i32⟩
  | 25 => ⟨S_, .i32⟩
  | 26 => ⟨S1, .i32⟩
  | 27 => ⟨S1, .i32⟩
  | 28 => ⟨S1x1x1, .i32⟩
  | 29 => ⟨S1x32x8, .i32⟩
  | 30 => ⟨S1x32x8, .i32⟩
  | 31 => ⟨S256, .i32⟩
  | 32 => ⟨S_, .i32⟩
  | 33 => ⟨S256, .i32⟩
  | 34 => ⟨S256, .i1⟩
  | 35 => ⟨S_, .i32⟩
  | 36 => ⟨S256, .i32⟩
  | 37 => ⟨S256, .i32⟩
  | 38 => ⟨S256, .i32⟩
  | 39 => ⟨S256x1, .i32⟩
  | 40 => ⟨S256x512, .f32⟩
  | 41 => ⟨S1x32x8x512, .f32⟩
  | 42 => ⟨S1x32x1x512, .f32⟩
  | 43 => ⟨S1x32x8x512, .f32⟩
  | 44 => ⟨S1x32x8x512, .f32⟩
  | 45 => ⟨S1x32x8x1024, .f32⟩
  | 46 => ⟨S1x1024x32x8, .f32⟩
  | 47 => ⟨S1x32x8x256, .f32⟩
  | 48 => ⟨S1x256x32x8, .f32⟩
  | 49 => ⟨S_, .f32⟩
  | 50 => ⟨S256, .f32⟩
  | 51 => ⟨S1x256x1x1, .f32⟩
  | 52 => ⟨S_, .f32⟩
  | 53 => ⟨S1x256x1x1, .f32⟩
  | 54 => ⟨S1x256x1x1, .f32⟩
  | 55 => ⟨S_, .i32⟩
  | 56 => ⟨S_, .f32⟩
  | 57 => ⟨S256, .f32⟩
  | 58 => ⟨S1x256x1x1, .f32⟩
  | 59 => ⟨S_, .f32⟩
  | 60 => ⟨S1x256x1x1, .f32⟩
  | 61 => ⟨S1x256x1x1, .f32⟩
  | 62 => ⟨S1x256x32x8, .f32⟩
  | 63 => ⟨S1x256x32x8, .f32⟩
  | 64 => ⟨S1x256x32x8, .f32⟩
  | 65 => ⟨S_, .f32⟩
  | 66 => ⟨S_, .f32⟩
  | 67 => ⟨S_, .f32⟩
  | 68 => ⟨S_, .f32⟩
  | 69 => ⟨S256, .f32⟩
  | 70 => ⟨S1x256x1x1, .f32⟩
  | 71 => ⟨S1x256x1x1, .f32⟩
  | 72 => ⟨S1x256x1x1, .f32⟩
  | 73 => ⟨S_, .f32⟩
  | 74 => ⟨S_, .i1⟩
  | 75 => ⟨S_, .f32⟩
  | 76 => ⟨S_, .f32⟩
  | 77 => ⟨S1x256x1x1, .f32⟩
  | 78 => ⟨S1x256x1x1, .f32⟩
  | 79 => ⟨S1x256x1x1, .f32⟩
  | 80 => ⟨S1x256x32x8, .f32⟩
  | 81 => ⟨S1x256x32x8, .f32⟩
  | 82 => ⟨S1x256x32x8, .f32⟩
  | 83 => ⟨S1x256x32x8, .f32⟩
  | 84 => ⟨S_, .f32⟩
  | 85 => ⟨S1x256x1x1, .f32⟩
  | 86 => ⟨S1x256x1x1, .f32⟩
  | 87 => ⟨S1x256x1x1, .f32⟩
  | 88 => ⟨S1x256x32x8, .f32⟩
  | 89 => ⟨S1x256x32x8, .f32⟩
  | 90 => ⟨S1x256x1x1, .f32⟩
  | 91 => ⟨S1x256x32x8, .f32⟩
  | 92 => ⟨S1x256x32x8, .f32⟩
  | 93 => ⟨S_, .f32⟩
  | 94 => ⟨S_, .f32⟩
  | 95 => ⟨S1x256x32x8, .f32⟩
  | 96 => ⟨S1x256x32x8, .i1⟩
  | 97 => ⟨S_, .f32⟩
  | 98 => ⟨S1x256x32x8, .f32⟩
  | 99 => ⟨S1x256x32x8, .f32⟩
  | 100 => ⟨S1x256x32x8, .f32⟩
  | 101 => ⟨S_, .f32⟩
  | 102 => ⟨S1x256x32, .f32⟩
  | 103 => ⟨S1x768x32, .f32⟩
  | 104 => ⟨S1x32x1024, .f32⟩
  | 105 => ⟨S1x1024x32, .f32⟩
  | 106 => ⟨S_, .f32⟩
  | 107 => ⟨S1024, .f32⟩
  | 108 => ⟨S1x1024x1, .f32⟩
  | 109 => ⟨S_, .f32⟩
  | 110 => ⟨S1x1024x1, .f32⟩
  | 111 => ⟨S1x1024x1, .f32⟩
  | 112 => ⟨S_, .i32⟩
  | 113 => ⟨S_, .f32⟩
  | 114 => ⟨S1024, .f32⟩
  | 115 => ⟨S1x1024x1, .f32⟩
  | 116 => ⟨S_, .f32⟩
  | 117 => ⟨S1x1024x1, .f32⟩
  | 118 => ⟨S1x1024x1, .f32⟩
  | 119 => ⟨S1x1024x32, .f32⟩
  | 120 => ⟨S1x1024x32, .f32⟩
  | 121 => ⟨S1x1024x32, .f32⟩
  | 122 => ⟨S_, .f32⟩
  | 123 => ⟨S_, .f32⟩
  | 124 => ⟨S_, .f32⟩
  | 125 => ⟨S_, .f32⟩
  | 126 => ⟨S1024, .f32⟩
  | 127 => ⟨S1x1024x1, .f32⟩
  | _ => ⟨S32x2048, .f32⟩

abbrev hbmTy0_3 (i : Nat) : BufTy := match i % 128 with
  | 0 => ⟨S1x1024x1, .f32⟩
  | 1 => ⟨S1x1024x1, .f32⟩
  | 2 => ⟨S_, .f32⟩
  | 3 => ⟨S_, .i1⟩
  | 4 => ⟨S_, .f32⟩
  | 5 => ⟨S_, .f32⟩
  | 6 => ⟨S1x1024x1, .f32⟩
  | 7 => ⟨S1x1024x1, .f32⟩
  | 8 => ⟨S1x1024x1, .f32⟩
  | 9 => ⟨S1x1024x32, .f32⟩
  | 10 => ⟨S1x1024x32, .f32⟩
  | 11 => ⟨S1x1024x32, .f32⟩
  | 12 => ⟨S1x1024x32, .f32⟩
  | 13 => ⟨S_, .f32⟩
  | 14 => ⟨S1x1024x1, .f32⟩
  | 15 => ⟨S1x1024x1, .f32⟩
  | 16 => ⟨S1x1024x1, .f32⟩
  | 17 => ⟨S1x1024x32, .f32⟩
  | 18 => ⟨S1x1024x32, .f32⟩
  | 19 => ⟨S1x1024x1, .f32⟩
  | 20 => ⟨S1x1024x32, .f32⟩
  | 21 => ⟨S1x1024x32, .f32⟩
  | 22 => ⟨S_, .f32⟩
  | 23 => ⟨S_, .f32⟩
  | 24 => ⟨S1x1024x32, .f32⟩
  | 25 => ⟨S1x1024x32, .i1⟩
  | 26 => ⟨S_, .f32⟩
  | 27 => ⟨S1x1024x32, .f32⟩
  | 28 => ⟨S1x1024x32, .f32⟩
  | 29 => ⟨S1x1024x32, .f32⟩
  | 30 => ⟨S_, .f32⟩
  | 31 => ⟨S1x1024, .f32⟩
  | 32 => ⟨S_, .f32⟩
  | 33 => ⟨S1x1024, .f32⟩
  | 34 => ⟨S_, .f32⟩
  | 35 => ⟨S1x1024, .f32⟩
  | 36 => ⟨S1x1024, .f32⟩
  | 37 => ⟨S1x2048, .f32⟩
  | 38 => ⟨S1x256, .f32⟩
  | 39 => ⟨S_, .f32⟩
  | 40 => ⟨S_, .f32⟩
  | 41 => ⟨S1x256, .f32⟩
  | 42 => ⟨S1x256, .i1⟩
  | 43 => ⟨S_, .f32⟩
  | 44 => ⟨S1x256, .f32⟩
  | 45 => ⟨S1x256, .f32⟩
  | 46 => ⟨S1x256, .f32⟩
  | 47 => ⟨S1x40, .f32⟩
  | 48 => ⟨S1x40, .f32⟩
  | 49 => ⟨S1x40, .f32⟩
  | _ => ⟨S32x2048, .f32⟩

abbrev hbmTy (i : Nat) : BufTy := match i / 128 with
  | 0 => hbmTy0_0 i
  | 1 => hbmTy0_1 i
  | 2 => hbmTy0_2 i
  | 3 => hbmTy0_3 i
  | _ => ⟨S32x2048, .f32⟩

abbrev bufTy : (tb : Table) → Fin (tcTables nBuf tb) → BufTy
  | .hbm, ⟨i, _⟩ => hbmTy i
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_cst : Ref sig .tc := ⟨.hbm, 23, rfl⟩
abbrev main_v1 : Ref sig .tc := ⟨.hbm, 24, rfl⟩
abbrev main_v2 : Ref sig .tc := ⟨.hbm, 25, rfl⟩
abbrev main_cst_0 : Ref sig .tc := ⟨.hbm, 26, rfl⟩
abbrev main_v3 : Ref sig .tc := ⟨.hbm, 27, rfl⟩
abbrev main_v4 : Ref sig .tc := ⟨.hbm, 28, rfl⟩
abbrev main_c : Ref sig .tc := ⟨.hbm, 29, rfl⟩
abbrev main_call0_cst : Ref sig .tc := ⟨.hbm, 30, rfl⟩
abbrev main_call0_v0 : Ref sig .tc := ⟨.hbm, 31, rfl⟩
abbrev main_call0_v1 : Ref sig .tc := ⟨.hbm, 32, rfl⟩
abbrev main_call0_cst_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_cst_1 : Ref sig .tc := ⟨.hbm, 40, rfl⟩
abbrev main_call0_v8 : Ref sig .tc := ⟨.hbm, 41, rfl⟩
abbrev main_call0_cst_2 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_v12 : Ref sig .tc := ⟨.hbm, 46, rfl⟩
abbrev main_call0_cst_3 : Ref sig .tc := ⟨.hbm, 47, rfl⟩
abbrev main_call0_v13 : Ref sig .tc := ⟨.hbm, 48, rfl⟩
abbrev main_call0_cst_4 : Ref sig .tc := ⟨.hbm, 49, rfl⟩
abbrev main_call0_call0_v0 : Ref sig .tc := ⟨.hbm, 50, rfl⟩
abbrev main_call0_call0_v1 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_cst_1 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_cst_2 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_cst_3 : Ref sig .tc := ⟨.hbm, 79, rfl⟩
abbrev main_v24 : Ref sig .tc := ⟨.hbm, 80, rfl⟩
abbrev main_v25 : Ref sig .tc := ⟨.hbm, 81, rfl⟩
abbrev main_cst_4 : Ref sig .tc := ⟨.hbm, 82, rfl⟩
abbrev main_v26 : Ref sig .tc := ⟨.hbm, 83, rfl⟩
abbrev main_v27 : Ref sig .tc := ⟨.hbm, 84, rfl⟩
abbrev main_c_5 : Ref sig .tc := ⟨.hbm, 85, rfl⟩
abbrev main_call2_cst : Ref sig .tc := ⟨.hbm, 86, rfl⟩
abbrev main_call2_v0 : Ref sig .tc := ⟨.hbm, 87, rfl⟩
abbrev main_call2_v1 : Ref sig .tc := ⟨.hbm, 88, rfl⟩
abbrev main_call2_cst_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_v6 : Ref sig .tc := ⟨.hbm, 94, rfl⟩
abbrev main_call2_v7 : Ref sig .tc := ⟨.hbm, 95, rfl⟩
abbrev main_call2_cst_1 : Ref sig .tc := ⟨.hbm, 96, rfl⟩
abbrev main_call2_v8 : Ref sig .tc := ⟨.hbm, 97, rfl⟩
abbrev main_call2_cst_2 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_v12 : Ref sig .tc := ⟨.hbm, 102, rfl⟩
abbrev main_call2_cst_3 : Ref sig .tc := ⟨.hbm, 103, rfl⟩
abbrev main_call2_v13 : Ref sig .tc := ⟨.hbm, 104, rfl⟩
abbrev main_call2_cst_4 : Ref sig .tc := ⟨.hbm, 105, rfl⟩
abbrev main_call2_call0_v0 : Ref sig .tc := ⟨.hbm, 106, rfl⟩
abbrev main_call2_call0_v1 : Ref sig .tc := ⟨.hbm, 107, rfl⟩
abbrev main_v28 : Ref sig .tc := ⟨.hbm, 108, rfl⟩
abbrev main_v29 : Ref sig .tc := ⟨.hbm, 109, rfl⟩
abbrev main_v30 : Ref sig .tc := ⟨.hbm, 110, rfl⟩
abbrev main_v31 : Ref sig .tc := ⟨.hbm, 111, rfl⟩
abbrev main_v32 : Ref sig .tc := ⟨.hbm, 112, rfl⟩
abbrev main_v33 : Ref sig .tc := ⟨.hbm, 113, rfl⟩
abbrev main_cst_6 : Ref sig .tc := ⟨.hbm, 114, rfl⟩
abbrev main_v34 : Ref sig .tc := ⟨.hbm, 115, rfl⟩
abbrev main_v35 : Ref sig .tc := ⟨.hbm, 116, rfl⟩
abbrev main_v36 : Ref sig .tc := ⟨.hbm, 117, rfl⟩
abbrev main_v37 : Ref sig .tc := ⟨.hbm, 118, rfl⟩
abbrev main_v38 : Ref sig .tc := ⟨.hbm, 119, rfl⟩
abbrev main_v39 : Ref sig .tc := ⟨.hbm, 120, rfl⟩
abbrev main_v40 : Ref sig .tc := ⟨.hbm, 121, rfl⟩
abbrev main_v41 : Ref sig .tc := ⟨.hbm, 122, rfl⟩
abbrev main_cst_7 : Ref sig .tc := ⟨.hbm, 123, rfl⟩
abbrev main_call3_cst : Ref sig .tc := ⟨.hbm, 124, rfl⟩
abbrev main_call3_v0 : Ref sig .tc := ⟨.hbm, 125, rfl⟩
abbrev main_call3_v1 : Ref sig .tc := ⟨.hbm, 126, rfl⟩
abbrev main_call3_v2 : Ref sig .tc := ⟨.hbm, 127, rfl⟩
abbrev main_call3_v3 : Ref sig .tc := ⟨.hbm, 128, rfl⟩
abbrev main_call3_v4 : Ref sig .tc := ⟨.hbm, 129, rfl⟩
abbrev main_v42 : Ref sig .tc := ⟨.hbm, 130, rfl⟩
abbrev main_v43 : Ref sig .tc := ⟨.hbm, 131, rfl⟩
abbrev main_v44 : Ref sig .tc := ⟨.hbm, 132, rfl⟩
abbrev main_v45 : Ref sig .tc := ⟨.hbm, 133, rfl⟩
abbrev main_v46 : Ref sig .tc := ⟨.hbm, 134, rfl⟩
abbrev main_v47 : Ref sig .tc := ⟨.hbm, 135, rfl⟩
abbrev main_v48 : Ref sig .tc := ⟨.hbm, 136, rfl⟩
abbrev main_v49 : Ref sig .tc := ⟨.hbm, 137, rfl⟩
abbrev main_v50 : Ref sig .tc := ⟨.hbm, 138, rfl⟩
abbrev main_v51 : Ref sig .tc := ⟨.hbm, 139, rfl⟩
abbrev main_v52 : Ref sig .tc := ⟨.hbm, 140, rfl⟩
abbrev main_v53 : Ref sig .tc := ⟨.hbm, 141, rfl⟩
abbrev main_cst_8 : Ref sig .tc := ⟨.hbm, 142, rfl⟩
abbrev main_v54 : Ref sig .tc := ⟨.hbm, 143, rfl⟩
abbrev main_v55 : Ref sig .tc := ⟨.hbm, 144, rfl⟩
abbrev main_v56 : Ref sig .tc := ⟨.hbm, 145, rfl⟩
abbrev main_cst_9 : Ref sig .tc := ⟨.hbm, 146, rfl⟩
abbrev main_v57 : Ref sig .tc := ⟨.hbm, 147, rfl⟩
abbrev main_v58 : Ref sig .tc := ⟨.hbm, 148, rfl⟩
abbrev main_v59 : Ref sig .tc := ⟨.hbm, 149, rfl⟩
abbrev main_v60 : Ref sig .tc := ⟨.hbm, 150, rfl⟩
abbrev main_v61 : Ref sig .tc := ⟨.hbm, 151, rfl⟩
abbrev main_v62 : Ref sig .tc := ⟨.hbm, 152, rfl⟩
abbrev main_v63 : Ref sig .tc := ⟨.hbm, 153, rfl⟩
abbrev main_v64 : Ref sig .tc := ⟨.hbm, 154, rfl⟩
abbrev main_cst_10 : Ref sig .tc := ⟨.hbm, 155, rfl⟩
abbrev main_v65 : Ref sig .tc := ⟨.hbm, 156, rfl⟩
abbrev main_v66 : Ref sig .tc := ⟨.hbm, 157, rfl⟩
abbrev main_cst_11 : Ref sig .tc := ⟨.hbm, 158, rfl⟩
abbrev main_v67 : Ref sig .tc := ⟨.hbm, 159, rfl⟩
abbrev main_cst_12 : Ref sig .tc := ⟨.hbm, 160, rfl⟩
abbrev main_v68 : Ref sig .tc := ⟨.hbm, 161, rfl⟩
abbrev main_v69 : Ref sig .tc := ⟨.hbm, 162, rfl⟩
abbrev main_v70 : Ref sig .tc := ⟨.hbm, 163, rfl⟩
abbrev main_v71 : Ref sig .tc := ⟨.hbm, 164, rfl⟩
abbrev main_values : Ref sig .tc := ⟨.hbm, 165, rfl⟩
abbrev main_indices : Ref sig .tc := ⟨.hbm, 166, rfl⟩
abbrev main_v72 : Ref sig .tc := ⟨.hbm, 167, rfl⟩
abbrev main_v73 : Ref sig .tc := ⟨.hbm, 168, rfl⟩
abbrev main_v74 : Ref sig .tc := ⟨.hbm, 169, rfl⟩
abbrev main_c_13 : Ref sig .tc := ⟨.hbm, 170, rfl⟩
abbrev main_v75 : Ref sig .tc := ⟨.hbm, 171, rfl⟩
abbrev main_v76 : Ref sig .tc := ⟨.hbm, 172, rfl⟩
abbrev main_v77 : Ref sig .tc := ⟨.hbm, 173, rfl⟩
abbrev main_v78 : Ref sig .tc := ⟨.hbm, 174, rfl⟩
abbrev main_v79 : Ref sig .tc := ⟨.hbm, 175, rfl⟩
abbrev main_v80 : Ref sig .tc := ⟨.hbm, 176, rfl⟩
abbrev main_c_14 : Ref sig .tc := ⟨.hbm, 177, rfl⟩
abbrev main_v81 : Ref sig .tc := ⟨.hbm, 178, rfl⟩
abbrev main_v82 : Ref sig .tc := ⟨.hbm, 179, rfl⟩
abbrev main_c_15 : Ref sig .tc := ⟨.hbm, 180, rfl⟩
abbrev main_v83 : Ref sig .tc := ⟨.hbm, 181, rfl⟩
abbrev main_v84 : Ref sig .tc := ⟨.hbm, 182, rfl⟩
abbrev main_v85 : Ref sig .tc := ⟨.hbm, 183, rfl⟩
abbrev main_v86 : Ref sig .tc := ⟨.hbm, 184, rfl⟩
abbrev main_v87 : Ref sig .tc := ⟨.hbm, 185, rfl⟩
abbrev main_v88 : Ref sig .tc := ⟨.hbm, 186, rfl⟩
abbrev main_v89 : Ref sig .tc := ⟨.hbm, 187, rfl⟩
abbrev main_v90 : Ref sig .tc := ⟨.hbm, 188, rfl⟩
abbrev main_v91 : Ref sig .tc := ⟨.hbm, 189, rfl⟩
abbrev main_v92 : Ref sig .tc := ⟨.hbm, 190, rfl⟩
abbrev main_v93 : Ref sig .tc := ⟨.hbm, 191, rfl⟩
abbrev main_v94 : Ref sig .tc := ⟨.hbm, 192, rfl⟩
abbrev main_v95 : Ref sig .tc := ⟨.hbm, 193, rfl⟩
abbrev main_cst_16 : Ref sig .tc := ⟨.hbm, 194, rfl⟩
abbrev main_v96 : Ref sig .tc := ⟨.hbm, 195, rfl⟩
abbrev main_v97 : Ref sig .tc := ⟨.hbm, 196, rfl⟩
abbrev main_cst_17 : Ref sig .tc := ⟨.hbm, 197, rfl⟩
abbrev main_v98 : Ref sig .tc := ⟨.hbm, 198, rfl⟩
abbrev main_v99 : Ref sig .tc := ⟨.hbm, 199, rfl⟩
abbrev main_c_18 : Ref sig .tc := ⟨.hbm, 200, rfl⟩
abbrev main_call5_cst : Ref sig .tc := ⟨.hbm, 201, rfl⟩
abbrev main_call5_v0 : Ref sig .tc := ⟨.hbm, 202, rfl⟩
abbrev main_call5_v1 : Ref sig .tc := ⟨.hbm, 203, rfl⟩
abbrev main_call5_cst_0 : Ref sig .tc := ⟨.hbm, 204, rfl⟩
abbrev main_call5_v2 : Ref sig .tc := ⟨.hbm, 205, rfl⟩
abbrev main_call5_v3 : Ref sig .tc := ⟨.hbm, 206, rfl⟩
abbrev main_call5_v4 : Ref sig .tc := ⟨.hbm, 207, rfl⟩
abbrev main_call5_v5 : Ref sig .tc := ⟨.hbm, 208, rfl⟩
abbrev main_call5_v6 : Ref sig .tc := ⟨.hbm, 209, rfl⟩
abbrev main_call5_v7 : Ref sig .tc := ⟨.hbm, 210, rfl⟩
abbrev main_call5_cst_1 : Ref sig .tc := ⟨.hbm, 211, rfl⟩
abbrev main_call5_v8 : Ref sig .tc := ⟨.hbm, 212, rfl⟩
abbrev main_call5_cst_2 : Ref sig .tc := ⟨.hbm, 213, rfl⟩
abbrev main_call5_v9 : Ref sig .tc := ⟨.hbm, 214, rfl⟩
abbrev main_call5_v10 : Ref sig .tc := ⟨.hbm, 215, rfl⟩
abbrev main_call5_v11 : Ref sig .tc := ⟨.hbm, 216, rfl⟩
abbrev main_call5_v12 : Ref sig .tc := ⟨.hbm, 217, rfl⟩
abbrev main_call5_cst_3 : Ref sig .tc := ⟨.hbm, 218, rfl⟩
abbrev main_call5_v13 : Ref sig .tc := ⟨.hbm, 219, rfl⟩
abbrev main_call5_cst_4 : Ref sig .tc := ⟨.hbm, 220, rfl⟩
abbrev main_call5_call0_v0 : Ref sig .tc := ⟨.hbm, 221, rfl⟩
abbrev main_call5_call0_v1 : Ref sig .tc := ⟨.hbm, 222, rfl⟩
abbrev main_v100 : Ref sig .tc := ⟨.hbm, 223, rfl⟩
abbrev main_v101 : Ref sig .tc := ⟨.hbm, 224, rfl⟩
abbrev main_v102 : Ref sig .tc := ⟨.hbm, 225, rfl⟩
abbrev main_v103 : Ref sig .tc := ⟨.hbm, 226, rfl⟩
abbrev main_v104 : Ref sig .tc := ⟨.hbm, 227, rfl⟩
abbrev main_v105 : Ref sig .tc := ⟨.hbm, 228, rfl⟩
abbrev main_cst_19 : Ref sig .tc := ⟨.hbm, 229, rfl⟩
abbrev main_v106 : Ref sig .tc := ⟨.hbm, 230, rfl⟩
abbrev main_v107 : Ref sig .tc := ⟨.hbm, 231, rfl⟩
abbrev main_v108 : Ref sig .tc := ⟨.hbm, 232, rfl⟩
abbrev main_v109 : Ref sig .tc := ⟨.hbm, 233, rfl⟩
abbrev main_v110 : Ref sig .tc := ⟨.hbm, 234, rfl⟩
abbrev main_v111 : Ref sig .tc := ⟨.hbm, 235, rfl⟩
abbrev main_v112 : Ref sig .tc := ⟨.hbm, 236, rfl⟩
abbrev main_v113 : Ref sig .tc := ⟨.hbm, 237, rfl⟩
abbrev main_cst_20 : Ref sig .tc := ⟨.hbm, 238, rfl⟩
abbrev main_call6_cst : Ref sig .tc := ⟨.hbm, 239, rfl⟩
abbrev main_call6_v0 : Ref sig .tc := ⟨.hbm, 240, rfl⟩
abbrev main_call6_v1 : Ref sig .tc := ⟨.hbm, 241, rfl⟩
abbrev main_call6_v2 : Ref sig .tc := ⟨.hbm, 242, rfl⟩
abbrev main_call6_v3 : Ref sig .tc := ⟨.hbm, 243, rfl⟩
abbrev main_call6_v4 : Ref sig .tc := ⟨.hbm, 244, rfl⟩
abbrev main_v114 : Ref sig .tc := ⟨.hbm, 245, rfl⟩
abbrev main_cst_21 : Ref sig .tc := ⟨.hbm, 246, rfl⟩
abbrev main_v115 : Ref sig .tc := ⟨.hbm, 247, rfl⟩
abbrev main_v116 : Ref sig .tc := ⟨.hbm, 248, rfl⟩
abbrev main_v117 : Ref sig .tc := ⟨.hbm, 249, rfl⟩
abbrev main_v118 : Ref sig .tc := ⟨.hbm, 250, rfl⟩
abbrev main_v119 : Ref sig .tc := ⟨.hbm, 251, rfl⟩
abbrev main_v120 : Ref sig .tc := ⟨.hbm, 252, rfl⟩
abbrev main_cst_22 : Ref sig .tc := ⟨.hbm, 253, rfl⟩
abbrev main_v121 : Ref sig .tc := ⟨.hbm, 254, rfl⟩
abbrev main_v122 : Ref sig .tc := ⟨.hbm, 255, rfl⟩
abbrev main_v123 : Ref sig .tc := ⟨.hbm, 256, rfl⟩
abbrev main_cst_23 : Ref sig .tc := ⟨.hbm, 257, rfl⟩
abbrev main_v124 : Ref sig .tc := ⟨.hbm, 258, rfl⟩
abbrev main_v125 : Ref sig .tc := ⟨.hbm, 259, rfl⟩
abbrev main_v126 : Ref sig .tc := ⟨.hbm, 260, rfl⟩
abbrev main_v127 : Ref sig .tc := ⟨.hbm, 261, rfl⟩
abbrev main_v128 : Ref sig .tc := ⟨.hbm, 262, rfl⟩
abbrev main_v129 : Ref sig .tc := ⟨.hbm, 263, rfl⟩
abbrev main_v130 : Ref sig .tc := ⟨.hbm, 264, rfl⟩
abbrev main_v131 : Ref sig .tc := ⟨.hbm, 265, rfl⟩
abbrev main_cst_24 : Ref sig .tc := ⟨.hbm, 266, rfl⟩
abbrev main_v132 : Ref sig .tc := ⟨.hbm, 267, rfl⟩
abbrev main_v133 : Ref sig .tc := ⟨.hbm, 268, rfl⟩
abbrev main_cst_25 : Ref sig .tc := ⟨.hbm, 269, rfl⟩
abbrev main_v134 : Ref sig .tc := ⟨.hbm, 270, rfl⟩
abbrev main_cst_26 : Ref sig .tc := ⟨.hbm, 271, rfl⟩
abbrev main_v135 : Ref sig .tc := ⟨.hbm, 272, rfl⟩
abbrev main_v136 : Ref sig .tc := ⟨.hbm, 273, rfl⟩
abbrev main_v137 : Ref sig .tc := ⟨.hbm, 274, rfl⟩
abbrev main_v138 : Ref sig .tc := ⟨.hbm, 275, rfl⟩
abbrev main_values_27 : Ref sig .tc := ⟨.hbm, 276, rfl⟩
abbrev main_indices_28 : Ref sig .tc := ⟨.hbm, 277, rfl⟩
abbrev main_v139 : Ref sig .tc := ⟨.hbm, 278, rfl⟩
abbrev main_v140 : Ref sig .tc := ⟨.hbm, 279, rfl⟩
abbrev main_v141 : Ref sig .tc := ⟨.hbm, 280, rfl⟩
abbrev main_c_29 : Ref sig .tc := ⟨.hbm, 281, rfl⟩
abbrev main_v142 : Ref sig .tc := ⟨.hbm, 282, rfl⟩
abbrev main_v143 : Ref sig .tc := ⟨.hbm, 283, rfl⟩
abbrev main_v144 : Ref sig .tc := ⟨.hbm, 284, rfl⟩
abbrev main_v145 : Ref sig .tc := ⟨.hbm, 285, rfl⟩
abbrev main_v146 : Ref sig .tc := ⟨.hbm, 286, rfl⟩
abbrev main_v147 : Ref sig .tc := ⟨.hbm, 287, rfl⟩
abbrev main_c_30 : Ref sig .tc := ⟨.hbm, 288, rfl⟩
abbrev main_v148 : Ref sig .tc := ⟨.hbm, 289, rfl⟩
abbrev main_v149 : Ref sig .tc := ⟨.hbm, 290, rfl⟩
abbrev main_c_31 : Ref sig .tc := ⟨.hbm, 291, rfl⟩
abbrev main_v150 : Ref sig .tc := ⟨.hbm, 292, rfl⟩
abbrev main_v151 : Ref sig .tc := ⟨.hbm, 293, rfl⟩
abbrev main_v152 : Ref sig .tc := ⟨.hbm, 294, rfl⟩
abbrev main_v153 : Ref sig .tc := ⟨.hbm, 295, rfl⟩
abbrev main_v154 : Ref sig .tc := ⟨.hbm, 296, rfl⟩
abbrev main_v155 : Ref sig .tc := ⟨.hbm, 297, rfl⟩
abbrev main_v156 : Ref sig .tc := ⟨.hbm, 298, rfl⟩
abbrev main_v157 : Ref sig .tc := ⟨.hbm, 299, rfl⟩
abbrev main_v158 : Ref sig .tc := ⟨.hbm, 300, rfl⟩
abbrev main_v159 : Ref sig .tc := ⟨.hbm, 301, rfl⟩
abbrev main_v160 : Ref sig .tc := ⟨.hbm, 302, rfl⟩
abbrev main_v161 : Ref sig .tc := ⟨.hbm, 303, rfl⟩
abbrev main_v162 : Ref sig .tc := ⟨.hbm, 304, rfl⟩
abbrev main_cst_32 : Ref sig .tc := ⟨.hbm, 305, rfl⟩
abbrev main_v163 : Ref sig .tc := ⟨.hbm, 306, rfl⟩
abbrev main_v164 : Ref sig .tc := ⟨.hbm, 307, rfl⟩
abbrev main_cst_33 : Ref sig .tc := ⟨.hbm, 308, rfl⟩
abbrev main_v165 : Ref sig .tc := ⟨.hbm, 309, rfl⟩
abbrev main_v166 : Ref sig .tc := ⟨.hbm, 310, rfl⟩
abbrev main_c_34 : Ref sig .tc := ⟨.hbm, 311, rfl⟩
abbrev main_call8_cst : Ref sig .tc := ⟨.hbm, 312, rfl⟩
abbrev main_call8_v0 : Ref sig .tc := ⟨.hbm, 313, rfl⟩
abbrev main_call8_v1 : Ref sig .tc := ⟨.hbm, 314, rfl⟩
abbrev main_call8_cst_0 : Ref sig .tc := ⟨.hbm, 315, rfl⟩
abbrev main_call8_v2 : Ref sig .tc := ⟨.hbm, 316, rfl⟩
abbrev main_call8_v3 : Ref sig .tc := ⟨.hbm, 317, rfl⟩
abbrev main_call8_v4 : Ref sig .tc := ⟨.hbm, 318, rfl⟩
abbrev main_call8_v5 : Ref sig .tc := ⟨.hbm, 319, rfl⟩
abbrev main_call8_v6 : Ref sig .tc := ⟨.hbm, 320, rfl⟩
abbrev main_call8_v7 : Ref sig .tc := ⟨.hbm, 321, rfl⟩
abbrev main_call8_cst_1 : Ref sig .tc := ⟨.hbm, 322, rfl⟩
abbrev main_call8_v8 : Ref sig .tc := ⟨.hbm, 323, rfl⟩
abbrev main_call8_cst_2 : Ref sig .tc := ⟨.hbm, 324, rfl⟩
abbrev main_call8_v9 : Ref sig .tc := ⟨.hbm, 325, rfl⟩
abbrev main_call8_v10 : Ref sig .tc := ⟨.hbm, 326, rfl⟩
abbrev main_call8_v11 : Ref sig .tc := ⟨.hbm, 327, rfl⟩
abbrev main_call8_v12 : Ref sig .tc := ⟨.hbm, 328, rfl⟩
abbrev main_call8_cst_3 : Ref sig .tc := ⟨.hbm, 329, rfl⟩
abbrev main_call8_v13 : Ref sig .tc := ⟨.hbm, 330, rfl⟩
abbrev main_call8_cst_4 : Ref sig .tc := ⟨.hbm, 331, rfl⟩
abbrev main_call8_call0_v0 : Ref sig .tc := ⟨.hbm, 332, rfl⟩
abbrev main_call8_call0_v1 : Ref sig .tc := ⟨.hbm, 333, rfl⟩
abbrev main_v167 : Ref sig .tc := ⟨.hbm, 334, rfl⟩
abbrev main_v168 : Ref sig .tc := ⟨.hbm, 335, rfl⟩
abbrev main_v169 : Ref sig .tc := ⟨.hbm, 336, rfl⟩
abbrev main_v170 : Ref sig .tc := ⟨.hbm, 337, rfl⟩
abbrev main_v171 : Ref sig .tc := ⟨.hbm, 338, rfl⟩
abbrev main_v172 : Ref sig .tc := ⟨.hbm, 339, rfl⟩
abbrev main_cst_35 : Ref sig .tc := ⟨.hbm, 340, rfl⟩
abbrev main_v173 : Ref sig .tc := ⟨.hbm, 341, rfl⟩
abbrev main_v174 : Ref sig .tc := ⟨.hbm, 342, rfl⟩
abbrev main_v175 : Ref sig .tc := ⟨.hbm, 343, rfl⟩
abbrev main_v176 : Ref sig .tc := ⟨.hbm, 344, rfl⟩
abbrev main_v177 : Ref sig .tc := ⟨.hbm, 345, rfl⟩
abbrev main_v178 : Ref sig .tc := ⟨.hbm, 346, rfl⟩
abbrev main_v179 : Ref sig .tc := ⟨.hbm, 347, rfl⟩
abbrev main_v180 : Ref sig .tc := ⟨.hbm, 348, rfl⟩
abbrev main_cst_36 : Ref sig .tc := ⟨.hbm, 349, rfl⟩
abbrev main_call9_cst : Ref sig .tc := ⟨.hbm, 350, rfl⟩
abbrev main_call9_v0 : Ref sig .tc := ⟨.hbm, 351, rfl⟩
abbrev main_call9_v1 : Ref sig .tc := ⟨.hbm, 352, rfl⟩
abbrev main_call9_v2 : Ref sig .tc := ⟨.hbm, 353, rfl⟩
abbrev main_call9_v3 : Ref sig .tc := ⟨.hbm, 354, rfl⟩
abbrev main_call9_v4 : Ref sig .tc := ⟨.hbm, 355, rfl⟩
abbrev main_v181 : Ref sig .tc := ⟨.hbm, 356, rfl⟩
abbrev main_cst_37 : Ref sig .tc := ⟨.hbm, 357, rfl⟩
abbrev main_v182 : Ref sig .tc := ⟨.hbm, 358, rfl⟩
abbrev main_v183 : Ref sig .tc := ⟨.hbm, 359, rfl⟩
abbrev main_v184 : Ref sig .tc := ⟨.hbm, 360, rfl⟩
abbrev main_v185 : Ref sig .tc := ⟨.hbm, 361, rfl⟩
abbrev main_cst_38 : Ref sig .tc := ⟨.hbm, 362, rfl⟩
abbrev main_v186 : Ref sig .tc := ⟨.hbm, 363, rfl⟩
abbrev main_v187 : Ref sig .tc := ⟨.hbm, 364, rfl⟩
abbrev main_cst_39 : Ref sig .tc := ⟨.hbm, 365, rfl⟩
abbrev main_v188 : Ref sig .tc := ⟨.hbm, 366, rfl⟩
abbrev main_v189 : Ref sig .tc := ⟨.hbm, 367, rfl⟩
abbrev main_c_40 : Ref sig .tc := ⟨.hbm, 368, rfl⟩
abbrev main_call10_cst : Ref sig .tc := ⟨.hbm, 369, rfl⟩
abbrev main_call10_v0 : Ref sig .tc := ⟨.hbm, 370, rfl⟩
abbrev main_call10_v1 : Ref sig .tc := ⟨.hbm, 371, rfl⟩
abbrev main_call10_cst_0 : Ref sig .tc := ⟨.hbm, 372, rfl⟩
abbrev main_call10_v2 : Ref sig .tc := ⟨.hbm, 373, rfl⟩
abbrev main_call10_v3 : Ref sig .tc := ⟨.hbm, 374, rfl⟩
abbrev main_call10_v4 : Ref sig .tc := ⟨.hbm, 375, rfl⟩
abbrev main_call10_v5 : Ref sig .tc := ⟨.hbm, 376, rfl⟩
abbrev main_call10_v6 : Ref sig .tc := ⟨.hbm, 377, rfl⟩
abbrev main_call10_v7 : Ref sig .tc := ⟨.hbm, 378, rfl⟩
abbrev main_call10_cst_1 : Ref sig .tc := ⟨.hbm, 379, rfl⟩
abbrev main_call10_v8 : Ref sig .tc := ⟨.hbm, 380, rfl⟩
abbrev main_call10_cst_2 : Ref sig .tc := ⟨.hbm, 381, rfl⟩
abbrev main_call10_v9 : Ref sig .tc := ⟨.hbm, 382, rfl⟩
abbrev main_call10_v10 : Ref sig .tc := ⟨.hbm, 383, rfl⟩
abbrev main_call10_v11 : Ref sig .tc := ⟨.hbm, 384, rfl⟩
abbrev main_call10_v12 : Ref sig .tc := ⟨.hbm, 385, rfl⟩
abbrev main_call10_cst_3 : Ref sig .tc := ⟨.hbm, 386, rfl⟩
abbrev main_call10_v13 : Ref sig .tc := ⟨.hbm, 387, rfl⟩
abbrev main_call10_cst_4 : Ref sig .tc := ⟨.hbm, 388, rfl⟩
abbrev main_call10_call0_v0 : Ref sig .tc := ⟨.hbm, 389, rfl⟩
abbrev main_call10_call0_v1 : Ref sig .tc := ⟨.hbm, 390, rfl⟩
abbrev main_v190 : Ref sig .tc := ⟨.hbm, 391, rfl⟩
abbrev main_v191 : Ref sig .tc := ⟨.hbm, 392, rfl⟩
abbrev main_v192 : Ref sig .tc := ⟨.hbm, 393, rfl⟩
abbrev main_v193 : Ref sig .tc := ⟨.hbm, 394, rfl⟩
abbrev main_v194 : Ref sig .tc := ⟨.hbm, 395, rfl⟩
abbrev main_v195 : Ref sig .tc := ⟨.hbm, 396, rfl⟩
abbrev main_cst_41 : Ref sig .tc := ⟨.hbm, 397, rfl⟩
abbrev main_v196 : Ref sig .tc := ⟨.hbm, 398, rfl⟩
abbrev main_v197 : Ref sig .tc := ⟨.hbm, 399, rfl⟩
abbrev main_v198 : Ref sig .tc := ⟨.hbm, 400, rfl⟩
abbrev main_v199 : Ref sig .tc := ⟨.hbm, 401, rfl⟩
abbrev main_v200 : Ref sig .tc := ⟨.hbm, 402, rfl⟩
abbrev main_v201 : Ref sig .tc := ⟨.hbm, 403, rfl⟩
abbrev main_v202 : Ref sig .tc := ⟨.hbm, 404, rfl⟩
abbrev main_v203 : Ref sig .tc := ⟨.hbm, 405, rfl⟩
abbrev main_cst_42 : Ref sig .tc := ⟨.hbm, 406, rfl⟩
abbrev main_call11_cst : Ref sig .tc := ⟨.hbm, 407, rfl⟩
abbrev main_call11_v0 : Ref sig .tc := ⟨.hbm, 408, rfl⟩
abbrev main_call11_v1 : Ref sig .tc := ⟨.hbm, 409, rfl⟩
abbrev main_call11_v2 : Ref sig .tc := ⟨.hbm, 410, rfl⟩
abbrev main_call11_v3 : Ref sig .tc := ⟨.hbm, 411, rfl⟩
abbrev main_call11_v4 : Ref sig .tc := ⟨.hbm, 412, rfl⟩
abbrev main_v204 : Ref sig .tc := ⟨.hbm, 413, rfl⟩
abbrev main_cst_43 : Ref sig .tc := ⟨.hbm, 414, rfl⟩
abbrev main_v205 : Ref sig .tc := ⟨.hbm, 415, rfl⟩
abbrev main_cst_44 : Ref sig .tc := ⟨.hbm, 416, rfl⟩
abbrev main_v206 : Ref sig .tc := ⟨.hbm, 417, rfl⟩
abbrev main_cst_45 : Ref sig .tc := ⟨.hbm, 418, rfl⟩
abbrev main_v207 : Ref sig .tc := ⟨.hbm, 419, rfl⟩
abbrev main_v208 : Ref sig .tc := ⟨.hbm, 420, rfl⟩
abbrev main_v209 : Ref sig .tc := ⟨.hbm, 421, rfl⟩
abbrev main_v210 : Ref sig .tc := ⟨.hbm, 422, rfl⟩
abbrev main_cst_46 : Ref sig .tc := ⟨.hbm, 423, rfl⟩
abbrev main_call12_cst : Ref sig .tc := ⟨.hbm, 424, rfl⟩
abbrev main_call12_v0 : Ref sig .tc := ⟨.hbm, 425, rfl⟩
abbrev main_call12_v1 : Ref sig .tc := ⟨.hbm, 426, rfl⟩
abbrev main_call12_v2 : Ref sig .tc := ⟨.hbm, 427, rfl⟩
abbrev main_call12_v3 : Ref sig .tc := ⟨.hbm, 428, rfl⟩
abbrev main_call12_v4 : Ref sig .tc := ⟨.hbm, 429, rfl⟩
abbrev main_v211 : Ref sig .tc := ⟨.hbm, 430, rfl⟩
abbrev main_v212 : Ref sig .tc := ⟨.hbm, 431, rfl⟩
abbrev main_v213 : Ref sig .tc := ⟨.hbm, 432, rfl⟩
abbrev main_v214 : Ref sig .tc := ⟨.hbm, 433, rfl⟩

abbrev nD : Nat := 1
abbrev τ : Topo := Topo.v7x

variable {F : FTy → Type} [FloatOps F]
-- ==== Proof.PI.Body.lean ====
/-
  The edge-convolution kernel's body (`KernelIdeal`), run at a symbolic grid point. Its four counted loops issue no effect, so
  each is the return of a fold; once they are, the body is eight loads and two stores.
-/
module

public import proofs.«01_k».proof.Proof.Gen.KernelIdeal.Frame
public import proofs.«01_k».proof.Proof.Gen.KernelIdeal.Skeleton
public import Idealize.ShloMosaic.Lib.Claim

@[expose] public section

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-! ## One trip of each loop, on one cloud

`(p, m)` is the distance matrix with the neighbours already taken masked out, and the running maximum. -/

/-- The matrix of column numbers the argmax is compared with. -/
abbrev cols : IVec S512x512 32 := iota .tc S512x512 32 [1] iota_S512x512_d1_w32

/-- One trip of the first layer's loop. -/
def trip1 (x : FVec F S512x9 .f32) (w : Vec F S32x18 .f32) (a : FVec F S512x512 .f32 × FVec F S512x32 .f32) :
    FVec F S512x512 .f32 × FVec F S512x32 .f32 :=
  (k0_pay9 cols a.1, k0_pay12 x cols (k0_pay41 x) (k0_pay43 w) a.1 a.2)
/-- One trip of the second layer's loop. -/
def trip2 (x : FVec F S512x32 .f32) (w : Vec F S32x64 .f32) (a : FVec F S512x512 .f32 × FVec F S512x32 .f32) :
    FVec F S512x512 .f32 × FVec F S512x32 .f32 :=
  (k0_pay15 cols a.1, k0_pay18 x cols (k0_pay53 x) (k0_pay59 w) a.1 a.2)
/-- One trip of the third layer's loop. -/
def trip3 (x : FVec F S512x32 .f32) (w : Vec F S64x64 .f32) (a : FVec F S512x512 .f32 × FVec F S512x64 .f32) :
    FVec F S512x512 .f32 × FVec F S512x64 .f32 :=
  (k0_pay21 cols a.1, k0_pay24 x cols (k0_pay70 x) (k0_pay72 w) a.1 a.2)
/-- One trip of the fourth layer's loop. -/
def trip4 (x : FVec F S512x64 .f32) (w : Vec F S128x128 .f32) (a : FVec F S512x512 .f32 × FVec F S512x128 .f32) :
    FVec F S512x512 .f32 × FVec F S512x128 .f32 :=
  (k0_pay27 cols a.1, k0_pay30 x cols (k0_pay82 x) (k0_pay2 w) a.1 a.2)

/-- Two independent accumulators carried together. -/
def both {n : ℕ} {A B : Type} (f g : A × B → A × B) (_ : Fin n) (a : A × B × A × B) : A × B × A × B :=
  ((f (a.1, a.2.1)).1, (f (a.1, a.2.1)).2, (g a.2.2).1, (g a.2.2).2)

/-- The fold of two independent accumulators is the pair of their folds. -/
theorem fold_both {n : ℕ} {A B : Type} (f g : A × B → A × B) (a b : A × B) :
    Scf.fold (n := n) (both f g) (a.1, a.2, b.1, b.2)
      = ((f^[n] a).1, (f^[n] a).2, (g^[n] b).1, (g^[n] b).2) := by
  have key : ∀ (l : List (Fin n)) (a b : A × B),
      l.foldl (fun acc k => both f g k acc) (a.1, a.2, b.1, b.2)
        = ((f^[l.length] a).1, (f^[l.length] a).2, (g^[l.length] b).1, (g^[l.length] b).2) := by
    intro l
    induction l with
    | nil => intro a b; rfl
    | cons k l ih => intro a b; exact ih (f a) (g b)
  rw [Scf.fold_eq, key, List.length_finRange]

/-! ## The loops -/

/-- The first layer's loop, its two clouds apart. -/
theorem loop1_eq (i : grid0.Coords)
    (M1 : Memref sig .tc .vmem S2x512x9 .f32) (h1 : M1.IsWhole) (M2 : Memref sig .tc .vmem S32x18 .f32) (h2 : M2.IsWhole)
    (M3 : Memref sig .tc .vmem S32x64 .f32) (h3 : M3.IsWhole) (M4 : Memref sig .tc .vmem S64x64 .f32) (h4 : M4.IsWhole)
    (M5 : Memref sig .tc .vmem S128x128 .f32) (h5 : M5.IsWhole) (M6 : Memref sig .tc .vmem S1024x256 .f32) (h6 : M6.IsWhole)
    (M7 : Memref sig .tc .vmem S2x1024x512 .f32) (h7 : M7.IsWhole) v1 v3 v4 v28 v31 v35 v36 v38 v39 p m p' m' :
    Scf.Loop.for k0_t1_loop k0_t1_ok (p, m, p', m') (k0_t1_body (F := F) i M1 h1 M2 h2 M3 h3 M4 h4 M5 h5 M6 h6 M7 h7 v1 v3 v4 cols v28 v31 v35 v36 v38 v39)
      = .ret (((trip1 v1 v4)^[16] (p, m)).1, ((trip1 v1 v4)^[16] (p, m)).2, ((trip1 v3 v4)^[16] (p', m')).1, ((trip1 v3 v4)^[16] (p', m')).2) :=
  (Scf.for_pure _ _ _ k0_t1_ok _ _ (both (trip1 v1 v4) (trip1 v3 v4)) fun _ _ => rfl).trans
    (congrArg Prog.ret (fold_both (n := 16) _ _ (p, m) (p', m')))

/-- The second layer's loop, its two clouds apart. -/
theorem loop2_eq (i : grid0.Coords)
    (M1 : Memref sig .tc .vmem S2x512x9 .f32) (h1 : M1.IsWhole) (M2 : Memref sig .tc .vmem S32x18 .f32) (h2 : M2.IsWhole)
    (M3 : Memref sig .tc .vmem S32x64 .f32) (h3 : M3.IsWhole) (M4 : Memref sig .tc .vmem S64x64 .f32) (h4 : M4.IsWhole)
    (M5 : Memref sig .tc .vmem S128x128 .f32) (h5 : M5.IsWhole) (M6 : Memref sig .tc .vmem S1024x256 .f32) (h6 : M6.IsWhole)
    (M7 : Memref sig .tc .vmem S2x1024x512 .f32) (h7 : M7.IsWhole) v1 v3 v4 v97 v120 p m p' m' :
    Scf.Loop.for k0_t2_loop k0_t2_ok (p, m, p', m') (k0_t2_body (F := F) i M1 h1 M2 h2 M3 h3 M4 h4 M5 h5 M6 h6 M7 h7 v1 v3 v4 cols v97 v120 (k0_pay53 v1) (k0_pay54 v3) (k0_pay56 v3) (k0_pay57 v3))
      = .ret (((trip2 v1 v4)^[16] (p, m)).1, ((trip2 v1 v4)^[16] (p, m)).2, ((trip2 v3 v4)^[16] (p', m')).1, ((trip2 v3 v4)^[16] (p', m')).2) :=
  (Scf.for_pure _ _ _ k0_t2_ok _ _ (both (trip2 v1 v4) (trip2 v3 v4)) fun _ _ => rfl).trans
    (congrArg Prog.ret (fold_both (n := 16) _ _ (p, m) (p', m')))

/-- The third layer's loop, its two clouds apart. -/
theorem loop3_eq (i : grid0.Coords)
    (M1 : Memref sig .tc .vmem S2x512x9 .f32) (h1 : M1.IsWhole) (M2 : Memref sig .tc .vmem S32x18 .f32) (h2 : M2.IsWhole)
    (M3 : Memref sig .tc .vmem S32x64 .f32) (h3 : M3.IsWhole) (M4 : Memref sig .tc .vmem S64x64 .f32) (h4 : M4.IsWhole)
    (M5 : Memref sig .tc .vmem S128x128 .f32) (h5 : M5.IsWhole) (M6 : Memref sig .tc .vmem S1024x256 .f32) (h6 : M6.IsWhole)
    (M7 : Memref sig .tc .vmem S2x1024x512 .f32) (h7 : M7.IsWhole) v1 v3 v4 v28 v31 v35 v36 v38 v39 p m p' m' :
    Scf.Loop.for k0_t3_loop k0_t3_ok (p, m, p', m') (k0_t3_body (F := F) i M1 h1 M2 h2 M3 h3 M4 h4 M5 h5 M6 h6 M7 h7 v1 v3 v4 cols v28 v31 v35 v36 v38 v39)
      = .ret (((trip3 v1 v4)^[16] (p, m)).1, ((trip3 v1 v4)^[16] (p, m)).2, ((trip3 v3 v4)^[16] (p', m')).1, ((trip3 v3 v4)^[16] (p', m')).2) :=
  (Scf.for_pure _ _ _ k0_t3_ok _ _ (both (trip3 v1 v4) (trip3 v3 v4)) fun _ _ => rfl).trans
    (congrArg Prog.ret (fold_both (n := 16) _ _ (p, m) (p', m')))

/-- The fourth layer's loop, its two clouds apart. -/
theorem loop4_eq (i : grid0.Coords)
    (M1 : Memref sig .tc .vmem S2x512x9 .f32) (h1 : M1.IsWhole) (M2 : Memref sig .tc .vmem S32x18 .f32) (h2 : M2.IsWhole)
    (M3 : Memref sig .tc .vmem S32x64 .f32) (h3 : M3.IsWhole) (M4 : Memref sig .tc .vmem S64x64 .f32) (h4 : M4.IsWhole)
    (M5 : Memref sig .tc .vmem S128x128 .f32) (h5 : M5.IsWhole) (M6 : Memref sig .tc .vmem S1024x256 .f32) (h6 : M6.IsWhole)
    (M7 : Memref sig .tc .vmem S2x1024x512 .f32) (h7 : M7.IsWhole) v1 v3 v4 p m p' m' :
    Scf.Loop.for k0_t4_loop k0_t4_ok (p, m, p', m') (k0_t4_body (F := F) i M1 h1 M2 h2 M3 h3 M4 h4 M5 h5 M6 h6 M7 h7 v1 v3 v4 cols (k0_pay82 v1) (k0_pay83 v3) (k0_pay85 v3) (k0_pay86 v3))
      = .ret (((trip4 v1 v4)^[16] (p, m)).1, ((trip4 v1 v4)^[16] (p, m)).2, ((trip4 v3 v4)^[16] (p', m')).1, ((trip4 v3 v4)^[16] (p', m')).2) :=
  (Scf.for_pure _ _ _ k0_t4_ok _ _ (both (trip4 v1 v4) (trip4 v3 v4)) fun _ _ => rfl).trans
    (congrArg Prog.ret (fold_both (n := 16) _ _ (p, m) (p', m')))

/-! ## What one cloud's layers compute -/

/-- The first layer: sixteen trips from the distances and the mask. -/
def layer1 (x : Vec F S1x512x9 .f32) (w : Vec F S32x18 .f32) : FVec F S512x32 .f32 :=
  ((trip1 (k0_pay32 x) w)^[16] (k0_pay34 x, k0_pay44 (F := F))).2
/-- The second layer. -/
def layer2 (x : FVec F S512x32 .f32) (w : Vec F S32x64 .f32) : FVec F S512x32 .f32 :=
  ((trip2 x w)^[16] (k0_pay52 x, k0_pay60 (F := F))).2
/-- The third layer. -/
def layer3 (x : FVec F S512x32 .f32) (w : Vec F S64x64 .f32) : FVec F S512x64 .f32 :=
  ((trip3 x w)^[16] (k0_pay63 x, k0_pay73 (F := F))).2
/-- The fourth layer. -/
def layer4 (x : FVec F S512x64 .f32) (w : Vec F S128x128 .f32) : FVec F S512x128 .f32 :=
  ((trip4 x w)^[16] (k0_pay81 x, k0_pay4 (F := F))).2

/-- One cloud's result: the four layers' features side by side, multiplied by the last weights, channels first. -/
def cloud (x : Vec F S1x512x9 .f32) (w1 : Vec F S32x18 .f32) (w2 : Vec F S32x64 .f32) (w3 : Vec F S64x64 .f32)
    (w4 : Vec F S128x128 .f32) (w5 : Vec F S1024x256 .f32) : FVec F S1x1024x512 .f32 :=
  let y1 := layer1 x w1
  let y2 := layer2 y1 w2
  let y3 := layer3 y2 w3
  k0_pay6 y1 y2 y3 (layer4 y3 w4) w5

/-! ## The body without its loops -/

/-- The body, its loops replaced by what they compute. -/
def flat (M1 : Memref sig .tc .vmem S2x512x9 .f32) (M2 : Memref sig .tc .vmem S32x18 .f32)
    (M3 : Memref sig .tc .vmem S32x64 .f32) (M4 : Memref sig .tc .vmem S64x64 .f32)
    (M5 : Memref sig .tc .vmem S128x128 .f32) (M6 : Memref sig .tc .vmem S1024x256 .f32)
    (M7 : Memref sig .tc .vmem S2x1024x512 .f32) : Prog (TpuEff nD τ sig (Elt F) Λ₀ .tc) PUnit := do
  let xa : Vec F S1x512x9 .f32 ← Prog.lift (.load M1 (Rect.unit (s := S2x512x9) ![0, 0, 0] S1x512x9.size inb_S2x512x9_S1x512x9_0_0_0).toLoadRect (View.loadsAt_vmem h_S1x512x9))
  let xb : Vec F S1x512x9 .f32 ← Prog.lift (.load M1 (Rect.unit (s := S2x512x9) ![1, 0, 0] S1x512x9.size inb_S2x512x9_S1x512x9_1_0_0).toLoadRect (View.loadsAt_vmem h_S1x512x9))
  let w1 : Vec F S32x18 .f32 ← Prog.lift (.load M2 (Rect.unit (s := S32x18) ![0, 0] S32x18.size inb_S32x18_S32x18_0_0).toLoadRect (View.loadsAt_vmem h_S32x18))
  let w2 : Vec F S32x64 .f32 ← Prog.lift (.load M3 (Rect.unit (s := S32x64) ![0, 0] S32x64.size inb_S32x64_S32x64_0_0).toLoadRect (View.loadsAt_vmem h_S32x64))
  let w3 : Vec F S64x64 .f32 ← Prog.lift (.load M4 (Rect.unit (s := S64x64) ![0, 0] S64x64.size inb_S64x64_S64x64_0_0).toLoadRect (View.loadsAt_vmem h_S64x64))
  let w4 : Vec F S128x128 .f32 ← Prog.lift (.load M5 (Rect.unit (s := S128x128) ![0, 0] S128x128.size inb_S128x128_S128x128_0_0).toLoadRect (View.loadsAt_vmem h_S128x128))
  let w5 : Vec F S1024x256 .f32 ← Prog.lift (.load M6 (Rect.unit (s := S1024x256) ![0, 0] S1024x256.size inb_S1024x256_S1024x256_0_0).toLoadRect (View.loadsAt_vmem h_S1024x256))
  let _ : Vec F S1x1024x512 .f32 ← Prog.lift (.load M7 (Rect.unit (s := S2x1024x512) ![0, 0, 0] S1x1024x512.size inb_S2x1024x512_S1x1024x512_0_0_0).toLoadRect (View.loadsAt_vmem h_S1x1024x512))
  Prog.lift (.store M7 (Rect.unit (s := S2x1024x512) ![0, 0, 0] S1x1024x512.size inb_S2x1024x512_S1x1024x512_0_0_0) (cloud xa w1 w2 w3 w4 w5) Finset.univ (View.stores_vmem_bits_univ h_S1x1024x512 rfl) (.inl rfl))
  let _ : Vec F S1x1024x512 .f32 ← Prog.lift (.load M7 (Rect.unit (s := S2x1024x512) ![1, 0, 0] S1x1024x512.size inb_S2x1024x512_S1x1024x512_1_0_0).toLoadRect (View.loadsAt_vmem h_S1x1024x512))
  Prog.lift (.store M7 (Rect.unit (s := S2x1024x512) ![1, 0, 0] S1x1024x512.size inb_S2x1024x512_S1x1024x512_1_0_0) (cloud xb w1 w2 w3 w4 w5) Finset.univ (View.stores_vmem_bits_univ h_S1x1024x512 rfl) (.inl rfl))
  pure ⟨⟩

set_option maxRecDepth 65536 in
/-- The printed body is the body without its loops. -/
theorem body_eq (i : grid0.Coords)
    (M1 : Memref sig .tc .vmem S2x512x9 .f32) (h1 : M1.IsWhole) (M2 : Memref sig .tc .vmem S32x18 .f32) (h2 : M2.IsWhole)
    (M3 : Memref sig .tc .vmem S32x64 .f32) (h3 : M3.IsWhole) (M4 : Memref sig .tc .vmem S64x64 .f32) (h4 : M4.IsWhole)
    (M5 : Memref sig .tc .vmem S128x128 .f32) (h5 : M5.IsWhole) (M6 : Memref sig .tc .vmem S1024x256 .f32) (h6 : M6.IsWhole)
    (M7 : Memref sig .tc .vmem S2x1024x512 .f32) (h7 : M7.IsWhole) :
    cc0__k1_body (F := F) i M1 h1 M2 h2 M3 h3 M4 h4 M5 h5 M6 h6 M7 h7 = flat M1 M2 M3 M4 M5 M6 M7 := by
  rw [cc0__k1_body_eq_skeleton]; unfold cc0__k1_body_skel
  simp only [k0_part5_eq_skeleton, k0_part6_eq_skeleton, k0_part7_eq_skeleton, k0_part8_eq_skeleton, k0_part9_eq_skeleton, k0_part10_eq_skeleton]
  unfold k0_part5_skel k0_part6_skel k0_part7_skel k0_part8_skel k0_part9_skel k0_part10_skel
  refine congrArg (Prog.op _) (funext fun xa => ?_)
  refine congrArg (Prog.op _) (funext fun xb => ?_)
  refine congrArg (Prog.op _) (funext fun w1 => ?_)
  refine (congrArg (· >>= _) (congrArg (· >>= _) (loop1_eq i M1 h1 M2 h2 M3 h3 M4 h4 M5 h5 M6 h6 M7 h7 _ _ _ _ _ _ _ _ _ _ _ _ _))).trans ?_
  refine congrArg (Prog.op _) (funext fun w2 => ?_)
  refine (congrArg (· >>= _) (congrArg (· >>= _) (loop2_eq i M1 h1 M2 h2 M3 h3 M4 h4 M5 h5 M6 h6 M7 h7 _ _ _ _ _ _ _ _ _))).trans ?_
  refine congrArg (Prog.op _) (funext fun w3 => ?_)
  refine (congrArg (· >>= _) (congrArg (· >>= _) (loop3_eq i M1 h1 M2 h2 M3 h3 M4 h4 M5 h5 M6 h6 M7 h7 _ _ _ _ _ _ _ _ _ _ _ _ _))).trans ?_
  refine congrArg (Prog.op _) (funext fun w4 => ?_)
  refine (congrArg (· >>= _) (loop4_eq i M1 h1 M2 h2 M3 h3 M4 h4 M5 h5 M6 h6 M7 h7 _ _ _ _ _ _ _)).trans ?_
  rfl

end Cert.Proof.PI

end
-- ==== Proof.PI.Run.lean ====
/-
  The run of the edge-convolution kernel (`KernelIdeal`): the body's triple, the pipeline's proof data with the output
  block named, the launch, and the frame.
-/
module

public import proofs.«01_k».proof.Proof.PI.Body

@[expose] public section

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The part of the input block that is the first cloud. -/
abbrev rIn0 : Rect S2x512x9 := Rect.unit (s := S2x512x9) ![0, 0, 0] S1x512x9.size inb_S2x512x9_S1x512x9_0_0_0
/-- The part of the input block that is the second cloud. -/
abbrev rIn1 : Rect S2x512x9 := Rect.unit (s := S2x512x9) ![1, 0, 0] S1x512x9.size inb_S2x512x9_S1x512x9_1_0_0
/-- The whole of weight matrix 1. -/
abbrev rW1 : Rect S32x18 := Rect.unit (s := S32x18) ![0, 0] S32x18.size inb_S32x18_S32x18_0_0
/-- The whole of weight matrix 2. -/
abbrev rW2 : Rect S32x64 := Rect.unit (s := S32x64) ![0, 0] S32x64.size inb_S32x64_S32x64_0_0
/-- The whole of weight matrix 3. -/
abbrev rW3 : Rect S64x64 := Rect.unit (s := S64x64) ![0, 0] S64x64.size inb_S64x64_S64x64_0_0
/-- The whole of weight matrix 4. -/
abbrev rW4 : Rect S128x128 := Rect.unit (s := S128x128) ![0, 0] S128x128.size inb_S128x128_S128x128_0_0
/-- The whole of weight matrix 5. -/
abbrev rW5 : Rect S1024x256 := Rect.unit (s := S1024x256) ![0, 0] S1024x256.size inb_S1024x256_S1024x256_0_0
/-- The part of the output block that is the first cloud. -/
abbrev rOut0 : Rect S2x1024x512 := Rect.unit (s := S2x1024x512) ![0, 0, 0] S1x1024x512.size inb_S2x1024x512_S1x1024x512_0_0_0
/-- The part of the output block that is the second cloud. -/
abbrev rOut1 : Rect S2x1024x512 := Rect.unit (s := S2x1024x512) ![1, 0, 0] S1x1024x512.size inb_S2x1024x512_S1x1024x512_1_0_0

/-- The output block after the body, from the input blocks: the two clouds' results, one after the other. -/
def out (x : Vec F S2x512x9 .f32) (w1 : Vec F S32x18 .f32) (w2 : Vec F S32x64 .f32) (w3 : Vec F S64x64 .f32)
    (w4 : Vec F S128x128 .f32) (w5 : Vec F S1024x256 .f32) : Vec F S2x1024x512 .f32 :=
  View.canon [
    ⟨rOut1, cloud (View.ld x rIn1) (View.ld w1 rW1) (View.ld w2 rW2) (View.ld w3 rW3) (View.ld w4 rW4) (View.ld w5 rW5)⟩,
    ⟨rOut0, cloud (View.ld x rIn0) (View.ld w1 rW1) (View.ld w2 rW2) (View.ld w3 rW3) (View.ld w4 rW4) (View.ld w5 rW5)⟩]

/-- The two stores tile the block. -/
theorem cover (p0 p1 : Vec F S1x1024x512 .f32) (y : S2x1024x512.Idx) :
    ∃ pc ∈ ([⟨rOut1, p1⟩, ⟨rOut0, p0⟩] : List (View.Piece (Elt F) S2x1024x512 .f32)), y ∈ pc.1.set :=
  View.cover_of_tiled [⟨rOut1, p1⟩, ⟨rOut0, p0⟩] S1x1024x512.size (by rfl) y

/-- The body's triple: from the six inputs' memrefs at their blocks and the output's at anything, the body returns the
    inputs' as they were and the output's at `out`. -/
theorem sound_kernel (c : Dev nD) (E : Set ℕ) (i : grid0.Coords)
    (M1 : Memref sig .tc .vmem S2x512x9 .f32) (h1 : M1.IsWhole) (M2 : Memref sig .tc .vmem S32x18 .f32) (h2 : M2.IsWhole)
    (M3 : Memref sig .tc .vmem S32x64 .f32) (h3 : M3.IsWhole) (M4 : Memref sig .tc .vmem S64x64 .f32) (h4 : M4.IsWhole)
    (M5 : Memref sig .tc .vmem S128x128 .f32) (h5 : M5.IsWhole) (M6 : Memref sig .tc .vmem S1024x256 .f32) (h6 : M6.IsWhole)
    (M7 : Memref sig .tc .vmem S2x1024x512 .f32) (h7 : M7.IsWhole)
    (x1 : Vec F S2x512x9 .f32) (x2 : Vec F S32x18 .f32) (x3 : Vec F S32x64 .f32) (x4 : Vec F S64x64 .f32)
    (x5 : Vec F S128x128 .f32) (x6 : Vec F S1024x256 .f32) (K : PUnit → sProp 𝕄) :
    iprop(owns (c : Thread nD τ) M1 fullShare x1 ∗ owns (c : Thread nD τ) M2 fullShare x2 ∗ owns (c : Thread nD τ) M3 fullShare x3
        ∗ owns (c : Thread nD τ) M4 fullShare x4 ∗ owns (c : Thread nD τ) M5 fullShare x5 ∗ owns (c : Thread nD τ) M6 fullShare x6
        ∗ (∃ d, owns (c : Thread nD τ) M7 fullShare d)
        ∗ (iprop(owns (c : Thread nD τ) M1 fullShare x1 ∗ owns (c : Thread nD τ) M2 fullShare x2 ∗ owns (c : Thread nD τ) M3 fullShare x3
          ∗ owns (c : Thread nD τ) M4 fullShare x4 ∗ owns (c : Thread nD τ) M5 fullShare x5 ∗ owns (c : Thread nD τ) M6 fullShare x6
          ∗ owns (c : Thread nD τ) M7 fullShare (out x1 x2 x3 x4 x5 x6)) -∗ K ⟨⟩))
      ⊢ wp frame (wpE (defs₀ (F := F)) Variants.none c none) E (cc0__k1_body i M1 h1 M2 h2 M3 h3 M4 h4 M5 h5 M6 h6 M7 h7) K := by
  rw [body_eq]; unfold flat
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover _ _)

/-- The pipeline's proof data: the arrays as the region finds them; after the body each input's buffer at its block and
    the output's at `out` of the input blocks; the generated invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out (iblk m c 0 t) (iblk m c 1 t) (iblk m c 2 t) (iblk m c 3 t) (iblk m c 4 t) (iblk m c 5 t)
  Φ _ := Pipeline.ΦA spec0 c
  q _ := fullShare
  owed _ := 0

/-- The arrays the proof data starts from are the region-entry contents. -/
theorem A_eq (c : Dev nD) (w : Fin cfg0.W) : (dats m 0 c).A w = V m c (Pipeline.arrRef spec0 w) := by dsimp only [dats]
/-- An input window's block is as it was after the body. -/
theorem after_0 (c : Dev nD) (t : Fin cfg0.N) : (dats m 0 c).after 0 t = iblk m c 0 t := by dsimp only [dats]
/-- An input window's block is as it was after the body. -/
theorem after_1 (c : Dev nD) (t : Fin cfg0.N) : (dats m 0 c).after 1 t = iblk m c 1 t := by dsimp only [dats]
/-- An input window's block is as it was after the body. -/
theorem after_2 (c : Dev nD) (t : Fin cfg0.N) : (dats m 0 c).after 2 t = iblk m c 2 t := by dsimp only [dats]
/-- An input window's block is as it was after the body. -/
theorem after_3 (c : Dev nD) (t : Fin cfg0.N) : (dats m 0 c).after 3 t = iblk m c 3 t := by dsimp only [dats]
/-- An input window's block is as it was after the body. -/
theorem after_4 (c : Dev nD) (t : Fin cfg0.N) : (dats m 0 c).after 4 t = iblk m c 4 t := by dsimp only [dats]
/-- An input window's block is as it was after the body. -/
theorem after_5 (c : Dev nD) (t : Fin cfg0.N) : (dats m 0 c).after 5 t = iblk m c 5 t := by dsimp only [dats]
/-- What the output's buffer holds after the body at a point. -/
theorem after_6 (c : Dev nD) (t : Fin cfg0.N) : (dats m 0 c).after 6 t
    = out (iblk m c 0 t) (iblk m c 1 t) (iblk m c 2 t) (iblk m c 3 t) (iblk m c 4 t) (iblk m c 5 t) := by dsimp only [dats]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: each input's buffer holds its block, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after_0 m c), before0_1_of m (dats m 0 c) (A_eq m c 1) (after_1 m c),
    before0_2_of m (dats m 0 c) (A_eq m c 2) (after_2 m c), before0_3_of m (dats m 0 c) (A_eq m c 3) (after_3 m c),
    before0_4_of m (dats m 0 c) (A_eq m c 4) (after_4 m c), before0_5_of m (dats m 0 c) (A_eq m c 5) (after_5 m c)]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the launch theorem's implicit arguments are found by unification through plain definitions
set_option backward.isDefEq.respectTransparency.types false in
/-- Every execution terminates, and every final state has every array at what the proof data computes and every
    semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_with_sems (frame_of m ρ (dats m) (A_eq m)) (run_main m ρ)

end Cert.Proof.PI

end
-- ==== Proof.V.Select.lean ====
module

public import Idealize.ShloMosaic.Lib.SortPrefix
public import Idealize.ShloMosaic.Lib.SortFacts
public import Idealize.ShloMosaic.PureOps.Ideal.Laws

@[expose] public section

/-! The nearest points, twice: rounds of "take the first greatest entry and strike it out", and the first
places of a stable sort by decreasing value. Both name the same columns. -/

namespace Cert.Proof.V
open Idealize.ShloMosaic

variable {n : ℕ} [NeZero n]

/-- `a` is the first column at which the row is greatest. -/
def IsPick (p : Fin n → EReal) (a : Fin n) : Prop := (∀ b, p b ≤ p a) ∧ ∀ b, b < a → p b < p a

/-- A row has a first greatest one. -/
theorem exists_isPick (p : Fin n → EReal) : ∃ a, IsPick p a := by
  classical
  obtain ⟨m, -, hm⟩ := Finset.exists_max_image (Finset.univ : Finset (Fin n)) p ⟨0, Finset.mem_univ _⟩
  have hne : (Finset.univ.filter fun a : Fin n => ∀ b, p b ≤ p a).Nonempty :=
    ⟨m, by simpa using fun b => hm b (Finset.mem_univ b)⟩
  refine ⟨Finset.min' _ hne, ?_, ?_⟩
  · have := Finset.min'_mem _ hne
    exact (Finset.mem_filter.mp this).2
  · intro b hb
    have h1 := (Finset.mem_filter.mp (Finset.min'_mem _ hne)).2
    refine lt_of_le_of_ne (h1 b) fun he => ?_
    have : b ∈ Finset.univ.filter fun a : Fin n => ∀ b, p b ≤ p a := by
      simp only [Finset.mem_filter, Finset.mem_univ, true_and]
      intro c
      rw [he]
      exact h1 c
    exact absurd (Finset.min'_le _ b this) (not_le.mpr hb)

/-- The first column at which the row is greatest. -/
noncomputable def pick (p : Fin n → EReal) : Fin n := (exists_isPick p).choose

/-- The pick is a first greatest column. -/
theorem pick_spec (p : Fin n → EReal) : IsPick p (pick p) := (exists_isPick p).choose_spec

/-- There is only one first greatest column. -/
theorem IsPick.eq {p : Fin n → EReal} {a b : Fin n} (ha : IsPick p a) (hb : IsPick p b) : a = b := by
  rcases lt_trichotomy a b with h | h | h
  · exact absurd (ha.1 b) (not_le.mpr (hb.2 a h))
  · exact h
  · exact absurd (hb.1 a) (not_le.mpr (ha.2 b h))

/-- One round: the first greatest entry is struck out. -/
noncomputable def strike (p : Fin n → EReal) : Fin n → EReal := fun j => if j = pick p then ⊥ else p j

/-- The column taken in round `k`. -/
noncomputable def nth (p : Fin n → EReal) (k : ℕ) : Fin n := pick (strike^[k] p)

/-- After `k` rounds the columns taken so far are struck out, the others as they were. -/
theorem strike_iterate (p : Fin n → EReal) (k : ℕ) (j : Fin n) :
    (strike^[k] p) j = if ∃ i < k, nth p i = j then ⊥ else p j := by
  induction k with
  | zero => simp
  | succ k ih =>
    rw [Function.iterate_succ_apply']
    show (if j = nth p k then ⊥ else (strike^[k] p) j) = _
    rw [ih]
    by_cases h : j = nth p k
    · rw [if_pos h, if_pos ⟨k, by omega, h.symm⟩]
    · rw [if_neg h]
      by_cases h2 : ∃ i < k, nth p i = j
      · obtain ⟨i, hi, he⟩ := h2
        rw [if_pos ⟨i, hi, he⟩, if_pos ⟨i, by omega, he⟩]
      · rw [if_neg h2, if_neg]
        rintro ⟨i, hi, he⟩
        rcases Nat.lt_succ_iff_lt_or_eq.mp hi with h3 | h3
        · exact h2 ⟨i, h3, he⟩
        · exact h (h3 ▸ he.symm)

/-- While there are columns left, a round takes one not taken before. -/
theorem nth_fresh {p : Fin n → EReal} (hp : ∀ j, ⊥ < p j) {k : ℕ} (hk : k < n) : ¬ ∃ i < k, nth p i = nth p k := by
  classical
  intro h
  have hall : ∀ j, ∃ i < k, nth p i = j := by
    intro j
    by_contra hj
    have h1 := (pick_spec (strike^[k] p)).1 j
    rw [show pick (strike^[k] p) = nth p k from rfl, strike_iterate, strike_iterate, if_neg hj, if_pos h] at h1
    exact absurd (hp j) (not_lt.mpr h1)
  have hsub : (Finset.univ : Finset (Fin n)) ⊆ (Finset.range k).image (nth p) := by
    intro j _
    obtain ⟨i, hi, he⟩ := hall j
    exact Finset.mem_image.mpr ⟨i, Finset.mem_range.mpr hi, he⟩
  have h2 := (Finset.card_le_card hsub).trans Finset.card_image_le
  simp at h2
  omega

/-- Two rounds take different columns. -/
theorem nth_ne {p : Fin n → EReal} (hp : ∀ j, ⊥ < p j) {i k : ℕ} (hik : i < k) (hk : k < n) : nth p i ≠ nth p k :=
  fun h => nth_fresh hp hk ⟨i, hik, h⟩

/-- `a` goes before `b`: a greater value, or the same value and an earlier column. -/
noncomputable def before (p : Fin n → EReal) (a b : Fin n) : Bool := decide (p b < p a) || (decide (p a = p b) && decide (a < b))

/-- A column not taken before round `k` does not go before the one taken in round `k`. -/
theorem before_nth {p : Fin n → EReal} (hp : ∀ j, ⊥ < p j) {k : ℕ} (hk : k < n) {a : Fin n}
    (ha : ¬ ∃ i < k, nth p i = a) : before p a (nth p k) = false := by
  have hs := pick_spec (strike^[k] p)
  have e1 : (strike^[k] p) a = p a := by rw [strike_iterate, if_neg ha]
  have e2 : (strike^[k] p) (nth p k) = p (nth p k) := by rw [strike_iterate, if_neg (nth_fresh hp hk)]
  have h1 : p a ≤ p (nth p k) := by rw [← e1, ← e2]; exact hs.1 a
  have h2 : a < nth p k → p a < p (nth p k) := by rw [← e1, ← e2]; exact hs.2 a
  simp only [before, Bool.or_eq_false_iff, Bool.and_eq_false_iff, decide_eq_false_iff_not]
  refine ⟨not_lt.mpr h1, ?_⟩
  by_cases h : p a = p (nth p k)
  · exact Or.inr fun hl => absurd (h2 hl) (by rw [h]; exact lt_irrefl _)
  · exact Or.inl h

/-- Of two columns one goes before the other. -/
theorem before_total (p : Fin n → EReal) : StrictTotalBefore (before p) :=
  StrictTotalBefore.of_key_then_position (fun a b : EReal => decide (b < a)) p (by simp)
    (by simp only [decide_eq_true_eq]; exact fun _ _ _ h h' => h'.trans h)
    (by
      simp only [decide_eq_true_eq]
      intro a b
      rcases lt_trichotomy b a with h | h | h
      · exact Or.inl h
      · exact Or.inr (Or.inl h.symm)
      · exact Or.inr (Or.inr h))

/-- Sorting a list whose positions increase, comparing values alone, is sorting it by value and then position. -/
theorem stableSort_eq (p : Fin n → EReal) (l : List (Fin n)) (hl : l.Pairwise (· < ·)) :
    stableSort (fun a b => decide (p b < p a)) l = stableSort (before p) l := by
  induction l with
  | nil => rfl
  | cons a l ih =>
    rw [List.pairwise_cons] at hl
    simp only [stableSort]
    rw [ih hl.2]
    refine insertBefore_congr _ _ a _ fun b hb => ?_
    have hb' : b ∈ l := (perm_stableSort _ l).mem_iff.mp hb
    have hab := hl.1 b hb'
    simp [before, not_lt.mpr hab.le]

/-- Two orders under which the positions sort alike name the same sources. -/
theorem sortedFrom_congr {n : ℕ} {B B' : Fin n → Fin n → Bool} (h : sortPositions n B = sortPositions n B') (q : Fin n) :
    sortedFrom B q = sortedFrom B' q := by
  simp only [sortedFrom, List.get_eq_getElem, Fin.val_cast, h]

/-- The `k`-th place of the stable sort by decreasing value is the column of round `k`. -/
theorem sortedFrom_eq_nth {p : Fin n → EReal} (hp : ∀ j, ⊥ < p j) {K : ℕ} (hK : K ≤ n) (k : Fin K) :
    sortedFrom (fun a b : Fin n => decide (p b < p a)) (k.castLE hK) = nth p k := by
  have e : sortPositions n (fun a b : Fin n => decide (p b < p a)) = sortPositions n (before p) :=
    stableSort_eq p _ (List.pairwise_lt_finRange n)
  rw [sortedFrom_congr e]
  refine (before_total p).sortedFrom_eq_of_prefix hK (fun k : Fin K => nth p k) ?_ ?_ ?_ k
  · intro i j h
    by_contra hne
    rcases lt_or_gt_of_ne (fun h' => hne (Fin.ext h') : i.val ≠ j.val) with h' | h'
    · exact nth_ne hp h' (by omega) h
    · exact nth_ne hp h' (by omega) h.symm
  · intro i j hij
    refine before_nth hp (by omega) ?_
    rintro ⟨t, ht, he⟩
    exact nth_ne hp (show t < j.val from ht.trans hij) (by omega) he
  · intro i q hq
    refine before_nth hp (by omega) ?_
    rintro ⟨t, ht, he⟩
    exact hq ⟨t, by omega⟩ he

end Cert.Proof.V
-- ==== Proof.V.Spec.lean ====
module

public import proofs.«01_k».proof.Proof.V.Select
public import Idealize.ShloMosaic.Lib.Pointwise

@[expose] public section

/-! One edge-convolution layer as plain functions of a row index and a channel: squared distances, the sixteen nearest
points, the edge features, the product with the weights, the leaky relu and the maximum. And: finite points give finite
results. -/

namespace Cert.Proof.V
open Idealize.ShloMosaic

/-- A matrix as a function of its row and column. -/
def mat {n m : ℕ} {e : Type} (x : (⟨2, ![n, m]⟩ : Shape).Idx → e) (i : Fin n) (j : Fin m) : e := x (ix2 i j)

/-- A real number, not an infinity. -/
def Fin' (x : EReal) : Prop := ∃ r : ℝ, x = (r : EReal)

namespace Fin'
variable {a b : EReal}
/-- A real is one. -/
theorem coe (r : ℝ) : Fin' (r : EReal) := ⟨r, rfl⟩
/-- Zero is one. -/
theorem zero : Fin' 0 := ⟨0, rfl⟩
/-- Their sum is one. -/
theorem add (ha : Fin' a) (hb : Fin' b) : Fin' (a + b) := by
  obtain ⟨r, rfl⟩ := ha; obtain ⟨s, rfl⟩ := hb; exact ⟨r + s, (EReal.coe_add r s).symm⟩
/-- Their difference is one. -/
theorem sub (ha : Fin' a) (hb : Fin' b) : Fin' (a - b) := by
  obtain ⟨r, rfl⟩ := ha; obtain ⟨s, rfl⟩ := hb; exact ⟨r - s, (EReal.coe_sub r s).symm⟩
/-- Their product is one. -/
theorem mul (ha : Fin' a) (hb : Fin' b) : Fin' (a * b) := by
  obtain ⟨r, rfl⟩ := ha; obtain ⟨s, rfl⟩ := hb; exact ⟨r * s, (EReal.coe_mul r s).symm⟩
/-- Either of two is one. -/
theorem ite {c : Prop} [Decidable c] (ha : Fin' a) (hb : Fin' b) : Fin' (if c then a else b) := by
  split <;> assumption
/-- A finite sum of them is one. -/
theorem sum {ι : Type} (s : Finset ι) (f : ι → EReal) (h : ∀ i, Fin' (f i)) : Fin' (∑ i ∈ s, f i) := by
  classical
  induction s using Finset.induction_on with
  | empty => exact zero
  | insert i s hi ih => rw [Finset.sum_insert hi]; exact (h i).add ih
/-- It is above minus infinity. -/
theorem bot_lt (ha : Fin' a) : ⊥ < a := by obtain ⟨r, rfl⟩ := ha; exact EReal.bot_lt_coe r
/-- It is below infinity. -/
theorem lt_top (ha : Fin' a) : a < ⊤ := by obtain ⟨r, rfl⟩ := ha; exact EReal.coe_lt_top r
/-- Its difference from itself is zero. -/
theorem sub_self (ha : Fin' a) : a - a = 0 := by
  obtain ⟨r, rfl⟩ := ha
  rw [← EReal.coe_sub, _root_.sub_self]; rfl
/-- A number that is neither infinity is one. -/
theorem of_ne (h1 : a ≠ ⊥) (h2 : a ≠ ⊤) : Fin' a := ⟨a.toReal, (EReal.coe_toReal h2 h1).symm⟩
/-- A maximum over at least one finite value is one of the values. -/
theorem sup {ι : Type} (s : Finset ι) (hs : s.Nonempty) (f : ι → EReal) (h : ∀ i, Fin' (f i)) : Fin' (s.sup f) := by
  obtain ⟨i, -, hi⟩ := Finset.exists_mem_eq_sup s hs f
  rw [hi]; exact h i
end Fin'

/-- The factor -2 is real. -/
theorem fin_two : Fin' (Ideal.ofBits .f32 0xC0000000#32) := by
  simp [Ideal.ofBits, Ideal.ieee]; exact Fin'.coe _
/-- One is real. -/
theorem fin_one : Fin' 1 := ⟨1, rfl⟩
/-- The padding's factor is real. -/
theorem fin_big : Fin' (Ideal.ofBits .f32 0x4B189680#32) := by
  simp [Ideal.ofBits, Ideal.ieee]; exact Fin'.coe _
/-- The leaky relu's slope is real. -/
theorem fin_slope : Fin' (Ideal.ofBits .f32 0x3E4CCCCD#32) := by
  simp [Ideal.ofBits, Ideal.ieee]; exact Fin'.coe _

variable {n C D O : ℕ} [NeZero n]

/-- The squared length of point `j`. -/
noncomputable def sq (x : Fin n → Fin C → EReal) (j : Fin n) : EReal := ∑ c, x j c * x j c

/-- Minus the squared distance of points `i` and `j`, scaled up where point `j` is padding. -/
noncomputable def dist (x : Fin n → Fin C → EReal) (i j : Fin n) : EReal :=
  (0 - sq x j - Ideal.ofBits .f32 0xC0000000#32 * (∑ c, x i c * x j c) - sq x i)
    * (if 0 < sq x j then 1 else Ideal.ofBits .f32 0x4B189680#32)

/-- The features of the edge from `i` to `j`: the difference, then the point itself. -/
noncomputable def feat (x : Fin n → Fin C → EReal) (i j : Fin n) (c : Fin D) : EReal :=
  if h : c.val < C then x j ⟨c.val, h⟩ - x i ⟨c.val, h⟩
  else if h' : c.val - C < C then x i ⟨c.val - C, h'⟩ else 0

/-- The leaky relu. -/
noncomputable def lr (t : EReal) : EReal := if 0 ≤ t then t else Ideal.ofBits .f32 0x3E4CCCCD#32 * t

/-- The edge's activation in channel `o`. -/
noncomputable def edge (x : Fin n → Fin C → EReal) (w : Fin O → Fin D → EReal) (i j : Fin n) (o : Fin O) : EReal :=
  lr (∑ c : Fin D, feat x i j c * w o c)

/-- The layer: the greatest activation over the sixteen nearest points. -/
noncomputable def layer (x : Fin n → Fin C → EReal) (w : Fin O → Fin D → EReal) (i : Fin n) (o : Fin O) : EReal :=
  (Finset.range 16).sup fun k => edge x w i (nth (dist x i) k) o

/-- Real points have real squared lengths. -/
theorem fin_sq {x : Fin n → Fin C → EReal} (hx : ∀ j c, Fin' (x j c)) (j) : Fin' (sq x j) :=
  Fin'.sum _ _ fun c => (hx j c).mul (hx j c)

/-- Finite points have finite distances. -/
theorem fin_dist {x : Fin n → Fin C → EReal} (hx : ∀ j c, Fin' (x j c)) (i j) : Fin' (dist x i j) :=
  (((Fin'.zero.sub (fin_sq hx j)).sub (fin_two.mul (Fin'.sum _ _ fun c => (hx i c).mul (hx j c)))).sub (fin_sq hx i)).mul
    (fin_one.ite fin_big)

/-- Real points have real edge features. -/
theorem fin_feat {x : Fin n → Fin C → EReal} (hx : ∀ j c, Fin' (x j c)) (i j) (c : Fin D) : Fin' (feat x i j c) := by
  unfold feat
  split
  · exact (hx _ _).sub (hx _ _)
  · split
    · exact hx _ _
    · exact Fin'.zero

/-- Real points and weights give real activations. -/
theorem fin_edge {x : Fin n → Fin C → EReal} {w : Fin O → Fin D → EReal} (hx : ∀ j c, Fin' (x j c))
    (hw : ∀ o c, Fin' (w o c)) (i j o) : Fin' (edge x w i j o) := by
  have h : Fin' (∑ c : Fin D, feat x i j c * w o c) := Fin'.sum _ _ fun c => (fin_feat hx i j c).mul (hw o c)
  exact h.ite (fin_slope.mul h)

/-- Finite points and weights give a finite layer. -/
theorem fin_layer {x : Fin n → Fin C → EReal} {w : Fin O → Fin D → EReal} (hx : ∀ j c, Fin' (x j c))
    (hw : ∀ o c, Fin' (w o c)) (i o) : Fin' (layer x w i o) :=
  Fin'.sup _ ⟨0, by simp⟩ _ fun _ => fin_edge hx hw _ _ _

/-- The four layers' channels side by side. -/
noncomputable def side (y1 y2 : Fin 512 → Fin 32 → EReal) (y3 : Fin 512 → Fin 64 → EReal) (y4 : Fin 512 → Fin 128 → EReal)
    (i : Fin 512) (c : Fin 256) : EReal :=
  if h : c.val < 32 then y1 i ⟨c.val, h⟩
  else if h2 : c.val - 32 < 32 then y2 i ⟨c.val - 32, h2⟩
  else if h3 : c.val - 32 - 32 < 64 then y3 i ⟨c.val - 32 - 32, h3⟩
  else y4 i ⟨c.val - 32 - 32 - 64, by omega⟩

/-- One cloud: four layers, each on the last one's channels, and the product of all their channels with the last
weights. -/
noncomputable def net (x : Fin 512 → Fin 9 → EReal) (w1 : Fin 32 → Fin 18 → EReal) (w2 : Fin 32 → Fin 64 → EReal)
    (w3 : Fin 64 → Fin 64 → EReal) (w4 : Fin 128 → Fin 128 → EReal) (w5 : Fin 1024 → Fin 256 → EReal)
    (o : Fin 1024) (i : Fin 512) : EReal :=
  ∑ c, side (layer x w1) (layer (layer x w1) w2) (layer (layer (layer x w1) w2) w3)
    (layer (layer (layer (layer x w1) w2) w3) w4) i c * w5 o c

end Cert.Proof.V
-- ==== Proof.V.Kernel.lean ====
module

public import proofs.«01_k».proof.Proof.PI.Body
public import proofs.«01_k».proof.Proof.V.Spec
public import Idealize.ShloMosaic.Lib.Pointwise

@[expose] public section

noncomputable section

/-! What the kernel's value payloads hold at an index, at the ideal numbers: the distances, the one-hot mask of the first
greatest column, and a trip's maximum. -/

namespace Cert.Proof.V

open Cert.KernelIdeal Cert.KernelIdeal.Gen Cert.Proof.PI
open Idealize.ShloMosaic

/-- The named mask is minus infinity. -/
theorem mask_named : (Named.named (F := Ideal) κ "mask" 0xFF61B1E6#32 : Ideal .f32) = (⊥ : EReal) :=
  IdealRules.named_const.ideal_named_scalar _ _ _ _ rfl

/-- The index of the greatest entry along a row is the first greatest column. -/
theorem argmax_at (p : FVec Ideal S512x512 .f32) (i : Fin 512) :
    reduceIndex (F := Ideal) .argMax 1 S512 p reduces_S512x512_S512 (ix1 i) = BitVec.ofNat 32 (pick (mat p i)).val := by
  classical
  have hd : ∀ a b : Fin 512, reduces_S512x512_S512.drop (ix2 a b) = ix1 a := by
    intro a b
    funext k
    fin_cases k
    rfl
  have hs := pick_spec (mat p i)
  have hmin : ∀ S : Finset ℕ, (pick (mat p i)).val ∈ S → (∀ b ∈ S, (pick (mat p i)).val ≤ b) →
      S.min.getD 0 = (pick (mat p i)).val := by
    intro S h1 h2
    have h3 : S.min = ((pick (mat p i)).val : WithTop ℕ) :=
      le_antisymm (Finset.min_le h1) (Finset.le_min fun b hb => WithTop.coe_le_coe.mpr (h2 b hb))
    rw [h3]
    rfl
  change Ideal.reduceIndex _ _ _ _ _ = _
  unfold Ideal.reduceIndex
  refine congrArg (BitVec.ofNat 32) (hmin _ ?_ ?_)
  · refine Finset.mem_image.mpr ⟨ix2 i (pick (mat p i)), ?_, rfl⟩
    simp only [Finset.mem_filter, Finset.mem_univ, true_and, if_true, hd]
    intro q hq
    obtain ⟨a, b, rfl⟩ : ∃ a b, q = ix2 a b := ⟨_, _, eq_ix2 q⟩
    rw [hd] at hq
    obtain rfl : a = i := congrFun hq 0
    exact not_lt.mpr (hs.1 b)
  · intro n hn
    obtain ⟨q, hq, rfl⟩ := Finset.mem_image.mp hn
    simp only [Finset.mem_filter, Finset.mem_univ, true_and, if_true] at hq
    obtain ⟨a, b, rfl⟩ : ∃ a b, q = ix2 a b := ⟨_, _, eq_ix2 q⟩
    obtain ⟨hq, hb⟩ := hq
    rw [hd] at hq
    obtain rfl : a = i := congrFun hq 0
    have h1 := hb (ix2 a (pick (mat p a))) (hd _ _)
    by_contra h
    exact h1 (hs.2 b (by simpa using h))

/-- The mask of a round: one in the first greatest column. -/
theorem pay8_at (p : FVec Ideal S512x512 .f32) (i j : Fin 512) :
    k0_pay8 (F := Ideal) cols p (ix2 i j) = if j = pick (mat p i) then 1#1 else 0#1 := by
  pointwise [k0_pay8]
  rw [argmax_at]
  generalize pick (mat p i) = a
  change BitVec.ofBool (BitVec.ofNat 32 j.val == BitVec.ofNat 32 a.val) = _
  have h : (BitVec.ofNat 32 j.val = BitVec.ofNat 32 a.val) ↔ j = a := by
    constructor
    · intro h
      have := congrArg BitVec.toNat h
      simp only [BitVec.toNat_ofNat] at this
      apply Fin.ext
      omega
    · rintro rfl
      rfl
  by_cases hja : j = a
  · rw [if_pos hja, hja]; simp
  · rw [if_neg hja, beq_eq_false_iff_ne.mpr (fun h' => hja (h.mp h'))]; rfl

/-- The first layer's distances are the plain ones. -/
theorem pay34_at (x : Vec Ideal S1x512x9 .f32) (i j : Fin 512) :
    k0_pay34 (F := Ideal) x (ix2 i j) = dist (mat (k0_pay32 (F := Ideal) x)) i j := by
  pointwise [k0_pay34]
  rfl

/-- The kernel's strike-out of a row is the plain one. -/
theorem pay9_at (p : FVec Ideal S512x512 .f32) (i : Fin 512) :
    mat (k0_pay9 (F := Ideal) cols p) i = strike (mat p i) := by
  funext j
  unfold mat
  pointwise [k0_pay9]
  rw [pay8_at, mask_named]
  unfold strike mat
  split <;> rfl

/-- A sum against a round's mask is the summand at the first greatest column. -/
theorem onehot (p : FVec Ideal S512x512 .f32) (i : Fin 512) (f : Fin 512 → EReal) :
    ∑ j, FloatOps.sitofp (F := Ideal) .f32 (BitVec.setWidth 32 (k0_pay8 (F := Ideal) cols p (ix2 i j))) * f j
      = f (pick (mat p i)) := by
  have h1 : (FloatOps.sitofp (F := Ideal) .f32 (BitVec.setWidth 32 1#1) : EReal) = 1 := by
    change ((((BitVec.setWidth 32 1#1).toInt : ℤ) : ℝ) : EReal) = 1
    simp
  have h0 : (FloatOps.sitofp (F := Ideal) .f32 (BitVec.setWidth 32 0#1) : EReal) = 0 := by
    change ((((BitVec.setWidth 32 0#1).toInt : ℤ) : ℝ) : EReal) = 0
    simp
  rw [Finset.sum_eq_single (pick (mat p i))]
  · rw [pay8_at, if_pos rfl, h1, one_mul]
  · intro j _ hj
    rw [pay8_at, if_neg hj, h0, zero_mul]
  · intro h
    exact absurd (Finset.mem_univ _) h

/-- A trip of the first layer takes the maximum with the activations of the edge to the first greatest column. -/
theorem pay12_at {x : FVec Ideal S512x9 .f32} (hx : ∀ j c, Fin' (x (ix2 j c))) (p : FVec Ideal S512x512 .f32)
    (m : FVec Ideal S512x32 .f32) (w : Vec Ideal S32x18 .f32) (i : Fin 512) (o : Fin 32) :
    mat (k0_pay12 (F := Ideal) x cols (k0_pay41 x) (k0_pay43 w) p m) i o
      = max (mat m i o) (edge (mat x) (mat w) i (pick (mat p i)) o) := by
  have hs : ∀ j c, x (ix2 j c) - x (ix2 j c) = 0 := fun j c => (hx j c).sub_self
  unfold mat
  pointwise [k0_pay12, k0_pay41, k0_pay43]
  simp only [onehot, hs]
  refine congrArg (max _) (congrArg lr (Finset.sum_congr rfl fun c _ => congrArg (· * _) ?_))
  unfold feat
  by_cases h : c.val < 9
  · have h' : ¬ 18 + c.val < 9 := by omega
    simp only [h, h', dif_pos, dif_neg, not_false_eq_true, sub_zero, dite_eq_ite, ite_self, add_zero]
    rfl
  · have h' : c.val - 9 < 9 := by omega
    simp only [h, h', dif_pos, dif_neg, not_false_eq_true]

/-- The second layer picks as the first. -/
theorem pay14_eq (p : FVec Ideal S512x512 .f32) : k0_pay14 (F := Ideal) cols p = k0_pay8 (F := Ideal) cols p := rfl
/-- The second layer strikes out as the first. -/
theorem pay15_eq (p : FVec Ideal S512x512 .f32) : k0_pay15 (F := Ideal) cols p = k0_pay9 (F := Ideal) cols p := rfl

/-- A trip of the second layer takes the maximum with the activations of the edge to the first greatest column. -/
theorem pay18_at {x : FVec Ideal S512x32 .f32} (hx : ∀ j c, Fin' (x (ix2 j c))) (p : FVec Ideal S512x512 .f32)
    (m : FVec Ideal S512x32 .f32) (w : Vec Ideal S32x64 .f32) (i : Fin 512) (o : Fin 32) :
    mat (k0_pay18 (F := Ideal) x cols (k0_pay53 x) (k0_pay59 w) p m) i o
      = max (mat m i o) (edge (mat x) (mat w) i (pick (mat p i)) o) := by
  have hs : ∀ j c, x (ix2 j c) - x (ix2 j c) = 0 := fun j c => (hx j c).sub_self
  unfold mat
  pointwise [k0_pay18, k0_pay53, k0_pay59]
  simp only [pay14_eq, onehot, hs]
  refine congrArg (max _) (congrArg lr (Finset.sum_congr rfl fun c _ => congrArg (· * _) ?_))
  unfold feat
  by_cases h : c.val < 32
  · have h' : ¬ 64 + c.val < 32 := by omega
    simp only [h, h', dif_pos, dif_neg, not_false_eq_true, sub_zero, dite_eq_ite, ite_self, add_zero]
    rfl
  · have h' : c.val - 32 < 32 := by omega
    simp only [h, h', dif_pos, dif_neg, not_false_eq_true]

/-- The third layer picks as the first. -/
theorem pay20_eq (p : FVec Ideal S512x512 .f32) : k0_pay20 (F := Ideal) cols p = k0_pay8 (F := Ideal) cols p := rfl
/-- The third layer strikes out as the first. -/
theorem pay21_eq (p : FVec Ideal S512x512 .f32) : k0_pay21 (F := Ideal) cols p = k0_pay9 (F := Ideal) cols p := rfl

/-- A trip of the third layer takes the maximum with the activations of the edge to the first greatest column. -/
theorem pay24_at {x : FVec Ideal S512x32 .f32} (hx : ∀ j c, Fin' (x (ix2 j c))) (p : FVec Ideal S512x512 .f32)
    (m : FVec Ideal S512x64 .f32) (w : Vec Ideal S64x64 .f32) (i : Fin 512) (o : Fin 64) :
    mat (k0_pay24 (F := Ideal) x cols (k0_pay70 x) (k0_pay72 w) p m) i o
      = max (mat m i o) (edge (mat x) (mat w) i (pick (mat p i)) o) := by
  have hs : ∀ j c, x (ix2 j c) - x (ix2 j c) = 0 := fun j c => (hx j c).sub_self
  unfold mat
  pointwise [k0_pay24, k0_pay70, k0_pay72]
  simp only [pay20_eq, onehot, hs]
  refine congrArg (max _) (congrArg lr (Finset.sum_congr rfl fun c _ => congrArg (· * _) ?_))
  unfold feat
  by_cases h : c.val < 32
  · have h' : ¬ 64 + c.val < 32 := by omega
    simp only [h, h', dif_pos, dif_neg, not_false_eq_true, sub_zero, dite_eq_ite, ite_self, add_zero]
    rfl
  · have h' : c.val - 32 < 32 := by omega
    simp only [h, h', dif_pos, dif_neg, not_false_eq_true]

/-- The fourth layer picks as the first. -/
theorem pay26_eq (p : FVec Ideal S512x512 .f32) : k0_pay26 (F := Ideal) cols p = k0_pay8 (F := Ideal) cols p := rfl
/-- The fourth layer strikes out as the first. -/
theorem pay27_eq (p : FVec Ideal S512x512 .f32) : k0_pay27 (F := Ideal) cols p = k0_pay9 (F := Ideal) cols p := rfl

/-- A trip of the fourth layer takes the maximum with the activations of the edge to the first greatest column. -/
theorem pay30_at {x : FVec Ideal S512x64 .f32} (hx : ∀ j c, Fin' (x (ix2 j c))) (p : FVec Ideal S512x512 .f32)
    (m : FVec Ideal S512x128 .f32) (w : Vec Ideal S128x128 .f32) (i : Fin 512) (o : Fin 128) :
    mat (k0_pay30 (F := Ideal) x cols (k0_pay82 x) (k0_pay2 w) p m) i o
      = max (mat m i o) (edge (mat x) (mat w) i (pick (mat p i)) o) := by
  have hs : ∀ j c, x (ix2 j c) - x (ix2 j c) = 0 := fun j c => (hx j c).sub_self
  unfold mat
  pointwise [k0_pay30, k0_pay82, k0_pay2]
  simp only [pay26_eq, onehot, hs]
  refine congrArg (max _) (congrArg lr (Finset.sum_congr rfl fun c _ => congrArg (· * _) ?_))
  unfold feat
  by_cases h : c.val < 64
  · have h' : ¬ 128 + c.val < 64 := by omega
    simp only [h, h', dif_pos, dif_neg, not_false_eq_true, sub_zero, dite_eq_ite, ite_self, add_zero]
    rfl
  · have h' : c.val - 64 < 64 := by omega
    simp only [h, h', dif_pos, dif_neg, not_false_eq_true]

/-! The distances of the later layers. -/

/-- The second layer's distances are the plain ones. -/
theorem pay52_at (x : FVec Ideal S512x32 .f32) (i j : Fin 512) :
    k0_pay52 (F := Ideal) x (ix2 i j) = dist (mat x) i j := by
  pointwise [k0_pay52]
  rfl

/-- The third layer's distances are the plain ones. -/
theorem pay63_at (x : FVec Ideal S512x32 .f32) (i j : Fin 512) :
    k0_pay63 (F := Ideal) x (ix2 i j) = dist (mat x) i j := by
  pointwise [k0_pay63]
  rfl

/-- The fourth layer's distances are the plain ones. -/
theorem pay81_at (x : FVec Ideal S512x64 .f32) (i j : Fin 512) :
    k0_pay81 (F := Ideal) x (ix2 i j) = dist (mat x) i j := by
  pointwise [k0_pay81]
  rfl

/-- Rounds of a loop that strikes out the first greatest column and keeps the maximum of the activations. -/
theorem rounds {C D O : ℕ} (x : Fin 512 → Fin C → EReal) (w : Fin O → Fin D → EReal)
    (f : (S512x512.Idx → EReal) × ((⟨2, ![512, O]⟩ : Shape).Idx → EReal) →
      (S512x512.Idx → EReal) × ((⟨2, ![512, O]⟩ : Shape).Idx → EReal))
    (h1 : ∀ a i, mat (f a).1 i = strike (mat a.1 i))
    (h2 : ∀ a i o, mat (f a).2 i o = max (mat a.2 i o) (edge x w i (pick (mat a.1 i)) o))
    (a : (S512x512.Idx → EReal) × ((⟨2, ![512, O]⟩ : Shape).Idx → EReal)) (ha : ∀ i, mat a.2 i = fun _ => ⊥) (k : ℕ)
    (i : Fin 512) (o : Fin O) :
    mat (f^[k] a).1 i = strike^[k] (mat a.1 i)
      ∧ mat (f^[k] a).2 i o = (Finset.range k).sup fun t => edge x w i (nth (mat a.1 i) t) o := by
  induction k with
  | zero => exact ⟨rfl, by rw [Function.iterate_zero, id, ha]; simp⟩
  | succ k ih =>
    rw [Function.iterate_succ_apply', Function.iterate_succ_apply']
    refine ⟨by rw [h1, ih.1], ?_⟩
    rw [h2, ih.1, ih.2, Finset.range_add_one, Finset.sup_insert, max_comm]
    rfl

/-- The kernel's first layer. -/
theorem layer1_at (x : Vec Ideal S1x512x9 .f32) (w : Vec Ideal S32x18 .f32) (hx : ∀ j c, Fin' ((k0_pay32 (F := Ideal) x) (ix2 j c))) :
    mat (layer1 (F := Ideal) x w) = layer (mat (k0_pay32 (F := Ideal) x)) (mat w) := by
  funext i o
  have h := (rounds (mat (k0_pay32 (F := Ideal) x)) (mat w) (trip1 (F := Ideal) (k0_pay32 (F := Ideal) x) w)
    (fun a i => pay9_at a.1 i) (fun a i o => pay12_at hx a.1 a.2 w i o)
    (k0_pay34 (F := Ideal) x, k0_pay44 (F := Ideal)) (fun _ => funext fun _ => mask_named) 16 i o).2
  have e : mat (k0_pay34 (F := Ideal) x) i = dist (mat (k0_pay32 (F := Ideal) x)) i := funext fun j => pay34_at x i j
  rw [e] at h
  exact h

/-- The kernel's second layer. -/
theorem layer2_at (x : FVec Ideal S512x32 .f32) (w : Vec Ideal S32x64 .f32) (hx : ∀ j c, Fin' (x (ix2 j c))) :
    mat (layer2 (F := Ideal) x w) = layer (mat x) (mat w) := by
  funext i o
  have h := (rounds (mat x) (mat w) (trip2 (F := Ideal) x w)
    (fun a i => (congrArg (fun q => mat q i) (pay15_eq a.1)).trans (pay9_at a.1 i)) (fun a i o => pay18_at hx a.1 a.2 w i o)
    (k0_pay52 (F := Ideal) x, k0_pay60 (F := Ideal)) (fun _ => funext fun _ => mask_named) 16 i o).2
  have e : mat (k0_pay52 (F := Ideal) x) i = dist (mat x) i := funext fun j => pay52_at x i j
  rw [e] at h
  exact h

/-- The kernel's third layer. -/
theorem layer3_at (x : FVec Ideal S512x32 .f32) (w : Vec Ideal S64x64 .f32) (hx : ∀ j c, Fin' (x (ix2 j c))) :
    mat (layer3 (F := Ideal) x w) = layer (mat x) (mat w) := by
  funext i o
  have h := (rounds (mat x) (mat w) (trip3 (F := Ideal) x w)
    (fun a i => (congrArg (fun q => mat q i) (pay21_eq a.1)).trans (pay9_at a.1 i)) (fun a i o => pay24_at hx a.1 a.2 w i o)
    (k0_pay63 (F := Ideal) x, k0_pay73 (F := Ideal)) (fun _ => funext fun _ => mask_named) 16 i o).2
  have e : mat (k0_pay63 (F := Ideal) x) i = dist (mat x) i := funext fun j => pay63_at x i j
  rw [e] at h
  exact h

/-- The kernel's fourth layer. -/
theorem layer4_at (x : FVec Ideal S512x64 .f32) (w : Vec Ideal S128x128 .f32) (hx : ∀ j c, Fin' (x (ix2 j c))) :
    mat (layer4 (F := Ideal) x w) = layer (mat x) (mat w) := by
  funext i o
  have h := (rounds (mat x) (mat w) (trip4 (F := Ideal) x w)
    (fun a i => (congrArg (fun q => mat q i) (pay27_eq a.1)).trans (pay9_at a.1 i)) (fun a i o => pay30_at hx a.1 a.2 w i o)
    (k0_pay81 (F := Ideal) x, k0_pay4 (F := Ideal)) (fun _ => funext fun _ => mask_named) 16 i o).2
  have e : mat (k0_pay81 (F := Ideal) x) i = dist (mat x) i := funext fun j => pay81_at x i j
  rw [e] at h
  exact h

/-- The last product, channels first. -/
theorem pay6_at (y1 y2 : FVec Ideal S512x32 .f32) (y3 : FVec Ideal S512x64 .f32) (y4 : FVec Ideal S512x128 .f32)
    (w : Vec Ideal S1024x256 .f32) (o : Fin 1024) (i : Fin 512) :
    k0_pay6 (F := Ideal) y1 y2 y3 y4 w (ix3 0 o i) = ∑ c, side (mat y1) (mat y2) (mat y3) (mat y4) i c * mat w o c := by
  pointwise [k0_pay6]
  rfl

/-- A cloud without its leading axis. -/
theorem pay32_at (x : Vec Ideal S1x512x9 .f32) (i : Fin 512) (c : Fin 9) :
    k0_pay32 (F := Ideal) x (ix2 i c) = x (ix3 0 i c) := by
  pointwise [k0_pay32]

/-- What the kernel computes of one cloud. -/
theorem cloud_at (x : Vec Ideal S1x512x9 .f32) (w1 : Vec Ideal S32x18 .f32) (w2 : Vec Ideal S32x64 .f32)
    (w3 : Vec Ideal S64x64 .f32) (w4 : Vec Ideal S128x128 .f32) (w5 : Vec Ideal S1024x256 .f32)
    (hx : ∀ i c, Fin' (x (ix3 0 i c))) (h1 : ∀ o c, Fin' (mat w1 o c)) (h2 : ∀ o c, Fin' (mat w2 o c))
    (h3 : ∀ o c, Fin' (mat w3 o c)) (o : Fin 1024) (i : Fin 512) :
    cloud (F := Ideal) x w1 w2 w3 w4 w5 (ix3 0 o i)
      = net (fun i c => x (ix3 0 i c)) (mat w1) (mat w2) (mat w3) (mat w4) (mat w5) o i := by
  have ex : mat (k0_pay32 (F := Ideal) x) = fun i c => x (ix3 0 i c) := by
    funext i c
    exact pay32_at x i c
  have f0 : ∀ j c, Fin' (mat (k0_pay32 (F := Ideal) x) j c) := by rw [ex]; exact hx
  have e1 := layer1_at x w1 f0
  have f1 : ∀ j c, Fin' (mat (layer1 (F := Ideal) x w1) j c) := by rw [e1]; exact fin_layer f0 h1
  have e2 := layer2_at (layer1 (F := Ideal) x w1) w2 f1
  have f2 : ∀ j c, Fin' (mat (layer2 (F := Ideal) (layer1 x w1) w2) j c) := by rw [e2]; exact fin_layer f1 h2
  have e3 := layer3_at (layer2 (F := Ideal) (layer1 x w1) w2) w3 f2
  have f3 : ∀ j c, Fin' (mat (layer3 (F := Ideal) (layer2 (layer1 x w1) w2) w3) j c) := by
    rw [e3]; exact fin_layer f2 h3
  have e4 := layer4_at (layer3 (F := Ideal) (layer2 (layer1 x w1) w2) w3) w4 f3
  unfold cloud
  rw [pay6_at, e4, e3, e2, e1, ex]
  rfl

end Cert.Proof.V
-- ==== Proof.V.Array.lean ====
module

public import proofs.«01_k».proof.Proof.PI.Run
public import proofs.«01_k».proof.Proof.V.Kernel
public import Idealize.ShloMosaic.Lib.Pipeline.ValueKit

@[expose] public section

set_option maxRecDepth 16384
noncomputable section

/-! The kernel's result array after the run, at an index: the plain network of each cloud. -/

namespace Cert.Proof.V

open Cert.KernelIdeal Cert.KernelIdeal.Gen
open Idealize.ShloMosaic Idealize.ShloMosaic.TcCoe

/-- The plain network of every cloud. -/
def result (x : S32x512x9.Idx → EReal) (w1 : S32x18.Idx → EReal) (w2 : S32x64.Idx → EReal) (w3 : S64x64.Idx → EReal)
    (w4 : S128x128.Idx → EReal) (w5 : S1024x256.Idx → EReal) : S32x1024x512.Idx → EReal :=
  fun y => net (fun i c => x (ix3 (y 0) i c)) (mat w1) (mat w2) (mat w3) (mat w4) (mat w5) (y 1) (y 2)

/-- The output block holds the plain network of its two clouds. -/
theorem out_at (x : Vec Ideal S2x512x9 .f32) (w1 : Vec Ideal S32x18 .f32) (w2 : Vec Ideal S32x64 .f32) (w3 : Vec Ideal S64x64 .f32)
    (w4 : Vec Ideal S128x128 .f32) (w5 : Vec Ideal S1024x256 .f32)
    (hx : ∀ b i c, Fin' (x (ix3 b i c))) (g1 : ∀ o c, Fin' (mat w1 o c)) (g2 : ∀ o c, Fin' (mat w2 o c))
    (g3 : ∀ o c, Fin' (mat w3 o c)) (b : Fin 2) (o : Fin 1024) (i : Fin 512) :
    (PI.out (F := Ideal) x w1 w2 w3 w4 w5 (ix3 b o i) : EReal)
      = net (fun i c => x (ix3 b i c)) (mat w1) (mat w2) (mat w3) (mat w4) (mat w5) o i := by
  have l1 : View.ld w1 PI.rW1 = w1 := View.ld_unit_lit (h := by decide) ..
  have l2 : View.ld w2 PI.rW2 = w2 := View.ld_unit_lit (h := by decide) ..
  have l3 : View.ld w3 PI.rW3 = w3 := View.ld_unit_lit (h := by decide) ..
  have l4 : View.ld w4 PI.rW4 = w4 := View.ld_unit_lit (h := by decide) ..
  have l5 : View.ld w5 PI.rW5 = w5 := View.ld_unit_lit (h := by decide) ..
  have x0 : (fun (i : Fin 512) (c : Fin 9) => View.ld x PI.rIn0 (ix3 0 i c)) = fun i c => x (ix3 0 i c) := by
    funext i c
    pointwise []
  have x1 : (fun (i : Fin 512) (c : Fin 9) => View.ld x PI.rIn1 (ix3 0 i c)) = fun i c => x (ix3 1 i c) := by
    funext i c
    pointwise []
  unfold PI.out
  rw [l1, l2, l3, l4, l5]
  canon_tiles q h
  all_goals
    have hq : q = ix3 0 o i := by
      funext a
      fin_cases a
      · exact Fin.ext (by change (q 0).val = 0; omega)
      · exact Fin.ext h1.symm
      · exact Fin.ext h2.symm
    subst hq
  · obtain rfl : b = 1 := Fin.ext h0
    refine (cloud_at _ _ _ _ _ _ (fun i c => ?_) g1 g2 g3 o i).trans (by rw [x1])
    rw [congrFun (congrFun x1 i) c]
    exact hx 1 i c
  · obtain rfl : b = 0 := Fin.ext h0
    refine (cloud_at _ _ _ _ _ _ (fun i c => ?_) g1 g2 g3 o i).trans (by rw [x0])
    rw [congrFun (congrFun x0 i) c]
    exact hx 0 i c

variable (m : (ℓ : Loc nD τ sig) → Buf (Elt Ideal) ℓ) (c : Dev nD) (t : Fin cfg0.N)

/-- Point `t`'s block of the points starts at cloud `2 t`. -/
theorem idx0 : ∀ t : Fin cfg0.N, win0_0.index t = ![t.val, 0, 0] := by decide +kernel
/-- Every point's block of a weight matrix is the whole matrix. -/
theorem idx1 : ∀ t : Fin cfg0.N, win0_1.index t = ![0, 0] := by decide +kernel
/-- So it is of the second weights. -/
theorem idx2 : ∀ t : Fin cfg0.N, win0_2.index t = ![0, 0] := by decide +kernel
/-- So it is of the third weights. -/
theorem idx3 : ∀ t : Fin cfg0.N, win0_3.index t = ![0, 0] := by decide +kernel
/-- So it is of the fourth weights. -/
theorem idx4 : ∀ t : Fin cfg0.N, win0_4.index t = ![0, 0] := by decide +kernel
/-- So it is of the last weights. -/
theorem idx5 : ∀ t : Fin cfg0.N, win0_5.index t = ![0, 0] := by decide +kernel
/-- Point `t`'s block of the result starts at cloud `2 t`. -/
theorem idx6 : ∀ t : Fin cfg0.N, win0_6.index t = ![t.val, 0, 0] := by decide +kernel

/-- The cloud that is point `t`'s first or second. -/
abbrev cloudOf (b : Fin 2) : Fin 32 := ⟨2 * t.val + b.val, by have := t.isLt; have : cfg0.N = 16 := N_0; omega⟩

/-- Point `t`'s block of the points holds its two clouds. -/
theorem block0 (b : Fin 2) (i : Fin 512) (k : Fin 9) :
    (iblk m c 0 t (ix3 b i k) : EReal) = m ((c : Thread nD τ).loc main_arg0) (ix3 (cloudOf t b) i k) := by
  blk_simp [iblk]
  blk_ext! [idx0 t]

/-- The block of the first weights is the whole matrix. -/
theorem block1 : iblk m c 1 t = m ((c : Thread nD τ).loc main_arg1) := by
  funext y
  blk_simp [iblk]
  blk_ext! [idx1 t]

/-- The block of the second weights is the whole matrix. -/
theorem block2 : iblk m c 2 t = m ((c : Thread nD τ).loc main_arg2) := by
  funext y
  blk_simp [iblk]
  blk_ext! [idx2 t]

/-- The block of the third weights is the whole matrix. -/
theorem block3 : iblk m c 3 t = m ((c : Thread nD τ).loc main_arg3) := by
  funext y
  blk_simp [iblk]
  blk_ext! [idx3 t]

/-- The block of the fourth weights is the whole matrix. -/
theorem block4 : iblk m c 4 t = m ((c : Thread nD τ).loc main_arg4) := by
  funext y
  blk_simp [iblk]
  blk_ext! [idx4 t]

/-- The block of the last weights is the whole matrix. -/
theorem block5 : iblk m c 5 t = m ((c : Thread nD τ).loc main_arg5) := by
  funext y
  blk_simp [iblk]
  blk_ext! [idx5 t]

/-- Where an entry of point `t`'s block lies in the result array. -/
theorem block6 (b : Fin 2) (o : Fin 1024) (i : Fin 512) :
    (win0_6.blk t).view.emb (ix3 b o i) = ix3 (cloudOf t b) o i := by
  blk_ext! [idx6 t]

/-- On real numbers the kernel's result array is the plain network of every cloud. -/
theorem array (hx : ∀ b i k, Fin' (m ((c : Thread nD τ).loc main_arg0) (ix3 b i k)))
    (g1 : ∀ o k, Fin' (mat (m ((c : Thread nD τ).loc main_arg1)) o k))
    (g2 : ∀ o k, Fin' (mat (m ((c : Thread nD τ).loc main_arg2)) o k))
    (g3 : ∀ o k, Fin' (mat (m ((c : Thread nD τ).loc main_arg3)) o k)) :
    (PI.dats m 0 c).arrAt 6 (cfgs 0).N = result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (PI.dats m 0 c).arrAt_eq_of_covers 6 _ (by decide +kernel) fun t hf y => ?_
  blk_simp
  obtain ⟨b, o, i, rfl⟩ : ∃ (b : Fin 2) (o : Fin 1024) (i : Fin 512), y = ix3 b o i := ⟨_, _, _, eq_ix3 y⟩
  rw [PI.after_6, block1, block2, block3, block4, block5, block6]
  refine (out_at _ _ _ _ _ _ (fun b i k => ?_) g1 g2 g3 b o i).trans ?_
  · rw [block0]
    exact hx _ i k
  · simp only [block0]
    rfl

end Cert.Proof.V
-- ==== Proof.V.Finite.lean ====
module

public import proofs.«01_k».proof.Defs
public import proofs.«01_k».proof.Proof.Gen.Pre_finite_without_ties
public import proofs.«01_k».proof.Proof.V.Spec
public import Idealize.ShloMosaic.Lib.Pointwise
public import Idealize.ShloMosaic.Lib.ReduceAll

@[expose] public section

noncomputable section

/-! What the precondition gives: every argument's entries are real numbers. -/

namespace Cert.Proof.V

open Cert.Pre_finite_without_ties Cert.Pre_finite_without_ties.Gen
open Idealize.ShloMosaic

/-- A conjunction that is one at every index has a left side that is. -/
theorem and_left {s : Shape} {a b : IVec s 1} (h : andi a b = fun _ => 1#1) : a = fun _ => 1#1 := by
  have key : ∀ x y : BitVec 1, IntOp.andi x y = 1#1 → x = 1#1 := by decide
  exact funext fun i => key _ _ (congrFun h i)

/-- A conjunction that is one at every index has a right side that is. -/
theorem and_right {s : Shape} {a b : IVec s 1} (h : andi a b = fun _ => 1#1) : b = fun _ => 1#1 := by
  have key : ∀ x y : BitVec 1, IntOp.andi x y = 1#1 → y = 1#1 := by decide
  exact funext fun i => key _ _ (congrFun h i)

/-- A number whose absolute value is below infinity is real. -/
theorem fin_of_abs {x : EReal} (h : FloatOps.cmpf (F := Ideal) (φ := .f32) .olt (FloatOps.absf (F := Ideal) (φ := .f32) x)
    (Ideal.ofBits .f32 0x7F800000#32) = 1#1) : Fin' x := by
  have top : Ideal.ofBits .f32 0x7F800000#32 = (⊤ : EReal) := by simp [Ideal.ofBits, Ideal.ieee]
  rw [top] at h
  have hlt : max x (-x) < (⊤ : EReal) := by
    by_contra hn
    have : FloatOps.cmpf (F := Ideal) (φ := .f32) .olt (max x (-x)) (⊤ : EReal) = 0#1 := by
      show BitVec.ofBool (decide _) = 0#1
      simp [hn]
    exact absurd (this.symm.trans h) (by decide)
  induction x with
  | bot => simp at hlt
  | top => simp at hlt
  | coe r => exact ⟨r, rfl⟩

/-! ## The later parts keep the first conjuncts -/

/-- Part 14 of the precondition keeps the conjunction it is given. -/
theorem part14 (main_v196 : IVec S_ 1) (main_v255 : FVec Ideal S32x512x512 .f32) (main_v257 : IVec S32x1x512 1) (main_v258 : FVec Ideal S32x1x512 .f32) (main_cst_72 : FVec Ideal S_ .f32)
    (h : fn_part14 (F := Ideal) main_v196 main_v255 main_v257 main_v258 main_cst_72 = fun _ => 1#1) : main_v196 = fun _ => 1#1 :=
  and_left h

/-- Part 13 of the precondition keeps the conjunction it is given. -/
theorem part13 (main_v196 : IVec S_ 1) (main_v240 : FVec Ideal S32x64x512x16 .f32) (main_cst_66 : FVec Ideal S_ .f32)
    (h : fn_part13 (F := Ideal) main_v196 main_v240 main_cst_66 = fun _ => 1#1) : main_v196 = fun _ => 1#1 :=
  part14 _ _ _ _ _ h

/-- Part 12 of the precondition keeps the conjunction it is given. -/
theorem part12 (main_arg3 : FVec Ideal S64x64 .f32) (main_v196 : IVec S_ 1) (main_indices_62 : IVec S32x512x16 32) (main_v217 : FVec Ideal S32x512x32 .f32) (main_v218 : FVec Ideal S16384x32 .f32) (main_v219 : IVec S32 32) (main_c_63 : IVec S_ 32)
    (h : fn_part12 (F := Ideal) main_arg3 main_v196 main_indices_62 main_v217 main_v218 main_v219 main_c_63 = fun _ => 1#1) : main_v196 = fun _ => 1#1 :=
  part13 _ _ _ h

/-- Part 11 of the precondition keeps the conjunction it is given. -/
theorem part11 (main_arg3 : FVec Ideal S64x64 .f32) (main_v171 : FVec Ideal S32x32x512 .f32) (main_v196 : IVec S_ 1) (main_v200 : FVec Ideal S32x512x512 .f32) (main_v201 : FVec Ideal S32x32x512 .f32) (main_cst_57 : FVec Ideal S_ .f32)
    (h : fn_part11 (F := Ideal) main_arg3 main_v171 main_v196 main_v200 main_v201 main_cst_57 = fun _ => 1#1) : main_v196 = fun _ => 1#1 :=
  part12 _ _ _ _ _ _ _ h

/-- Part 10 of the precondition keeps the conjunction it is given. -/
theorem part10 (main_arg3 : FVec Ideal S64x64 .f32) (main_v125 : IVec S_ 1) (main_v171 : FVec Ideal S32x32x512 .f32) (main_v178 : FVec Ideal S32x1x512 .f32) (main_v184 : FVec Ideal S32x512x512 .f32) (main_cst_50 : FVec Ideal S_ .f32)
    (h : fn_part10 (F := Ideal) main_arg3 main_v125 main_v171 main_v178 main_v184 main_cst_50 = fun _ => 1#1) : main_v125 = fun _ => 1#1 :=
  and_left (part11 _ _ _ _ _ _ h)

/-- Part 9 of the precondition keeps the conjunction it is given. -/
theorem part9 (main_arg2 : FVec Ideal S32x64 .f32) (main_arg3 : FVec Ideal S64x64 .f32) (main_v125 : IVec S_ 1) (main_v164 : FVec Ideal S32x512x16x32 .f32) (main_v165 : FVec Ideal S32x512x16x32 .f32)
    (h : fn_part9 (F := Ideal) main_arg2 main_arg3 main_v125 main_v164 main_v165 = fun _ => 1#1) : main_v125 = fun _ => 1#1 :=
  part10 _ _ _ _ _ _ h

/-- Part 8 of the precondition keeps the conjunction it is given. -/
theorem part8 (main_arg2 : FVec Ideal S32x64 .f32) (main_arg3 : FVec Ideal S64x64 .f32) (main_v100 : FVec Ideal S32x32x512 .f32) (main_v125 : IVec S_ 1) (main_v145 : FVec Ideal S32x512x512 .f32)
    (h : fn_part8 (F := Ideal) main_arg2 main_arg3 main_v100 main_v125 main_v145 = fun _ => 1#1) : main_v125 = fun _ => 1#1 :=
  part9 _ _ _ _ _ h

/-- Part 7 of the precondition keeps the conjunction it is given. -/
theorem part7 (main_arg2 : FVec Ideal S32x64 .f32) (main_arg3 : FVec Ideal S64x64 .f32) (main_v100 : FVec Ideal S32x32x512 .f32) (main_v125 : IVec S_ 1) (main_v127 : FVec Ideal S32x512x512 .f32)
    (h : fn_part7 (F := Ideal) main_arg2 main_arg3 main_v100 main_v125 main_v127 = fun _ => 1#1) : main_v125 = fun _ => 1#1 :=
  part8 _ _ _ _ _ h

/-- Part 6 of the precondition keeps the conjunction it is given. -/
theorem part6 (main_arg2 : FVec Ideal S32x64 .f32) (main_arg3 : FVec Ideal S64x64 .f32) (main_v54 : IVec S_ 1) (main_v100 : FVec Ideal S32x32x512 .f32) (main_v104 : FVec Ideal S32x512x512 .f32) (main_v107 : FVec Ideal S32x1x512 .f32) (main_v109 : FVec Ideal S32x512x512 .f32)
    (h : fn_part6 (F := Ideal) main_arg2 main_arg3 main_v54 main_v100 main_v104 main_v107 main_v109 = fun _ => 1#1) : main_v54 = fun _ => 1#1 :=
  and_left (part7 _ _ _ _ _ h)

/-- Part 5 of the precondition keeps the conjunction it is given. -/
theorem part5 (main_arg1 : FVec Ideal S32x18 .f32) (main_arg2 : FVec Ideal S32x64 .f32) (main_arg3 : FVec Ideal S64x64 .f32) (main_v54 : IVec S_ 1) (main_v75 : FVec Ideal S32x512x9 .f32) (main_v76 : FVec Ideal S16384x9 .f32) (main_v89 : IVec S262144x1 32)
    (h : fn_part5 (F := Ideal) main_arg1 main_arg2 main_arg3 main_v54 main_v75 main_v76 main_v89 = fun _ => 1#1) : main_v54 = fun _ => 1#1 :=
  part6 _ _ _ _ _ _ _ h

/-- Part 4 of the precondition keeps the conjunction it is given. -/
theorem part4 (main_arg1 : FVec Ideal S32x18 .f32) (main_arg2 : FVec Ideal S32x64 .f32) (main_arg3 : FVec Ideal S64x64 .f32) (main_v29 : FVec Ideal S32x9x512 .f32) (main_v54 : IVec S_ 1) (main_v67 : FVec Ideal S32x512x512 .f32) (main_v69 : IVec S32x1x512 1) (main_v70 : FVec Ideal S32x1x512 .f32) (main_cst_20 : FVec Ideal S_ .f32)
    (h : fn_part4 (F := Ideal) main_arg1 main_arg2 main_arg3 main_v29 main_v54 main_v67 main_v69 main_v70 main_cst_20 = fun _ => 1#1) : main_v54 = fun _ => 1#1 :=
  part5 _ _ _ _ _ _ _ h

/-- Part 3 of the precondition keeps the conjunction it is given. -/
theorem part3 (main_arg1 : FVec Ideal S32x18 .f32) (main_arg2 : FVec Ideal S32x64 .f32) (main_arg3 : FVec Ideal S64x64 .f32) (main_v28 : IVec S_ 1) (main_v29 : FVec Ideal S32x9x512 .f32) (main_v52 : IVec S32x512x16 1)
    (h : fn_part3 (F := Ideal) main_arg1 main_arg2 main_arg3 main_v28 main_v29 main_v52 = fun _ => 1#1) : main_v28 = fun _ => 1#1 :=
  and_left (part4 _ _ _ _ _ _ _ _ _ h)

/-- Part 2 of the precondition keeps the conjunction it is given. -/
theorem part2 (main_arg1 : FVec Ideal S32x18 .f32) (main_arg2 : FVec Ideal S32x64 .f32) (main_arg3 : FVec Ideal S64x64 .f32) (main_v28 : IVec S_ 1) (main_v29 : FVec Ideal S32x9x512 .f32) (main_v33 : FVec Ideal S32x512x512 .f32) (main_v34 : FVec Ideal S32x9x512 .f32)
    (h : fn_part2 (F := Ideal) main_arg1 main_arg2 main_arg3 main_v28 main_v29 main_v33 main_v34 = fun _ => 1#1) : main_v28 = fun _ => 1#1 :=
  part3 _ _ _ _ _ _ h

/-- The first conjunct of the precondition, argument by argument, at the entries the value proof needs. -/
theorem finite (x : FVec Ideal S32x512x9 .f32) (w1 : FVec Ideal S32x18 .f32) (w2 : FVec Ideal S32x64 .f32)
    (w3 : FVec Ideal S64x64 .f32) (w4 : FVec Ideal S128x128 .f32) (w5 : FVec Ideal S1024x256 .f32)
    (h : fn (F := Ideal) x w1 w2 w3 w4 w5 = fun _ => 1#1) :
    (∀ b i c, Fin' (x (ix3 b i c))) ∧ (∀ o c, Fin' (w1 (ix2 o c))) ∧ (∀ o c, Fin' (w2 (ix2 o c)))
      ∧ ∀ o c, Fin' (w3 (ix2 o c)) := by
  have : Subsingleton S_.Idx := ⟨fun a b => funext fun i => i.elim0⟩
  have h28 := part2 _ _ _ _ _ _ _ h
  have h18 := and_left (and_left h28)
  have h13 := and_left h18
  have h8 := and_left h13
  exact ⟨fun b i c => fin_of_abs (Host.reduce_andi_all _ _ _ _ _ (congrFun (and_left h8) ix0) (ix3 b i c)),
    fun o c => fin_of_abs (Host.reduce_andi_all _ _ _ _ _ (congrFun (and_right h8) ix0) (ix2 o c)),
    fun o c => fin_of_abs (Host.reduce_andi_all _ _ _ _ _ (congrFun (and_right h13) ix0) (ix2 o c)),
    fun o c => fin_of_abs (Host.reduce_andi_all _ _ _ _ _ (congrFun (and_right h18) ix0) (ix2 o c))⟩

end Cert.Proof.V
-- ==== Proof.V.Host.lean ====
module

public import proofs.«01_k».proof.Proof.V.Spec
public import Idealize.ShloMosaic.Lib.Pointwise

@[expose] public section

noncomputable section

/-! Host operations read at an index: the columns a top-16 names, a gather of whole rows, and a maximum over the last
axis. -/

namespace Cert.Proof.V

open Idealize.ShloMosaic

/-- The cube one layer's distances fill: a cloud, a row and a column. -/
abbrev Cube (B n : ℕ) : Shape := ⟨3, ![B, n, n]⟩

variable {B n K : ℕ} [NeZero n]

/-- Moving along the last axis replaces the last coordinate. -/
theorem along_last (h2 : 2 < (Cube B n).rank) (b : Fin B) (i q k : Fin n) :
    (ix3 b i q : (Cube B n).Idx).along ⟨2, h2⟩ k = ix3 b i k := by
  funext a
  match a with
  | ⟨0, _⟩ => rfl
  | ⟨1, _⟩ => rfl
  | ⟨2, _⟩ => rfl

/-- The second array of a two-array sort along the last axis reads the position the first one's line is sorted from. -/
theorem sort2_at {α β : Type} (cmp : α × β → α × β → BitVec 1) (x : (Cube B n).Idx → α) (y : (Cube B n).Idx → β) (b : Fin B)
    (i q : Fin n) :
    (Host.sort2 (Cube B n) 2 cmp x y).2 (ix3 b i q)
      = y (ix3 b i (sortedFrom (fun k k' : Fin n =>
          cmp (x (ix3 b i k), y (ix3 b i k)) (x (ix3 b i k'), y (ix3 b i k')) == 1#1) q)) := by
  have h2 : 2 < (Cube B n).rank := Nat.lt_succ_self 2
  unfold Host.sort2
  rw [dif_pos h2]
  refine (congrArg y (along_last h2 b i q _)).trans (congrArg (fun B => y (ix3 b i (sortedFrom B q))) ?_)
  funext k k'
  exact congrArg₂ (fun u v => cmp (x u, y u) (x v, y v) == 1#1) (along_last h2 b i q k) (along_last h2 b i q k')

/-- The first columns, read at an index. -/
theorem slice_at {α : Type} (v : (Cube B n).Idx → α) (h : (Cube B n).Slices (fun _ => 0) ⟨3, ![B, n, K]⟩) (b : Fin B)
    (i : Fin n) (k : Fin K) (hk : K ≤ n) :
    extractStridedSlice ⟨3, ![B, n, K]⟩ (fun _ => 0) v h (ix3 b i k) = v (ix3 b i (k.castLE hk)) := by
  refine congrArg v (funext fun a => ?_)
  match a with
  | ⟨0, _⟩ => exact Fin.ext (Nat.zero_add _)
  | ⟨1, _⟩ => exact Fin.ext (Nat.zero_add _)
  | ⟨2, _⟩ => exact Fin.ext (Nat.zero_add _)

/-- The total order's comparison is the order of the numbers. -/
theorem gt_at (a c : EReal) : (FloatOps.cmpfTotal (F := Ideal) (φ := .f32) .gt a c == 1#1) = decide (c < a) := by
  change (BitVec.ofBool (decide (c < a)) == 1#1) = _
  cases decide (c < a) <;> rfl

/-- The columns a top-K along the last axis names are those of the rounds. -/
theorem topK_at (p : (Cube B n).Idx → EReal) (h : (Cube B n).Slices (fun _ => 0) ⟨3, ![B, n, K]⟩) (b : Fin B) (i : Fin n)
    (k : Fin K) (hK : K ≤ n) (hp : ∀ j, ⊥ < p (ix3 b i j)) :
    (Host.topK ⟨3, ![B, n, K]⟩ 2 (FloatOps.cmpfTotal (F := Ideal) (φ := .f32) .gt) p h).2 (ix3 b i k)
      = BitVec.ofNat 32 (nth (fun j => p (ix3 b i j)) k).val := by
  unfold Host.topK
  dsimp only
  rw [slice_at _ h b i k hK, sort2_at]
  simp only [gt_at]
  rw [sortedFrom_eq_nth hp hK k]
  exact dif_pos (show 2 < (Cube B n).rank from Nat.lt_succ_self 2)

/-- The dimension numbers of a gather of whole rows. -/
abbrev rowDims (N M C : ℕ)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- A gather of whole rows reads, in each row, the row of its number. -/
theorem gather_at {N M C : ℕ} (hN : N ≤ 2147483647) (wf : GatherDims.WF ⟨2, ![N, C]⟩ ⟨2, ![M, 1]⟩ ⟨2, ![M, C]⟩ [1] [0] [] [0] [] 1 ![1, C])
    (x : (⟨2, ![N, C]⟩ : Shape).Idx → EReal) (idx : IVec ⟨2, ![M, 1]⟩ 32) (p : Fin M) (c : Fin C)
    (r : Fin N) (hr : idx (ix2 p 0) = BitVec.ofNat 32 r.val) :
    Host.gather (rowDims N M C wf) x idx (ix2 p c) = x (ix2 r c) := by
  have hb : ∀ a : Fin 2, (rowDims N M C wf).batchCoord (ix2 p c) a = 0 := fun a =>
    GatherDims.batchCoord_eq_zero _ _ _ (List.not_mem_nil)
  have h0 : (rowDims N M C wf).start (ix2 p c) idx 0 = r.val := by
    unfold GatherDims.start
    rw [dif_pos (show (0 : Fin 2) ∈ (rowDims N M C wf).startIndexMap from List.mem_singleton.mpr rfl)]
    have hsi : (rowDims N M C wf).siIdx (ix2 p c) ⟨List.idxOf (0 : Fin 2) (rowDims N M C wf).startIndexMap,
        List.idxOf_lt_length_iff.2 (List.mem_singleton.mpr rfl)⟩ = ix2 p 0 := by
      funext t
      refine Fin.ext ?_
      match t with
      | ⟨0, _⟩ => rfl
      | ⟨1, _⟩ => rfl
    rw [hsi, hr]
    have hlt := r.isLt
    have ht : (BitVec.ofNat 32 r.val).toInt.toNat = r.val := by
      rw [BitVec.toInt_eq_toNat_of_lt (by rw [BitVec.toNat_ofNat]; omega), BitVec.toNat_ofNat]
      omega
    rw [ht]
    show min r.val (N - 1) = r.val
    omega
  have h1 : (rowDims N M C wf).offCoord (ix2 p c) 0 = 0 :=
    GatherDims.offCoord_eq_zero _ _ _ (fun h => ((GatherDims.mem_sKept _ _).mp h).1 (List.mem_singleton.mpr rfl))
  have h2 : (rowDims N M C wf).start (ix2 p c) idx 1 = 0 := by
    unfold GatherDims.start
    rw [dif_neg (show ¬ (1 : Fin 2) ∈ (rowDims N M C wf).startIndexMap from by simp)]
  have h3 : (rowDims N M C wf).offCoord (ix2 p c) 1 = c.val := by
    unfold GatherDims.offCoord
    rw [dif_pos ((GatherDims.mem_sKept _ _).mpr ⟨by simp, by simp⟩)]
    rfl
  unfold Host.gather
  refine congrArg x (funext fun a => Fin.ext ?_)
  show (rowDims N M C wf).start (ix2 p c) idx a + (rowDims N M C wf).batchCoord (ix2 p c) a
    + (rowDims N M C wf).offCoord (ix2 p c) a = _
  rw [hb, Nat.add_zero]
  match a with
  | ⟨0, _⟩ =>
    refine (congrArg₂ (· + ·) h0 h1).trans ?_
    rfl
  | ⟨1, _⟩ =>
    refine (congrArg₂ (· + ·) h2 h3).trans ?_
    exact Nat.zero_add _

/-- A maximum over the first entries, from the least number, is their greatest. -/
theorem maxK {K : ℕ} (f : Fin K → EReal) (g : ℕ → EReal) (hg : ∀ k, f k = g k.val) :
    Finset.fold max (Ideal.ofBits .f32 0xFF800000#32) f Finset.univ = (Finset.range K).sup g := by
  have hbot : Ideal.ofBits .f32 0xFF800000#32 = ⊥ := by simp [Ideal.ofBits, Ideal.ieee]
  apply le_antisymm
  · rw [Finset.fold_max_le, hbot]
    refine ⟨bot_le, fun k _ => ?_⟩
    rw [hg]
    exact Finset.le_sup (f := g) (Finset.mem_range.mpr k.isLt)
  · refine Finset.sup_le fun k hk => ?_
    rw [Finset.le_fold_max]
    exact Or.inr ⟨⟨k, Finset.mem_range.mp hk⟩, Finset.mem_univ _, (hg ⟨k, Finset.mem_range.mp hk⟩).ge⟩

/-- The features' product with the weights, the two halves apart. -/
theorem feat_sum {n C D : ℕ} (hD : D = C + C) (x : Fin n → Fin C → EReal) (w : Fin D → EReal) (i j : Fin n) :
    ∑ c : Fin D, feat x i j c * w c
      = ∑ c : Fin C, (x j c - x i c) * w ⟨c.val, by omega⟩ + ∑ c : Fin C, x i c * w ⟨C + c.val, by omega⟩ := by
  subst hD
  rw [Fin.sum_univ_add]
  congr 1
  · refine Finset.sum_congr rfl fun c _ => ?_
    unfold feat
    rw [dif_pos (show (Fin.castAdd C c).val < C from c.isLt)]
    rfl
  · refine Finset.sum_congr rfl fun c _ => ?_
    have h1 : ¬ (Fin.natAdd C c).val < C := by simp
    have h2 : (Fin.natAdd C c).val - C < C := by simp
    unfold feat
    rw [dif_neg h1, dif_pos h2]
    congr 2
    exact Fin.ext (by simp)

end Cert.Proof.V
-- ==== Proof.V.Reference.lean ====
module

public import proofs.«01_k».proof.Proof.Gen.ReferenceIdeal.Run
public import proofs.«01_k».proof.Proof.V.Host
public import Idealize.ShloMosaic.Lib.Pointwise

@[expose] public section

noncomputable section

/-! What the reference's layers hold at an index: the same plain layer. -/

namespace Cert.Proof.V

open Cert.ReferenceIdeal Cert.ReferenceIdeal.Gen Cert.ReferenceIdeal.Value
open Idealize.ShloMosaic

/-- Cloud `b` of a channels-first array, as a function of point and channel. -/
def cl {C : ℕ} (y : (⟨3, ![32, C, 512]⟩ : Shape).Idx → EReal) (b : Fin 32) (i : Fin 512) (c : Fin C) : EReal := y (ix3 b c i)

/-- The row numbers of a top-16 among all clouds' points. -/
def rowNo (p : FVec Ideal S32x512x512 .f32) : IVec S262144 32 :=
  shapeCast _ (addi ((Host.topK S32x512x16 2 (FloatOps.cmpfTotal .gt) p sliceFits_S32x512x512_S32x512x16).2) (broadcastInDim S32x512x16 ![0, 1, 2] bcast_S32x1x1_S32x512x16_0_1_2 (shapeCast _ (muli (iotaInDim S32 32 0) (broadcastInDim S32 ![] bcast_S_S32 (constantI S_ 32 512#32))) shapeCasts_S32_S32x1x1))) shapeCasts_S32x512x16_S262144

/-- The row numbers as the gather takes them: a negative one would count from the end. -/
def rowIx (v : IVec S262144 32) : IVec S262144x1 32 :=
  broadcastInDim S262144x1 ![0] bcast_S262144_S262144x1_0 (select (cmpi .slt v (broadcastInDim S262144 ![] bcast_S_S262144 (constantI S_ 32 0#32))) (addi v (broadcastInDim S262144 ![] bcast_S_S262144 (constantI S_ 32 16384#32))) v)

/-- The place of cloud `b`, point `i` and round `k` in the flat list of row numbers. -/
abbrev flatAt (b : Fin 32) (i : Fin 512) (k : Fin 16) : Fin 262144 := ⟨b.val * 8192 + i.val * 16 + k.val, by omega⟩

/-- The row of cloud `b`'s point `i`. -/
abbrev rowAt (b : Fin 32) (i : Fin 512) : Fin 16384 := ⟨b.val * 512 + i.val, by omega⟩

/-- The row number at a cloud's point and round is the row of the point the round takes. -/
theorem rowNo_at (p : FVec Ideal S32x512x512 .f32) (b : Fin 32) (i : Fin 512) (k : Fin 16)
    (hp : ∀ j, ⊥ < p (ix3 b i j)) :
    rowNo p (ix1 (flatAt b i k)) = BitVec.ofNat 32 (rowAt b (nth (fun j => p (ix3 b i j)) k)).val := by
  pointwise [rowNo]
  have e1 : (b.val * 8192 + i.val * 16 + k.val) / 8192 = b.val := by omega
  have e2 : (b.val * 8192 + i.val * 16 + k.val) / 16 % 512 = i.val := by omega
  have e3 : (b.val * 8192 + i.val * 16 + k.val) % 16 = k.val := by omega
  simp only [e1, e2, e3, Fin.eta]
  have ht : (Host.topK S32x512x16 2 (FloatOps.cmpfTotal (F := Ideal) (φ := .f32) .gt) p
      sliceFits_S32x512x512_S32x512x16).2 (ix3 b i k) = _ := topK_at p _ b i k (by decide) hp
  rw [ht]
  generalize nth (fun j => p (ix3 b i j)) k = z
  change BitVec.ofNat 32 z.val + BitVec.ofNat 32 b.val * BitVec.ofNat 32 512 = _
  rw [← BitVec.ofNat_mul, ← BitVec.ofNat_add, Nat.add_comm]

/-- A row number that is a row's is not counted from the end. -/
theorem rowIx_at (v : IVec S262144 32) (q : Fin 262144) (r : Fin 16384) (hv : v (ix1 q) = BitVec.ofNat 32 r.val) :
    rowIx v (ix2 q 0) = BitVec.ofNat 32 r.val := by
  pointwise [rowIx]
  rw [hv]
  have h : IntOp.cmpi .slt (BitVec.ofNat 32 r.val) 0#32 = 0#1 := by
    change BitVec.ofBool ((BitVec.ofNat 32 r.val).slt 0#32) = 0#1
    have := r.isLt
    rw [BitVec.slt_eq_decide, BitVec.toInt_eq_toNat_of_lt (by rw [BitVec.toNat_ofNat]; omega)]
    rw [decide_eq_false (by simp; omega)]
    rfl
  rw [h]
  rfl

/-- A gather at the row numbers of a top-16 reads the points the rounds take. -/
theorem gather_rows {C : ℕ} (wf : GatherDims.WF ⟨2, ![16384, C]⟩ ⟨2, ![262144, 1]⟩ ⟨2, ![262144, C]⟩ [1] [0] [] [0] [] 1 ![1, C])
    (x : (⟨2, ![16384, C]⟩ : Shape).Idx → EReal) (p : FVec Ideal S32x512x512 .f32) (b : Fin 32) (i : Fin 512) (k : Fin 16)
    (c : Fin C) (hp : ∀ j, ⊥ < p (ix3 b i j)) :
    Host.gather (rowDims 16384 262144 C wf) x (rowIx (rowNo p)) (ix2 (flatAt b i k) c)
      = x (ix2 (rowAt b (nth (fun j => p (ix3 b i j)) k)) c) :=
  gather_at (by decide) wf x _ _ c _ (rowIx_at _ _ _ (rowNo_at p b i k hp))

/-- The two halves of an edge's product, as the reference writes them, are the product of the features. -/
theorem conv_eq {C D : ℕ} (hD : D = C + C) {x : Fin 512 → Fin C → EReal} (hx : ∀ i c, Fin' (x i c))
    (p : FVec Ideal S32x512x512 .f32) (b : Fin 32) (i : Fin 512) (k : Fin 16) (hp : ∀ j, p (ix3 b i j) = dist x i j)
    (wf : GatherDims.WF ⟨2, ![16384, C]⟩ ⟨2, ![262144, 1]⟩ ⟨2, ![262144, C]⟩ [1] [0] [] [0] [] 1 ![1, C])
    (y : (⟨2, ![16384, C]⟩ : Shape).Idx → EReal) (hy : ∀ z c, y (ix2 (rowAt b z) c) = x z c)
    (e : Fin C → EReal) (he : ∀ c, e c = x i c) (w : Fin D → EReal) :
    ∑ c : Fin C, (Host.gather (rowDims 16384 262144 C wf) y (rowIx (rowNo p)) (ix2 (flatAt b i k) c) - e c) * w ⟨c.val, by omega⟩
        + ∑ c : Fin C, e c * w ⟨C + c.val, by omega⟩
      = ∑ c : Fin D, feat x i (nth (dist x i) k) c * w c := by
  have hd : (fun j => p (ix3 b i j)) = dist x i := funext hp
  have hg : ∀ c, Host.gather (rowDims 16384 262144 C wf) y (rowIx (rowNo p)) (ix2 (flatAt b i k) c) = x (nth (dist x i) k) c := by
    intro c
    rw [gather_rows wf y p b i k c fun j => by rw [hp]; exact (fin_dist hx i j).bot_lt, hd, hy]
  rw [feat_sum hD]
  simp only [hg, he]

/-- A row's cloud. -/
theorem row_div (b : Fin 32) (z : Fin 512) : (b.val * 512 + z.val) / 512 = b.val := by omega
/-- A row's point in its cloud. -/
theorem row_mod (b : Fin 32) (z : Fin 512) : (b.val * 512 + z.val) % 512 = z.val := by omega

/-! ## Distances -/

/-- The distances of points with 9 channels, as the reference writes them. -/
def dists9 (y : FVec Ideal S32x9x512 .f32) : FVec Ideal S32x512x512 .f32 :=
  let n := broadcastInDim S32x1x512 ![0, 2] bcast_S32x512_S32x1x512_0_2 (Host.reduceAdd (mulf y y) (constant S_ .f32 0x00000000#32) reducesTo_S32x9x512_S32x512_d1 h_S_)
  mulf (subf (subf (broadcastInDim S32x512x512 ![0, 1, 2] bcast_S32x1x512_S32x512x512_0_1_2 (Host.negf n)) (mulf (broadcastInDim S32x512x512 ![] bcast_S_S32x512x512 (constant S_ .f32 0xC0000000#32)) (Host.dotGeneral dot_S32x512x9_S32x9x512_S32x512x512_2_1_1_2_0_0 none (transpose S32x512x9 [0, 2, 1] y transposes_S32x9x512_S32x512x9_0_2_1) y))) (broadcastInDim S32x512x512 ![0, 1, 2] bcast_S32x512x1_S32x512x512_0_1_2 (transpose S32x512x1 [0, 2, 1] n transposes_S32x1x512_S32x512x1_0_2_1))) (broadcastInDim S32x512x512 ![0, 1, 2] bcast_S32x1x512_S32x512x512_0_1_2 (select (cmpf .ogt n (broadcastInDim S32x1x512 ![] bcast_S_S32x1x512 (constant S_ .f32 0x00000000#32))) (broadcastInDim S32x1x512 ![] bcast_S_S32x1x512 (constant S_ .f32 0x3F800000#32)) (broadcastInDim S32x1x512 ![] bcast_S_S32x1x512 (constant S_ .f32 0x4B189680#32))))

/-- They are the plain distances. -/
theorem dists9_at (y : FVec Ideal S32x9x512 .f32) (b : Fin 32) (i j : Fin 512) :
    (dists9 y (ix3 b i j) : EReal) = dist (cl y b) i j := by
  pointwise [dists9]
  unfold dist sq
  rw [zero_sub]
  rfl

/-- The distances of points with 32 channels, as the reference writes them. -/
def dists32 (y : FVec Ideal S32x32x512 .f32) : FVec Ideal S32x512x512 .f32 :=
  let n := broadcastInDim S32x1x512 ![0, 2] bcast_S32x512_S32x1x512_0_2 (Host.reduceAdd (mulf y y) (constant S_ .f32 0x00000000#32) reducesTo_S32x32x512_S32x512_d1 h_S_)
  mulf (subf (subf (broadcastInDim S32x512x512 ![0, 1, 2] bcast_S32x1x512_S32x512x512_0_1_2 (Host.negf n)) (mulf (broadcastInDim S32x512x512 ![] bcast_S_S32x512x512 (constant S_ .f32 0xC0000000#32)) (Host.dotGeneral dot_S32x512x32_S32x32x512_S32x512x512_2_1_1_2_0_0 none (transpose S32x512x32 [0, 2, 1] y transposes_S32x32x512_S32x512x32_0_2_1) y))) (broadcastInDim S32x512x512 ![0, 1, 2] bcast_S32x512x1_S32x512x512_0_1_2 (transpose S32x512x1 [0, 2, 1] n transposes_S32x1x512_S32x512x1_0_2_1))) (broadcastInDim S32x512x512 ![0, 1, 2] bcast_S32x1x512_S32x512x512_0_1_2 (select (cmpf .ogt n (broadcastInDim S32x1x512 ![] bcast_S_S32x1x512 (constant S_ .f32 0x00000000#32))) (broadcastInDim S32x1x512 ![] bcast_S_S32x1x512 (constant S_ .f32 0x3F800000#32)) (broadcastInDim S32x1x512 ![] bcast_S_S32x1x512 (constant S_ .f32 0x4B189680#32))))

/-- They are the plain distances. -/
theorem dists32_at (y : FVec Ideal S32x32x512 .f32) (b : Fin 32) (i j : Fin 512) :
    (dists32 y (ix3 b i j) : EReal) = dist (cl y b) i j := by
  pointwise [dists32]
  unfold dist sq
  rw [zero_sub]
  rfl

/-- The distances of points with 64 channels, as the reference writes them. -/
def dists64 (y : FVec Ideal S32x64x512 .f32) : FVec Ideal S32x512x512 .f32 :=
  let n := broadcastInDim S32x1x512 ![0, 2] bcast_S32x512_S32x1x512_0_2 (Host.reduceAdd (mulf y y) (constant S_ .f32 0x00000000#32) reducesTo_S32x64x512_S32x512_d1 h_S_)
  mulf (subf (subf (broadcastInDim S32x512x512 ![0, 1, 2] bcast_S32x1x512_S32x512x512_0_1_2 (Host.negf n)) (mulf (broadcastInDim S32x512x512 ![] bcast_S_S32x512x512 (constant S_ .f32 0xC0000000#32)) (Host.dotGeneral dot_S32x512x64_S32x64x512_S32x512x512_2_1_1_2_0_0 none (transpose S32x512x64 [0, 2, 1] y transposes_S32x64x512_S32x512x64_0_2_1) y))) (broadcastInDim S32x512x512 ![0, 1, 2] bcast_S32x512x1_S32x512x512_0_1_2 (transpose S32x512x1 [0, 2, 1] n transposes_S32x1x512_S32x512x1_0_2_1))) (broadcastInDim S32x512x512 ![0, 1, 2] bcast_S32x1x512_S32x512x512_0_1_2 (select (cmpf .ogt n (broadcastInDim S32x1x512 ![] bcast_S_S32x1x512 (constant S_ .f32 0x00000000#32))) (broadcastInDim S32x1x512 ![] bcast_S_S32x1x512 (constant S_ .f32 0x3F800000#32)) (broadcastInDim S32x1x512 ![] bcast_S_S32x1x512 (constant S_ .f32 0x4B189680#32))))

/-- They are the plain distances. -/
theorem dists64_at (y : FVec Ideal S32x64x512 .f32) (b : Fin 32) (i j : Fin 512) :
    (dists64 y (ix3 b i j) : EReal) = dist (cl y b) i j := by
  pointwise [dists64]
  unfold dist sq
  rw [zero_sub]
  rfl

/-! ## Products -/

/-- An edge's product with 32 filters over 9 channels, as the reference writes it, from the points and their distances. -/
def convs9_32 (y : FVec Ideal S32x9x512 .f32) (p : FVec Ideal S32x512x512 .f32) (w : FVec Ideal S32x18 .f32) :
    FVec Ideal S32x32x512x16 .f32 :=
  let t := transpose S32x512x9 [0, 2, 1] y transposes_S32x9x512_S32x512x9_0_2_1
  let e := broadcastInDim S32x512x16x9 ![0, 1, 2, 3] bcast_S32x512x1x9_S32x512x16x9_0_1_2_3 (broadcastInDim S32x512x1x9 ![0, 1, 3] bcast_S32x512x9_S32x512x1x9_0_1_3 t)
  transpose S32x32x512x16 [0, 3, 1, 2] (Host.dotGeneral dot_S32x18x512x16_S32x18_S32x512x16x32_1_1_023_0_n_n none (transpose S32x18x512x16 [0, 3, 1, 2] (concatenate S32x512x16x18 3 [⟨S32x512x16x9, (subf (shapeCast _ (Host.gather gather_S16384x9_S262144x1_S262144x9_1_0_n_n_0_1_19 (shapeCast _ t shapeCasts_S32x512x9_S16384x9) (rowIx (rowNo p))) shapeCasts_S262144x9_S32x512x16x9) e)⟩, ⟨S32x512x16x9, e⟩] concatenates_S32x512x16x9_S32x512x16x9_S32x512x16x18_d3) transposes_S32x512x16x18_S32x18x512x16_0_3_1_2) w) transposes_S32x512x16x32_S32x32x512x16_0_3_1_2

/-- It is the product of the plain edge features with the filter. -/
theorem convs9_32_at (y : FVec Ideal S32x9x512 .f32) (w : FVec Ideal S32x18 .f32) (b : Fin 32) (o : Fin 32) (i : Fin 512)
    (k : Fin 16) (hx : ∀ i c, Fin' (cl y b i c)) :
    (convs9_32 y (dists9 y) w (ix4 b o i k) : EReal)
      = ∑ c : Fin 18, feat (cl y b) i (nth (dist (cl y b) i) k) c * mat w o c := by
  have hp := dists9_at y b i
  generalize dists9 y = p at hp ⊢
  pointwise [convs9_32]
  have h := conv_eq (C := 9) (D := 18) rfl hx p b i k hp
    gather_S16384x9_S262144x1_S262144x9_1_0_n_n_0_1_19_wf
    (shapeCast S16384x9 (transpose S32x512x9 [0, 2, 1] y transposes_S32x9x512_S32x512x9_0_2_1) shapeCasts_S32x512x9_S16384x9)
    (fun z c => by
      pointwise []
      simp only [row_div, row_mod]
      rfl)
    (cl y b i) (fun c => rfl) (mat w o)
  exact h

/-- An edge's product with 32 filters over 32 channels, as the reference writes it, from the points and their distances. -/
def convs32_32 (y : FVec Ideal S32x32x512 .f32) (p : FVec Ideal S32x512x512 .f32) (w : FVec Ideal S32x64 .f32) :
    FVec Ideal S32x32x512x16 .f32 :=
  let t := transpose S32x512x32 [0, 2, 1] y transposes_S32x32x512_S32x512x32_0_2_1
  let e := broadcastInDim S32x512x16x32 ![0, 1, 2, 3] bcast_S32x512x1x32_S32x512x16x32_0_1_2_3 (broadcastInDim S32x512x1x32 ![0, 1, 3] bcast_S32x512x32_S32x512x1x32_0_1_3 t)
  transpose S32x32x512x16 [0, 3, 1, 2] (Host.dotGeneral dot_S32x64x512x16_S32x64_S32x512x16x32_1_1_023_0_n_n none (transpose S32x64x512x16 [0, 3, 1, 2] (concatenate S32x512x16x64 3 [⟨S32x512x16x32, (subf (shapeCast _ (Host.gather gather_S16384x32_S262144x1_S262144x32_1_0_n_n_0_1_132 (shapeCast _ t shapeCasts_S32x512x32_S16384x32) (rowIx (rowNo p))) shapeCasts_S262144x32_S32x512x16x32) e)⟩, ⟨S32x512x16x32, e⟩] concatenates_S32x512x16x32_S32x512x16x32_S32x512x16x64_d3) transposes_S32x512x16x64_S32x64x512x16_0_3_1_2) w) transposes_S32x512x16x32_S32x32x512x16_0_3_1_2

/-- It is the product of the plain edge features with the filter. -/
theorem convs32_32_at (y : FVec Ideal S32x32x512 .f32) (w : FVec Ideal S32x64 .f32) (b : Fin 32) (o : Fin 32) (i : Fin 512)
    (k : Fin 16) (hx : ∀ i c, Fin' (cl y b i c)) :
    (convs32_32 y (dists32 y) w (ix4 b o i k) : EReal)
      = ∑ c : Fin 64, feat (cl y b) i (nth (dist (cl y b) i) k) c * mat w o c := by
  have hp := dists32_at y b i
  generalize dists32 y = p at hp ⊢
  pointwise [convs32_32]
  have h := conv_eq (C := 32) (D := 64) rfl hx p b i k hp
    gather_S16384x32_S262144x1_S262144x32_1_0_n_n_0_1_132_wf
    (shapeCast S16384x32 (transpose S32x512x32 [0, 2, 1] y transposes_S32x32x512_S32x512x32_0_2_1) shapeCasts_S32x512x32_S16384x32)
    (fun z c => by
      pointwise []
      simp only [row_div, row_mod]
      rfl)
    (cl y b i) (fun c => rfl) (mat w o)
  exact h

/-- An edge's product with 64 filters over 32 channels, as the reference writes it, from the points and their distances. -/
def convs32_64 (y : FVec Ideal S32x32x512 .f32) (p : FVec Ideal S32x512x512 .f32) (w : FVec Ideal S64x64 .f32) :
    FVec Ideal S32x64x512x16 .f32 :=
  let t := transpose S32x512x32 [0, 2, 1] y transposes_S32x32x512_S32x512x32_0_2_1
  let e := broadcastInDim S32x512x16x32 ![0, 1, 2, 3] bcast_S32x512x1x32_S32x512x16x32_0_1_2_3 (broadcastInDim S32x512x1x32 ![0, 1, 3] bcast_S32x512x32_S32x512x1x32_0_1_3 t)
  transpose S32x64x512x16 [0, 3, 1, 2] (Host.dotGeneral dot_S32x64x512x16_S64x64_S32x512x16x64_1_1_023_0_n_n none (transpose S32x64x512x16 [0, 3, 1, 2] (concatenate S32x512x16x64 3 [⟨S32x512x16x32, (subf (shapeCast _ (Host.gather gather_S16384x32_S262144x1_S262144x32_1_0_n_n_0_1_132 (shapeCast _ t shapeCasts_S32x512x32_S16384x32) (rowIx (rowNo p))) shapeCasts_S262144x32_S32x512x16x32) e)⟩, ⟨S32x512x16x32, e⟩] concatenates_S32x512x16x32_S32x512x16x32_S32x512x16x64_d3) transposes_S32x512x16x64_S32x64x512x16_0_3_1_2) w) transposes_S32x512x16x64_S32x64x512x16_0_3_1_2

/-- It is the product of the plain edge features with the filter. -/
theorem convs32_64_at (y : FVec Ideal S32x32x512 .f32) (w : FVec Ideal S64x64 .f32) (b : Fin 32) (o : Fin 64) (i : Fin 512)
    (k : Fin 16) (hx : ∀ i c, Fin' (cl y b i c)) :
    (convs32_64 y (dists32 y) w (ix4 b o i k) : EReal)
      = ∑ c : Fin 64, feat (cl y b) i (nth (dist (cl y b) i) k) c * mat w o c := by
  have hp := dists32_at y b i
  generalize dists32 y = p at hp ⊢
  pointwise [convs32_64]
  have h := conv_eq (C := 32) (D := 64) rfl hx p b i k hp
    gather_S16384x32_S262144x1_S262144x32_1_0_n_n_0_1_132_wf
    (shapeCast S16384x32 (transpose S32x512x32 [0, 2, 1] y transposes_S32x32x512_S32x512x32_0_2_1) shapeCasts_S32x512x32_S16384x32)
    (fun z c => by
      pointwise []
      simp only [row_div, row_mod]
      rfl)
    (cl y b i) (fun c => rfl) (mat w o)
  exact h

/-- An edge's product with 128 filters over 64 channels, as the reference writes it, from the points and their distances. -/
def convs64_128 (y : FVec Ideal S32x64x512 .f32) (p : FVec Ideal S32x512x512 .f32) (w : FVec Ideal S128x128 .f32) :
    FVec Ideal S32x128x512x16 .f32 :=
  let t := transpose S32x512x64 [0, 2, 1] y transposes_S32x64x512_S32x512x64_0_2_1
  let e := broadcastInDim S32x512x16x64 ![0, 1, 2, 3] bcast_S32x512x1x64_S32x512x16x64_0_1_2_3 (broadcastInDim S32x512x1x64 ![0, 1, 3] bcast_S32x512x64_S32x512x1x64_0_1_3 t)
  transpose S32x128x512x16 [0, 3, 1, 2] (Host.dotGeneral dot_S32x128x512x16_S128x128_S32x512x16x128_1_1_023_0_n_n none (transpose S32x128x512x16 [0, 3, 1, 2] (concatenate S32x512x16x128 3 [⟨S32x512x16x64, (subf (shapeCast _ (Host.gather gather_S16384x64_S262144x1_S262144x64_1_0_n_n_0_1_164 (shapeCast _ t shapeCasts_S32x512x64_S16384x64) (rowIx (rowNo p))) shapeCasts_S262144x64_S32x512x16x64) e)⟩, ⟨S32x512x16x64, e⟩] concatenates_S32x512x16x64_S32x512x16x64_S32x512x16x128_d3) transposes_S32x512x16x128_S32x128x512x16_0_3_1_2) w) transposes_S32x512x16x128_S32x128x512x16_0_3_1_2

/-- It is the product of the plain edge features with the filter. -/
theorem convs64_128_at (y : FVec Ideal S32x64x512 .f32) (w : FVec Ideal S128x128 .f32) (b : Fin 32) (o : Fin 128) (i : Fin 512)
    (k : Fin 16) (hx : ∀ i c, Fin' (cl y b i c)) :
    (convs64_128 y (dists64 y) w (ix4 b o i k) : EReal)
      = ∑ c : Fin 128, feat (cl y b) i (nth (dist (cl y b) i) k) c * mat w o c := by
  have hp := dists64_at y b i
  generalize dists64 y = p at hp ⊢
  pointwise [convs64_128]
  have h := conv_eq (C := 64) (D := 128) rfl hx p b i k hp
    gather_S16384x64_S262144x1_S262144x64_1_0_n_n_0_1_164_wf
    (shapeCast S16384x64 (transpose S32x512x64 [0, 2, 1] y transposes_S32x64x512_S32x512x64_0_2_1) shapeCasts_S32x512x64_S16384x64)
    (fun z c => by
      pointwise []
      simp only [row_div, row_mod]
      rfl)
    (cl y b i) (fun c => rfl) (mat w o)
  exact h

/-! ## Layers -/

/-- The maximum over the edges of 32 filters' activations, as the reference writes it. -/
def outs32 (v : FVec Ideal S32x32x512x16 .f32) : FVec Ideal S32x32x512 .f32 :=
  Host.reduce FloatOps.maximumf (select (cmpf .oge v (broadcastInDim S32x32x512x16 ![] bcast_S_S32x32x512x16 (constant S_ .f32 0x00000000#32))) v (mulf (broadcastInDim S32x32x512x16 ![] bcast_S_S32x32x512x16 (id (constant S_ .f32 0x3E4CCCCD#32))) v)) (constant S_ .f32 0xFF800000#32) reducesTo_S32x32x512x16_S32x32x512_d3 h_S_

/-- It is the greatest of the rounds' activations. -/
theorem outs32_at (v : FVec Ideal S32x32x512x16 .f32) (b : Fin 32) (o : Fin 32) (i : Fin 512) (g : ℕ → EReal)
    (hg : ∀ k : Fin 16, (v (ix4 b o i k) : EReal) = g k) :
    (outs32 v (ix3 b o i) : EReal) = (Finset.range 16).sup fun k => lr (g k) := by
  pointwise [outs32]
  refine maxK _ _ fun k => ?_
  exact congrArg lr (hg k)

/-- The maximum over the edges of 64 filters' activations, as the reference writes it. -/
def outs64 (v : FVec Ideal S32x64x512x16 .f32) : FVec Ideal S32x64x512 .f32 :=
  Host.reduce FloatOps.maximumf (select (cmpf .oge v (broadcastInDim S32x64x512x16 ![] bcast_S_S32x64x512x16 (constant S_ .f32 0x00000000#32))) v (mulf (broadcastInDim S32x64x512x16 ![] bcast_S_S32x64x512x16 (id (constant S_ .f32 0x3E4CCCCD#32))) v)) (constant S_ .f32 0xFF800000#32) reducesTo_S32x64x512x16_S32x64x512_d3 h_S_

/-- It is the greatest of the rounds' activations. -/
theorem outs64_at (v : FVec Ideal S32x64x512x16 .f32) (b : Fin 32) (o : Fin 64) (i : Fin 512) (g : ℕ → EReal)
    (hg : ∀ k : Fin 16, (v (ix4 b o i k) : EReal) = g k) :
    (outs64 v (ix3 b o i) : EReal) = (Finset.range 16).sup fun k => lr (g k) := by
  pointwise [outs64]
  refine maxK _ _ fun k => ?_
  exact congrArg lr (hg k)

/-- The maximum over the edges of 128 filters' activations, as the reference writes it. -/
def outs128 (v : FVec Ideal S32x128x512x16 .f32) : FVec Ideal S32x128x512 .f32 :=
  Host.reduce FloatOps.maximumf (select (cmpf .oge v (broadcastInDim S32x128x512x16 ![] bcast_S_S32x128x512x16 (constant S_ .f32 0x00000000#32))) v (mulf (broadcastInDim S32x128x512x16 ![] bcast_S_S32x128x512x16 (id (constant S_ .f32 0x3E4CCCCD#32))) v)) (constant S_ .f32 0xFF800000#32) reducesTo_S32x128x512x16_S32x128x512_d3 h_S_

/-- It is the greatest of the rounds' activations. -/
theorem outs128_at (v : FVec Ideal S32x128x512x16 .f32) (b : Fin 32) (o : Fin 128) (i : Fin 512) (g : ℕ → EReal)
    (hg : ∀ k : Fin 16, (v (ix4 b o i k) : EReal) = g k) :
    (outs128 v (ix3 b o i) : EReal) = (Finset.range 16).sup fun k => lr (g k) := by
  pointwise [outs128]
  refine maxK _ _ fun k => ?_
  exact congrArg lr (hg k)

/-- The reference's layer from 9 channels to 32 is the plain layer, cloud by cloud. -/
theorem layer9_32 (y : FVec Ideal S32x9x512 .f32) (w : FVec Ideal S32x18 .f32) (b : Fin 32)
    (hx : ∀ i c, Fin' (cl y b i c)) :
    cl (outs32 (convs9_32 y (dists9 y) w)) b = layer (cl y b) (mat w) := by
  funext i o
  exact outs32_at _ b o i _ fun k => convs9_32_at y w b o i k hx

/-- The reference's layer from 32 channels to 32 is the plain layer, cloud by cloud. -/
theorem layer32_32 (y : FVec Ideal S32x32x512 .f32) (w : FVec Ideal S32x64 .f32) (b : Fin 32)
    (hx : ∀ i c, Fin' (cl y b i c)) :
    cl (outs32 (convs32_32 y (dists32 y) w)) b = layer (cl y b) (mat w) := by
  funext i o
  exact outs32_at _ b o i _ fun k => convs32_32_at y w b o i k hx

/-- The reference's layer from 32 channels to 64 is the plain layer, cloud by cloud. -/
theorem layer32_64 (y : FVec Ideal S32x32x512 .f32) (w : FVec Ideal S64x64 .f32) (b : Fin 32)
    (hx : ∀ i c, Fin' (cl y b i c)) :
    cl (outs64 (convs32_64 y (dists32 y) w)) b = layer (cl y b) (mat w) := by
  funext i o
  exact outs64_at _ b o i _ fun k => convs32_64_at y w b o i k hx

/-- The reference's layer from 64 channels to 128 is the plain layer, cloud by cloud. -/
theorem layer64_128 (y : FVec Ideal S32x64x512 .f32) (w : FVec Ideal S128x128 .f32) (b : Fin 32)
    (hx : ∀ i c, Fin' (cl y b i c)) :
    cl (outs128 (convs64_128 y (dists64 y) w)) b = layer (cl y b) (mat w) := by
  funext i o
  exact outs128_at _ b o i _ fun k => convs64_128_at y w b o i k hx

end Cert.Proof.V
-- ==== Proof.V.Result.lean ====
module

public import proofs.«01_k».proof.Proof.V.Reference

@[expose] public section

noncomputable section

/-! The reference's result at an index: the plain network. -/

namespace Cert.Proof.V

open Cert.ReferenceIdeal Cert.ReferenceIdeal.Gen Cert.ReferenceIdeal.Value
open Idealize.ShloMosaic

/-! ## The names the program's run uses -/

/-- The first layer's term is these functions composed. -/
theorem res46 (V0 : Valuation τ sig (Elt Ideal)) :
    res_main_v46 V0 = outs32 (convs9_32 (res_main_v0 V0) (dists9 (res_main_v0 V0)) (V0 (Proc.devRef .tc main_arg1))) := rfl

/-- The second layer's term is. -/
theorem res92 (V0 : Valuation τ sig (Elt Ideal)) :
    res_main_v92 V0 = outs32 (convs32_32 (res_main_v46 V0) (dists32 (res_main_v46 V0)) (V0 (Proc.devRef .tc main_arg2))) := rfl

/-- The third layer's term is. -/
theorem res138 (V0 : Valuation τ sig (Elt Ideal)) :
    res_main_v138 V0 = outs64 (convs32_64 (res_main_v92 V0) (dists32 (res_main_v92 V0)) (V0 (Proc.devRef .tc main_arg3))) := rfl

/-- The fourth layer's products' term is. -/
theorem res182 (V0 : Valuation τ sig (Elt Ideal)) :
    res_main_v182 V0 = convs64_128 (res_main_v138 V0) (dists64 (res_main_v138 V0)) (V0 (Proc.devRef .tc main_arg4)) := rfl

/-! ## The last product -/

/-- The product with the last weights, from the four layers. -/
def mix (y1 y2 : FVec Ideal S32x32x512 .f32) (y3 : FVec Ideal S32x64x512 .f32) (y4 : FVec Ideal S32x128x512 .f32)
    (w : FVec Ideal S1024x256 .f32) : FVec Ideal S32x1024x512 .f32 :=
  transpose S32x1024x512 [0, 2, 1] (Host.dotGeneral dot_S32x256x512_S1024x256_S32x512x1024_1_1_02_0_n_n none ((concatenate S32x256x512 1 [⟨S32x32x512, y1⟩, ⟨S32x32x512, y2⟩, ⟨S32x64x512, y3⟩, ⟨S32x128x512, y4⟩] concatenates_S32x32x512_S32x32x512_S32x64x512_S32x128x512_S32x256x512_d1)) w) transposes_S32x512x1024_S32x1024x512_0_2_1

/-- It is the plain product over the four layers' channels. -/
theorem mix_at (y1 y2 : FVec Ideal S32x32x512 .f32) (y3 : FVec Ideal S32x64x512 .f32) (y4 : FVec Ideal S32x128x512 .f32)
    (w : FVec Ideal S1024x256 .f32) (b : Fin 32) (o : Fin 1024) (i : Fin 512) :
    (mix y1 y2 y3 y4 w (ix3 b o i) : EReal) = ∑ c, side (cl y1 b) (cl y2 b) (cl y3 b) (cl y4 b) i c * mat w o c := by
  pointwise [mix]
  rfl

/-- The reference's result as its run leaves it, in these terms. -/
def refOut (V0 : Valuation τ sig (Elt Ideal)) : FVec Ideal S32x1024x512 .f32 :=
  mix (res_main_v46 V0) (res_main_v92 V0) (res_main_v138 V0) (outs128 (res_main_v182 V0)) (V0 (Proc.devRef .tc main_arg5))

/-- The transposed points, cloud by cloud. -/
theorem points (V0 : Valuation τ sig (Elt Ideal)) (b : Fin 32) :
    cl (C := 9) (res_main_v0 V0) b = fun i c => (V0 (Proc.devRef .tc main_arg0) : S32x512x9.Idx → EReal) (ix3 b i c) := by
  funext i c
  unfold cl
  pointwise [res_main_v0]

/-- On real numbers the reference's result is the plain network of each cloud. -/
theorem refOut_at (V0 : Valuation τ sig (Elt Ideal)) (x : S32x512x9.Idx → EReal) (w1 : S32x18.Idx → EReal)
    (w2 : S32x64.Idx → EReal) (w3 : S64x64.Idx → EReal) (w4 : S128x128.Idx → EReal) (w5 : S1024x256.Idx → EReal)
    (e0 : V0 (Proc.devRef .tc main_arg0) = x) (e1 : V0 (Proc.devRef .tc main_arg1) = w1)
    (e2 : V0 (Proc.devRef .tc main_arg2) = w2) (e3 : V0 (Proc.devRef .tc main_arg3) = w3)
    (e4 : V0 (Proc.devRef .tc main_arg4) = w4) (e5 : V0 (Proc.devRef .tc main_arg5) = w5)
    (hx : ∀ b i c, Fin' (x (ix3 b i c))) (h1 : ∀ o c, Fin' (mat w1 o c)) (h2 : ∀ o c, Fin' (mat w2 o c))
    (h3 : ∀ o c, Fin' (mat w3 o c)) (b : Fin 32) (o : Fin 1024) (i : Fin 512) :
    refOut V0 (ix3 b o i)
      = net (fun i c => x (ix3 b i c)) (mat w1) (mat w2) (mat w3) (mat w4) (mat w5) o i := by
  have f0 : ∀ i c, Fin' (cl (C := 9) (res_main_v0 V0) b i c) := by
    rw [points, e0]
    exact hx b
  have y1 : cl (C := 32) (res_main_v46 V0) b = layer (fun i c => x (ix3 b i c)) (mat w1) := by
    rw [res46, layer9_32 _ _ _ f0, points, e0, e1]
  have f1 : ∀ i c, Fin' (cl (C := 32) (res_main_v46 V0) b i c) := by
    rw [y1]
    exact fun i c => fin_layer (hx b) h1 i c
  have y2 : cl (C := 32) (res_main_v92 V0) b = layer (cl (C := 32) (res_main_v46 V0) b) (mat w2) := by
    rw [res92, layer32_32 _ _ _ f1, e2]
  have f2 : ∀ i c, Fin' (cl (C := 32) (res_main_v92 V0) b i c) := by
    rw [y2]
    exact fun i c => fin_layer f1 h2 i c
  have y3 : cl (C := 64) (res_main_v138 V0) b = layer (cl (C := 32) (res_main_v92 V0) b) (mat w3) := by
    rw [res138, layer32_64 _ _ _ f2, e3]
  have f3 : ∀ i c, Fin' (cl (C := 64) (res_main_v138 V0) b i c) := by
    rw [y3]
    exact fun i c => fin_layer f2 h3 i c
  have y4 : cl (C := 128) (outs128 (res_main_v182 V0)) b = layer (cl (C := 64) (res_main_v138 V0) b) (mat w4) := by
    rw [res182, layer64_128 _ _ _ f3, e4]
  unfold refOut net
  rw [mix_at, y4, y3, y2, y1, e5]

end Cert.Proof.V
-- ==== Proof.V.Algebraic.lean ====
module

public import proofs.«01_k».proof.Defs
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.V.Array
public import proofs.«01_k».proof.Proof.V.Finite
public import proofs.«01_k».proof.Proof.V.Result
public import Idealize.ShloMosaic.Lib.Claim

@[expose] public section

noncomputable section

/-! The value claim: the kernel's result array and the reference's are the plain network of the same arguments. -/

namespace Cert.Proof.V

open Idealize.ShloMosaic Idealize.ShloMosaic.TcCoe Idealize.SL.Sem

/-- The kernel's run: its result is the plain network of its arguments, which end unchanged. -/
theorem kernel_run (m : (ℓ : Loc Cert.KernelIdeal.nD Cert.KernelIdeal.τ Cert.KernelIdeal.sig) → Buf (Elt Ideal) ℓ)
    (g : Dev Cert.KernelIdeal.nD → PrngReg) (hp : Pre_KernelIdeal m) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c.tc : Thread Cert.KernelIdeal.nD Cert.KernelIdeal.τ).loc Cert.KernelIdeal.main_v0)
          = result (m (c.tc.loc Cert.KernelIdeal.main_arg0)) (m (c.tc.loc Cert.KernelIdeal.main_arg1))
              (m (c.tc.loc Cert.KernelIdeal.main_arg2)) (m (c.tc.loc Cert.KernelIdeal.main_arg3))
              (m (c.tc.loc Cert.KernelIdeal.main_arg4)) (m (c.tc.loc Cert.KernelIdeal.main_arg5))) := by
  refine θ_run_mono (PI.run_main m g) fun r h c => ?_
  obtain ⟨hx, h1, h2, h3⟩ := finite _ _ _ _ _ _ (hp c)
  exact (h.1.out_eq c 6).trans (array m c hx h1 h2 h3)

/-- The reference's run: its result is the plain network of its arguments, when they are real numbers. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_v187)
          = refOut (Idealize.ShloMosaic.StableHlo.launchContents m c)) :=
  (θ_run Cert.ReferenceIdeal.defs _ _).mono (fun r h c => (h c).1) (Cert.ReferenceIdeal.Value.run (F := Ideal) m g)

/-- The two programs, from memories whose arguments agree and meet the precondition, end with the same result array and
    with their arguments unchanged. -/
theorem algebraic : Cert.algebraic_KernelIdeal_ReferenceIdeal := by
  intro m g m' g' hp hagree
  refine ⟨fun c => result (m (c.tc.loc Cert.KernelIdeal.main_arg0)) (m (c.tc.loc Cert.KernelIdeal.main_arg1))
    (m (c.tc.loc Cert.KernelIdeal.main_arg2)) (m (c.tc.loc Cert.KernelIdeal.main_arg3))
    (m (c.tc.loc Cert.KernelIdeal.main_arg4)) (m (c.tc.loc Cert.KernelIdeal.main_arg5)), ?_, ?_⟩
  · exact θ_run_mono (θ_run_and (kernel_run m g hp) (PI.frame m g)) fun r h c => ⟨h.1 c, h.2.1 c⟩
  · refine θ_run_mono (θ_run_and (reference_run m' g') (Cert.ReferenceIdeal.Value.run (F := Ideal) m' g'))
      fun r h c => ⟨(h.1 c).trans ?_, (h.2 c).2⟩
    obtain ⟨hx, h1, h2, h3⟩ := finite _ _ _ _ _ _ (hp c)
    obtain ⟨a0, a1, a2, a3, a4, a5⟩ := hagree c
    funext y
    rw [eq_ix3 y]
    exact refOut_at _ _ _ _ _ _ _ a0 a1 a2 a3 a4 a5 hx h1 h2 h3 _ _ _

end Cert.Proof.V
-- ==== Proof.W.Spec.lean ====
module

public import proofs.«01_k».proof.Proof.V.Host

@[expose] public section

/-! The plain mathematics of the second and third calls: batch normalisation over any finite set of places, the voxel
layer, and the finiteness of what they compute. -/

namespace Cert.Proof.W

open Idealize.ShloMosaic Cert.Proof.V

/-- The small number batch normalisation adds to the variance. -/
noncomputable abbrev eps : EReal := Ideal.ofBits .f32 0x3727C5AC#32

section norm

variable {ι : Type} [Fintype ι]

/-- The mean of a channel over all its places, whose number is `n`. -/
noncomputable def mean (n : EReal) (f : ι → EReal) : EReal := Ideal.div (∑ i, f i) n

/-- The variance of a channel over all its places. -/
noncomputable def var (n : EReal) (f : ι → EReal) : EReal :=
  Ideal.div (∑ i, (f i - mean n f) * (f i - mean n f)) n

/-- A channel normalised by its mean and variance, scaled by `g` and shifted by `s`. -/
noncomputable def norm (n g s : EReal) (f : ι → EReal) (i : ι) : EReal :=
  Ideal.div (g * (f i - mean n f)) (Ideal.sqrt (var n f + eps)) + s

end norm

/-- A sum over the pairs of places is the double sum. -/
theorem sum_pair {a b : ℕ} (f : Fin a × Fin b → EReal) : ∑ p, f p = ∑ x, ∑ y, f (x, y) := Fintype.sum_prod_type f

/-- The same with the sums exchanged. -/
theorem sum_pair' {a b : ℕ} (f : Fin a × Fin b → EReal) : ∑ p, f p = ∑ y, ∑ x, f (x, y) := by
  rw [Fintype.sum_prod_type, Finset.sum_comm]

/-! ## The second call -/

/-- The normalised activation of a channel at a cloud's point. -/
noncomputable def act (y : Fin 32 → Fin 512 → EReal) (g s : EReal) (b : Fin 32) (i : Fin 512) : EReal :=
  lr (norm (Ideal.ofBits .f32 0x46800000#32) g s (fun p : Fin 32 × Fin 512 => y p.1 p.2) (b, i))

/-- The second call's first result: a cloud's greatest activation of a channel. -/
noncomputable def poolMax (y : Fin 32 → Fin 512 → EReal) (g s : EReal) (b : Fin 32) : EReal :=
  Finset.fold max (Ideal.ofBits .f32 0xFF800000#32) (act y g s b) Finset.univ

/-- The second call's second result: a cloud's mean activation of a channel. -/
noncomputable def poolMean (y : Fin 32 → Fin 512 → EReal) (g s : EReal) (b : Fin 32) : EReal :=
  Ideal.div (∑ i, act y g s b i) (Ideal.ofBits .f32 0x44000000#32)

end Cert.Proof.W
-- ==== Proof.W.Pool.lean ====
module

public import proofs.«01_k».proof.Proof.W.Spec
public import proofs.«01_k».proof.Proof.Gen.Kernel2Ideal.Frame
public import proofs.«01_k».proof.Proof.Gen.Kernel2Ideal.Value
public import Idealize.ShloMosaic.Lib.Pointwise
public import Idealize.ShloMosaic.Lib.Pipeline.ValueKit

@[expose] public section

set_option maxRecDepth 16384
noncomputable section

/-! What the second call leaves in its two result arrays, at an index. -/

namespace Cert.Proof.W

open Cert.Kernel2Ideal Cert.Kernel2Ideal.Gen
open Idealize.ShloMosaic Idealize.ShloMosaic.TcCoe Cert.Proof.V

/-- The block's activation is the plain one. -/
theorem act_at (y : FVec Ideal S32x128x512 .f32) (g s : FVec Ideal S1x128 .f32) (b : Fin 32) (o : Fin 128) (i : Fin 512) :
    (k0_pay2 (F := Ideal) y g s (ix3 b o i) : EReal)
      = act (fun b i => y (ix3 b o i)) (g (ix2 0 o)) (s (ix2 0 o)) b i := by
  pointwise [k0_pay2]
  unfold act norm var mean
  simp only [sum_pair]
  rfl

/-- The block's maximum over the points. -/
theorem max_at (y : FVec Ideal S32x128x512 .f32) (g s : FVec Ideal S1x128 .f32) (b : Fin 32) (o : Fin 128) :
    (k0_pay3 (F := Ideal) y g s (ix2 b o) : EReal)
      = poolMax (fun b i => y (ix3 b o i)) (g (ix2 0 o)) (s (ix2 0 o)) b := by
  unfold poolMax
  simp only [← act_at]
  unfold k0_pay3
  generalize k0_pay2 (F := Ideal) y g s = z
  pointwise []

/-- The block's mean over the points. -/
theorem mean_at (y : FVec Ideal S32x128x512 .f32) (g s : FVec Ideal S1x128 .f32) (b : Fin 32) (o : Fin 128) :
    (k0_pay1 (F := Ideal) (k0_pay2 y g s) (ix2 b o) : EReal)
      = poolMean (fun b i => y (ix3 b o i)) (g (ix2 0 o)) (s (ix2 0 o)) b := by
  unfold poolMean
  simp only [← act_at]
  generalize k0_pay2 (F := Ideal) y g s = z
  pointwise [k0_pay1]

/-- The first output block. -/
theorem outMax_at (y : Vec Ideal S32x128x512 .f32) (g s : Vec Ideal S1x128 .f32) (b : Fin 32) (o : Fin 128) :
    (out0_3 (F := Ideal) y g s (ix2 b o) : EReal)
      = poolMax (fun b i => y (ix3 b o i)) (g (ix2 0 o)) (s (ix2 0 o)) b := by
  have l0 : View.ld y r0_0 = y := View.ld_unit_lit (h := by decide) ..
  have l1 : View.ld g r0_1 = g := View.ld_unit_lit (h := by decide) ..
  have l2 : View.ld s r0_1 = s := View.ld_unit_lit (h := by decide) ..
  unfold out0_3
  rw [l0, l1, l2]
  canon_tiles q h
  have hq : q = ix2 b o := by
    funext a
    fin_cases a
    · exact Fin.ext h0.symm
    · exact Fin.ext h1.symm
  subst hq
  exact max_at y g s b o

/-- The second output block. -/
theorem outMean_at (y : Vec Ideal S32x128x512 .f32) (g s : Vec Ideal S1x128 .f32) (b : Fin 32) (o : Fin 128) :
    (out0_4 (F := Ideal) y g s (ix2 b o) : EReal)
      = poolMean (fun b i => y (ix3 b o i)) (g (ix2 0 o)) (s (ix2 0 o)) b := by
  have l0 : View.ld y r0_0 = y := View.ld_unit_lit (h := by decide) ..
  have l1 : View.ld g r0_1 = g := View.ld_unit_lit (h := by decide) ..
  have l2 : View.ld s r0_1 = s := View.ld_unit_lit (h := by decide) ..
  unfold out0_4
  rw [l0, l1, l2]
  canon_tiles q h
  have hq : q = ix2 b o := by
    funext a
    fin_cases a
    · exact Fin.ext h0.symm
    · exact Fin.ext h1.symm
  subst hq
  exact mean_at y g s b o

variable (m : (ℓ : Loc nD τ sig) → Buf (Elt Ideal) ℓ) (c : Dev nD) (t : Fin cfg0.N)

/-- Point `t`'s blocks start at channel `128 t`. -/
theorem idx0 : ∀ t : Fin cfg0.N, win0_0.index t = ![0, t.val, 0] := by decide +kernel
/-- The scales' likewise. -/
theorem idx1 : ∀ t : Fin cfg0.N, win0_1.index t = ![0, t.val] := by decide +kernel
/-- The shifts' likewise. -/
theorem idx2 : ∀ t : Fin cfg0.N, win0_2.index t = ![0, t.val] := by decide +kernel
/-- The first result's likewise. -/
theorem idx3 : ∀ t : Fin cfg0.N, win0_3.index t = ![0, t.val] := by decide +kernel
/-- The second result's likewise. -/
theorem idx4 : ∀ t : Fin cfg0.N, win0_4.index t = ![0, t.val] := by decide +kernel

/-- The channel that is point `t`'s `o`-th. -/
abbrev chan (o : Fin 128) : Fin 1024 := ⟨t.val * 128 + o.val, by have := t.isLt; have : cfg0.N = 8 := N_0; omega⟩

/-- The block of the activations. -/
theorem block0 (b : Fin 32) (o : Fin 128) (i : Fin 512) :
    (iblk m c 0 t (ix3 b o i) : EReal) = m ((c : Thread nD τ).loc main_arg0) (ix3 b (chan t o) i) := by
  blk_simp [iblk]
  blk_ext! [idx0 t]

/-- The block of the scales. -/
theorem block1 (o : Fin 128) :
    (iblk m c 1 t (ix2 0 o) : EReal) = m ((c : Thread nD τ).loc main_arg1) (ix1 (chan t o)) := by
  blk_simp [iblk]
  entry_read
  pointwise
  blk_ext! [idx1 t]

/-- The block of the shifts. -/
theorem block2 (o : Fin 128) :
    (iblk m c 2 t (ix2 0 o) : EReal) = m ((c : Thread nD τ).loc main_arg2) (ix1 (chan t o)) := by
  blk_simp [iblk]
  entry_read
  pointwise
  blk_ext! [idx2 t]

/-- Where the first result's block lies. -/
theorem block3 (b : Fin 32) (o : Fin 128) : (win0_3.blk t).view.emb (ix2 b o) = ix2 b (chan t o) := by
  blk_ext! [idx3 t]

/-- Where the second result's block lies. -/
theorem block4 (b : Fin 32) (o : Fin 128) : (win0_4.blk t).view.emb (ix2 b o) = ix2 b (chan t o) := by
  blk_ext! [idx4 t]

/-- The plain maxima of every cloud and channel. -/
def maxes (y : S32x1024x512.Idx → EReal) (g s : S1024.Idx → EReal) : S32x1024.Idx → EReal :=
  fun z => poolMax (fun b i => y (ix3 b (z 1) i)) (g (ix1 (z 1))) (s (ix1 (z 1))) (z 0)

/-- The plain means of every cloud and channel. -/
def means (y : S32x1024x512.Idx → EReal) (g s : S1024.Idx → EReal) : S32x1024.Idx → EReal :=
  fun z => poolMean (fun b i => y (ix3 b (z 1) i)) (g (ix1 (z 1))) (s (ix1 (z 1))) (z 0)

/-- The first result array holds the plain maxima. -/
theorem arrayMax : (dats m 0 c).arrAt 3 (cfgs 0).N = maxes (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  obtain ⟨b, o, rfl⟩ : ∃ (b : Fin 32) (o : Fin 128), y = ix2 b o := ⟨_, _, eq_ix2 y⟩
  rw [after0_3, block3]
  refine (outMax_at _ _ _ b o).trans ?_
  rw [block1, block2]
  simp only [block0]
  rfl

/-- The second result array holds the plain means. -/
theorem arrayMean : (dats m 0 c).arrAt 4 (cfgs 0).N = means (m ((c : Thread nD τ).loc main_arg0))
    (m ((c : Thread nD τ).loc main_arg1)) (m ((c : Thread nD τ).loc main_arg2)) := by
  refine (dats m 0 c).arrAt_eq_of_covers 4 _ (by decide +kernel) fun t hf y => ?_
  blk_simp
  obtain ⟨b, o, rfl⟩ : ∃ (b : Fin 32) (o : Fin 128), y = ix2 b o := ⟨_, _, eq_ix2 y⟩
  rw [after0_4, block4]
  refine (outMean_at _ _ _ b o).trans ?_
  rw [block1, block2]
  simp only [block0]
  rfl

end Cert.Proof.W
-- ==== Proof.W.Sum.lean ====
module

public import proofs.«01_k».proof.Proof.W.Spec
public import Idealize.ShloMosaic.Lib.Pointwise

@[expose] public section

noncomputable section

/-! A host's sum over several axes at once, at an index of its result. -/

namespace Cert.Proof.W

open Idealize.ShloMosaic

/-- A host's sum at an index is the sum over any family that lists the places reduced to it, each once. -/
theorem reduce_family {s t : Shape} {axes : List (Fin s.rank)} (h : s.ReducesTo axes t) (x : s.Idx → EReal) (z : EReal)
    (j : t.Idx) {P : Type} [Fintype P] (e : P → s.Idx) (he : Function.Injective e)
    (hit : ∀ i, h.drop i = j ↔ ∃ p, e p = i) : Ideal.hostReduceAdd h x z j = z + ∑ p, x (e p) := by
  unfold Ideal.hostReduceAdd
  congr 1
  symm
  refine Finset.sum_bij (fun p _ => e p) ?_ (fun p _ q _ hpq => he hpq) ?_ (fun _ _ => rfl)
  · exact fun p _ => Finset.mem_filter.2 ⟨Finset.mem_univ _, (hit _).2 ⟨p, rfl⟩⟩
  · intro i hi
    obtain ⟨p, hp⟩ := (hit i).1 (Finset.mem_filter.1 hi).2
    exact ⟨p, Finset.mem_univ _, hp⟩

/-- The sum over the first and the last of three axes. -/
theorem reduce_outer {A B C : ℕ} (h : (⟨3, ![A, B, C]⟩ : Shape).ReducesTo [0, 2] ⟨1, ![B]⟩)
    (x : (⟨3, ![A, B, C]⟩ : Shape).Idx → EReal) (z : EReal) (o : Fin B) :
    Ideal.hostReduceAdd h x z (ix1 o) = z + ∑ p : Fin A × Fin C, x (ix3 p.1 o p.2) := by
  refine reduce_family h x z _ (fun p : Fin A × Fin C => ix3 p.1 o p.2) ?_ ?_
  · intro p q hpq
    exact Prod.ext (congrFun hpq 0) (congrFun hpq 2)
  · intro i
    constructor
    · intro hi
      refine ⟨(i 0, i 2), ?_⟩
      funext a
      fin_cases a
      · rfl
      · exact (Fin.ext (congrArg Fin.val (congrFun hi 0))).symm
      · rfl
    · rintro ⟨p, rfl⟩
      funext a
      fin_cases a
      rfl

/-- The sum over the first and the last two of four axes. -/
theorem reduce_outer2 {A B C D : ℕ} (h : (⟨4, ![A, B, C, D]⟩ : Shape).ReducesTo [0, 2, 3] ⟨1, ![B]⟩)
    (x : (⟨4, ![A, B, C, D]⟩ : Shape).Idx → EReal) (z : EReal) (o : Fin B) :
    Ideal.hostReduceAdd h x z (ix1 o) = z + ∑ p : Fin A × Fin C × Fin D, x (ix4 p.1 o p.2.1 p.2.2) := by
  refine reduce_family h x z _ (fun p : Fin A × Fin C × Fin D => ix4 p.1 o p.2.1 p.2.2) ?_ ?_
  · intro p q hpq
    exact Prod.ext (congrFun hpq 0) (Prod.ext (congrFun hpq 2) (congrFun hpq 3))
  · intro i
    constructor
    · intro hi
      refine ⟨(i 0, i 2, i 3), ?_⟩
      funext a
      fin_cases a
      · rfl
      · exact (Fin.ext (congrArg Fin.val (congrFun hi 0))).symm
      · rfl
      · rfl
    · rintro ⟨p, rfl⟩
      funext a
      fin_cases a
      rfl

end Cert.Proof.W
-- ==== Proof.W.PoolRef.lean ====
module

public import proofs.«01_k».proof.Defs
public import proofs.«01_k».proof.Proof.W.Pool
public import proofs.«01_k».proof.Proof.W.Sum
public import proofs.«01_k».proof.Proof.Gen.Reference2Ideal.Run
public import Idealize.ShloMosaic.Lib.Claim

@[expose] public section

set_option maxRecDepth 16384
noncomputable section

/-! The second call's reference at an index, and its value claim. -/

namespace Cert.Proof.W

open Cert.Reference2Ideal Cert.Reference2Ideal.Gen Cert.Reference2Ideal.Value
open Idealize.ShloMosaic Idealize.ShloMosaic.TcCoe Idealize.SL.Sem Cert.Proof.V

/-- The channels' means, as the reference writes them. -/
def refMean (x : FVec Ideal S32x1024x512 .f32) : FVec Ideal S1x1024x1 .f32 :=
  Host.divf (broadcastInDim S1x1024x1 ![1] bcast_S1024_S1x1024x1_1 (Host.reduceAdd x (constant S_ .f32 0x00000000#32) reducesTo_S32x1024x512_S1024_d0_2 h_S_)) (broadcastInDim S1x1024x1 ![] bcast_S_S1x1024x1 (constant S_ .f32 0x46800000#32))

/-- The deviations from the means. -/
def refDev (x : FVec Ideal S32x1024x512 .f32) : FVec Ideal S32x1024x512 .f32 :=
  subf x (broadcastInDim S32x1024x512 ![0, 1, 2] bcast_S1x1024x1_S32x1024x512_0_1_2 (refMean x))

/-- The number of places a channel's variance is over. -/
def refCount : FVec Ideal S_ .f32 := subf (constant S_ .f32 0x46800000#32) (sitofp .f32 (constantI S_ 32 0#32))

/-- The channels' variances, as the reference writes them. -/
def refVar (d : FVec Ideal S32x1024x512 .f32) : FVec Ideal S1x1024x1 .f32 :=
  select (broadcastInDim S1x1024x1 ![] bcast_S_S1x1024x1 (cmpf .ogt refCount (constant S_ .f32 0x00000000#32))) (Host.divf (broadcastInDim S1x1024x1 ![1] bcast_S1024_S1x1024x1_1 (Host.reduceAdd (mulf d d) (constant S_ .f32 0x00000000#32) reducesTo_S32x1024x512_S1024_d0_2 h_S_)) (broadcastInDim S1x1024x1 ![] bcast_S_S1x1024x1 refCount)) (broadcastInDim S1x1024x1 ![] bcast_S_S1x1024x1 (id (constant S_ .f32 0x7FC00000#32)))

/-- The normalised channels, as the reference writes them. -/
def refNorm (x : FVec Ideal S32x1024x512 .f32) (g s : FVec Ideal S1024 .f32) : FVec Ideal S32x1024x512 .f32 :=
  addf (Host.divf (mulf (broadcastInDim S32x1024x512 ![0, 1, 2] bcast_S1x1024x1_S32x1024x512_0_1_2 (shapeCast _ g shapeCasts_S1024_S1x1024x1)) (refDev x)) (broadcastInDim S32x1024x512 ![0, 1, 2] bcast_S1x1024x1_S32x1024x512_0_1_2 (Host.sqrt (addf (refVar (refDev x)) (broadcastInDim S1x1024x1 ![] bcast_S_S1x1024x1 (constant S_ .f32 0x3727C5AC#32)))))) (broadcastInDim S32x1024x512 ![0, 1, 2] bcast_S1x1024x1_S32x1024x512_0_1_2 (shapeCast _ s shapeCasts_S1024_S1x1024x1))

/-- The leaky relu, as the reference writes it. -/
def refAct (z : FVec Ideal S32x1024x512 .f32) : FVec Ideal S32x1024x512 .f32 :=
  select (cmpf .oge z (broadcastInDim S32x1024x512 ![] bcast_S_S32x1024x512 (constant S_ .f32 0x00000000#32))) z (mulf (broadcastInDim S32x1024x512 ![] bcast_S_S32x1024x512 (id (constant S_ .f32 0x3E4CCCCD#32))) z)

/-- The maxima over the points. -/
def refMax (z : FVec Ideal S32x1024x512 .f32) : FVec Ideal S32x1024 .f32 :=
  Host.reduce FloatOps.maximumf z (constant S_ .f32 0xFF800000#32) reducesTo_S32x1024x512_S32x1024_d2 h_S_

/-- The means over the points. -/
def refAvg (z : FVec Ideal S32x1024x512 .f32) : FVec Ideal S32x1024 .f32 :=
  Host.divf (Host.reduceAdd z (constant S_ .f32 0x00000000#32) reducesTo_S32x1024x512_S32x1024_d2 h_S_) (broadcastInDim S32x1024 ![] bcast_S_S32x1024 (constant S_ .f32 0x44000000#32))

/-- The first result's term is these functions composed. -/
theorem res_max (m : (ℓ : Loc nD τ sig) → Buf (Elt Ideal) ℓ) (c : Dev nD) :
    res_out0 m c = refMax (refAct (refNorm (m ((c.tc : Thread nD τ).loc main_arg0)) (m ((c.tc : Thread nD τ).loc main_arg1))
      (m ((c.tc : Thread nD τ).loc main_arg2)))) := rfl

/-- The second result's term is these functions composed. -/
theorem res_mean (m : (ℓ : Loc nD τ sig) → Buf (Elt Ideal) ℓ) (c : Dev nD) :
    res_out1 m c = refAvg (refAct (refNorm (m ((c.tc : Thread nD τ).loc main_arg0)) (m ((c.tc : Thread nD τ).loc main_arg1))
      (m ((c.tc : Thread nD τ).loc main_arg2)))) := rfl

/-- The integer zero as a float is zero. -/
theorem zero_float : (FloatOps.sitofp (F := Ideal) FTy.f32 (0#32) : EReal) = 0 := by
  show ((((0#32 : BitVec 32).toInt : ℝ)) : EReal) = 0
  simp

/-- The places are 16384. -/
theorem count_at : (refCount ix0 : EReal) = Ideal.ofBits .f32 0x46800000#32 := by
  pointwise [refCount]
  rw [zero_float, sub_zero]

/-- That count is positive. -/
theorem count_pos : (0 : EReal) < Ideal.ofBits .f32 0x46800000#32 := by
  simp [Ideal.ofBits, Ideal.ieee]
  rw [← EReal.coe_mul, EReal.coe_pos]
  norm_num

/-- A channel's mean is the plain one. -/
theorem refMean_at (x : FVec Ideal S32x1024x512 .f32) (o : Fin 1024) :
    (refMean x (ix3 0 o 0) : EReal)
      = mean (Ideal.ofBits .f32 0x46800000#32) (fun p : Fin 32 × Fin 512 => x (ix3 p.1 o p.2)) := by
  unfold mean
  pointwise [refMean]
  rw [reduce_outer]
  pointwise []

/-- A deviation is the plain one. -/
theorem refDev_at (x : FVec Ideal S32x1024x512 .f32) (b : Fin 32) (o : Fin 1024) (i : Fin 512) :
    (refDev x (ix3 b o i) : EReal) = x (ix3 b o i)
      - mean (Ideal.ofBits .f32 0x46800000#32) (fun p : Fin 32 × Fin 512 => x (ix3 p.1 o p.2)) := by
  rw [← refMean_at]
  unfold refDev
  generalize refMean x = v
  pointwise []

/-- A channel's variance is the plain one. -/
theorem refVar_at (d : FVec Ideal S32x1024x512 .f32) (o : Fin 1024) :
    (refVar d (ix3 0 o 0) : EReal)
      = Ideal.div (∑ p : Fin 32 × Fin 512, d (ix3 p.1 o p.2) * d (ix3 p.1 o p.2)) (Ideal.ofBits .f32 0x46800000#32) := by
  have hc := count_at
  unfold refVar
  generalize refCount = k at hc ⊢
  pointwise []
  rw [hc, if_pos count_pos, reduce_outer]
  pointwise []

/-- A normalised channel is the plain one. -/
theorem refNorm_at (x : FVec Ideal S32x1024x512 .f32) (g s : FVec Ideal S1024 .f32) (b : Fin 32) (o : Fin 1024) (i : Fin 512) :
    (refNorm x g s (ix3 b o i) : EReal) = norm (Ideal.ofBits .f32 0x46800000#32) (g (ix1 o)) (s (ix1 o))
      (fun p : Fin 32 × Fin 512 => x (ix3 p.1 o p.2)) (b, i) := by
  have hd := refDev_at x
  have hv := refVar_at (refDev x) o
  unfold refNorm
  generalize refDev x = d at hd hv ⊢
  generalize refVar d = v at hv ⊢
  pointwise []
  rw [hv, hd]
  simp only [hd]
  rfl

/-- The leaky relu at an index. -/
theorem refAct_at (z : FVec Ideal S32x1024x512 .f32) (b : Fin 32) (o : Fin 1024) (i : Fin 512) :
    (refAct z (ix3 b o i) : EReal) = lr (z (ix3 b o i)) := by
  unfold lr
  pointwise [refAct]
  rfl

/-- The maxima over the points, at an index. -/
theorem refMax_at (z : FVec Ideal S32x1024x512 .f32) (b : Fin 32) (o : Fin 1024) :
    (refMax z (ix2 b o) : EReal) = Finset.fold max (Ideal.ofBits .f32 0xFF800000#32) (fun i => z (ix3 b o i)) Finset.univ := by
  pointwise [refMax]

/-- The means over the points, at an index. -/
theorem refAvg_at (z : FVec Ideal S32x1024x512 .f32) (b : Fin 32) (o : Fin 1024) :
    (refAvg z (ix2 b o) : EReal) = Ideal.div (∑ i, z (ix3 b o i)) (Ideal.ofBits .f32 0x44000000#32) := by
  pointwise [refAvg]

/-- The reference's activation is the plain one. -/
theorem refAct_norm (x : FVec Ideal S32x1024x512 .f32) (g s : FVec Ideal S1024 .f32) (b : Fin 32) (o : Fin 1024) (i : Fin 512) :
    (refAct (refNorm x g s) (ix3 b o i) : EReal) = act (fun b i => x (ix3 b o i)) (g (ix1 o)) (s (ix1 o)) b i := by
  rw [refAct_at, refNorm_at]
  rfl

/-- The reference's first result is the plain maxima. -/
theorem refMax_eq (x : FVec Ideal S32x1024x512 .f32) (g s : FVec Ideal S1024 .f32) :
    refMax (refAct (refNorm x g s)) = maxes x g s := by
  funext y
  obtain ⟨b, o, rfl⟩ : ∃ (b : Fin 32) (o : Fin 1024), y = ix2 b o := ⟨_, _, eq_ix2 y⟩
  rw [refMax_at]
  simp only [refAct_norm]
  rfl

/-- The reference's second result is the plain means. -/
theorem refAvg_eq (x : FVec Ideal S32x1024x512 .f32) (g s : FVec Ideal S1024 .f32) :
    refAvg (refAct (refNorm x g s)) = means x g s := by
  funext y
  obtain ⟨b, o, rfl⟩ : ∃ (b : Fin 32) (o : Fin 1024), y = ix2 b o := ⟨_, _, eq_ix2 y⟩
  rw [refAvg_at]
  simp only [refAct_norm]
  rfl

/-- The second call's two programs, from memories whose arguments agree, end with the same two result arrays and with
    their arguments unchanged. -/
theorem algebraic2 : Cert.algebraic_Kernel2Ideal_Reference2Ideal := by
  intro m g m' g' _ hagree
  refine ⟨fun c => maxes (m (c.tc.loc Cert.Kernel2Ideal.main_arg0)) (m (c.tc.loc Cert.Kernel2Ideal.main_arg1))
      (m (c.tc.loc Cert.Kernel2Ideal.main_arg2)),
    fun c => means (m (c.tc.loc Cert.Kernel2Ideal.main_arg0)) (m (c.tc.loc Cert.Kernel2Ideal.main_arg1))
      (m (c.tc.loc Cert.Kernel2Ideal.main_arg2)), ?_, ?_⟩
  · exact θ_run_mono (Cert.Kernel2Ideal.Value.run_blocks (F := Ideal) m g) fun r h c =>
      ⟨(h c).1.trans (arrayMax m c), (h c).2.1.trans (arrayMean m c), (h c).2.2⟩
  · refine θ_run_mono (Cert.Reference2Ideal.Value.run (F := Ideal) m' g') fun r h c => ?_
    obtain ⟨a0, a1, a2⟩ := hagree c
    refine ⟨(h c).1.trans ?_, (h c).2.1.trans ?_, (h c).2.2⟩
    · exact ((res_max m' c).trans (refMax_eq _ _ _)).trans (congr (congr (congrArg maxes a0) a1) a2)
    · exact ((res_mean m' c).trans (refAvg_eq _ _ _)).trans (congr (congr (congrArg means a0) a1) a2)

end Cert.Proof.W
-- ==== Proof.W.Head.lean ====
module

public import proofs.«01_k».proof.Proof.W.Spec

@[expose] public section

/-! The plain mathematics of the third call: two dense layers with batch normalisation, a product, two voxel layers of the
eight nearest voxels, a product with batch normalisation, the two poolings and two last products. -/

namespace Cert.Proof.W

open Idealize.ShloMosaic Cert.Proof.V

/-- The number of voxels, as a float. -/
noncomputable abbrev n32 : EReal := Ideal.ofBits .f32 0x42000000#32
/-- The number of edges of a voxel layer, as a float. -/
noncomputable abbrev n256 : EReal := Ideal.ofBits .f32 0x43800000#32

variable {C D O : ℕ}

/-- A product's columns normalised over the voxels, then the leaky relu. -/
noncomputable def dense (y : Fin 32 → Fin O → EReal) (g s : Fin O → EReal) (i : Fin 32) (o : Fin O) : EReal :=
  lr (norm n32 (g o) (s o) (fun j => y j o) i)

/-- A voxel layer's product at the edge to the `k`-th nearest voxel. -/
noncomputable def prods (x : Fin 32 → Fin C → EReal) (w : Fin O → Fin D → EReal) (o : Fin O) (p : Fin 32 × Fin 8) : EReal :=
  ∑ c : Fin D, feat x p.1 (nth (dist x p.1) p.2.val) c * w o c

/-- A voxel layer: the products normalised over all edges, the leaky relu, the greatest over a voxel's edges. -/
noncomputable def vox (x : Fin 32 → Fin C → EReal) (w : Fin O → Fin D → EReal) (g s : Fin O → EReal) (i : Fin 32) (o : Fin O) :
    EReal :=
  Finset.univ.sup fun k : Fin 8 => lr (norm n256 (g o) (s o) (prods x w o) (i, k))

/-- Eight maxima one after the other, from minus infinity, are the greatest of the eight. -/
theorem sup_eight (f : Fin 8 → EReal) :
    max (max (max (max (max (max (max (max ⊥ (f 0)) (f 1)) (f 2)) (f 3)) (f 4)) (f 5)) (f 6)) (f 7) = Finset.univ.sup f := by
  refine le_antisymm ?_ (Finset.sup_le fun k _ => ?_)
  · have h : ∀ k, f k ≤ Finset.univ.sup f := fun k => Finset.le_sup (Finset.mem_univ k)
    simp [h]
  · fin_cases k <;> simp

/-- Eight sums one after the other, rows summed last, are the sum over all edges. -/
theorem sum_rows (f : Fin 32 × Fin 8 → EReal) :
    ∑ i, (f (i, 0) + f (i, 1) + f (i, 2) + f (i, 3) + f (i, 4) + f (i, 5) + f (i, 6) + f (i, 7)) = ∑ p, f p := by
  rw [sum_pair]
  exact Finset.sum_congr rfl fun i _ => (Fin.sum_univ_eight fun k => f (i, k)).symm

/-- Eight sums over the rows, one after the other from zero, are the sum over all edges. -/
theorem sum_cols (f : Fin 32 × Fin 8 → EReal) :
    0 + (∑ i, f (i, 0)) + (∑ i, f (i, 1)) + (∑ i, f (i, 2)) + (∑ i, f (i, 3)) + (∑ i, f (i, 4)) + (∑ i, f (i, 5))
      + (∑ i, f (i, 6)) + (∑ i, f (i, 7)) = ∑ p, f p := by
  rw [sum_pair', zero_add]
  exact (Fin.sum_univ_eight fun k => ∑ i, f (i, k)).symm

/-- The arguments of the third call. -/
structure Args where
  /-- The pooled features. -/
  x : Fin 32 → Fin 2048 → EReal
  /-- The first dense layer. -/
  wl1 : Fin 2048 → Fin 1024 → EReal
  /-- Its scales. -/
  g6 : Fin 1024 → EReal
  /-- Its shifts. -/
  b6 : Fin 1024 → EReal
  /-- The second dense layer. -/
  wl2 : Fin 1024 → Fin 1024 → EReal
  /-- Its bias. -/
  bl2 : Fin 1024 → EReal
  /-- Its scales. -/
  g7 : Fin 1024 → EReal
  /-- Its shifts. -/
  b7 : Fin 1024 → EReal
  /-- The third dense layer. -/
  wl3 : Fin 1024 → Fin 32 → EReal
  /-- Its bias. -/
  bl3 : Fin 32 → EReal
  /-- The first voxel layer. -/
  w6 : Fin 512 → Fin 64 → EReal
  /-- Its scales. -/
  gc6 : Fin 512 → EReal
  /-- Its shifts. -/
  bc6 : Fin 512 → EReal
  /-- The second voxel layer. -/
  w7 : Fin 256 → Fin 1024 → EReal
  /-- Its scales. -/
  gc7 : Fin 256 → EReal
  /-- Its shifts. -/
  bc7 : Fin 256 → EReal
  /-- The product over both voxel layers' channels. -/
  w8 : Fin 1024 → Fin 768 → EReal
  /-- Its scales. -/
  gc8 : Fin 1024 → EReal
  /-- Its shifts. -/
  bc8 : Fin 1024 → EReal
  /-- The product with the pooled channels. -/
  wl4 : Fin 2048 → Fin 256 → EReal
  /-- The last product. -/
  wl5 : Fin 256 → Fin 40 → EReal
  /-- Its bias. -/
  bl5 : Fin 40 → EReal

namespace Args

variable (a : Args)

/-- The first dense layer's activations. -/
noncomputable def h1 : Fin 32 → Fin 1024 → EReal := dense (fun i o => ∑ c, a.x i c * a.wl1 c o) a.g6 a.b6
/-- The second dense layer's activations. -/
noncomputable def h2 : Fin 32 → Fin 1024 → EReal := dense (fun i o => (∑ c, a.h1 i c * a.wl2 c o) + a.bl2 o) a.g7 a.b7
/-- The voxels' points. -/
noncomputable def pts (i : Fin 32) (o : Fin 32) : EReal := (∑ c, a.h2 i c * a.wl3 c o) + a.bl3 o
/-- The first voxel layer. -/
noncomputable def v1 : Fin 32 → Fin 512 → EReal := vox a.pts a.w6 a.gc6 a.bc6
/-- The second voxel layer. -/
noncomputable def v2 : Fin 32 → Fin 256 → EReal := vox a.v1 a.w7 a.gc7 a.bc7

end Args

/-- Two layers' channels side by side. -/
noncomputable def beside (y : Fin 32 → Fin 512 → EReal) (z : Fin 32 → Fin 256 → EReal) (i : Fin 32) (c : Fin 768) : EReal :=
  if h : c.val < 512 then y i ⟨c.val, h⟩ else z i ⟨c.val - 512, by omega⟩

/-- The maxima and the means over the voxels side by side. -/
noncomputable def pooled (z : Fin 32 → Fin 1024 → EReal) (c : Fin 2048) : EReal :=
  if h : c.val < 1024 then Finset.fold max (Ideal.ofBits .f32 0xFF800000#32) (fun i => z i ⟨c.val, h⟩) Finset.univ
  else Ideal.div (∑ i, z i ⟨c.val - 1024, by omega⟩) n32

/-- What follows the voxel layers: the product over both, the poolings, the last products. -/
noncomputable def tail (y : Fin 32 → Fin 512 → EReal) (z : Fin 32 → Fin 256 → EReal) (w8 : Fin 1024 → Fin 768 → EReal)
    (g s : Fin 1024 → EReal) (wl4 : Fin 2048 → Fin 256 → EReal) (wl5 : Fin 256 → Fin 40 → EReal) (b : Fin 40 → EReal)
    (o : Fin 40) : EReal :=
  (∑ t, lr (∑ c, pooled (dense (fun i q => ∑ c, beside y z i c * w8 q c) g s) c * wl4 c t) * wl5 t o) + b o

/-- The third call's result. -/
noncomputable def Args.out (a : Args) : Fin 40 → EReal := tail a.v1 a.v2 a.w8 a.gc8 a.bc8 a.wl4 a.wl5 a.bl5

end Cert.Proof.W
-- ==== Proof.W.Pick.lean ====
module

public import proofs.«01_k».proof.Proof.Gen.Kernel3Ideal.Frame
public import proofs.«01_k».proof.Proof.W.Head
public import Idealize.ShloMosaic.Lib.Pointwise

@[expose] public section

noncomputable section

/-! One round of the third call's search: the one-hot mask of the first greatest column, and the distances with it struck
out. -/

namespace Cert.Proof.W

open Cert.Kernel3Ideal Cert.Kernel3Ideal.Gen Cert.Proof.V
open Idealize.ShloMosaic

/-- The one-hot mask of the first greatest column of each row. -/
def hot (p : FVec Ideal S32x32 .f32) : IVec S32x32 1 :=
  cmpi .eq (iota .tc S32x32 32 [1] iota_S32x32_d1_w32)
    (broadcastTo S32x32 (shapeCast S32x1 (reduceIndex (F := Ideal) .argMax 1 S32 p reduces_S32x32_S32_2) shapeCasts_S32_S32x1)
      broadcasts_S32x1_S32x32)

/-- The mask's value. -/
abbrev low : Ideal .f32 := Named.named (F := Ideal) κ "mask" 0xFF61B1E6#32

/-- The array with the first greatest column of each row struck out. -/
def cut (p : FVec Ideal S32x32 .f32) : FVec Ideal S32x32 .f32 := select (hot p) (broadcast S32x32 low) p

/-- The mask's value is minus infinity. -/
theorem low_eq : (low : EReal) = ⊥ := IdealRules.named_const.ideal_named_scalar _ _ _ _ rfl

/-- The index of the greatest entry along a row is the first greatest column. -/
theorem first_at (p : FVec Ideal S32x32 .f32) (i : Fin 32) :
    reduceIndex (F := Ideal) .argMax 1 S32 p reduces_S32x32_S32_2 (ix1 i) = BitVec.ofNat 32 (pick (mat p i)).val := by
  classical
  have hd : ∀ a b : Fin 32, reduces_S32x32_S32_2.drop (ix2 a b) = ix1 a := by
    intro a b
    funext k
    fin_cases k
    rfl
  have hs := pick_spec (mat p i)
  have hmin : ∀ S : Finset ℕ, (pick (mat p i)).val ∈ S → (∀ b ∈ S, (pick (mat p i)).val ≤ b) →
      S.min.getD 0 = (pick (mat p i)).val := by
    intro S h1 h2
    have h3 : S.min = ((pick (mat p i)).val : WithTop ℕ) :=
      le_antisymm (Finset.min_le h1) (Finset.le_min fun b hb => WithTop.coe_le_coe.mpr (h2 b hb))
    rw [h3]
    rfl
  change Ideal.reduceIndex _ _ _ _ _ = _
  unfold Ideal.reduceIndex
  refine congrArg (BitVec.ofNat 32) (hmin _ ?_ ?_)
  · refine Finset.mem_image.mpr ⟨ix2 i (pick (mat p i)), ?_, rfl⟩
    simp only [Finset.mem_filter, Finset.mem_univ, true_and, if_true, hd]
    intro q hq
    obtain ⟨a, b, rfl⟩ : ∃ a b, q = ix2 a b := ⟨_, _, eq_ix2 q⟩
    rw [hd] at hq
    obtain rfl : a = i := congrFun hq 0
    exact not_lt.mpr (hs.1 b)
  · intro n hn
    obtain ⟨q, hq, rfl⟩ := Finset.mem_image.mp hn
    simp only [Finset.mem_filter, Finset.mem_univ, true_and, if_true] at hq
    obtain ⟨a, b, rfl⟩ : ∃ a b, q = ix2 a b := ⟨_, _, eq_ix2 q⟩
    obtain ⟨hq, hb⟩ := hq
    rw [hd] at hq
    obtain rfl : a = i := congrFun hq 0
    have h1 := hb (ix2 a (pick (mat p a))) (hd _ _)
    by_contra h
    exact h1 (hs.2 b (by simpa using h))

/-- The mask is one in the first greatest column. -/
theorem hot_at (p : FVec Ideal S32x32 .f32) (i j : Fin 32) : hot p (ix2 i j) = if j = pick (mat p i) then 1#1 else 0#1 := by
  pointwise [hot]
  rw [first_at]
  generalize pick (mat p i) = a
  change BitVec.ofBool (BitVec.ofNat 32 j.val == BitVec.ofNat 32 a.val) = _
  have h : (BitVec.ofNat 32 j.val = BitVec.ofNat 32 a.val) ↔ j = a := by
    constructor
    · intro h
      have := congrArg BitVec.toNat h
      simp only [BitVec.toNat_ofNat] at this
      apply Fin.ext
      omega
    · rintro rfl
      rfl
  by_cases hja : j = a
  · rw [if_pos hja, hja]; simp
  · rw [if_neg hja, beq_eq_false_iff_ne.mpr (fun h' => hja (h.mp h'))]; rfl

/-- Striking out is the plain one. -/
theorem cut_at (p : FVec Ideal S32x32 .f32) (i : Fin 32) : mat (cut p) i = strike (mat p i) := by
  funext j
  unfold mat
  pointwise [cut]
  rw [hot_at, low_eq]
  unfold strike mat
  split <;> rfl

/-- So are several rounds of it. -/
theorem cuts_at (p : FVec Ideal S32x32 .f32) (i : Fin 32) (k : ℕ) : mat (cut^[k] p) i = strike^[k] (mat p i) := by
  induction k with
  | zero => rfl
  | succ k ih => rw [Function.iterate_succ_apply', Function.iterate_succ_apply', cut_at, ih]

/-- A sum against the mask is the summand at the first greatest column. -/
theorem hot_sum (p : FVec Ideal S32x32 .f32) (i : Fin 32) (f : Fin 32 → EReal) :
    ∑ j, FloatOps.sitofp (F := Ideal) .f32 (BitVec.setWidth 32 (hot p (ix2 i j))) * f j = f (pick (mat p i)) := by
  have h1 : (FloatOps.sitofp (F := Ideal) .f32 (BitVec.setWidth 32 1#1) : EReal) = 1 := by
    change ((((BitVec.setWidth 32 1#1).toInt : ℤ) : ℝ) : EReal) = 1
    simp
  have h0 : (FloatOps.sitofp (F := Ideal) .f32 (BitVec.setWidth 32 0#1) : EReal) = 0 := by
    change ((((BitVec.setWidth 32 0#1).toInt : ℤ) : ℝ) : EReal) = 0
    simp
  rw [Finset.sum_eq_single (pick (mat p i))]
  · rw [hot_at, if_pos rfl, h1, one_mul]
  · intro j _ hj
    rw [hot_at, if_neg hj, h0, zero_mul]
  · intro h
    exact absurd (Finset.mem_univ _) h

end Cert.Proof.W
-- ==== Proof.W.VoxA.lean ====
module

public import proofs.«01_k».proof.Proof.W.Pick

@[expose] public section

set_option maxRecDepth 16384
noncomputable section

/-! The third call's first voxel layer: its operations as functions of arrays, and what they hold at an index. -/

namespace Cert.Proof.W.A

open Cert.Kernel3Ideal Cert.Kernel3Ideal.Gen Cert.Proof.V Cert.Proof.W
open Idealize.ShloMosaic

/-- The product of the edge features with the weights, the far end of each edge picked by a mask. -/
def conv (x : FVec Ideal S32x32 .f32) (w : FVec Ideal S512x64 .f32) (t : FVec Ideal S32x96 .bf16) (h : IVec S32x32 1) :
    FVec Ideal S32x512 .f32 :=
  have y : FVec Ideal S32x96 .f32 := matmul dot_S32x32_S32x96_S32x96_1_0_0_1_n_n none
    (truncf .bf16 (sitofp .f32 (extui 32 h natLt_1_32)) bitsLt_bf16_f32) t (constant S32x96 .f32 0x00000000#32)
  matmul dot_S32x64_S512x64_S32x512_1_1_0_0_n_n none
    (truncf .bf16 (concatenate S32x64 1 [⟨S32x32, subf (addf (addf
        (extractStridedSlice S32x32 ![0, 0] y slices_S32x96_o0_0_S32x32)
        (extractStridedSlice S32x32 ![0, 32] y slices_S32x96_o0_32_S32x32))
        (extractStridedSlice S32x32 ![0, 64] y slices_S32x96_o0_64_S32x32)) x⟩, ⟨S32x32, x⟩]
      concatenates_S32x32_S32x32_S32x64_d1) bitsLt_bf16_f32)
    (truncf .bf16 w bitsLt_bf16_f32) (constant S32x512 .f32 0x00000000#32)

/-- The product at the edge to the `k`-th nearest voxel. -/
def prod (x : FVec Ideal S32x32 .f32) (w : FVec Ideal S512x64 .f32) (k : ℕ) : FVec Ideal S32x512 .f32 :=
  conv x w (k0_pay6 (F := Ideal) x) (hot (cut^[k] (k0_pay5 (F := Ideal) x)))

/-- The sums over the rows, as one row. -/
def cols (y : FVec Ideal S32x512 .f32) : FVec Ideal S1x512 .f32 :=
  shapeCast S1x512 (multiReduction .add [0] S512 y 0x00000000#32 reduces_S32x512_S512 (.inl rfl) rfl) shapeCasts_S512_S1x512

/-- A row put under every row. -/
def down (y : FVec Ideal S1x512 .f32) : FVec Ideal S32x512 .f32 := broadcastTo S32x512 y broadcasts_S1x512_S32x512

/-- The means of the products over all edges. -/
def mid (y : ℕ → FVec Ideal S32x512 .f32) : FVec Ideal S1x512 .f32 :=
  divf (cols (addf (addf (addf (addf (addf (addf (addf (y 0) (y 1)) (y 2)) (y 3)) (y 4)) (y 5)) (y 6)) (y 7)))
    (broadcast S1x512 (Scalar.ofBits .f32 0x43800000#32))

/-- The sums of the squared deviations of one edge's products. -/
def sqs (y : FVec Ideal S32x512 .f32) (m : FVec Ideal S1x512 .f32) : FVec Ideal S1x512 .f32 :=
  cols (mulf (subf y (down m)) (subf y (down m)))

/-- The square roots of the variances over all edges. -/
def dev (y : ℕ → FVec Ideal S32x512 .f32) (m : FVec Ideal S1x512 .f32) : FVec Ideal S1x512 .f32 :=
  sqrt (addf (divf (addf (addf (addf (addf (addf (addf (addf (addf (broadcast S1x512 (Scalar.ofBits .f32 0x00000000#32))
    (sqs (y 0) m)) (sqs (y 1) m)) (sqs (y 2) m)) (sqs (y 3) m)) (sqs (y 4) m)) (sqs (y 5) m)) (sqs (y 6) m)) (sqs (y 7) m))
    (broadcast S1x512 (Scalar.ofBits .f32 0x43800000#32))) (broadcast S1x512 (Scalar.ofBits .f32 0x3727C5AC#32)))

/-- One edge's products normalised, then the leaky relu. -/
def acts (g s m d : FVec Ideal S1x512 .f32) (y : FVec Ideal S32x512 .f32) : FVec Ideal S32x512 .f32 :=
  have z : FVec Ideal S32x512 .f32 := addf (divf (mulf (down g) (subf y (down m))) (down d)) (down s)
  select (cmpf .oge z (broadcast S32x512 (Scalar.ofBits .f32 0x00000000#32))) z
    (mulf (broadcast S32x512 (Scalar.ofBits .f32 0x3E4CCCCD#32)) z)

/-- The greatest of the eight edges' activations. -/
def best (f : ℕ → FVec Ideal S32x512 .f32) : FVec Ideal S32x512 .f32 :=
  maximumf (maximumf (maximumf (maximumf (maximumf (maximumf (maximumf (maximumf (broadcast S32x512 low)
    (f 0)) (f 1)) (f 2)) (f 3)) (f 4)) (f 5)) (f 6)) (f 7)

/-- The layer. -/
def all (x : FVec Ideal S32x32 .f32) (w : FVec Ideal S512x64 .f32) (g s : FVec Ideal S1x512 .f32) : FVec Ideal S32x512 .f32 :=
  best fun k => acts g s (mid (prod x w)) (dev (prod x w) (mid (prod x w))) (prod x w k)

/-- The distances. -/
theorem dist_at (x : FVec Ideal S32x32 .f32) (i j : Fin 32) : k0_pay5 (F := Ideal) x (ix2 i j) = dist (mat x) i j := by
  pointwise [k0_pay5]
  rfl

/-- A mask's product is the plain one with the first greatest column of the row. -/
theorem conv_at {x : FVec Ideal S32x32 .f32} (hx : ∀ j c, Fin' (x (ix2 j c))) (w : FVec Ideal S512x64 .f32)
    (p : FVec Ideal S32x32 .f32) (i : Fin 32) (o : Fin 512) :
    (conv x w (k0_pay6 (F := Ideal) x) (hot p) (ix2 i o) : EReal)
      = ∑ c : Fin 64, feat (mat x) i (pick (mat p i)) c * mat w o c := by
  have hs : ∀ j c, x (ix2 j c) - x (ix2 j c) = 0 := fun j c => (hx j c).sub_self
  pointwise [conv, k0_pay6]
  simp only [hot_sum, hs]
  refine Finset.sum_congr rfl fun c _ => congrArg (· * _) ?_
  unfold feat
  by_cases h : c.val < 32
  · have h' : ¬ 64 + c.val < 32 := by omega
    simp only [h, h', dif_pos, dif_neg, not_false_eq_true, sub_zero, dite_eq_ite, ite_self, add_zero]
    rfl
  · have h' : c.val - 32 < 32 := by omega
    simp only [h, h', dif_pos, dif_neg, not_false_eq_true]
    rfl

/-- The product at the edge to the `k`-th nearest voxel is the plain one. -/
theorem prod_at {x : FVec Ideal S32x32 .f32} (hx : ∀ j c, Fin' (x (ix2 j c))) (w : FVec Ideal S512x64 .f32) (i : Fin 32)
    (o : Fin 512) (k : Fin 8) : (prod x w k.val (ix2 i o) : EReal) = prods (mat x) (mat w) o (i, k) := by
  unfold prod prods
  rw [conv_at hx, cuts_at]
  have e : mat (k0_pay5 (F := Ideal) x) i = dist (mat x) i := funext fun j => dist_at x i j
  rw [e]
  rfl

/-- The means are the plain ones. -/
theorem mid_at (y : ℕ → FVec Ideal S32x512 .f32) (o : Fin 512) :
    (mid y (ix2 0 o) : EReal) = mean n256 (fun p : Fin 32 × Fin 8 => y p.2.val (ix2 p.1 o)) := by
  unfold mean
  rw [← sum_rows]
  pointwise [mid, cols]

/-- One edge's sums of squared deviations. -/
theorem sqs_at (y : FVec Ideal S32x512 .f32) (m : FVec Ideal S1x512 .f32) (o : Fin 512) :
    (sqs y m (ix2 0 o) : EReal) = ∑ i, (y (ix2 i o) - m (ix2 0 o)) * (y (ix2 i o) - m (ix2 0 o)) := by
  pointwise [sqs, cols, down]

/-- The square roots of the variances are the plain ones. -/
theorem dev_at (y : ℕ → FVec Ideal S32x512 .f32) (o : Fin 512) :
    (dev y (mid y) (ix2 0 o) : EReal)
      = Ideal.sqrt (var n256 (fun p : Fin 32 × Fin 8 => y p.2.val (ix2 p.1 o)) + eps) := by
  have hm := mid_at y o
  have hq := fun k => sqs_at (y k) (mid y) o
  unfold var
  rw [← hm, ← sum_cols]
  generalize mid y = m at hq ⊢
  pointwise [dev]
  simp only [hq]

/-- One edge's activations are the plain ones. -/
theorem acts_at (g s m d : FVec Ideal S1x512 .f32) (y : FVec Ideal S32x512 .f32) (i : Fin 32) (o : Fin 512) :
    (acts g s m d y (ix2 i o) : EReal)
      = lr (Ideal.div (g (ix2 0 o) * (y (ix2 i o) - m (ix2 0 o))) (d (ix2 0 o)) + s (ix2 0 o)) := by
  unfold lr
  pointwise [acts, down]

/-- The greatest of the eight. -/
theorem best_at (f : ℕ → FVec Ideal S32x512 .f32) (i : Fin 32) (o : Fin 512) :
    (best f (ix2 i o) : EReal) = Finset.univ.sup fun k : Fin 8 => (f k.val (ix2 i o) : EReal) := by
  rw [← sup_eight, ← low_eq]
  pointwise [best]

/-- The layer is the plain one. -/
theorem all_at {x : FVec Ideal S32x32 .f32} (hx : ∀ j c, Fin' (x (ix2 j c))) (w : FVec Ideal S512x64 .f32)
    (g s : FVec Ideal S1x512 .f32) : mat (all x w g s) = vox (mat x) (mat w) (fun o => g (ix2 0 o)) (fun o => s (ix2 0 o)) := by
  funext i o
  unfold mat all
  rw [best_at]
  refine Finset.sup_congr rfl fun k _ => ?_
  have e : (fun p : Fin 32 × Fin 8 => (prod x w p.2.val (ix2 p.1 o) : EReal)) = prods (mat x) (mat w) o :=
    funext fun p => prod_at hx w p.1 o p.2
  rw [acts_at, mid_at, dev_at, e, prod_at hx]
  rfl

end Cert.Proof.W.A
-- ==== Proof.W.VoxB.lean ====
module

public import proofs.«01_k».proof.Proof.W.Pick

@[expose] public section

set_option maxRecDepth 16384
noncomputable section

/-! The third call's second voxel layer: its operations as functions of arrays, and what they hold at an index. -/

namespace Cert.Proof.W.B

open Cert.Kernel3Ideal Cert.Kernel3Ideal.Gen Cert.Proof.V Cert.Proof.W
open Idealize.ShloMosaic

/-- The distances of the layer's voxels. -/
def far (x : FVec Ideal S32x512 .f32) : FVec Ideal S32x32 .f32 :=
  have r : FVec Ideal S1x32 .f32 := shapeCast S1x32 (multiReduction .add [0] S32
    (mulf (transpose S512x32 [1, 0] x transposes_S32x512_p1_0_S512x32) (transpose S512x32 [1, 0] x transposes_S32x512_p1_0_S512x32))
    0x00000000#32 reduces_S512x32_S32 (.inl rfl) rfl) shapeCasts_S32_S1x32
  mulf (subf (subf (broadcastTo S32x32 (subf (broadcast S1x32 (Scalar.ofBits .f32 0x00000000#32)) r) broadcasts_S1x32_S32x32)
      (mulf (broadcast S32x32 (Scalar.ofBits .f32 0xC0000000#32)) (matmul dot_S32x512_S32x512_S32x32_1_1_0_0_n_n none
        (truncf .bf16 x bitsLt_bf16_f32) (truncf .bf16 x bitsLt_bf16_f32) (constant S32x32 .f32 0x00000000#32))))
      (broadcastTo S32x32 (transpose S32x1 [1, 0] r transposes_S1x32_p1_0_S32x1) broadcasts_S32x1_S32x32))
    (broadcastTo S32x32 (select (cmpf .ogt r (broadcast S1x32 (Scalar.ofBits .f32 0x00000000#32)))
      (broadcast S1x32 (Scalar.ofBits .f32 0x3F800000#32)) (broadcast S1x32 (Scalar.ofBits .f32 0x4B189680#32)))
      broadcasts_S1x32_S32x32)

/-- The voxels' channels in three parts. -/
def table (x : FVec Ideal S32x512 .f32) : FVec Ideal S32x1536 .bf16 :=
  k0_pay47 (F := Ideal) (truncf .bf16 x bitsLt_bf16_f32) (subf x (extf .f32 (truncf .bf16 x bitsLt_bf16_f32) bitsLt_bf16_f32))

/-- The product of the edge features with the weights, the far end of each edge picked by a mask. -/
def conv (x : FVec Ideal S32x512 .f32) (w : FVec Ideal S256x1024 .f32) (t : FVec Ideal S32x1536 .bf16) (h : IVec S32x32 1) :
    FVec Ideal S32x256 .f32 :=
  have y : FVec Ideal S32x1536 .f32 := matmul dot_S32x32_S32x1536_S32x1536_1_0_0_1_n_n none
    (truncf .bf16 (sitofp .f32 (extui 32 h natLt_1_32)) bitsLt_bf16_f32) t (constant S32x1536 .f32 0x00000000#32)
  matmul dot_S32x1024_S256x1024_S32x256_1_1_0_0_n_n none
    (truncf .bf16 (concatenate S32x1024 1 [⟨S32x512, subf (addf (addf
        (extractStridedSlice S32x512 ![0, 0] y slices_S32x1536_o0_0_S32x512)
        (extractStridedSlice S32x512 ![0, 512] y slices_S32x1536_o0_512_S32x512))
        (extractStridedSlice S32x512 ![0, 1024] y slices_S32x1536_o0_1024_S32x512)) x⟩, ⟨S32x512, x⟩]
      concatenates_S32x512_S32x512_S32x1024_d1) bitsLt_bf16_f32)
    (truncf .bf16 w bitsLt_bf16_f32) (constant S32x256 .f32 0x00000000#32)

/-- The product at the edge to the `k`-th nearest voxel. -/
def prod (x : FVec Ideal S32x512 .f32) (w : FVec Ideal S256x1024 .f32) (k : ℕ) : FVec Ideal S32x256 .f32 :=
  conv x w (table x) (hot (cut^[k] (far x)))

/-- The sums over the rows, as one row. -/
def cols (y : FVec Ideal S32x256 .f32) : FVec Ideal S1x256 .f32 :=
  shapeCast S1x256 (multiReduction .add [0] S256 y 0x00000000#32 reduces_S32x256_S256 (.inl rfl) rfl) shapeCasts_S256_S1x256

/-- A row put under every row. -/
def down (y : FVec Ideal S1x256 .f32) : FVec Ideal S32x256 .f32 := broadcastTo S32x256 y broadcasts_S1x256_S32x256

/-- The means of the products over all edges. -/
def mid (y : ℕ → FVec Ideal S32x256 .f32) : FVec Ideal S1x256 .f32 :=
  divf (cols (addf (addf (addf (addf (addf (addf (addf (y 0) (y 1)) (y 2)) (y 3)) (y 4)) (y 5)) (y 6)) (y 7)))
    (broadcast S1x256 (Scalar.ofBits .f32 0x43800000#32))

/-- The sums of the squared deviations of one edge's products. -/
def sqs (y : FVec Ideal S32x256 .f32) (m : FVec Ideal S1x256 .f32) : FVec Ideal S1x256 .f32 :=
  cols (mulf (subf y (down m)) (subf y (down m)))

/-- The square roots of the variances over all edges. -/
def dev (y : ℕ → FVec Ideal S32x256 .f32) (m : FVec Ideal S1x256 .f32) : FVec Ideal S1x256 .f32 :=
  sqrt (addf (divf (addf (addf (addf (addf (addf (addf (addf (addf (broadcast S1x256 (Scalar.ofBits .f32 0x00000000#32))
    (sqs (y 0) m)) (sqs (y 1) m)) (sqs (y 2) m)) (sqs (y 3) m)) (sqs (y 4) m)) (sqs (y 5) m)) (sqs (y 6) m)) (sqs (y 7) m))
    (broadcast S1x256 (Scalar.ofBits .f32 0x43800000#32))) (broadcast S1x256 (Scalar.ofBits .f32 0x3727C5AC#32)))

/-- One edge's products normalised, then the leaky relu. -/
def acts (g s m d : FVec Ideal S1x256 .f32) (y : FVec Ideal S32x256 .f32) : FVec Ideal S32x256 .f32 :=
  have z : FVec Ideal S32x256 .f32 := addf (divf (mulf (down g) (subf y (down m))) (down d)) (down s)
  select (cmpf .oge z (broadcast S32x256 (Scalar.ofBits .f32 0x00000000#32))) z
    (mulf (broadcast S32x256 (Scalar.ofBits .f32 0x3E4CCCCD#32)) z)

/-- The greatest of the eight edges' activations. -/
def best (f : ℕ → FVec Ideal S32x256 .f32) : FVec Ideal S32x256 .f32 :=
  maximumf (maximumf (maximumf (maximumf (maximumf (maximumf (maximumf (maximumf (broadcast S32x256 low)
    (f 0)) (f 1)) (f 2)) (f 3)) (f 4)) (f 5)) (f 6)) (f 7)

/-- The layer. -/
def all (x : FVec Ideal S32x512 .f32) (w : FVec Ideal S256x1024 .f32) (g s : FVec Ideal S1x256 .f32) : FVec Ideal S32x256 .f32 :=
  best fun k => acts g s (mid (prod x w)) (dev (prod x w) (mid (prod x w))) (prod x w k)

/-- The distances. -/
theorem dist_at (x : FVec Ideal S32x512 .f32) (i j : Fin 32) : far x (ix2 i j) = dist (mat x) i j := by
  pointwise [far]
  rfl

/-- A mask's product is the plain one with the first greatest column of the row. -/
theorem conv_at {x : FVec Ideal S32x512 .f32} (hx : ∀ j c, Fin' (x (ix2 j c))) (w : FVec Ideal S256x1024 .f32)
    (p : FVec Ideal S32x32 .f32) (i : Fin 32) (o : Fin 256) :
    (conv x w (table x) (hot p) (ix2 i o) : EReal)
      = ∑ c : Fin 1024, feat (mat x) i (pick (mat p i)) c * mat w o c := by
  have hs : ∀ j c, x (ix2 j c) - x (ix2 j c) = 0 := fun j c => (hx j c).sub_self
  pointwise [conv, table, k0_pay47]
  simp only [hot_sum, hs]
  refine Finset.sum_congr rfl fun c _ => congrArg (· * _) ?_
  unfold feat
  by_cases h : c.val < 512
  · have h' : ¬ 1024 + c.val < 512 := by omega
    simp only [h, h', dif_pos, dif_neg, not_false_eq_true, sub_zero, dite_eq_ite, ite_self, add_zero]
    rfl
  · have h' : c.val - 512 < 512 := by omega
    simp only [h, h', dif_pos, dif_neg, not_false_eq_true]
    rfl

/-- The product at the edge to the `k`-th nearest voxel is the plain one. -/
theorem prod_at {x : FVec Ideal S32x512 .f32} (hx : ∀ j c, Fin' (x (ix2 j c))) (w : FVec Ideal S256x1024 .f32) (i : Fin 32)
    (o : Fin 256) (k : Fin 8) : (prod x w k.val (ix2 i o) : EReal) = prods (mat x) (mat w) o (i, k) := by
  unfold prod prods
  rw [conv_at hx, cuts_at]
  have e : mat (far x) i = dist (mat x) i := funext fun j => dist_at x i j
  rw [e]
  rfl

/-- The means are the plain ones. -/
theorem mid_at (y : ℕ → FVec Ideal S32x256 .f32) (o : Fin 256) :
    (mid y (ix2 0 o) : EReal) = mean n256 (fun p : Fin 32 × Fin 8 => y p.2.val (ix2 p.1 o)) := by
  unfold mean
  rw [← sum_rows]
  pointwise [mid, cols]

/-- One edge's sums of squared deviations. -/
theorem sqs_at (y : FVec Ideal S32x256 .f32) (m : FVec Ideal S1x256 .f32) (o : Fin 256) :
    (sqs y m (ix2 0 o) : EReal) = ∑ i, (y (ix2 i o) - m (ix2 0 o)) * (y (ix2 i o) - m (ix2 0 o)) := by
  pointwise [sqs, cols, down]

/-- The square roots of the variances are the plain ones. -/
theorem dev_at (y : ℕ → FVec Ideal S32x256 .f32) (o : Fin 256) :
    (dev y (mid y) (ix2 0 o) : EReal)
      = Ideal.sqrt (var n256 (fun p : Fin 32 × Fin 8 => y p.2.val (ix2 p.1 o)) + eps) := by
  have hm := mid_at y o
  have hq := fun k => sqs_at (y k) (mid y) o
  unfold var
  rw [← hm, ← sum_cols]
  generalize mid y = m at hq ⊢
  pointwise [dev]
  simp only [hq]

/-- One edge's activations are the plain ones. -/
theorem acts_at (g s m d : FVec Ideal S1x256 .f32) (y : FVec Ideal S32x256 .f32) (i : Fin 32) (o : Fin 256) :
    (acts g s m d y (ix2 i o) : EReal)
      = lr (Ideal.div (g (ix2 0 o) * (y (ix2 i o) - m (ix2 0 o))) (d (ix2 0 o)) + s (ix2 0 o)) := by
  unfold lr
  pointwise [acts, down]

/-- The greatest of the eight. -/
theorem best_at (f : ℕ → FVec Ideal S32x256 .f32) (i : Fin 32) (o : Fin 256) :
    (best f (ix2 i o) : EReal) = Finset.univ.sup fun k : Fin 8 => (f k.val (ix2 i o) : EReal) := by
  rw [← sup_eight, ← low_eq]
  pointwise [best]

/-- The layer is the plain one. -/
theorem all_at {x : FVec Ideal S32x512 .f32} (hx : ∀ j c, Fin' (x (ix2 j c))) (w : FVec Ideal S256x1024 .f32)
    (g s : FVec Ideal S1x256 .f32) : mat (all x w g s) = vox (mat x) (mat w) (fun o => g (ix2 0 o)) (fun o => s (ix2 0 o)) := by
  funext i o
  unfold mat all
  rw [best_at]
  refine Finset.sup_congr rfl fun k _ => ?_
  have e : (fun p : Fin 32 × Fin 8 => (prod x w p.2.val (ix2 p.1 o) : EReal)) = prods (mat x) (mat w) o :=
    funext fun p => prod_at hx w p.1 o p.2
  rw [acts_at, mid_at, dev_at, e, prod_at hx]
  rfl

end Cert.Proof.W.B
-- ==== Proof.W.Link.lean ====
module

public import proofs.«01_k».proof.Proof.W.VoxA
public import proofs.«01_k».proof.Proof.W.VoxB

@[expose] public section

set_option maxRecDepth 16384
noncomputable section

/-! The third call's stored value as the layers' functions composed. -/

namespace Cert.Proof.W

open Cert.Kernel3Ideal Cert.Kernel3Ideal.Gen Cert.Proof.V
open Idealize.ShloMosaic

/-- The product over both voxel layers' channels. -/
def wide (y : FVec Ideal S32x512 .f32) (z : FVec Ideal S32x256 .f32) (w : FVec Ideal S1024x768 .f32) : FVec Ideal S32x1024
    .f32 :=
  matmul dot_S32x768_S1024x768_S32x1024_1_1_0_0_n_n none
    (truncf .bf16 (concatenate S32x768 1 [⟨S32x512, y⟩, ⟨S32x256, z⟩] concatenates_S32x512_S32x256_S32x768_d1) bitsLt_bf16_f32)
    (truncf .bf16 w bitsLt_bf16_f32) (constant S32x1024 .f32 0x00000000#32)

/-- An array less its columns' means. -/
def off (y : FVec Ideal S32x1024 .f32) : FVec Ideal S32x1024 .f32 :=
  subf y (broadcastTo S32x1024 (divf (shapeCast S1x1024
    (multiReduction .add [0] S1024 y 0x00000000#32 reduces_S32x1024_S1024 (.inl rfl) rfl) shapeCasts_S1024_S1x1024)
    (broadcast S1x1024 (Scalar.ofBits .f32 0x42000000#32))) broadcasts_S1x1024_S32x1024)

/-- The call's end from the last product less its means. -/
def fin (g s : FVec Ideal S1x1024 .f32) (d : FVec Ideal S32x1024 .f32) (w4 : FVec Ideal S2048x256 .f32)
    (w5 : FVec Ideal S256x40 .f32) (b : FVec Ideal S1x40 .f32) : FVec Ideal S1x40 .f32 :=
  k0_pay85 (F := Ideal) (k0_pay81 g) (k0_pay82 s) d (mulf d d) w4 w5 b

variable (x0 : Vec Ideal S32x2048 .f32) (x1 : Vec Ideal S2048x1024 .f32) (x2 : Vec Ideal S1x1024 .f32) (x3 : Vec Ideal S1x1024
  .f32) (x4 : Vec Ideal S1024x1024 .f32) (x5 : Vec Ideal S1x1024 .f32) (x6 : Vec Ideal S1x1024 .f32) (x7 : Vec Ideal S1x1024
  .f32) (x8 : Vec Ideal S1024x32 .f32) (x9 : Vec Ideal S1x32 .f32) (x10 : Vec Ideal S512x64 .f32) (x11 : Vec Ideal S1x512
  .f32) (x12 : Vec Ideal S1x512 .f32) (x13 : Vec Ideal S256x1024 .f32) (x14 : Vec Ideal S1x256 .f32) (x15 : Vec Ideal S1x256
  .f32) (x16 : Vec Ideal S1024x768 .f32) (x17 : Vec Ideal S1x1024 .f32) (x18 : Vec Ideal S1x1024 .f32) (x19 : Vec Ideal
  S2048x256 .f32) (x20 : Vec Ideal S256x40 .f32) (x21 : Vec Ideal S1x40 .f32)

/-- The first voxel layer's value is its functions composed. -/
theorem first_layer : k0_pay111 (F := Ideal) x0 x1 x2 x3 x4 x5 x6 x7 x8 x9 x10 x11 x12 x13 x14 x15 x16 x17 x18 x19 x20 x21
    = A.all (k0_pay86 x0 x1 x2 x3 x4 x5 x6 x7 x8 x9 x10 x11 x12 x13 x14 x15 x16 x17 x18 x19 x20 x21) (View.ld x10 r0_6)
        (k0_pay88 x0 x1 x2 x3 x4 x5 x6 x7 x8 x9 x10 x11 x12 x13 x14 x15 x16 x17 x18 x19 x20 x21) (k0_pay89 x0 x1 x2 x3 x4 x5
        x6 x7 x8 x9 x10 x11 x12 x13 x14 x15 x16 x17 x18 x19 x20 x21) := by
  unfold k0_pay111 k0_pay109 k0_pay108 k0_pay107 k0_pay106 k0_pay105 k0_pay104 k0_pay103 k0_pay102 k0_pay101 k0_pay100 k0_pay99
    k0_pay98 k0_pay97 k0_pay96 k0_pay95 k0_pay94 k0_pay93 k0_pay92 k0_pay91 k0_pay90 k0_pay87
  generalize k0_pay86 x0 x1 x2 x3 x4 x5 x6 x7 x8 x9 x10 x11 x12 x13 x14 x15 x16 x17 x18 x19 x20 x21 = x
  generalize k0_pay88 x0 x1 x2 x3 x4 x5 x6 x7 x8 x9 x10 x11 x12 x13 x14 x15 x16 x17 x18 x19 x20 x21 = g
  generalize k0_pay89 x0 x1 x2 x3 x4 x5 x6 x7 x8 x9 x10 x11 x12 x13 x14 x15 x16 x17 x18 x19 x20 x21 = s
  generalize View.ld x10 r0_6 = w
  rfl

/-- The distances and the terms of the second layer's table, from the first layer's value. -/
theorem tables : k0_pay114 (F := Ideal) x0 x1 x2 x3 x4 x5 x6 x7 x8 x9 x10 x11 x12 x13 x14 x15 x16 x17 x18 x19 x20 x21 = B.far
    (k0_pay111 x0 x1 x2 x3 x4 x5 x6 x7 x8 x9 x10 x11 x12 x13 x14 x15 x16 x17 x18 x19 x20 x21)
    ∧ k0_pay115 (F := Ideal) x0 x1 x2 x3 x4 x5 x6 x7 x8 x9 x10 x11 x12 x13 x14 x15 x16 x17 x18 x19 x20 x21 = truncf .bf16
        (k0_pay111 x0 x1 x2 x3 x4 x5 x6 x7 x8 x9 x10 x11 x12 x13 x14 x15 x16 x17 x18 x19 x20 x21) bitsLt_bf16_f32
    ∧ k0_pay116 (F := Ideal) x0 x1 x2 x3 x4 x5 x6 x7 x8 x9 x10 x11 x12 x13 x14 x15 x16 x17 x18 x19 x20 x21 = subf (k0_pay111
        x0 x1 x2 x3 x4 x5 x6 x7 x8 x9 x10 x11 x12 x13 x14 x15 x16 x17 x18 x19 x20 x21) (extf .f32 (truncf .bf16 (k0_pay111 x0
        x1 x2 x3 x4 x5 x6 x7 x8 x9 x10 x11 x12 x13 x14 x15 x16 x17 x18 x19 x20 x21) bitsLt_bf16_f32)
      bitsLt_bf16_f32) := by
  unfold k0_pay116 k0_pay115 k0_pay114 k0_pay44 k0_pay45 k0_pay46 k0_pay111
  refine ⟨rfl, rfl, rfl⟩

/-- The last product less its means, as the layers' functions composed. -/
theorem last_layer (w8 : FVec Ideal S1024x768 .f32) :
    k0_pay83 (F := Ideal) (k0_pay111 x0 x1 x2 x3 x4 x5 x6 x7 x8 x9 x10 x11 x12 x13 x14 x15 x16 x17 x18 x19 x20 x21) (k0_pay112
        x0 x1 x2 x3 x4 x5 x6 x7 x8 x9 x10 x11 x12 x13 x14 x15 x16 x17 x18 x19 x20 x21) (k0_pay113 x0 x1 x2 x3 x4 x5 x6 x7 x8
        x9 x10 x11 x12 x13 x14 x15 x16 x17 x18 x19 x20 x21) (k0_pay126 x0 x1 x2 x3 x4 x5 x6 x7 x8 x9 x10 x11 x12 x13 x14 x15
        x16 x17 x18 x19 x20 x21) (k0_pay128 x0 x1 x2 x3 x4 x5 x6 x7 x8 x9 x10 x11 x12 x13 x14 x15 x16 x17 x18 x19 x20 x21)
      (k0_pay129 x0 x1 x2 x3 x4 x5 x6 x7 x8 x9 x10 x11 x12 x13 x14 x15 x16 x17 x18 x19 x20 x21) (k0_pay132 x0 x1 x2 x3 x4 x5
          x6 x7 x8 x9 x10 x11 x12 x13 x14 x15 x16 x17 x18 x19 x20 x21) (k0_pay133 x0 x1 x2 x3 x4 x5 x6 x7 x8 x9 x10 x11 x12
          x13 x14 x15 x16 x17 x18 x19 x20 x21) (k0_pay134 x0 x1 x2 x3 x4 x5 x6 x7 x8 x9 x10 x11 x12 x13 x14 x15 x16 x17 x18
          x19 x20 x21) (k0_pay135 x0 x1 x2 x3 x4 x5 x6 x7 x8 x9 x10 x11 x12 x13 x14 x15 x16 x17 x18 x19 x20 x21) (k0_pay136 x0
          x1 x2 x3 x4 x5 x6 x7 x8 x9 x10 x11 x12 x13 x14 x15 x16 x17 x18 x19 x20 x21) w8
    = off (wide (k0_pay111 x0 x1 x2 x3 x4 x5 x6 x7 x8 x9 x10 x11 x12 x13 x14 x15 x16 x17 x18 x19 x20 x21) (B.all (k0_pay111 x0
        x1 x2 x3 x4 x5 x6 x7 x8 x9 x10 x11 x12 x13 x14 x15 x16 x17 x18 x19 x20 x21) (View.ld x13 r0_8) (k0_pay112 x0 x1 x2 x3
        x4 x5 x6 x7 x8 x9 x10 x11 x12 x13 x14 x15 x16 x17 x18 x19 x20 x21) (k0_pay113 x0 x1 x2 x3 x4 x5 x6 x7 x8 x9 x10 x11
        x12 x13 x14 x15 x16 x17 x18 x19 x20 x21)) w8) := by
  obtain ⟨h1, h2, h3⟩ := tables x0 x1 x2 x3 x4 x5 x6 x7 x8 x9 x10 x11 x12 x13 x14 x15 x16 x17 x18 x19 x20 x21
  unfold k0_pay136 k0_pay135 k0_pay134 k0_pay133 k0_pay132 k0_pay131 k0_pay130 k0_pay129 k0_pay128 k0_pay127 k0_pay126 k0_pay125
    k0_pay124 k0_pay123 k0_pay122 k0_pay121 k0_pay120 k0_pay119 k0_pay118 k0_pay117 k0_pay110
  rw [h1, h2, h3]
  generalize k0_pay111 x0 x1 x2 x3 x4 x5 x6 x7 x8 x9 x10 x11 x12 x13 x14 x15 x16 x17 x18 x19 x20 x21 = y
  generalize k0_pay112 x0 x1 x2 x3 x4 x5 x6 x7 x8 x9 x10 x11 x12 x13 x14 x15 x16 x17 x18 x19 x20 x21 = g
  generalize k0_pay113 x0 x1 x2 x3 x4 x5 x6 x7 x8 x9 x10 x11 x12 x13 x14 x15 x16 x17 x18 x19 x20 x21 = s
  generalize View.ld x13 r0_8 = w
  rfl

/-- The stored value. -/
theorem stored : out0_22 (F := Ideal) x0 x1 x2 x3 x4 x5 x6 x7 x8 x9 x10 x11 x12 x13 x14 x15 x16 x17 x18 x19 x20 x21 =
    View.canon [⟨r0_13, fin (View.ld x17 r0_2) (View.ld x18 r0_2)
    (off (wide (k0_pay111 x0 x1 x2 x3 x4 x5 x6 x7 x8 x9 x10 x11 x12 x13 x14 x15 x16 x17 x18 x19 x20 x21) (B.all (k0_pay111 x0
        x1 x2 x3 x4 x5 x6 x7 x8 x9 x10 x11 x12 x13 x14 x15 x16 x17 x18 x19 x20 x21) (View.ld x13 r0_8) (k0_pay112 x0 x1 x2 x3
        x4 x5 x6 x7 x8 x9 x10 x11 x12 x13 x14 x15 x16 x17 x18 x19 x20 x21) (k0_pay113 x0 x1 x2 x3 x4 x5 x6 x7 x8 x9 x10 x11
        x12 x13 x14 x15 x16 x17 x18 x19 x20 x21))
      (View.ld x16 r0_10))) (View.ld x19 r0_11) (View.ld x20 r0_12) (View.ld x21 r0_13)⟩] := by
  unfold out0_22 k0_pay84
  rw [last_layer]
  rfl

end Cert.Proof.W
-- ==== Proof.W.Read.lean ====
module

public import proofs.«01_k».proof.Proof.W.Link

@[expose] public section

set_option maxRecDepth 16384
noncomputable section

/-! The third call's dense layers and its end at an index. -/

namespace Cert.Proof.W

open Cert.Kernel3Ideal Cert.Kernel3Ideal.Gen Cert.Proof.V
open Idealize.ShloMosaic

/-- The first dense layer and the second's product. -/
theorem pay1_at (x : FVec Ideal S32x2048 .f32) (w : FVec Ideal S2048x1024 .f32) (g s : FVec Ideal S1x1024 .f32)
    (w' : FVec Ideal S1024x1024 .f32) (i : Fin 32) (o : Fin 1024) :
    (k0_pay1 (F := Ideal) x w g s w' (ix2 i o) : EReal)
      = ∑ c, dense (fun i o => ∑ c, mat x i c * mat w c o) (fun o => g (ix2 0 o)) (fun o => s (ix2 0 o)) i c * mat w' c o := by
  pointwise [k0_pay1]
  rfl

/-- The second dense layer and the third's product. -/
theorem pay2_at (y : FVec Ideal S32x1024 .f32) (b g s : FVec Ideal S1x1024 .f32) (w : FVec Ideal S1024x32 .f32)
    (b' : FVec Ideal S1x32 .f32) (i : Fin 32) (o : Fin 32) :
    (k0_pay2 (F := Ideal) y b g s w b' (ix2 i o) : EReal)
      = (∑ c, dense (fun i o => mat y i o + b (ix2 0 o)) (fun o => g (ix2 0 o)) (fun o => s (ix2 0 o)) i c * mat w c o)
        + b' (ix2 0 o) := by
  pointwise [k0_pay2]
  rfl

/-- Both layers' channels side by side. -/
def both (y : FVec Ideal S32x512 .f32) (z : FVec Ideal S32x256 .f32) : FVec Ideal S32x768 .f32 :=
  concatenate S32x768 1 [⟨S32x512, y⟩, ⟨S32x256, z⟩] concatenates_S32x512_S32x256_S32x768_d1

/-- Both layers' channels at an index. -/
theorem both_at (y : FVec Ideal S32x512 .f32) (z : FVec Ideal S32x256 .f32) (i : Fin 32) (c : Fin 768) :
    (both y z (ix2 i c) : EReal) = beside (mat y) (mat z) i c := by
  unfold beside
  pointwise [both]
  rfl

/-- The product over both layers' channels. -/
theorem wide_at (y : FVec Ideal S32x512 .f32) (z : FVec Ideal S32x256 .f32) (w : FVec Ideal S1024x768 .f32) (i : Fin 32)
    (o : Fin 1024) : (wide y z w (ix2 i o) : EReal) = ∑ c, beside (mat y) (mat z) i c * mat w o c := by
  simp only [← both_at]
  have e : wide y z w = matmul dot_S32x768_S1024x768_S32x1024_1_1_0_0_n_n none (truncf .bf16 (both y z) bitsLt_bf16_f32)
    (truncf .bf16 w bitsLt_bf16_f32) (constant S32x1024 .f32 0x00000000#32) := rfl
  rw [e]
  generalize both y z = v
  pointwise []
  rfl

/-- A product less its columns' means. -/
theorem off_at (y : FVec Ideal S32x1024 .f32) (i : Fin 32) (o : Fin 1024) :
    (off y (ix2 i o) : EReal) = y (ix2 i o) - mean n32 (fun j => y (ix2 j o)) := by
  unfold mean
  pointwise [off]

/-- The last activations, from the product less its means. -/
def ends (g s : FVec Ideal S1x1024 .f32) (d : FVec Ideal S32x1024 .f32) : FVec Ideal S32x1024 .f32 :=
  have v : FVec Ideal S1x1024 .f32 := sqrt (addf (divf (shapeCast S1x1024
    (multiReduction .add [0] S1024 (mulf d d) 0x00000000#32 reduces_S32x1024_S1024 (.inl rfl) rfl) shapeCasts_S1024_S1x1024)
    (broadcast S1x1024 (Scalar.ofBits .f32 0x42000000#32))) (broadcast S1x1024 (Scalar.ofBits .f32 0x3727C5AC#32)))
  have z : FVec Ideal S32x1024 .f32 := addf (divf
    (mulf (broadcastTo S32x1024 (shapeCast S1x1024 g shapeCasts_S1x1024_S1x1024) broadcasts_S1x1024_S32x1024) d)
    (broadcastTo S32x1024 v broadcasts_S1x1024_S32x1024))
    (broadcastTo S32x1024 (shapeCast S1x1024 s shapeCasts_S1x1024_S1x1024) broadcasts_S1x1024_S32x1024)
  select (cmpf .oge z (broadcast S32x1024 (Scalar.ofBits .f32 0x00000000#32))) z
    (mulf (broadcast S32x1024 (Scalar.ofBits .f32 0x3E4CCCCD#32)) z)

/-- The maxima and the means over the voxels. -/
def pools (z : FVec Ideal S32x1024 .f32) : FVec Ideal S1x2048 .f32 :=
  concatenate S1x2048 1 [⟨S1x1024, shapeCast S1x1024
      (multiReduction .maximumf [0] S1024 z 0xFF800000#32 reduces_S32x1024_S1024 (.inl rfl) rfl) shapeCasts_S1024_S1x1024⟩,
    ⟨S1x1024, divf (shapeCast S1x1024
      (multiReduction .add [0] S1024 z 0x00000000#32 reduces_S32x1024_S1024 (.inl rfl) rfl) shapeCasts_S1024_S1x1024)
      (broadcast S1x1024 (Scalar.ofBits .f32 0x42000000#32))⟩] concatenates_S1x1024_S1x1024_S1x2048_d1

/-- The first of the two last products, activated. -/
def hid (p : FVec Ideal S1x2048 .f32) (w4 : FVec Ideal S2048x256 .f32) : FVec Ideal S1x256 .f32 :=
  have z : FVec Ideal S1x256 .f32 := matmul dot_S1x2048_S2048x256_S1x256_1_0_0_1_n_n none (truncf .bf16 p bitsLt_bf16_f32)
    (truncf .bf16 w4 bitsLt_bf16_f32) (constant S1x256 .f32 0x00000000#32)
  select (cmpf .oge z (broadcast S1x256 (Scalar.ofBits .f32 0x00000000#32))) z
    (mulf (broadcast S1x256 (Scalar.ofBits .f32 0x3E4CCCCD#32)) z)

/-- The last product. -/
def lasts (h : FVec Ideal S1x256 .f32) (w5 : FVec Ideal S256x40 .f32) (b : FVec Ideal S1x40 .f32) : FVec Ideal S1x40 .f32 :=
  addf (matmul dot_S1x256_S256x40_S1x40_1_0_0_1_n_n none (truncf .bf16 h bitsLt_bf16_f32)
    (truncf .bf16 w5 bitsLt_bf16_f32) (constant S1x40 .f32 0x00000000#32)) (shapeCast S1x40 b shapeCasts_S1x40_S1x40)

/-- The call's end in these terms. -/
theorem fin_eq (g s : FVec Ideal S1x1024 .f32) (d : FVec Ideal S32x1024 .f32) (w4 : FVec Ideal S2048x256 .f32)
    (w5 : FVec Ideal S256x40 .f32) (b : FVec Ideal S1x40 .f32) :
    fin g s d w4 w5 b = lasts (hid (pools (ends g s d)) w4) w5 b := rfl

/-- The last activations at an index. -/
theorem ends_at (g s : FVec Ideal S1x1024 .f32) (d : FVec Ideal S32x1024 .f32) (i : Fin 32) (q : Fin 1024) :
    (ends g s d (ix2 i q) : EReal) = lr (Ideal.div (g (ix2 0 q) * d (ix2 i q))
      (Ideal.sqrt (Ideal.div (∑ j, d (ix2 j q) * d (ix2 j q)) n32 + eps)) + s (ix2 0 q)) := by
  unfold lr
  pointwise [ends]

/-- The poolings at an index. -/
theorem pools_at (z : FVec Ideal S32x1024 .f32) (c : Fin 2048) : (pools z (ix2 0 c) : EReal) = pooled (mat z) c := by
  unfold pooled
  pointwise [pools]
  rfl

/-- The activated product at an index. -/
theorem hid_at (p : FVec Ideal S1x2048 .f32) (w4 : FVec Ideal S2048x256 .f32) (t : Fin 256) :
    (hid p w4 (ix2 0 t) : EReal) = lr (∑ c, p (ix2 0 c) * w4 (ix2 c t)) := by
  unfold lr
  pointwise [hid]

/-- The last product at an index. -/
theorem lasts_at (h : FVec Ideal S1x256 .f32) (w5 : FVec Ideal S256x40 .f32) (b : FVec Ideal S1x40 .f32) (o : Fin 40) :
    (lasts h w5 b (ix2 0 o) : EReal) = (∑ t, h (ix2 0 t) * w5 (ix2 t o)) + b (ix2 0 o) := by
  pointwise [lasts]

/-- The call's end from the last product. -/
theorem fin_at (g s : FVec Ideal S1x1024 .f32) (y : FVec Ideal S32x1024 .f32) (w4 : FVec Ideal S2048x256 .f32)
    (w5 : FVec Ideal S256x40 .f32) (b : FVec Ideal S1x40 .f32) (o : Fin 40) :
    (fin g s (off y) w4 w5 b (ix2 0 o) : EReal)
      = (∑ t, lr (∑ c, pooled (dense (mat y) (fun q => g (ix2 0 q)) (fun q => s (ix2 0 q))) c * mat w4 c t) * mat w5 t o)
        + b (ix2 0 o) := by
  have e : mat (ends g s (off y)) = dense (mat y) (fun q => g (ix2 0 q)) (fun q => s (ix2 0 q)) := by
    funext i q
    unfold mat
    rw [ends_at]
    simp only [off_at]
    rfl
  rw [fin_eq, lasts_at]
  simp only [hid_at, pools_at, e]
  rfl

end Cert.Proof.W
-- ==== Proof.W.Block.lean ====
module

public import proofs.«01_k».proof.Proof.W.Read
public import proofs.«01_k».proof.Proof.Gen.Kernel3Ideal.Value
public import Idealize.ShloMosaic.Lib.Pipeline.ValueKit

@[expose] public section

set_option maxRecDepth 16384
noncomputable section

/-! The third call's windows hold whole arrays: its blocks are its arguments. -/

namespace Cert.Proof.W

open Cert.Kernel3Ideal Cert.Kernel3Ideal.Gen
open Idealize.ShloMosaic Idealize.ShloMosaic.TcCoe Cert.Proof.V

/-- Every window's block lies at the array's start. -/
theorem starts : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0] ∧ win0_15.index t = ![0, 0] ∧ win0_16.index t = ![0, 0] ∧ win0_17.index t = ![0, 0]
    ∧ win0_18.index t = ![0, 0] ∧ win0_19.index t = ![0, 0] ∧ win0_20.index t = ![0, 0] ∧ win0_21.index t = ![0, 0] ∧ win0_22.index t = ![0, 0] := by decide +kernel

variable (m : (ℓ : Loc nD τ sig) → Buf (Elt Ideal) ℓ) (c : Dev nD) (t : Fin cfg0.N)

set_option maxHeartbeats 4000000 in
/-- The blocks of the matrices are the matrices. -/
theorem matrices :
    (∀ (i : Fin 32) (o : Fin 2048), (iblk m c 0 t (ix2 i o) : EReal) = m ((c : Thread nD τ).loc main_arg0) (ix2 i o))
    ∧ (∀ (i : Fin 2048) (o : Fin 1024), (iblk m c 1 t (ix2 i o) : EReal) = m ((c : Thread nD τ).loc main_arg1) (ix2 i o))
    ∧ (∀ (i : Fin 1024) (o : Fin 1024), (iblk m c 4 t (ix2 i o) : EReal) = m ((c : Thread nD τ).loc main_arg4) (ix2 i o))
    ∧ (∀ (i : Fin 1024) (o : Fin 32), (iblk m c 8 t (ix2 i o) : EReal) = m ((c : Thread nD τ).loc main_arg8) (ix2 i o))
    ∧ (∀ (i : Fin 512) (o : Fin 64), (iblk m c 10 t (ix2 i o) : EReal) = m ((c : Thread nD τ).loc main_arg10) (ix2 i o))
    ∧ (∀ (i : Fin 256) (o : Fin 1024), (iblk m c 13 t (ix2 i o) : EReal) = m ((c : Thread nD τ).loc main_arg13) (ix2 i o))
    ∧ (∀ (i : Fin 1024) (o : Fin 768), (iblk m c 16 t (ix2 i o) : EReal) = m ((c : Thread nD τ).loc main_arg16) (ix2 i o))
    ∧ (∀ (i : Fin 2048) (o : Fin 256), (iblk m c 19 t (ix2 i o) : EReal) = m ((c : Thread nD τ).loc main_arg19) (ix2 i o))
    ∧ (∀ (i : Fin 256) (o : Fin 40), (iblk m c 20 t (ix2 i o) : EReal) = m ((c : Thread nD τ).loc main_arg20) (ix2 i o)) := by
  refine ⟨?_, ?_, ?_, ?_, ?_, ?_, ?_, ?_, ?_⟩ <;>
  · intro i o
    blk_simp [iblk]
    blk_ext! [starts t]

set_option maxHeartbeats 4000000 in
/-- The blocks of the scales, shifts and biases are these, as one row. -/
theorem rows :
    (∀ o : Fin 1024, (iblk m c 2 t (ix2 0 o) : EReal) = m ((c : Thread nD τ).loc main_arg2) (ix1 o))
    ∧ (∀ o : Fin 1024, (iblk m c 3 t (ix2 0 o) : EReal) = m ((c : Thread nD τ).loc main_arg3) (ix1 o))
    ∧ (∀ o : Fin 1024, (iblk m c 5 t (ix2 0 o) : EReal) = m ((c : Thread nD τ).loc main_arg5) (ix1 o))
    ∧ (∀ o : Fin 1024, (iblk m c 6 t (ix2 0 o) : EReal) = m ((c : Thread nD τ).loc main_arg6) (ix1 o))
    ∧ (∀ o : Fin 1024, (iblk m c 7 t (ix2 0 o) : EReal) = m ((c : Thread nD τ).loc main_arg7) (ix1 o))
    ∧ (∀ o : Fin 32, (iblk m c 9 t (ix2 0 o) : EReal) = m ((c : Thread nD τ).loc main_arg9) (ix1 o))
    ∧ (∀ o : Fin 512, (iblk m c 11 t (ix2 0 o) : EReal) = m ((c : Thread nD τ).loc main_arg11) (ix1 o))
    ∧ (∀ o : Fin 512, (iblk m c 12 t (ix2 0 o) : EReal) = m ((c : Thread nD τ).loc main_arg12) (ix1 o))
    ∧ (∀ o : Fin 256, (iblk m c 14 t (ix2 0 o) : EReal) = m ((c : Thread nD τ).loc main_arg14) (ix1 o))
    ∧ (∀ o : Fin 256, (iblk m c 15 t (ix2 0 o) : EReal) = m ((c : Thread nD τ).loc main_arg15) (ix1 o))
    ∧ (∀ o : Fin 1024, (iblk m c 17 t (ix2 0 o) : EReal) = m ((c : Thread nD τ).loc main_arg17) (ix1 o))
    ∧ (∀ o : Fin 1024, (iblk m c 18 t (ix2 0 o) : EReal) = m ((c : Thread nD τ).loc main_arg18) (ix1 o))
    ∧ (∀ o : Fin 40, (iblk m c 21 t (ix2 0 o) : EReal) = m ((c : Thread nD τ).loc main_arg21) (ix1 o)) := by
  refine ⟨?_, ?_, ?_, ?_, ?_, ?_, ?_, ?_, ?_, ?_, ?_, ?_, ?_⟩ <;>
  · intro o
    blk_simp [iblk]
    entry_read
    pointwise
    blk_ext! [starts t]

end Cert.Proof.W
-- ==== Proof.W.KRes.lean ====
module

public import proofs.«01_k».proof.Proof.W.Block

@[expose] public section

set_option maxRecDepth 16384
noncomputable section

/-! What the third call leaves in its result array: the plain network's last part. -/

namespace Cert.Proof.W

open Cert.Kernel3Ideal Cert.Kernel3Ideal.Gen
open Idealize.ShloMosaic Idealize.ShloMosaic.TcCoe Cert.Proof.V

/-- The voxels' points are the plain ones. -/
theorem pts_at (a : Args)
    (x0 : Vec Ideal S32x2048 .f32) (x1 : Vec Ideal S2048x1024 .f32) (x2 : Vec Ideal S1x1024 .f32)
    (x3 : Vec Ideal S1x1024 .f32) (x4 : Vec Ideal S1024x1024 .f32) (x5 : Vec Ideal S1x1024 .f32)
    (x6 : Vec Ideal S1x1024 .f32) (x7 : Vec Ideal S1x1024 .f32) (x8 : Vec Ideal S1024x32 .f32) (x9 : Vec Ideal S1x32 .f32)
    (x10 : Vec Ideal S512x64 .f32) (x11 : Vec Ideal S1x512 .f32) (x12 : Vec Ideal S1x512 .f32)
    (x13 : Vec Ideal S256x1024 .f32) (x14 : Vec Ideal S1x256 .f32) (x15 : Vec Ideal S1x256 .f32)
    (x16 : Vec Ideal S1024x768 .f32) (x17 : Vec Ideal S1x1024 .f32) (x18 : Vec Ideal S1x1024 .f32)
    (x19 : Vec Ideal S2048x256 .f32) (x20 : Vec Ideal S256x40 .f32) (x21 : Vec Ideal S1x40 .f32)
    (h0 : ∀ i o, x0 (ix2 i o) = a.x i o) (h1 : ∀ i o, x1 (ix2 i o) = a.wl1 i o) (h2 : ∀ o, x2 (ix2 0 o) = a.g6 o)
    (h3 : ∀ o, x3 (ix2 0 o) = a.b6 o) (h4 : ∀ i o, x4 (ix2 i o) = a.wl2 i o) (h5 : ∀ o, x5 (ix2 0 o) = a.bl2 o)
    (h6 : ∀ o, x6 (ix2 0 o) = a.g7 o) (h7 : ∀ o, x7 (ix2 0 o) = a.b7 o) (h8 : ∀ i o, x8 (ix2 i o) = a.wl3 i o)
    (h9 : ∀ o, x9 (ix2 0 o) = a.bl3 o) (h10 : ∀ i o, x10 (ix2 i o) = a.w6 i o) (h11 : ∀ o, x11 (ix2 0 o) = a.gc6 o)
    (h12 : ∀ o, x12 (ix2 0 o) = a.bc6 o) (h13 : ∀ i o, x13 (ix2 i o) = a.w7 i o) (h14 : ∀ o, x14 (ix2 0 o) = a.gc7 o)
    (h15 : ∀ o, x15 (ix2 0 o) = a.bc7 o) (h16 : ∀ i o, x16 (ix2 i o) = a.w8 i o) (h17 : ∀ o, x17 (ix2 0 o) = a.gc8 o)
    (h18 : ∀ o, x18 (ix2 0 o) = a.bc8 o) (h19 : ∀ i o, x19 (ix2 i o) = a.wl4 i o) (h20 : ∀ i o, x20 (ix2 i o) = a.wl5 i o)
    (h21 : ∀ o, x21 (ix2 0 o) = a.bl5 o) :
    mat (k0_pay86 (F := Ideal) x0 x1 x2 x3 x4 x5 x6 x7 x8 x9 x10 x11 x12 x13 x14 x15 x16 x17 x18 x19 x20 x21) = a.pts := by
  have l0 : View.ld x0 r0_0 = x0 := View.ld_unit_lit (h := by decide) ..
  have l1 : View.ld x1 r0_1 = x1 := View.ld_unit_lit (h := by decide) ..
  have l4 : View.ld x4 r0_3 = x4 := View.ld_unit_lit (h := by decide) ..
  have l8 : View.ld x8 r0_4 = x8 := View.ld_unit_lit (h := by decide) ..
  have l9 : View.ld x9 r0_5 = x9 := View.ld_unit_lit (h := by decide) ..
  have r : ∀ y : Vec Ideal S1x1024 .f32, View.ld y r0_2 = y := fun y => View.ld_unit_lit (h := by decide) ..
  funext i o
  unfold mat k0_pay86
  rw [l0, l1, l4, l8, l9, r, r, r, r, r, pay2_at]
  have e : mat (k0_pay1 (F := Ideal) x0 x1 x2 x3 x4)
      = fun i o => ∑ c, dense (fun i o => ∑ c, a.x i c * a.wl1 c o) a.g6 a.b6 i c * a.wl2 c o := by
    funext i o
    unfold mat
    rw [pay1_at]
    simp only [mat, h0, h1, h2, h3, h4]
  rw [e]
  simp only [mat, h5, h6, h7, h8, h9]
  rfl

/-- The stored value at an index. -/
theorem out_at (a : Args)
    (x0 : Vec Ideal S32x2048 .f32) (x1 : Vec Ideal S2048x1024 .f32) (x2 : Vec Ideal S1x1024 .f32)
    (x3 : Vec Ideal S1x1024 .f32) (x4 : Vec Ideal S1024x1024 .f32) (x5 : Vec Ideal S1x1024 .f32)
    (x6 : Vec Ideal S1x1024 .f32) (x7 : Vec Ideal S1x1024 .f32) (x8 : Vec Ideal S1024x32 .f32) (x9 : Vec Ideal S1x32 .f32)
    (x10 : Vec Ideal S512x64 .f32) (x11 : Vec Ideal S1x512 .f32) (x12 : Vec Ideal S1x512 .f32)
    (x13 : Vec Ideal S256x1024 .f32) (x14 : Vec Ideal S1x256 .f32) (x15 : Vec Ideal S1x256 .f32)
    (x16 : Vec Ideal S1024x768 .f32) (x17 : Vec Ideal S1x1024 .f32) (x18 : Vec Ideal S1x1024 .f32)
    (x19 : Vec Ideal S2048x256 .f32) (x20 : Vec Ideal S256x40 .f32) (x21 : Vec Ideal S1x40 .f32)
    (h0 : ∀ i o, x0 (ix2 i o) = a.x i o) (h1 : ∀ i o, x1 (ix2 i o) = a.wl1 i o) (h2 : ∀ o, x2 (ix2 0 o) = a.g6 o)
    (h3 : ∀ o, x3 (ix2 0 o) = a.b6 o) (h4 : ∀ i o, x4 (ix2 i o) = a.wl2 i o) (h5 : ∀ o, x5 (ix2 0 o) = a.bl2 o)
    (h6 : ∀ o, x6 (ix2 0 o) = a.g7 o) (h7 : ∀ o, x7 (ix2 0 o) = a.b7 o) (h8 : ∀ i o, x8 (ix2 i o) = a.wl3 i o)
    (h9 : ∀ o, x9 (ix2 0 o) = a.bl3 o) (h10 : ∀ i o, x10 (ix2 i o) = a.w6 i o) (h11 : ∀ o, x11 (ix2 0 o) = a.gc6 o)
    (h12 : ∀ o, x12 (ix2 0 o) = a.bc6 o) (h13 : ∀ i o, x13 (ix2 i o) = a.w7 i o) (h14 : ∀ o, x14 (ix2 0 o) = a.gc7 o)
    (h15 : ∀ o, x15 (ix2 0 o) = a.bc7 o) (h16 : ∀ i o, x16 (ix2 i o) = a.w8 i o) (h17 : ∀ o, x17 (ix2 0 o) = a.gc8 o)
    (h18 : ∀ o, x18 (ix2 0 o) = a.bc8 o) (h19 : ∀ i o, x19 (ix2 i o) = a.wl4 i o) (h20 : ∀ i o, x20 (ix2 i o) = a.wl5 i o)
    (h21 : ∀ o, x21 (ix2 0 o) = a.bl5 o)
    (hp : ∀ i c, Fin' (a.pts i c)) (hv : ∀ i c, Fin' (a.v1 i c)) (o : Fin 40) :
    (out0_22 (F := Ideal) x0 x1 x2 x3 x4 x5 x6 x7 x8 x9 x10 x11 x12 x13 x14 x15 x16 x17 x18 x19 x20 x21 (ix2 0 o) : EReal) = a.out o := by
  have hpts := pts_at a x0 x1 x2 x3 x4 x5 x6 x7 x8 x9 x10 x11 x12 x13 x14 x15 x16 x17 x18 x19 x20 x21 h0 h1 h2 h3 h4 h5 h6 h7 h8 h9 h10 h11 h12 h13 h14 h15 h16 h17 h18 h19 h20 h21
  have l10 : View.ld x10 r0_6 = x10 := View.ld_unit_lit (h := by decide) ..
  have l13 : View.ld x13 r0_8 = x13 := View.ld_unit_lit (h := by decide) ..
  have l16 : View.ld x16 r0_10 = x16 := View.ld_unit_lit (h := by decide) ..
  have l17 : View.ld x17 r0_2 = x17 := View.ld_unit_lit (h := by decide) ..
  have l18 : View.ld x18 r0_2 = x18 := View.ld_unit_lit (h := by decide) ..
  have l19 : View.ld x19 r0_11 = x19 := View.ld_unit_lit (h := by decide) ..
  have l20 : View.ld x20 r0_12 = x20 := View.ld_unit_lit (h := by decide) ..
  have l21 : View.ld x21 r0_13 = x21 := View.ld_unit_lit (h := by decide) ..
  have e1 : mat (k0_pay111 (F := Ideal) x0 x1 x2 x3 x4 x5 x6 x7 x8 x9 x10 x11 x12 x13 x14 x15 x16 x17 x18 x19 x20 x21) = a.v1 := by
    have hx : ∀ j c, Fin' (k0_pay86 (F := Ideal) x0 x1 x2 x3 x4 x5 x6 x7 x8 x9 x10 x11 x12 x13 x14 x15 x16 x17 x18 x19 x20 x21 (ix2 j c)) := fun j c => by
      have := congrFun (congrFun hpts j) c
      unfold mat at this
      rw [this]
      exact hp j c
    have l11 : View.ld x11 r0_7 = x11 := View.ld_unit_lit (h := by decide) ..
    have l12 : View.ld x12 r0_7 = x12 := View.ld_unit_lit (h := by decide) ..
    have g : ∀ o, k0_pay88 (F := Ideal) x0 x1 x2 x3 x4 x5 x6 x7 x8 x9 x10 x11 x12 x13 x14 x15 x16 x17 x18 x19 x20 x21 (ix2 0 o) = a.gc6 o := fun o => by
      unfold k0_pay88
      rw [l11, ← h11 o]
      pointwise [k0_pay3]
    have s : ∀ o, k0_pay89 (F := Ideal) x0 x1 x2 x3 x4 x5 x6 x7 x8 x9 x10 x11 x12 x13 x14 x15 x16 x17 x18 x19 x20 x21 (ix2 0 o) = a.bc6 o := fun o => by
      unfold k0_pay89
      rw [l12, ← h12 o]
      pointwise [k0_pay4]
    rw [first_layer, A.all_at hx, hpts, l10]
    simp only [g, s]
    unfold Args.v1
    congr 1
    funext i c
    exact h10 i c
  have hx : ∀ j c, Fin' (k0_pay111 (F := Ideal) x0 x1 x2 x3 x4 x5 x6 x7 x8 x9 x10 x11 x12 x13 x14 x15 x16 x17 x18 x19 x20 x21 (ix2 j c)) := fun j c => by
    have := congrFun (congrFun e1 j) c
    unfold mat at this
    rw [this]
    exact hv j c
  have e2 : mat (B.all (k0_pay111 (F := Ideal) x0 x1 x2 x3 x4 x5 x6 x7 x8 x9 x10 x11 x12 x13 x14 x15 x16 x17 x18 x19 x20 x21) x13 (k0_pay112 x0 x1 x2 x3 x4 x5 x6 x7 x8 x9 x10 x11 x12 x13 x14 x15 x16 x17 x18 x19 x20 x21) (k0_pay113 x0 x1 x2 x3 x4 x5 x6 x7 x8 x9 x10 x11 x12 x13 x14 x15 x16 x17 x18 x19 x20 x21)) = a.v2 := by
    have l14 : View.ld x14 r0_9 = x14 := View.ld_unit_lit (h := by decide) ..
    have l15 : View.ld x15 r0_9 = x15 := View.ld_unit_lit (h := by decide) ..
    have g : ∀ o, k0_pay112 (F := Ideal) x0 x1 x2 x3 x4 x5 x6 x7 x8 x9 x10 x11 x12 x13 x14 x15 x16 x17 x18 x19 x20 x21 (ix2 0 o) = a.gc7 o := fun o => by
      unfold k0_pay112
      rw [l14, ← h14 o]
      pointwise [k0_pay42]
    have s : ∀ o, k0_pay113 (F := Ideal) x0 x1 x2 x3 x4 x5 x6 x7 x8 x9 x10 x11 x12 x13 x14 x15 x16 x17 x18 x19 x20 x21 (ix2 0 o) = a.bc7 o := fun o => by
      unfold k0_pay113
      rw [l15, ← h15 o]
      pointwise [k0_pay43]
    rw [B.all_at hx, e1]
    simp only [g, s]
    unfold Args.v2
    congr 1
    funext i c
    exact h13 i c
  rw [stored, l13, l16, l17, l18, l19, l20, l21]
  generalize k0_pay111 (F := Ideal) x0 x1 x2 x3 x4 x5 x6 x7 x8 x9 x10 x11 x12 x13 x14 x15 x16 x17 x18 x19 x20 x21 = y at e1 e2 ⊢
  generalize B.all y x13 (k0_pay112 (F := Ideal) x0 x1 x2 x3 x4 x5 x6 x7 x8 x9 x10 x11 x12 x13 x14 x15 x16 x17 x18 x19 x20 x21) (k0_pay113 x0 x1 x2 x3 x4 x5 x6 x7 x8 x9 x10 x11 x12 x13 x14 x15 x16 x17 x18 x19 x20 x21) = z at e2 ⊢
  canon_tiles q h
  have hq : q = ix2 0 o := by
    funext a
    fin_cases a
    · exact Subsingleton.elim (α := Fin 1) _ _
    · exact Fin.ext h1.symm
  subst hq
  have e : mat (wide y z x16) = fun i q => ∑ c, beside a.v1 a.v2 i c * a.w8 q c := by
    funext i q
    unfold mat
    rw [wide_at, e1, e2]
    simp only [mat, h16]
  refine (fin_at _ _ _ _ _ _ o).trans ?_
  rw [e]
  simp only [mat, h17, h18, h19, h20, h21]
  rfl

variable (m : (ℓ : Loc nD τ sig) → Buf (Elt Ideal) ℓ) (c : Dev nD)

/-- The call's arguments as functions of indices. -/
def args : Args where
  x i o := m ((c : Thread nD τ).loc main_arg0) (ix2 i o)
  wl1 i o := m ((c : Thread nD τ).loc main_arg1) (ix2 i o)
  g6 o := m ((c : Thread nD τ).loc main_arg2) (ix1 o)
  b6 o := m ((c : Thread nD τ).loc main_arg3) (ix1 o)
  wl2 i o := m ((c : Thread nD τ).loc main_arg4) (ix2 i o)
  bl2 o := m ((c : Thread nD τ).loc main_arg5) (ix1 o)
  g7 o := m ((c : Thread nD τ).loc main_arg6) (ix1 o)
  b7 o := m ((c : Thread nD τ).loc main_arg7) (ix1 o)
  wl3 i o := m ((c : Thread nD τ).loc main_arg8) (ix2 i o)
  bl3 o := m ((c : Thread nD τ).loc main_arg9) (ix1 o)
  w6 i o := m ((c : Thread nD τ).loc main_arg10) (ix2 i o)
  gc6 o := m ((c : Thread nD τ).loc main_arg11) (ix1 o)
  bc6 o := m ((c : Thread nD τ).loc main_arg12) (ix1 o)
  w7 i o := m ((c : Thread nD τ).loc main_arg13) (ix2 i o)
  gc7 o := m ((c : Thread nD τ).loc main_arg14) (ix1 o)
  bc7 o := m ((c : Thread nD τ).loc main_arg15) (ix1 o)
  w8 i o := m ((c : Thread nD τ).loc main_arg16) (ix2 i o)
  gc8 o := m ((c : Thread nD τ).loc main_arg17) (ix1 o)
  bc8 o := m ((c : Thread nD τ).loc main_arg18) (ix1 o)
  wl4 i o := m ((c : Thread nD τ).loc main_arg19) (ix2 i o)
  wl5 i o := m ((c : Thread nD τ).loc main_arg20) (ix2 i o)
  bl5 o := m ((c : Thread nD τ).loc main_arg21) (ix1 o)

/-- The result array holds the plain result. -/
theorem arrayOut (hp : ∀ i k, Fin' ((args m c).pts i k)) (hv : ∀ i k, Fin' ((args m c).v1 i k)) :
    (dats m 0 c).arrAt 22 (cfgs 0).N = fun z : S1x40.Idx => (args m c).out (z 1) := by
  refine (dats m 0 c).arrAt_eq_of_covers 22 _ (by decide +kernel) fun t hf y => ?_
  blk_simp
  obtain ⟨b, o, rfl⟩ : ∃ (b : Fin 1) (o : Fin 40), y = ix2 b o := ⟨_, _, eq_ix2 y⟩
  obtain rfl : b = 0 := Subsingleton.elim _ _
  have hb : (win0_22.blk t).view.emb (ix2 0 o) = ix2 0 o := by blk_ext! [starts t]
  rw [after0_22, hb]
  obtain ⟨h0, h1, h4, h8, h10, h13, h16, h19, h20⟩ := matrices m c t
  obtain ⟨h2, h3, h5, h6, h7, h9, h11, h12, h14, h15, h17, h18, h21⟩ := rows m c t
  exact out_at (args m c) (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t)
    (iblk m c 15 t) (iblk m c 16 t) (iblk m c 17 t) (iblk m c 18 t) (iblk m c 19 t) (iblk m c 20 t) (iblk m c 21 t)
    h0 h1 h2 h3 h4 h5 h6 h7 h8 h9 h10 h11 h12 h13 h14 h15 h16 h17 h18 h19 h20 h21 hp hv o

end Cert.Proof.W
-- ==== Proof.W.Finite.lean ====
module

public import proofs.«01_k».proof.Defs
public import proofs.«01_k».proof.Proof.Gen.Pre_finite_without_ties3
public import proofs.«01_k».proof.Proof.V.Finite

@[expose] public section

noncomputable section

/-! What the third call's precondition gives: the entries of the arguments before the second voxel layer are real
numbers. -/

namespace Cert.Proof.W

open Cert.Pre_finite_without_ties3 Cert.Pre_finite_without_ties3.Gen
open Idealize.ShloMosaic Cert.Proof.V

/-- The precondition's first conjuncts, argument by argument. -/
theorem finite (x : FVec Ideal S32x2048 .f32) (wl1 : FVec Ideal S2048x1024 .f32) (g6 b6 : FVec Ideal S1024 .f32)
    (wl2 : FVec Ideal S1024x1024 .f32) (bl2 g7 b7 : FVec Ideal S1024 .f32) (wl3 : FVec Ideal S1024x32 .f32)
    (bl3 : FVec Ideal S32 .f32) (w6 : FVec Ideal S512x64 .f32) (gc6 bc6 : FVec Ideal S512 .f32)
    (w7 : FVec Ideal S256x1024 .f32) (gc7 bc7 : FVec Ideal S256 .f32) (w8 : FVec Ideal S1024x768 .f32)
    (gc8 bc8 : FVec Ideal S1024 .f32) (wl4 : FVec Ideal S2048x256 .f32) (wl5 : FVec Ideal S256x40 .f32)
    (bl5 : FVec Ideal S40 .f32)
    (h : fn (F := Ideal) x wl1 g6 b6 wl2 bl2 g7 b7 wl3 bl3 w6 gc6 bc6 w7 gc7 bc7 w8 gc8 bc8 wl4 wl5 bl5 = fun _ => 1#1) :
    (∀ i c, Fin' (x (ix2 i c))) ∧ (∀ i c, Fin' (wl1 (ix2 i c))) ∧ (∀ c, Fin' (g6 (ix1 c))) ∧ (∀ c, Fin' (b6 (ix1 c)))
      ∧ (∀ i c, Fin' (wl2 (ix2 i c))) ∧ (∀ c, Fin' (bl2 (ix1 c))) ∧ (∀ c, Fin' (g7 (ix1 c))) ∧ (∀ c, Fin' (b7 (ix1 c)))
      ∧ (∀ i c, Fin' (wl3 (ix2 i c))) ∧ (∀ c, Fin' (bl3 (ix1 c))) ∧ (∀ i c, Fin' (w6 (ix2 i c)))
      ∧ (∀ c, Fin' (gc6 (ix1 c))) ∧ ∀ c, Fin' (bc6 (ix1 c)) := by
  have : Subsingleton S_.Idx := ⟨fun a b => funext fun i => i.elim0⟩
  have p13 := and_left (and_left h)
  have p12 := and_left p13
  have p11 := and_left p12
  have p10 := and_left p11
  have p9 := and_left p10
  have p8 := and_left p9
  have p7 := and_left p8
  have p6 := and_left p7
  have p5 := and_left p6
  have p4 := and_left p5
  have p3 := and_left p4
  have p2 := and_left p3
  exact ⟨fun i c => fin_of_abs (Host.reduce_andi_all _ _ _ _ _ (congrFun (and_left p2) ix0) (ix2 i c)),
    fun i c => fin_of_abs (Host.reduce_andi_all _ _ _ _ _ (congrFun (and_right p2) ix0) (ix2 i c)),
    fun c => fin_of_abs (Host.reduce_andi_all _ _ _ _ _ (congrFun (and_right p3) ix0) (ix1 c)),
    fun c => fin_of_abs (Host.reduce_andi_all _ _ _ _ _ (congrFun (and_right p4) ix0) (ix1 c)),
    fun i c => fin_of_abs (Host.reduce_andi_all _ _ _ _ _ (congrFun (and_right p5) ix0) (ix2 i c)),
    fun c => fin_of_abs (Host.reduce_andi_all _ _ _ _ _ (congrFun (and_right p6) ix0) (ix1 c)),
    fun c => fin_of_abs (Host.reduce_andi_all _ _ _ _ _ (congrFun (and_right p7) ix0) (ix1 c)),
    fun c => fin_of_abs (Host.reduce_andi_all _ _ _ _ _ (congrFun (and_right p8) ix0) (ix1 c)),
    fun i c => fin_of_abs (Host.reduce_andi_all _ _ _ _ _ (congrFun (and_right p9) ix0) (ix2 i c)),
    fun c => fin_of_abs (Host.reduce_andi_all _ _ _ _ _ (congrFun (and_right p10) ix0) (ix1 c)),
    fun i c => fin_of_abs (Host.reduce_andi_all _ _ _ _ _ (congrFun (and_right p11) ix0) (ix2 i c)),
    fun c => fin_of_abs (Host.reduce_andi_all _ _ _ _ _ (congrFun (and_right p12) ix0) (ix1 c)),
    fun c => fin_of_abs (Host.reduce_andi_all _ _ _ _ _ (congrFun (and_right p13) ix0) (ix1 c))⟩

end Cert.Proof.W
-- ==== Proof.W.RefDense.lean ====
module

public import proofs.«01_k».proof.Proof.W.Head
public import proofs.«01_k».proof.Proof.W.PoolRef
public import proofs.«01_k».proof.Proof.Gen.Reference3Ideal.Run

@[expose] public section

set_option maxRecDepth 16384
noncomputable section

/-! The third call's reference: its dense layers at an index. -/

namespace Cert.Proof.W.R

open Cert.Reference3Ideal Cert.Reference3Ideal.Gen Cert.Reference3Ideal.Value
open Idealize.ShloMosaic Cert.Proof.V

/-- The number of voxels is positive. -/
theorem pos32 : (0 : EReal) < n32 := by
  simp [Ideal.ofBits, Ideal.ieee]
  rw [← EReal.coe_mul, EReal.coe_pos]
  norm_num

/-- The number of edges is positive. -/
theorem pos256 : (0 : EReal) < n256 := by
  simp [Ideal.ofBits, Ideal.ieee]
  rw [← EReal.coe_mul, EReal.coe_pos]
  norm_num

/-- The number of places a variance over the voxels is over. -/
def count32 : FVec Ideal S_ .f32 := subf (constant S_ .f32 0x42000000#32) (sitofp .f32 (constantI S_ 32 0#32))

/-- It is 32. -/
theorem count32_at : (count32 ix0 : EReal) = n32 := by
  pointwise [count32]
  rw [zero_float, sub_zero]

/-- The number of places a variance over the edges is over. -/
def count256 : FVec Ideal S_ .f32 := subf (constant S_ .f32 0x43800000#32) (sitofp .f32 (constantI S_ 32 0#32))

/-- It is 256. -/
theorem count256_at : (count256 ix0 : EReal) = n256 := by
  pointwise [count256]
  rw [zero_float, sub_zero]

/-- The columns' means, as the reference writes them. -/
def dMean (x : FVec Ideal S32x1024 .f32) : FVec Ideal S1x1024 .f32 :=
  Host.divf (broadcastInDim S1x1024 ![1] bcast_S1024_S1x1024_1 (Host.reduceAdd x (constant S_ .f32 0x00000000#32) reducesTo_S32x1024_S1024_d0 h_S_)) (broadcastInDim S1x1024 ![] bcast_S_S1x1024 (constant S_ .f32 0x42000000#32))

/-- The deviations from the means. -/
def dDev (x : FVec Ideal S32x1024 .f32) : FVec Ideal S32x1024 .f32 :=
  subf x (broadcastInDim S32x1024 ![0, 1] bcast_S1x1024_S32x1024_0_1 (dMean x))

/-- The columns' variances. -/
def dVar (d : FVec Ideal S32x1024 .f32) : FVec Ideal S1x1024 .f32 :=
  select (broadcastInDim S1x1024 ![] bcast_S_S1x1024 (cmpf .ogt count32 (constant S_ .f32 0x00000000#32))) (Host.divf (broadcastInDim S1x1024 ![1] bcast_S1024_S1x1024_1 (Host.reduceAdd (mulf d d) (constant S_ .f32 0x00000000#32) reducesTo_S32x1024_S1024_d0 h_S_)) (broadcastInDim S1x1024 ![] bcast_S_S1x1024 count32)) (broadcastInDim S1x1024 ![] bcast_S_S1x1024 (id (constant S_ .f32 0x7FC00000#32)))

/-- The normalised columns. -/
def dNorm (x : FVec Ideal S32x1024 .f32) (g s : FVec Ideal S1024 .f32) : FVec Ideal S32x1024 .f32 :=
  addf (Host.divf (mulf (broadcastInDim S32x1024 ![0, 1] bcast_S1x1024_S32x1024_0_1 (shapeCast _ g shapeCasts_S1024_S1x1024)) (dDev x)) (broadcastInDim S32x1024 ![0, 1] bcast_S1x1024_S32x1024_0_1 (Host.sqrt (addf (dVar (dDev x)) (broadcastInDim S1x1024 ![] bcast_S_S1x1024 (constant S_ .f32 0x3727C5AC#32)))))) (broadcastInDim S32x1024 ![0, 1] bcast_S1x1024_S32x1024_0_1 (shapeCast _ s shapeCasts_S1024_S1x1024))

/-- The leaky relu. -/
def dAct (z : FVec Ideal S32x1024 .f32) : FVec Ideal S32x1024 .f32 :=
  select (cmpf .oge z (broadcastInDim S32x1024 ![] bcast_S_S32x1024 (constant S_ .f32 0x00000000#32))) z (mulf (broadcastInDim S32x1024 ![] bcast_S_S32x1024 (id (constant S_ .f32 0x3E4CCCCD#32))) z)

/-- A product and a bias. -/
def dLin (z : FVec Ideal S32x1024 .f32) (w : FVec Ideal S1024x1024 .f32) (b : FVec Ideal S1024 .f32) : FVec Ideal S32x1024 .f32 :=
  addf (Host.dotGeneral dot_S32x1024_S1024x1024_S32x1024_1_0_0_1_n_n none z w) (broadcastInDim S32x1024 ![0, 1] bcast_S1x1024_S32x1024_0_1 (broadcastInDim S1x1024 ![1] bcast_S1024_S1x1024_1 b))

/-- The points' product and bias, channels first. -/
def dPts (z : FVec Ideal S32x1024 .f32) (w : FVec Ideal S1024x32 .f32) (b : FVec Ideal S32 .f32) : FVec Ideal S1x32x32 .f32 :=
  transpose S1x32x32 [0, 2, 1] (shapeCast _ (addf (Host.dotGeneral dot_S32x1024_S1024x32_S32x32_1_0_0_1_n_n none z w) (broadcastInDim S32x32 ![0, 1] bcast_S1x32_S32x32_0_1 (broadcastInDim S1x32 ![1] bcast_S32_S1x32_1 b))) shapeCasts_S32x32_S1x32x32) transposes_S1x32x32_S1x32x32_0_2_1

/-- The points' term is these functions composed. -/
theorem res48 (V0 : Valuation τ sig (Elt Ideal)) :
    res_main_v48 V0 = dPts (dAct (dNorm (dLin (dAct (dNorm (res_main_v0 V0) (V0 (Proc.devRef .tc main_arg2))
      (V0 (Proc.devRef .tc main_arg3)))) (V0 (Proc.devRef .tc main_arg4)) (V0 (Proc.devRef .tc main_arg5)))
      (V0 (Proc.devRef .tc main_arg6)) (V0 (Proc.devRef .tc main_arg7)))) (V0 (Proc.devRef .tc main_arg8))
      (V0 (Proc.devRef .tc main_arg9)) := rfl

/-- A column's mean is the plain one. -/
theorem dMean_at (x : FVec Ideal S32x1024 .f32) (o : Fin 1024) :
    (dMean x (ix2 0 o) : EReal) = mean n32 (fun i => x (ix2 i o)) := by
  unfold mean
  pointwise [dMean]

/-- A deviation is the plain one. -/
theorem dDev_at (x : FVec Ideal S32x1024 .f32) (i : Fin 32) (o : Fin 1024) :
    (dDev x (ix2 i o) : EReal) = x (ix2 i o) - mean n32 (fun i => x (ix2 i o)) := by
  rw [← dMean_at]
  unfold dDev
  generalize dMean x = v
  pointwise []

/-- A column's variance is the plain one. -/
theorem dVar_at (d : FVec Ideal S32x1024 .f32) (o : Fin 1024) :
    (dVar d (ix2 0 o) : EReal) = Ideal.div (∑ i, d (ix2 i o) * d (ix2 i o)) n32 := by
  have hc := count32_at
  unfold dVar
  generalize count32 = k at hc ⊢
  pointwise []
  rw [hc, if_pos pos32]

/-- An activated normalised column is the plain one. -/
theorem dAct_at (x : FVec Ideal S32x1024 .f32) (g s : FVec Ideal S1024 .f32) :
    mat (dAct (dNorm x g s)) = dense (mat x) (fun o => g (ix1 o)) (fun o => s (ix1 o)) := by
  funext i o
  have hn : (dNorm x g s (ix2 i o) : EReal) = norm n32 (g (ix1 o)) (s (ix1 o)) (fun j => x (ix2 j o)) i := by
    have hd := dDev_at x
    have hv := dVar_at (dDev x) o
    unfold dNorm
    generalize dDev x = d at hd hv ⊢
    generalize dVar d = v at hv ⊢
    pointwise []
    rw [hv, hd]
    simp only [hd]
    rfl
  unfold mat dense lr
  generalize dNorm x g s = z at hn ⊢
  pointwise [dAct]
  rw [hn]
  rfl

/-- A product and a bias at an index. -/
theorem dLin_at (z : FVec Ideal S32x1024 .f32) (w : FVec Ideal S1024x1024 .f32) (b : FVec Ideal S1024 .f32) (i : Fin 32)
    (o : Fin 1024) : (dLin z w b (ix2 i o) : EReal) = (∑ c, mat z i c * w (ix2 c o)) + b (ix1 o) := by
  pointwise [dLin]
  rfl

/-- The points' product and bias at an index. -/
theorem dPts_at (z : FVec Ideal S32x1024 .f32) (w : FVec Ideal S1024x32 .f32) (b : FVec Ideal S32 .f32) (i o : Fin 32) :
    (dPts z w b (ix3 0 o i) : EReal) = (∑ c, mat z i c * w (ix2 c o)) + b (ix1 o) := by
  pointwise [dPts]
  rfl

/-- The first product at an index. -/
theorem res0_at (V0 : Valuation τ sig (Elt Ideal)) (x : FVec Ideal S32x2048 .f32) (w : FVec Ideal S2048x1024 .f32)
    (e0 : V0 (Proc.devRef .tc main_arg0) = x) (e1 : V0 (Proc.devRef .tc main_arg1) = w) (i : Fin 32) (o : Fin 1024) :
    (res_main_v0 V0 (ix2 i o) : EReal) = ∑ c, x (ix2 i c) * w (ix2 c o) := by
  unfold res_main_v0
  rw [e0, e1]
  pointwise []

end Cert.Proof.W.R
-- ==== Proof.W.RefRows.lean ====
module

public import proofs.«01_k».proof.Proof.W.RefDense

@[expose] public section

set_option maxRecDepth 16384
noncomputable section

/-! The third call's reference: the row numbers of the eight nearest voxels, and lemmas for both voxel layers. -/

namespace Cert.Proof.W.R

open Cert.Reference3Ideal Cert.Reference3Ideal.Gen Cert.Reference3Ideal.Value
open Idealize.ShloMosaic Cert.Proof.V

/-- A channels-first array as a function of voxel and channel. -/
def vx {C : ℕ} (y : (⟨3, ![1, C, 32]⟩ : Shape).Idx → EReal) (i : Fin 32) (c : Fin C) : EReal := y (ix3 0 c i)

/-- The row numbers of a top-8. -/
def rowNo (p : FVec Ideal S1x32x32 .f32) : IVec S256 32 :=
  shapeCast _ (addi ((Host.topK S1x32x8 2 (FloatOps.cmpfTotal .gt) p sliceFits_S1x32x32_S1x32x8).2) (broadcastInDim S1x32x8 ![0, 1, 2] bcast_S1x1x1_S1x32x8_0_1_2 (shapeCast _ (muli (iotaInDim S1 32 0) (broadcastInDim S1 ![] bcast_S_S1 (constantI S_ 32 32#32))) shapeCasts_S1_S1x1x1))) shapeCasts_S1x32x8_S256

/-- The row numbers as the gather takes them: a negative one would count from the end. -/
def rowIx (v : IVec S256 32) : IVec S256x1 32 :=
  broadcastInDim S256x1 ![0] bcast_S256_S256x1_0 (select (cmpi .slt v (broadcastInDim S256 ![] bcast_S_S256 (constantI S_ 32 0#32))) (addi v (broadcastInDim S256 ![] bcast_S_S256 (constantI S_ 32 32#32))) v)

/-- The place of voxel `i` and round `k` in the flat list of row numbers. -/
abbrev flatAt (i : Fin 32) (k : Fin 8) : Fin 256 := ⟨i.val * 8 + k.val, by omega⟩

/-- The row number at a voxel and round is the voxel the round takes. -/
theorem rowNo_at (p : FVec Ideal S1x32x32 .f32) (i : Fin 32) (k : Fin 8) (hp : ∀ j, ⊥ < p (ix3 0 i j)) :
    rowNo p (ix1 (flatAt i k)) = BitVec.ofNat 32 (nth (fun j => p (ix3 0 i j)) k).val := by
  pointwise [rowNo]
  have e2 : (i.val * 8 + k.val) / 8 = i.val := by omega
  have e3 : (i.val * 8 + k.val) % 8 = k.val := by omega
  simp only [e2, e3, Fin.eta]
  have ht : (Host.topK S1x32x8 2 (FloatOps.cmpfTotal (F := Ideal) (φ := .f32) .gt) p
      sliceFits_S1x32x32_S1x32x8).2 (ix3 0 i k) = _ := topK_at p _ 0 i k (by decide) hp
  rw [ht]
  generalize nth (fun j => p (ix3 0 i j)) k = z
  change BitVec.ofNat 32 z.val + BitVec.ofNat 32 0 * BitVec.ofNat 32 32 = _
  rw [← BitVec.ofNat_mul, ← BitVec.ofNat_add, Nat.zero_mul, Nat.add_zero]

/-- A row number that is a row's is not counted from the end. -/
theorem rowIx_at (v : IVec S256 32) (q : Fin 256) (r : Fin 32) (hv : v (ix1 q) = BitVec.ofNat 32 r.val) :
    rowIx v (ix2 q 0) = BitVec.ofNat 32 r.val := by
  pointwise [rowIx]
  rw [hv]
  have h : IntOp.cmpi .slt (BitVec.ofNat 32 r.val) 0#32 = 0#1 := by
    change BitVec.ofBool ((BitVec.ofNat 32 r.val).slt 0#32) = 0#1
    have := r.isLt
    rw [BitVec.slt_eq_decide, BitVec.toInt_eq_toNat_of_lt (by rw [BitVec.toNat_ofNat]; omega)]
    rw [decide_eq_false (by simp; omega)]
    rfl
  rw [h]
  rfl

/-- The two halves of an edge's product, as the reference writes them, are the product of the features. -/
theorem conv_eq {C D : ℕ} (hD : D = C + C) {x : Fin 32 → Fin C → EReal} (hx : ∀ i c, Fin' (x i c))
    (p : FVec Ideal S1x32x32 .f32) (i : Fin 32) (k : Fin 8) (hp : ∀ j, p (ix3 0 i j) = dist x i j)
    (wf : GatherDims.WF ⟨2, ![32, C]⟩ ⟨2, ![256, 1]⟩ ⟨2, ![256, C]⟩ [1] [0] [] [0] [] 1 ![1, C])
    (y : (⟨2, ![32, C]⟩ : Shape).Idx → EReal) (hy : ∀ z c, y (ix2 z c) = x z c)
    (e : Fin C → EReal) (he : ∀ c, e c = x i c) (w : Fin D → EReal) :
    ∑ c : Fin C, (Host.gather (rowDims 32 256 C wf) y (rowIx (rowNo p)) (ix2 (flatAt i k) c) - e c) * w ⟨c.val, by omega⟩
        + ∑ c : Fin C, e c * w ⟨C + c.val, by omega⟩
      = ∑ c : Fin D, feat x i (nth (dist x i) k) c * w c := by
  have hd : (fun j => p (ix3 0 i j)) = dist x i := funext hp
  have hg : ∀ c, Host.gather (rowDims 32 256 C wf) y (rowIx (rowNo p)) (ix2 (flatAt i k) c) = x (nth (dist x i) k) c := by
    intro c
    rw [gather_at (by decide) wf y _ _ c _ (rowIx_at _ _ _ (rowNo_at p i k fun j => by rw [hp]; exact (fin_dist hx i j).bot_lt)),
      hd, hy]
  rw [feat_sum hD]
  simp only [hg, he]

/-- A sum over one cloud's edges is a sum over the edges. -/
theorem sum_edges (f : Fin 1 × Fin 32 × Fin 8 → EReal) : ∑ p, f p = ∑ q : Fin 32 × Fin 8, f (0, q) := by
  rw [Fintype.sum_prod_type, Fin.sum_univ_one]

/-- A sum over one cloud's voxels is a sum over the voxels. -/
theorem sum_voxels (f : Fin 1 × Fin 32 → EReal) : ∑ p, f p = ∑ q : Fin 32, f (0, q) := by
  rw [Fintype.sum_prod_type, Fin.sum_univ_one]

/-- A maximum from minus infinity is the greatest. -/
theorem fold_sup {K : ℕ} (f : Fin K → EReal) :
    Finset.fold max (Ideal.ofBits .f32 0xFF800000#32) f Finset.univ = Finset.univ.sup f := by
  have hbot : Ideal.ofBits .f32 0xFF800000#32 = ⊥ := by simp [Ideal.ofBits, Ideal.ieee]
  apply le_antisymm
  · rw [Finset.fold_max_le, hbot]
    exact ⟨bot_le, fun k hk => Finset.le_sup hk⟩
  · refine Finset.sup_le fun k hk => ?_
    rw [Finset.le_fold_max]
    exact Or.inr ⟨k, hk, le_rfl⟩

end Cert.Proof.W.R
-- ==== Proof.W.RefA.lean ====
module

public import proofs.«01_k».proof.Proof.W.RefRows
public import proofs.«01_k».proof.Proof.W.Sum

@[expose] public section

set_option maxRecDepth 16384
noncomputable section

/-! The third call's reference: the first voxel layer at an index. -/

namespace Cert.Proof.W.R.A

open Cert.Reference3Ideal Cert.Reference3Ideal.Gen Cert.Reference3Ideal.Value
open Idealize.ShloMosaic Cert.Proof.V

/-- The distances, as the reference writes them. -/
def dists (y : FVec Ideal S1x32x32 .f32) : FVec Ideal S1x32x32 .f32 :=
  let n := broadcastInDim S1x1x32 ![0, 2] bcast_S1x32_S1x1x32_0_2 (Host.reduceAdd (mulf y y) (constant S_ .f32 0x00000000#32) reducesTo_S1x32x32_S1x32_d1 h_S_)
  mulf (subf (subf (broadcastInDim S1x32x32 ![0, 1, 2] bcast_S1x1x32_S1x32x32_0_1_2 (Host.negf n)) (mulf (broadcastInDim S1x32x32 ![] bcast_S_S1x32x32 (constant S_ .f32 0xC0000000#32)) (broadcastInDim S1x32x32 ![1, 2] bcast_S32x32_S1x32x32_1_2 (Host.dotGeneral dot_S32x32_S32x32_S32x32_1_0_0_1_n_n none (shapeCast _ (transpose S1x32x32 [0, 2, 1] y transposes_S1x32x32_S1x32x32_0_2_1) shapeCasts_S1x32x32_S32x32) (shapeCast _ y shapeCasts_S1x32x32_S32x32))))) (broadcastInDim S1x32x32 ![0, 1, 2] bcast_S1x32x1_S1x32x32_0_1_2 (transpose S1x32x1 [0, 2, 1] n transposes_S1x1x32_S1x32x1_0_2_1))) (broadcastInDim S1x32x32 ![0, 1, 2] bcast_S1x1x32_S1x32x32_0_1_2 (select (cmpf .ogt n (broadcastInDim S1x1x32 ![] bcast_S_S1x1x32 (constant S_ .f32 0x00000000#32))) (broadcastInDim S1x1x32 ![] bcast_S_S1x1x32 (constant S_ .f32 0x3F800000#32)) (broadcastInDim S1x1x32 ![] bcast_S_S1x1x32 (constant S_ .f32 0x4B189680#32))))

/-- They are the plain distances. -/
theorem dists_at (y : FVec Ideal S1x32x32 .f32) (i j : Fin 32) : (dists y (ix3 0 i j) : EReal) = V.dist (vx y) i j := by
  pointwise [dists]
  unfold V.dist V.sq
  rw [zero_sub]
  rfl

/-- An edge's product with the filters, as the reference writes it, from the points and their distances. -/
def convs (y : FVec Ideal S1x32x32 .f32) (p : FVec Ideal S1x32x32 .f32) (w : FVec Ideal S512x64 .f32) :
    FVec Ideal S1x512x32x8 .f32 :=
  let t := transpose S1x32x32 [0, 2, 1] y transposes_S1x32x32_S1x32x32_0_2_1
  let e := broadcastInDim S1x32x8x32 ![0, 1, 2, 3] bcast_S1x32x1x32_S1x32x8x32_0_1_2_3 (broadcastInDim S1x32x1x32 ![0, 1, 3] bcast_S1x32x32_S1x32x1x32_0_1_3 t)
  transpose S1x512x32x8 [0, 3, 1, 2] (Host.dotGeneral dot_S1x64x32x8_S512x64_S1x32x8x512_1_1_023_0_n_n none (transpose S1x64x32x8 [0, 3, 1, 2] (concatenate S1x32x8x64 3 [⟨S1x32x8x32, (subf (shapeCast _ (Host.gather gather_S32x32_S256x1_S256x32_1_0_n_n_0_1_132 (shapeCast _ t shapeCasts_S1x32x32_S32x32) (rowIx (rowNo p))) shapeCasts_S256x32_S1x32x8x32) e)⟩, ⟨S1x32x8x32, e⟩] concatenates_S1x32x8x32_S1x32x8x32_S1x32x8x64_d3) transposes_S1x32x8x64_S1x64x32x8_0_3_1_2) w) transposes_S1x32x8x512_S1x512x32x8_0_3_1_2

/-- It is the product of the plain edge features with the filter. -/
theorem convs_at (y : FVec Ideal S1x32x32 .f32) (w : FVec Ideal S512x64 .f32) (o : Fin 512) (i : Fin 32)
    (k : Fin 8) (hx : ∀ i c, Fin' (vx y i c)) :
    (convs y (dists y) w (ix4 0 o i k) : EReal) = prods (vx y) (mat w) o (i, k) := by
  have hp := dists_at y i
  generalize dists y = p at hp ⊢
  pointwise [convs]
  have h := conv_eq (C := 32) (D := 64) rfl hx p i k hp
    gather_S32x32_S256x1_S256x32_1_0_n_n_0_1_132_wf
    (shapeCast S32x32 (transpose S1x32x32 [0, 2, 1] y transposes_S1x32x32_S1x32x32_0_2_1) shapeCasts_S1x32x32_S32x32)
    (fun z c => by
      pointwise []
      rfl)
    (vx y i) (fun c => rfl) (mat w o)
  exact h

/-- The channels' means, as the reference writes them. -/
def mn (x : FVec Ideal S1x512x32x8 .f32) : FVec Ideal S1x512x1x1 .f32 :=
  Host.divf (broadcastInDim S1x512x1x1 ![1] bcast_S512_S1x512x1x1_1 (Host.reduceAdd x (constant S_ .f32 0x00000000#32) reducesTo_S1x512x32x8_S512_d0_2_3 h_S_)) (broadcastInDim S1x512x1x1 ![] bcast_S_S1x512x1x1 (constant S_ .f32 0x43800000#32))

/-- The deviations from the means. -/
def dev (x : FVec Ideal S1x512x32x8 .f32) : FVec Ideal S1x512x32x8 .f32 :=
  subf x (broadcastInDim S1x512x32x8 ![0, 1, 2, 3] bcast_S1x512x1x1_S1x512x32x8_0_1_2_3 (mn x))

/-- The channels' variances. -/
def vr (d : FVec Ideal S1x512x32x8 .f32) : FVec Ideal S1x512x1x1 .f32 :=
  select (broadcastInDim S1x512x1x1 ![] bcast_S_S1x512x1x1 (cmpf .ogt count256 (constant S_ .f32 0x00000000#32))) (Host.divf (broadcastInDim S1x512x1x1 ![1] bcast_S512_S1x512x1x1_1 (Host.reduceAdd (mulf d d) (constant S_ .f32 0x00000000#32) reducesTo_S1x512x32x8_S512_d0_2_3 h_S_)) (broadcastInDim S1x512x1x1 ![] bcast_S_S1x512x1x1 count256)) (broadcastInDim S1x512x1x1 ![] bcast_S_S1x512x1x1 (id (constant S_ .f32 0x7FC00000#32)))

/-- The normalised channels. -/
def nm (x : FVec Ideal S1x512x32x8 .f32) (g s : FVec Ideal S512 .f32) : FVec Ideal S1x512x32x8 .f32 :=
  addf (Host.divf (mulf (broadcastInDim S1x512x32x8 ![0, 1, 2, 3] bcast_S1x512x1x1_S1x512x32x8_0_1_2_3 (shapeCast _ g shapeCasts_S512_S1x512x1x1)) (dev x)) (broadcastInDim S1x512x32x8 ![0, 1, 2, 3] bcast_S1x512x1x1_S1x512x32x8_0_1_2_3 (Host.sqrt (addf (vr (dev x)) (broadcastInDim S1x512x1x1 ![] bcast_S_S1x512x1x1 (constant S_ .f32 0x3727C5AC#32)))))) (broadcastInDim S1x512x32x8 ![0, 1, 2, 3] bcast_S1x512x1x1_S1x512x32x8_0_1_2_3 (shapeCast _ s shapeCasts_S512_S1x512x1x1))

/-- The leaky relu and the maximum over the edges. -/
def mx (z : FVec Ideal S1x512x32x8 .f32) : FVec Ideal S1x512x32 .f32 :=
  Host.reduce FloatOps.maximumf (select (cmpf .oge z (broadcastInDim S1x512x32x8 ![] bcast_S_S1x512x32x8 (constant S_ .f32 0x00000000#32))) z (mulf (broadcastInDim S1x512x32x8 ![] bcast_S_S1x512x32x8 (id (constant S_ .f32 0x3E4CCCCD#32))) z)) (constant S_ .f32 0xFF800000#32) reducesTo_S1x512x32x8_S1x512x32_d3 h_S_

/-- The layer's term is these functions composed. -/
theorem res (V0 : Valuation τ sig (Elt Ideal)) :
    res_main_v115 V0 = mx (nm (convs (res_main_v48 V0) (dists (res_main_v48 V0))
      (V0 (Proc.devRef .tc main_arg10))) (V0 (Proc.devRef .tc main_arg11)) (V0 (Proc.devRef .tc main_arg12))) := rfl

/-- A channel over the edges. -/
def over (x : FVec Ideal S1x512x32x8 .f32) (o : Fin 512) (p : Fin 32 × Fin 8) : EReal := x (ix4 0 o p.1 p.2)

/-- A channel's mean is the plain one. -/
theorem mn_at (x : FVec Ideal S1x512x32x8 .f32) (o : Fin 512) :
    (mn x (ix4 0 o 0 0) : EReal) = mean n256 (over x o) := by
  unfold mean over
  pointwise [mn]
  rw [reduce_outer2]
  pointwise []
  rw [sum_edges]

/-- A deviation is the plain one. -/
theorem dev_at (x : FVec Ideal S1x512x32x8 .f32) (o : Fin 512) (i : Fin 32) (k : Fin 8) :
    (dev x (ix4 0 o i k) : EReal) = x (ix4 0 o i k) - mean n256 (over x o) := by
  rw [← mn_at]
  unfold dev
  generalize mn x = v
  pointwise []

/-- A channel's variance is the plain one. -/
theorem vr_at (d : FVec Ideal S1x512x32x8 .f32) (o : Fin 512) :
    (vr d (ix4 0 o 0 0) : EReal) = Ideal.div (∑ p, over d o p * over d o p) n256 := by
  have hc := count256_at
  unfold vr over
  generalize count256 = k at hc ⊢
  pointwise []
  rw [hc, if_pos pos256, reduce_outer2]
  pointwise []
  rw [sum_edges]

/-- A normalised channel is the plain one. -/
theorem nm_at (x : FVec Ideal S1x512x32x8 .f32) (g s : FVec Ideal S512 .f32) (o : Fin 512) (i : Fin 32) (k : Fin 8) :
    (nm x g s (ix4 0 o i k) : EReal) = norm n256 (g (ix1 o)) (s (ix1 o)) (over x o) (i, k) := by
  have hd := dev_at x o
  have hv := vr_at (dev x) o
  unfold over at hv
  unfold nm
  generalize dev x = d at hd hv ⊢
  generalize vr d = v at hv ⊢
  pointwise []
  rw [hv, hd]
  simp only [hd]
  rfl

/-- The maximum over the edges is the plain one. -/
theorem mx_at (z : FVec Ideal S1x512x32x8 .f32) (o : Fin 512) (i : Fin 32) :
    (mx z (ix3 0 o i) : EReal) = Finset.univ.sup fun k : Fin 8 => lr (z (ix4 0 o i k)) := by
  rw [← fold_sup]
  unfold lr
  pointwise [mx]
  rfl

/-- The layer, as the reference writes it, is the plain voxel layer. -/
theorem layer_at (y : FVec Ideal S1x32x32 .f32) (w : FVec Ideal S512x64 .f32) (g s : FVec Ideal S512 .f32)
    (hx : ∀ i c, Fin' (vx y i c)) :
    vx (mx (nm (convs y (dists y) w) g s)) = vox (vx y) (mat w) (fun o => g (ix1 o)) (fun o => s (ix1 o)) := by
  funext i o
  have hc : over (convs y (dists y) w) o = prods (vx y) (mat w) o := funext fun p => convs_at y w o p.1 p.2 hx
  unfold vx vox
  rw [mx_at]
  exact Finset.sup_congr rfl fun k _ => congrArg lr ((nm_at _ g s o i k).trans (congrFun (congrArg _ hc) _))

end Cert.Proof.W.R.A
-- ==== Proof.W.RefB.lean ====
module

public import proofs.«01_k».proof.Proof.W.RefRows
public import proofs.«01_k».proof.Proof.W.Sum

@[expose] public section

set_option maxRecDepth 16384
noncomputable section

/-! The third call's reference: the second voxel layer at an index. -/

namespace Cert.Proof.W.R.B

open Cert.Reference3Ideal Cert.Reference3Ideal.Gen Cert.Reference3Ideal.Value
open Idealize.ShloMosaic Cert.Proof.V

/-- The distances, as the reference writes them. -/
def dists (y : FVec Ideal S1x512x32 .f32) : FVec Ideal S1x32x32 .f32 :=
  let n := broadcastInDim S1x1x32 ![0, 2] bcast_S1x32_S1x1x32_0_2 (Host.reduceAdd (mulf y y) (constant S_ .f32 0x00000000#32) reducesTo_S1x512x32_S1x32_d1 h_S_)
  mulf (subf (subf (broadcastInDim S1x32x32 ![0, 1, 2] bcast_S1x1x32_S1x32x32_0_1_2 (Host.negf n)) (mulf (broadcastInDim S1x32x32 ![] bcast_S_S1x32x32 (constant S_ .f32 0xC0000000#32)) (broadcastInDim S1x32x32 ![1, 2] bcast_S32x32_S1x32x32_1_2 (Host.dotGeneral dot_S32x512_S512x32_S32x32_1_0_0_1_n_n none (shapeCast _ (transpose S1x32x512 [0, 2, 1] y transposes_S1x512x32_S1x32x512_0_2_1) shapeCasts_S1x32x512_S32x512) (shapeCast _ y shapeCasts_S1x512x32_S512x32))))) (broadcastInDim S1x32x32 ![0, 1, 2] bcast_S1x32x1_S1x32x32_0_1_2 (transpose S1x32x1 [0, 2, 1] n transposes_S1x1x32_S1x32x1_0_2_1))) (broadcastInDim S1x32x32 ![0, 1, 2] bcast_S1x1x32_S1x32x32_0_1_2 (select (cmpf .ogt n (broadcastInDim S1x1x32 ![] bcast_S_S1x1x32 (constant S_ .f32 0x00000000#32))) (broadcastInDim S1x1x32 ![] bcast_S_S1x1x32 (constant S_ .f32 0x3F800000#32)) (broadcastInDim S1x1x32 ![] bcast_S_S1x1x32 (constant S_ .f32 0x4B189680#32))))

/-- They are the plain distances. -/
theorem dists_at (y : FVec Ideal S1x512x32 .f32) (i j : Fin 32) : (dists y (ix3 0 i j) : EReal) = V.dist (vx y) i j := by
  pointwise [dists]
  unfold V.dist V.sq
  rw [zero_sub]
  rfl

/-- An edge's product with the filters, as the reference writes it, from the points and their distances. -/
def convs (y : FVec Ideal S1x512x32 .f32) (p : FVec Ideal S1x32x32 .f32) (w : FVec Ideal S256x1024 .f32) :
    FVec Ideal S1x256x32x8 .f32 :=
  let t := transpose S1x32x512 [0, 2, 1] y transposes_S1x512x32_S1x32x512_0_2_1
  let e := broadcastInDim S1x32x8x512 ![0, 1, 2, 3] bcast_S1x32x1x512_S1x32x8x512_0_1_2_3 (broadcastInDim S1x32x1x512 ![0, 1, 3] bcast_S1x32x512_S1x32x1x512_0_1_3 t)
  transpose S1x256x32x8 [0, 3, 1, 2] (Host.dotGeneral dot_S1x1024x32x8_S256x1024_S1x32x8x256_1_1_023_0_n_n none (transpose S1x1024x32x8 [0, 3, 1, 2] (concatenate S1x32x8x1024 3 [⟨S1x32x8x512, (subf (shapeCast _ (Host.gather gather_S32x512_S256x1_S256x512_1_0_n_n_0_1_1512 (shapeCast _ t shapeCasts_S1x32x512_S32x512) (rowIx (rowNo p))) shapeCasts_S256x512_S1x32x8x512) e)⟩, ⟨S1x32x8x512, e⟩] concatenates_S1x32x8x512_S1x32x8x512_S1x32x8x1024_d3) transposes_S1x32x8x1024_S1x1024x32x8_0_3_1_2) w) transposes_S1x32x8x256_S1x256x32x8_0_3_1_2

/-- It is the product of the plain edge features with the filter. -/
theorem convs_at (y : FVec Ideal S1x512x32 .f32) (w : FVec Ideal S256x1024 .f32) (o : Fin 256) (i : Fin 32)
    (k : Fin 8) (hx : ∀ i c, Fin' (vx y i c)) :
    (convs y (dists y) w (ix4 0 o i k) : EReal) = prods (vx y) (mat w) o (i, k) := by
  have hp := dists_at y i
  generalize dists y = p at hp ⊢
  pointwise [convs]
  have h := conv_eq (C := 512) (D := 1024) rfl hx p i k hp
    gather_S32x512_S256x1_S256x512_1_0_n_n_0_1_1512_wf
    (shapeCast S32x512 (transpose S1x32x512 [0, 2, 1] y transposes_S1x512x32_S1x32x512_0_2_1) shapeCasts_S1x32x512_S32x512)
    (fun z c => by
      pointwise []
      rfl)
    (vx y i) (fun c => rfl) (mat w o)
  exact h

/-- The channels' means, as the reference writes them. -/
def mn (x : FVec Ideal S1x256x32x8 .f32) : FVec Ideal S1x256x1x1 .f32 :=
  Host.divf (broadcastInDim S1x256x1x1 ![1] bcast_S256_S1x256x1x1_1 (Host.reduceAdd x (constant S_ .f32 0x00000000#32) reducesTo_S1x256x32x8_S256_d0_2_3 h_S_)) (broadcastInDim S1x256x1x1 ![] bcast_S_S1x256x1x1 (constant S_ .f32 0x43800000#32))

/-- The deviations from the means. -/
def dev (x : FVec Ideal S1x256x32x8 .f32) : FVec Ideal S1x256x32x8 .f32 :=
  subf x (broadcastInDim S1x256x32x8 ![0, 1, 2, 3] bcast_S1x256x1x1_S1x256x32x8_0_1_2_3 (mn x))

/-- The channels' variances. -/
def vr (d : FVec Ideal S1x256x32x8 .f32) : FVec Ideal S1x256x1x1 .f32 :=
  select (broadcastInDim S1x256x1x1 ![] bcast_S_S1x256x1x1 (cmpf .ogt count256 (constant S_ .f32 0x00000000#32))) (Host.divf (broadcastInDim S1x256x1x1 ![1] bcast_S256_S1x256x1x1_1 (Host.reduceAdd (mulf d d) (constant S_ .f32 0x00000000#32) reducesTo_S1x256x32x8_S256_d0_2_3 h_S_)) (broadcastInDim S1x256x1x1 ![] bcast_S_S1x256x1x1 count256)) (broadcastInDim S1x256x1x1 ![] bcast_S_S1x256x1x1 (id (constant S_ .f32 0x7FC00000#32)))

/-- The normalised channels. -/
def nm (x : FVec Ideal S1x256x32x8 .f32) (g s : FVec Ideal S256 .f32) : FVec Ideal S1x256x32x8 .f32 :=
  addf (Host.divf (mulf (broadcastInDim S1x256x32x8 ![0, 1, 2, 3] bcast_S1x256x1x1_S1x256x32x8_0_1_2_3 (shapeCast _ g shapeCasts_S256_S1x256x1x1)) (dev x)) (broadcastInDim S1x256x32x8 ![0, 1, 2, 3] bcast_S1x256x1x1_S1x256x32x8_0_1_2_3 (Host.sqrt (addf (vr (dev x)) (broadcastInDim S1x256x1x1 ![] bcast_S_S1x256x1x1 (constant S_ .f32 0x3727C5AC#32)))))) (broadcastInDim S1x256x32x8 ![0, 1, 2, 3] bcast_S1x256x1x1_S1x256x32x8_0_1_2_3 (shapeCast _ s shapeCasts_S256_S1x256x1x1))

/-- The leaky relu and the maximum over the edges. -/
def mx (z : FVec Ideal S1x256x32x8 .f32) : FVec Ideal S1x256x32 .f32 :=
  Host.reduce FloatOps.maximumf (select (cmpf .oge z (broadcastInDim S1x256x32x8 ![] bcast_S_S1x256x32x8 (constant S_ .f32 0x00000000#32))) z (mulf (broadcastInDim S1x256x32x8 ![] bcast_S_S1x256x32x8 (id (constant S_ .f32 0x3E4CCCCD#32))) z)) (constant S_ .f32 0xFF800000#32) reducesTo_S1x256x32x8_S1x256x32_d3 h_S_

/-- The layer's term is these functions composed. -/
theorem res (V0 : Valuation τ sig (Elt Ideal)) :
    mx (res_main_v180 V0) = mx (nm (convs (res_main_v115 V0) (dists (res_main_v115 V0))
      (V0 (Proc.devRef .tc main_arg13))) (V0 (Proc.devRef .tc main_arg14)) (V0 (Proc.devRef .tc main_arg15))) := rfl

/-- A channel over the edges. -/
def over (x : FVec Ideal S1x256x32x8 .f32) (o : Fin 256) (p : Fin 32 × Fin 8) : EReal := x (ix4 0 o p.1 p.2)

/-- A channel's mean is the plain one. -/
theorem mn_at (x : FVec Ideal S1x256x32x8 .f32) (o : Fin 256) :
    (mn x (ix4 0 o 0 0) : EReal) = mean n256 (over x o) := by
  unfold mean over
  pointwise [mn]
  rw [reduce_outer2]
  pointwise []
  rw [sum_edges]

/-- A deviation is the plain one. -/
theorem dev_at (x : FVec Ideal S1x256x32x8 .f32) (o : Fin 256) (i : Fin 32) (k : Fin 8) :
    (dev x (ix4 0 o i k) : EReal) = x (ix4 0 o i k) - mean n256 (over x o) := by
  rw [← mn_at]
  unfold dev
  generalize mn x = v
  pointwise []

/-- A channel's variance is the plain one. -/
theorem vr_at (d : FVec Ideal S1x256x32x8 .f32) (o : Fin 256) :
    (vr d (ix4 0 o 0 0) : EReal) = Ideal.div (∑ p, over d o p * over d o p) n256 := by
  have hc := count256_at
  unfold vr over
  generalize count256 = k at hc ⊢
  pointwise []
  rw [hc, if_pos pos256, reduce_outer2]
  pointwise []
  rw [sum_edges]

/-- A normalised channel is the plain one. -/
theorem nm_at (x : FVec Ideal S1x256x32x8 .f32) (g s : FVec Ideal S256 .f32) (o : Fin 256) (i : Fin 32) (k : Fin 8) :
    (nm x g s (ix4 0 o i k) : EReal) = norm n256 (g (ix1 o)) (s (ix1 o)) (over x o) (i, k) := by
  have hd := dev_at x o
  have hv := vr_at (dev x) o
  unfold over at hv
  unfold nm
  generalize dev x = d at hd hv ⊢
  generalize vr d = v at hv ⊢
  pointwise []
  rw [hv, hd]
  simp only [hd]
  rfl

/-- The maximum over the edges is the plain one. -/
theorem mx_at (z : FVec Ideal S1x256x32x8 .f32) (o : Fin 256) (i : Fin 32) :
    (mx z (ix3 0 o i) : EReal) = Finset.univ.sup fun k : Fin 8 => lr (z (ix4 0 o i k)) := by
  rw [← fold_sup]
  unfold lr
  pointwise [mx]
  rfl

/-- The layer, as the reference writes it, is the plain voxel layer. -/
theorem layer_at (y : FVec Ideal S1x512x32 .f32) (w : FVec Ideal S256x1024 .f32) (g s : FVec Ideal S256 .f32)
    (hx : ∀ i c, Fin' (vx y i c)) :
    vx (mx (nm (convs y (dists y) w) g s)) = vox (vx y) (mat w) (fun o => g (ix1 o)) (fun o => s (ix1 o)) := by
  funext i o
  have hc : over (convs y (dists y) w) o = prods (vx y) (mat w) o := funext fun p => convs_at y w o p.1 p.2 hx
  unfold vx vox
  rw [mx_at]
  exact Finset.sup_congr rfl fun k _ => congrArg lr ((nm_at _ g s o i k).trans (congrFun (congrArg _ hc) _))

end Cert.Proof.W.R.B
-- ==== Proof.W.Real.lean ====
module

public import proofs.«01_k».proof.Proof.W.Head

@[expose] public section

noncomputable section

/-! The third call's layers give real numbers from real numbers. -/

namespace Cert.Proof.W

open Idealize.ShloMosaic Cert.Proof.V

variable {C D O : ℕ}

/-- A number that is real and positive. -/
def Pos (n : EReal) : Prop := ∃ r : ℝ, 0 < r ∧ n = (r : EReal)

/-- The number of voxels is. -/
theorem real32 : Pos n32 := by
  refine ⟨32, by norm_num, ?_⟩
  simp [Ideal.ofBits, Ideal.ieee]
  norm_num [← EReal.coe_mul]

/-- The number of edges is. -/
theorem real256 : Pos n256 := by
  refine ⟨256, by norm_num, ?_⟩
  simp [Ideal.ofBits, Ideal.ieee]
  norm_num [← EReal.coe_mul]

/-- The small number is. -/
theorem real_eps : Pos eps := by
  simp [Ideal.ofBits, Ideal.ieee]
  exact ⟨_, by positivity, (EReal.coe_mul _ _).symm⟩

/-- A real over a positive real is real. -/
theorem fin_div {a n : EReal} (ha : Fin' a) (hn : Pos n) : Fin' (Ideal.div a n) := by
  obtain ⟨r, rfl⟩ := ha
  obtain ⟨s, hs, rfl⟩ := hn
  have h0 : (s : EReal) ≠ 0 := by exact_mod_cast hs.ne'
  unfold Ideal.div
  rw [if_neg h0, ← EReal.coe_inv, ← EReal.coe_mul]
  exact Fin'.coe _

/-- The square root of a number that is not negative and a positive number is positive. -/
theorem pos_sqrt {r : ℝ} (hr : 0 ≤ r) {e : EReal} (he : Pos e) : Pos (Ideal.sqrt ((r : EReal) + e)) := by
  obtain ⟨s, hs, rfl⟩ := he
  rw [← EReal.coe_add]
  have h : 0 < r + s := add_pos_of_nonneg_of_pos hr hs
  exact ⟨Real.sqrt (r + s), Real.sqrt_pos.2 h, if_neg h.le.not_gt⟩

section norm

variable {ι : Type} [Fintype ι]

/-- A mean of reals is real. -/
theorem fin_mean {n : EReal} (hn : Pos n) {f : ι → EReal} (hf : ∀ i, Fin' (f i)) : Fin' (mean n f) :=
  fin_div (Fin'.sum _ _ hf) hn

/-- A sum of squares of reals is a real that is not negative. -/
theorem sum_squares (s : Finset ι) {f : ι → EReal} (hf : ∀ i, Fin' (f i)) : ∃ r : ℝ, 0 ≤ r ∧ ∑ i ∈ s, f i * f i = (r : EReal) := by
  classical
  induction s using Finset.induction_on with
  | empty => exact ⟨0, le_rfl, rfl⟩
  | insert i s hi ih =>
    obtain ⟨r, hr, e⟩ := ih
    obtain ⟨t, ht⟩ := hf i
    refine ⟨t * t + r, add_nonneg (mul_self_nonneg t) hr, ?_⟩
    rw [Finset.sum_insert hi, e, ht, ← EReal.coe_mul, ← EReal.coe_add]

/-- A variance of reals is a real that is not negative. -/
theorem var_nonneg {n : EReal} (hn : Pos n) {f : ι → EReal} (hf : ∀ i, Fin' (f i)) :
    ∃ r : ℝ, 0 ≤ r ∧ var n f = (r : EReal) := by
  obtain ⟨r, hr, e⟩ := sum_squares Finset.univ fun i => (hf i).sub (fin_mean hn hf)
  obtain ⟨s, hs, rfl⟩ := hn
  have h0 : (s : EReal) ≠ 0 := by exact_mod_cast hs.ne'
  refine ⟨r * s⁻¹, mul_nonneg hr (inv_nonneg.2 hs.le), ?_⟩
  unfold var
  rw [e]
  unfold Ideal.div
  rw [if_neg h0, ← EReal.coe_inv, ← EReal.coe_mul]

/-- A normalised channel of reals is real. -/
theorem fin_norm {n g s : EReal} (hn : Pos n) (hg : Fin' g) (hs : Fin' s) {f : ι → EReal} (hf : ∀ i, Fin' (f i)) (i : ι) :
    Fin' (norm n g s f i) := by
  obtain ⟨r, hr, e⟩ := var_nonneg hn hf
  unfold norm
  rw [e]
  exact (fin_div (hg.mul ((hf i).sub (fin_mean hn hf))) (pos_sqrt hr real_eps)).add hs

end norm

/-- The leaky relu of a real is real. -/
theorem fin_lr {t : EReal} (ht : Fin' t) : Fin' (lr t) := ht.ite (fin_slope.mul ht)

/-- A dense layer's activations of reals are real. -/
theorem fin_dense {y : Fin 32 → Fin O → EReal} {g s : Fin O → EReal} (hy : ∀ i o, Fin' (y i o)) (hg : ∀ o, Fin' (g o))
    (hs : ∀ o, Fin' (s o)) (i : Fin 32) (o : Fin O) : Fin' (dense y g s i o) :=
  fin_lr (fin_norm real32 (hg o) (hs o) (fun j => hy j o) i)

/-- A voxel layer of reals is real. -/
theorem fin_vox {x : Fin 32 → Fin C → EReal} {w : Fin O → Fin D → EReal} {g s : Fin O → EReal} (hx : ∀ i c, Fin' (x i c))
    (hw : ∀ o c, Fin' (w o c)) (hg : ∀ o, Fin' (g o)) (hs : ∀ o, Fin' (s o)) (i : Fin 32) (o : Fin O) :
    Fin' (vox x w g s i o) :=
  Fin'.sup _ ⟨0, Finset.mem_univ _⟩ _ fun k => fin_lr (fin_norm real256 (hg o) (hs o)
    (fun p => Fin'.sum _ _ fun c => (fin_feat hx _ _ c).mul (hw o c)) (i, k))

namespace Args

/-- The arguments the voxels' points and the first voxel layer are computed from are real. -/
structure Real (a : Args) : Prop where
  /-- The pooled features. -/
  x : ∀ i c, Fin' (a.x i c)
  /-- The first dense layer. -/
  wl1 : ∀ i c, Fin' (a.wl1 i c)
  /-- Its scales. -/
  g6 : ∀ c, Fin' (a.g6 c)
  /-- Its shifts. -/
  b6 : ∀ c, Fin' (a.b6 c)
  /-- The second dense layer. -/
  wl2 : ∀ i c, Fin' (a.wl2 i c)
  /-- Its bias. -/
  bl2 : ∀ c, Fin' (a.bl2 c)
  /-- Its scales. -/
  g7 : ∀ c, Fin' (a.g7 c)
  /-- Its shifts. -/
  b7 : ∀ c, Fin' (a.b7 c)
  /-- The third dense layer. -/
  wl3 : ∀ i c, Fin' (a.wl3 i c)
  /-- Its bias. -/
  bl3 : ∀ c, Fin' (a.bl3 c)
  /-- The first voxel layer. -/
  w6 : ∀ i c, Fin' (a.w6 i c)
  /-- Its scales. -/
  gc6 : ∀ c, Fin' (a.gc6 c)
  /-- Its shifts. -/
  bc6 : ∀ c, Fin' (a.bc6 c)

variable {a : Args}

/-- Then the points are real. -/
theorem Real.pts (h : a.Real) (i o : Fin 32) : Fin' (a.pts i o) := by
  have h1 : ∀ i o, Fin' (a.h1 i o) := fin_dense (fun i o => Fin'.sum _ _ fun c => (h.x i c).mul (h.wl1 c o)) h.g6 h.b6
  have h2 : ∀ i o, Fin' (a.h2 i o) :=
    fin_dense (fun i o => (Fin'.sum _ _ fun c => (h1 i c).mul (h.wl2 c o)).add (h.bl2 o)) h.g7 h.b7
  exact (Fin'.sum _ _ fun c => (h2 i c).mul (h.wl3 c o)).add (h.bl3 o)

/-- Then the first voxel layer is real. -/
theorem Real.v1 (h : a.Real) (i : Fin 32) (o : Fin 512) : Fin' (a.v1 i o) := fin_vox h.pts h.w6 h.gc6 h.bc6 i o

end Args

end Cert.Proof.W
-- ==== Proof.W.RefTail.lean ====
module

public import proofs.«01_k».proof.Proof.W.RefA
public import proofs.«01_k».proof.Proof.W.RefB
public import proofs.«01_k».proof.Proof.W.Real

@[expose] public section

set_option maxRecDepth 16384
noncomputable section

/-! The third call's reference: what follows the voxel layers, and the whole. -/

namespace Cert.Proof.W.R

open Cert.Reference3Ideal Cert.Reference3Ideal.Gen Cert.Reference3Ideal.Value
open Idealize.ShloMosaic Cert.Proof.V

/-- The two layers' channels side by side, as the reference writes them. -/
def both (y : FVec Ideal S1x512x32 .f32) (z : FVec Ideal S1x256x32 .f32) : FVec Ideal S1x768x32 .f32 :=
  concatenate S1x768x32 1 [⟨S1x512x32, y⟩, ⟨S1x256x32, z⟩] concatenates_S1x512x32_S1x256x32_S1x768x32_d1

/-- The product over both layers' channels. -/
def wide (x : FVec Ideal S1x768x32 .f32) (w : FVec Ideal S1024x768 .f32) : FVec Ideal S1x1024x32 .f32 :=
  transpose S1x1024x32 [0, 2, 1] (Host.dotGeneral dot_S1x768x32_S1024x768_S1x32x1024_1_1_02_0_n_n none x w) transposes_S1x32x1024_S1x1024x32_0_2_1

/-- The channels' means, as the reference writes them. -/
def mn (x : FVec Ideal S1x1024x32 .f32) : FVec Ideal S1x1024x1 .f32 :=
  Host.divf (broadcastInDim S1x1024x1 ![1] bcast_S1024_S1x1024x1_1 (Host.reduceAdd x (constant S_ .f32 0x00000000#32) reducesTo_S1x1024x32_S1024_d0_2 h_S_)) (broadcastInDim S1x1024x1 ![] bcast_S_S1x1024x1 (constant S_ .f32 0x42000000#32))

/-- The deviations from the means. -/
def dev (x : FVec Ideal S1x1024x32 .f32) : FVec Ideal S1x1024x32 .f32 :=
  subf x (broadcastInDim S1x1024x32 ![0, 1, 2] bcast_S1x1024x1_S1x1024x32_0_1_2 (mn x))

/-- The channels' variances. -/
def vr (d : FVec Ideal S1x1024x32 .f32) : FVec Ideal S1x1024x1 .f32 :=
  select (broadcastInDim S1x1024x1 ![] bcast_S_S1x1024x1 (cmpf .ogt count32 (constant S_ .f32 0x00000000#32))) (Host.divf (broadcastInDim S1x1024x1 ![1] bcast_S1024_S1x1024x1_1 (Host.reduceAdd (mulf d d) (constant S_ .f32 0x00000000#32) reducesTo_S1x1024x32_S1024_d0_2 h_S_)) (broadcastInDim S1x1024x1 ![] bcast_S_S1x1024x1 count32)) (broadcastInDim S1x1024x1 ![] bcast_S_S1x1024x1 (id (constant S_ .f32 0x7FC00000#32)))

/-- The normalised channels. -/
def nm (x : FVec Ideal S1x1024x32 .f32) (g s : FVec Ideal S1024 .f32) : FVec Ideal S1x1024x32 .f32 :=
  addf (Host.divf (mulf (broadcastInDim S1x1024x32 ![0, 1, 2] bcast_S1x1024x1_S1x1024x32_0_1_2 (shapeCast _ g shapeCasts_S1024_S1x1024x1)) (dev x)) (broadcastInDim S1x1024x32 ![0, 1, 2] bcast_S1x1024x1_S1x1024x32_0_1_2 (Host.sqrt (addf (vr (dev x)) (broadcastInDim S1x1024x1 ![] bcast_S_S1x1024x1 (constant S_ .f32 0x3727C5AC#32)))))) (broadcastInDim S1x1024x32 ![0, 1, 2] bcast_S1x1024x1_S1x1024x32_0_1_2 (shapeCast _ s shapeCasts_S1024_S1x1024x1))

/-- The leaky relu. -/
def ac (z : FVec Ideal S1x1024x32 .f32) : FVec Ideal S1x1024x32 .f32 :=
  select (cmpf .oge z (broadcastInDim S1x1024x32 ![] bcast_S_S1x1024x32 (constant S_ .f32 0x00000000#32))) z (mulf (broadcastInDim S1x1024x32 ![] bcast_S_S1x1024x32 (id (constant S_ .f32 0x3E4CCCCD#32))) z)

/-- The maxima over the voxels. -/
def mxs (z : FVec Ideal S1x1024x32 .f32) : FVec Ideal S1x1024 .f32 :=
  Host.reduce FloatOps.maximumf z (constant S_ .f32 0xFF800000#32) reducesTo_S1x1024x32_S1x1024_d2 h_S_

/-- The means over the voxels. -/
def avs (z : FVec Ideal S1x1024x32 .f32) : FVec Ideal S1x1024 .f32 :=
  Host.divf (Host.reduceAdd z (constant S_ .f32 0x00000000#32) reducesTo_S1x1024x32_S1x1024_d2 h_S_) (broadcastInDim S1x1024 ![] bcast_S_S1x1024 (constant S_ .f32 0x42000000#32))

/-- The maxima and the means side by side. -/
def pool (x y : FVec Ideal S1x1024 .f32) : FVec Ideal S1x2048 .f32 :=
  concatenate S1x2048 1 [⟨S1x1024, x⟩, ⟨S1x1024, y⟩] concatenates_S1x1024_S1x1024_S1x2048_d1

/-- The product with the pooled channels. -/
def hid (x : FVec Ideal S1x2048 .f32) (w : FVec Ideal S2048x256 .f32) : FVec Ideal S1x256 .f32 :=
  Host.dotGeneral dot_S1x2048_S2048x256_S1x256_1_0_0_1_n_n none x w

/-- The leaky relu, the last product and the bias. -/
def last (z : FVec Ideal S1x256 .f32) (w : FVec Ideal S256x40 .f32) (b : FVec Ideal S40 .f32) : FVec Ideal S1x40 .f32 :=
  addf (Host.dotGeneral dot_S1x256_S256x40_S1x40_1_0_0_1_n_n none (select (cmpf .oge z (broadcastInDim S1x256 ![] bcast_S_S1x256 (constant S_ .f32 0x00000000#32))) z (mulf (broadcastInDim S1x256 ![] bcast_S_S1x256 (id (constant S_ .f32 0x3E4CCCCD#32))) z)) w) (broadcastInDim S1x40 ![1] bcast_S40_S1x40_1 b)

/-- The last product's term is these functions composed. -/
theorem res210 (V0 : Valuation τ sig (Elt Ideal)) :
    res_main_v210 V0 = hid (pool (mxs (ac (nm (wide (both (res_main_v115 V0) (B.mx (res_main_v180 V0)))
        (V0 (Proc.devRef .tc main_arg16))) (V0 (Proc.devRef .tc main_arg17)) (V0 (Proc.devRef .tc main_arg18)))))
      (avs (ac (nm (wide (both (res_main_v115 V0) (B.mx (res_main_v180 V0)))
        (V0 (Proc.devRef .tc main_arg16))) (V0 (Proc.devRef .tc main_arg17)) (V0 (Proc.devRef .tc main_arg18))))))
      (V0 (Proc.devRef .tc main_arg19)) := rfl

/-- The channels side by side at an index. -/
theorem both_at (y : FVec Ideal S1x512x32 .f32) (z : FVec Ideal S1x256x32 .f32) (i : Fin 32) (c : Fin 768) :
    (both y z (ix3 0 c i) : EReal) = beside (vx y) (vx z) i c := by
  unfold beside vx
  pointwise [both]

/-- The product at an index. -/
theorem wide_at (x : FVec Ideal S1x768x32 .f32) (w : FVec Ideal S1024x768 .f32) (i : Fin 32) (o : Fin 1024) :
    (wide x w (ix3 0 o i) : EReal) = ∑ c, x (ix3 0 c i) * w (ix2 o c) := by
  pointwise [wide]

/-- A channel's mean is the plain one. -/
theorem mn_at (x : FVec Ideal S1x1024x32 .f32) (o : Fin 1024) :
    (mn x (ix3 0 o 0) : EReal) = mean n32 (fun i => x (ix3 0 o i)) := by
  unfold mean
  pointwise [mn]
  rw [reduce_outer]
  pointwise []
  rw [sum_voxels]

/-- A deviation is the plain one. -/
theorem dev_at (x : FVec Ideal S1x1024x32 .f32) (o : Fin 1024) (i : Fin 32) :
    (dev x (ix3 0 o i) : EReal) = x (ix3 0 o i) - mean n32 (fun i => x (ix3 0 o i)) := by
  rw [← mn_at]
  unfold dev
  generalize mn x = v
  pointwise []

/-- A channel's variance is the plain one. -/
theorem vr_at (d : FVec Ideal S1x1024x32 .f32) (o : Fin 1024) :
    (vr d (ix3 0 o 0) : EReal) = Ideal.div (∑ i, d (ix3 0 o i) * d (ix3 0 o i)) n32 := by
  have hc := count32_at
  unfold vr
  generalize count32 = k at hc ⊢
  pointwise []
  rw [hc, if_pos pos32, reduce_outer]
  pointwise []
  rw [sum_voxels]

/-- An activated normalised channel is the plain one. -/
theorem ac_at (x : FVec Ideal S1x1024x32 .f32) (g s : FVec Ideal S1024 .f32) (i : Fin 32) (o : Fin 1024) :
    (ac (nm x g s) (ix3 0 o i) : EReal) = dense (vx x) (fun o => g (ix1 o)) (fun o => s (ix1 o)) i o := by
  have hn : (nm x g s (ix3 0 o i) : EReal) = norm n32 (g (ix1 o)) (s (ix1 o)) (fun j => x (ix3 0 o j)) i := by
    have hd := dev_at x o
    have hv := vr_at (dev x) o
    unfold nm
    generalize dev x = d at hd hv ⊢
    generalize vr d = v at hv ⊢
    pointwise []
    rw [hv, hd]
    simp only [hd]
    rfl
  unfold dense lr vx
  generalize nm x g s = z at hn ⊢
  pointwise [ac]
  rw [hn]
  rfl

/-- The maxima and the means side by side at an index. -/
theorem pool_at (x y : FVec Ideal S1x1024 .f32) (c : Fin 2048) :
    (pool x y (ix2 0 c) : EReal) = if h : c.val < 1024 then x (ix2 0 ⟨c.val, h⟩) else y (ix2 0 ⟨c.val - 1024, by omega⟩) := by
  pointwise [pool]

/-- The maxima at an index. -/
theorem mxs_at (z : FVec Ideal S1x1024x32 .f32) (o : Fin 1024) :
    (mxs z (ix2 0 o) : EReal) = Finset.fold max (Ideal.ofBits .f32 0xFF800000#32) (fun i => z (ix3 0 o i)) Finset.univ := by
  pointwise [mxs]

/-- The means at an index. -/
theorem avs_at (z : FVec Ideal S1x1024x32 .f32) (o : Fin 1024) :
    (avs z (ix2 0 o) : EReal) = Ideal.div (∑ i, z (ix3 0 o i)) n32 := by
  pointwise [avs]

/-- The poolings are the plain ones. -/
theorem pooled_at (z : FVec Ideal S1x1024x32 .f32) (c : Fin 2048) : (pool (mxs z) (avs z) (ix2 0 c) : EReal) = pooled (vx z) c := by
  rw [pool_at]
  simp only [mxs_at, avs_at]
  rfl

/-- The product with the pooled channels at an index. -/
theorem hid_at (x : FVec Ideal S1x2048 .f32) (w : FVec Ideal S2048x256 .f32) (t : Fin 256) :
    (hid x w (ix2 0 t) : EReal) = ∑ c, x (ix2 0 c) * w (ix2 c t) := by
  pointwise [hid]

/-- The last product at an index. -/
theorem last_at (z : FVec Ideal S1x256 .f32) (w : FVec Ideal S256x40 .f32) (b : FVec Ideal S40 .f32) (o : Fin 40) :
    (last z w b (ix2 0 o) : EReal) = (∑ t, lr (z (ix2 0 t)) * w (ix2 t o)) + b (ix1 o) := by
  unfold lr
  pointwise [last]
  rfl

/-- What follows the voxel layers is the plain tail. -/
theorem tail_at (y : FVec Ideal S1x512x32 .f32) (z : FVec Ideal S1x256x32 .f32) (w8 : FVec Ideal S1024x768 .f32)
    (g s : FVec Ideal S1024 .f32) (wl4 : FVec Ideal S2048x256 .f32) (wl5 : FVec Ideal S256x40 .f32)
    (b : FVec Ideal S40 .f32) (o : Fin 40) :
    (last (hid (pool (mxs (ac (nm (wide (both y z) w8) g s))) (avs (ac (nm (wide (both y z) w8) g s)))) wl4) wl5 b (ix2 0 o)
        : EReal)
      = tail (vx y) (vx z) (mat w8) (fun o => g (ix1 o)) (fun o => s (ix1 o)) (mat wl4) (mat wl5) (fun o => b (ix1 o)) o := by
  have hw : vx (wide (both y z) w8) = fun i q => ∑ c, beside (vx y) (vx z) i c * mat w8 q c := by
    funext i q
    refine (wide_at _ _ i q).trans (Finset.sum_congr rfl fun c _ => ?_)
    rw [both_at]
    rfl
  have ha : vx (ac (nm (wide (both y z) w8) g s))
      = dense (fun i q => ∑ c, beside (vx y) (vx z) i c * mat w8 q c) (fun o => g (ix1 o)) (fun o => s (ix1 o)) := by
    rw [← hw]
    funext i q
    exact ac_at _ g s i q
  rw [last_at]
  simp only [hid_at, pooled_at]
  rw [ha]
  rfl

/-- The third call's arguments as functions of indices. -/
def rargs (x : FVec Ideal S32x2048 .f32) (wl1 : FVec Ideal S2048x1024 .f32) (g6 b6 : FVec Ideal S1024 .f32)
    (wl2 : FVec Ideal S1024x1024 .f32) (bl2 g7 b7 : FVec Ideal S1024 .f32) (wl3 : FVec Ideal S1024x32 .f32)
    (bl3 : FVec Ideal S32 .f32) (w6 : FVec Ideal S512x64 .f32) (gc6 bc6 : FVec Ideal S512 .f32)
    (w7 : FVec Ideal S256x1024 .f32) (gc7 bc7 : FVec Ideal S256 .f32) (w8 : FVec Ideal S1024x768 .f32)
    (gc8 bc8 : FVec Ideal S1024 .f32) (wl4 : FVec Ideal S2048x256 .f32) (wl5 : FVec Ideal S256x40 .f32)
    (bl5 : FVec Ideal S40 .f32) : Args where
  x i o := x (ix2 i o)
  wl1 i o := wl1 (ix2 i o)
  g6 o := g6 (ix1 o)
  b6 o := b6 (ix1 o)
  wl2 i o := wl2 (ix2 i o)
  bl2 o := bl2 (ix1 o)
  g7 o := g7 (ix1 o)
  b7 o := b7 (ix1 o)
  wl3 i o := wl3 (ix2 i o)
  bl3 o := bl3 (ix1 o)
  w6 i o := w6 (ix2 i o)
  gc6 o := gc6 (ix1 o)
  bc6 o := bc6 (ix1 o)
  w7 i o := w7 (ix2 i o)
  gc7 o := gc7 (ix1 o)
  bc7 o := bc7 (ix1 o)
  w8 i o := w8 (ix2 i o)
  gc8 o := gc8 (ix1 o)
  bc8 o := bc8 (ix1 o)
  wl4 i o := wl4 (ix2 i o)
  wl5 i o := wl5 (ix2 i o)
  bl5 o := bl5 (ix1 o)

/-- The reference's arguments as functions of indices. -/
def ofVal (V0 : Valuation τ sig (Elt Ideal)) : Args :=
  rargs (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8))
    (V0 (Proc.devRef .tc main_arg9)) (V0 (Proc.devRef .tc main_arg10)) (V0 (Proc.devRef .tc main_arg11))
    (V0 (Proc.devRef .tc main_arg12)) (V0 (Proc.devRef .tc main_arg13)) (V0 (Proc.devRef .tc main_arg14))
    (V0 (Proc.devRef .tc main_arg15)) (V0 (Proc.devRef .tc main_arg16)) (V0 (Proc.devRef .tc main_arg17))
    (V0 (Proc.devRef .tc main_arg18)) (V0 (Proc.devRef .tc main_arg19)) (V0 (Proc.devRef .tc main_arg20))
    (V0 (Proc.devRef .tc main_arg21))

/-- The reference's points are the plain ones. -/
theorem pts_at (V0 : Valuation τ sig (Elt Ideal)) : vx (res_main_v48 V0) = (ofVal V0).pts := by
  have e0 : mat (res_main_v0 V0) = fun i o => ∑ c, (ofVal V0).x i c * (ofVal V0).wl1 c o := by
    funext i o
    exact res0_at V0 _ _ rfl rfl i o
  have e1 : mat (dAct (dNorm (res_main_v0 V0) (V0 (Proc.devRef .tc main_arg2)) (V0 (Proc.devRef .tc main_arg3))))
      = (ofVal V0).h1 := by
    rw [dAct_at, e0]
    rfl
  have e2 : mat (dAct (dNorm (dLin (dAct (dNorm (res_main_v0 V0) (V0 (Proc.devRef .tc main_arg2))
      (V0 (Proc.devRef .tc main_arg3)))) (V0 (Proc.devRef .tc main_arg4)) (V0 (Proc.devRef .tc main_arg5)))
      (V0 (Proc.devRef .tc main_arg6)) (V0 (Proc.devRef .tc main_arg7)))) = (ofVal V0).h2 := by
    have e : mat (dLin (dAct (dNorm (res_main_v0 V0) (V0 (Proc.devRef .tc main_arg2))
        (V0 (Proc.devRef .tc main_arg3)))) (V0 (Proc.devRef .tc main_arg4)) (V0 (Proc.devRef .tc main_arg5)))
        = fun i o => (∑ c, (ofVal V0).h1 i c * (ofVal V0).wl2 c o) + (ofVal V0).bl2 o := by
      rw [← e1]
      funext i o
      exact dLin_at _ _ _ i o
    rw [dAct_at, e]
    rfl
  rw [res48]
  funext i o
  refine (dPts_at _ _ _ i o).trans ?_
  rw [e2]
  rfl

/-- The reference's result, as a function of its arguments. -/
def out (V0 : Valuation τ sig (Elt Ideal)) : FVec Ideal S1x40 .f32 :=
  last (res_main_v210 V0) (V0 (Proc.devRef .tc main_arg20)) (V0 (Proc.devRef .tc main_arg21))

/-- It is the plain result, when the arguments before the second voxel layer are real. -/
theorem out_at (V0 : Valuation τ sig (Elt Ideal)) (h : (ofVal V0).Real) (o : Fin 40) : (out V0 (ix2 0 o) : EReal) = (ofVal V0).out o := by
  have hp := pts_at V0
  have e1 : vx (res_main_v115 V0) = (ofVal V0).v1 := by
    rw [A.res, A.layer_at _ _ _ _ (by rw [hp]; exact h.pts), hp]
    rfl
  have e2 : vx (B.mx (res_main_v180 V0)) = (ofVal V0).v2 := by
    rw [B.res, B.layer_at _ _ _ _ (by rw [e1]; exact h.v1), e1]
    rfl
  unfold out
  rw [res210]
  refine (tail_at _ _ _ _ _ _ _ _ o).trans ?_
  rw [e1, e2]
  rfl

end Cert.Proof.W.R
-- ==== Proof.W.Algebraic.lean ====
module

public import proofs.«01_k».proof.Proof.W.KRes
public import proofs.«01_k».proof.Proof.W.Finite
public import proofs.«01_k».proof.Proof.W.RefTail
public import proofs.«01_k».proof.Proof.Gen.Kernel3Ideal.Value
public import Idealize.ShloMosaic.Lib.Claim

@[expose] public section

set_option maxRecDepth 16384
noncomputable section

/-! The third call's value claim: the kernel's result and the reference's are the plain network's last part of the same
arguments. -/

namespace Cert.Proof.W

open Idealize.ShloMosaic Idealize.ShloMosaic.TcCoe Idealize.SL.Sem Cert.Proof.V

/-- Under the precondition the arguments before the second voxel layer are real. -/
theorem args_real (m : (ℓ : Loc Cert.Kernel3Ideal.nD Cert.Kernel3Ideal.τ Cert.Kernel3Ideal.sig) → Buf (Elt Ideal) ℓ)
    (hp : Pre_Kernel3Ideal m) (c : Dev Cert.Kernel3Ideal.nD) : (args m c).Real := by
  obtain ⟨h0, h1, h2, h3, h4, h5, h6, h7, h8, h9, h10, h11, h12⟩ :=
    finite _ _ _ _ _ _ _ _ _ _ _ _ _ _ _ _ _ _ _ _ _ _ (hp c)
  exact ⟨h0, h1, h2, h3, h4, h5, h6, h7, h8, h9, h10, h11, h12⟩

/-- The third call's two programs, from memories whose arguments agree and meet the precondition, end with the same
    result array and with their arguments unchanged. -/
theorem algebraic3 : Cert.algebraic_Kernel3Ideal_Reference3Ideal := by
  intro m g m' g' hp hagree
  refine ⟨fun c => fun z : Cert.Kernel3Ideal.S1x40.Idx => (args m c).out (z 1), ?_, ?_⟩
  · exact θ_run_mono (Cert.Kernel3Ideal.Value.run_blocks (F := Ideal) m g) fun r h c =>
      ⟨(h c).1.trans (arrayOut m c (args_real m hp c).pts (args_real m hp c).v1), (h c).2⟩
  · refine θ_run_mono (Cert.Reference3Ideal.Value.run (F := Ideal) m' g') fun r h c => ⟨(h c).1.trans ?_, (h c).2⟩
    obtain ⟨a0, a1, a2, a3, a4, a5, a6, a7, a8, a9, a10, a11, a12, a13, a14, a15, a16, a17, a18, a19, a20, a21⟩ := hagree c
    have e : R.ofVal (Idealize.ShloMosaic.StableHlo.launchContents m' c) = args m c :=
      congrArg R.rargs a0 |> (congr · a1) |> (congr · a2) |> (congr · a3) |> (congr · a4) |> (congr · a5) |> (congr · a6)
        |> (congr · a7) |> (congr · a8) |> (congr · a9) |> (congr · a10) |> (congr · a11) |> (congr · a12) |> (congr · a13)
        |> (congr · a14) |> (congr · a15) |> (congr · a16) |> (congr · a17) |> (congr · a18) |> (congr · a19)
        |> (congr · a20) |> (congr · a21)
    funext z
    obtain ⟨b, o, rfl⟩ : ∃ (b : Fin 1) (o : Fin 40), z = ix2 b o := ⟨_, _, eq_ix2 z⟩
    obtain rfl : b = 0 := Subsingleton.elim _ _
    have hr : (R.ofVal (Idealize.ShloMosaic.StableHlo.launchContents m' c)).Real := by
      rw [e]
      exact args_real m hp c
    exact (R.out_at _ hr o).trans (congrArg (fun a : Args => a.out o) e)

end Cert.Proof.W
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_without_ties
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_finite_without_ties3
public import proofs.«01_k».proof.Proof.P.Run
public import proofs.«01_k».proof.Proof.PI.Run
public import proofs.«01_k».proof.Proof.V.Algebraic
public import proofs.«01_k».proof.Proof.W.PoolRef
public import proofs.«01_k».proof.Proof.W.Algebraic
public import Idealize.ShloMosaic.Adequacy
public import Idealize.ShloMosaic.Init

@[expose] public section

noncomputable section

namespace Cert.Proof

open Idealize.ShloMosaic Idealize.SL.Sem

/-- The kernel runs from any memory, its arguments end unchanged, its counters at zero. -/
theorem frame_p : Cert.quiescent_Kernel := fun m ρ _ => P.frame m ρ

/-- The same under the precondition, which is not needed. -/
theorem frame_p_pre : Cert.quiescent_Kernel_pre_finite_without_ties := fun m ρ _ => P.frame m ρ

/-- The idealized kernel runs, its arguments end unchanged, its counters at zero. -/
theorem frame_pi : Cert.quiescent_KernelIdeal := fun m ρ _ => PI.frame m ρ

/-- The reference runs, its arguments end unchanged; it declares no semaphore. -/
theorem frame_ri : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Every rewritten constant is the mask, which is minus infinity at the ideal instance. -/
theorem preserves : Cert.preserves_Kernel_KernelIdeal := IdealRules.named_const.statement _ _ _ _ _ rfl

/-- The second call runs from any memory, its arguments end unchanged, its counters at zero. -/
theorem frame_p2 : Cert.quiescent_Kernel2 := fun m ρ _ => Cert.Kernel2.Gen.frame m ρ

/-- So does its idealization. -/
theorem frame_pi2 : Cert.quiescent_Kernel2Ideal := fun m ρ _ => Cert.Kernel2Ideal.Gen.frame m ρ

/-- The second call's reference runs, its arguments end unchanged. -/
theorem frame_ri2 : Cert.quiescent_Reference2Ideal := by
  intro m ρ _
  exact (θ_run Cert.Reference2Ideal.defs _ _).mono
    (fun r h => ⟨fun c => (h c).2.2, Idealize.ShloMosaic.sem_eq_zero_of_no_sems (by decide) r.2⟩)
    (Cert.Reference2Ideal.Value.run (F := Ideal) m ρ)

/-- The third call runs from any memory, its arguments end unchanged, its counters at zero. -/
theorem frame_p3 : Cert.quiescent_Kernel3 := fun m ρ _ => Cert.Kernel3.Gen.frame m ρ

/-- The same under the precondition, which is not needed. -/
theorem frame_p3_pre : Cert.quiescent_Kernel3_pre_finite_without_ties3 := fun m ρ _ => Cert.Kernel3.Gen.frame m ρ

/-- So does its idealization. -/
theorem frame_pi3 : Cert.quiescent_Kernel3Ideal := fun m ρ _ => Cert.Kernel3Ideal.Gen.frame m ρ

/-- Nothing is rewritten in the second call. -/
theorem preserves2 : Cert.preserves_Kernel2_Kernel2Ideal := trivial

/-- The third call's reference runs, its arguments end unchanged. -/
theorem frame_ri3 : Cert.quiescent_Reference3Ideal := by
  intro m ρ _
  exact (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- Every rewritten constant of the third call is the mask. -/
theorem preserves3 : Cert.preserves_Kernel3_Kernel3Ideal := IdealRules.named_const.statement _ _ _ _ _ rfl

/-- Everything the certificate claims. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Pre_finite_without_ties.Gen.facts, Cert.Pre_finite_without_ties3.Gen.facts,
    frame_p, frame_p_pre, frame_pi, frame_ri, frame_p2, frame_pi2, frame_ri2, frame_p3, frame_p3_pre, frame_pi3, frame_ri3,
    preserves, V.algebraic, preserves2, W.algebraic2, preserves3, W.algebraic3⟩

end Cert.Proof

end
